-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_usual [hPre_usual : Cert.Pre_usual.Facts] (m : (ℓ : Loc Cert.KernelIdeal.nD Cert.KernelIdeal.τ Cert.KernelIdeal.sig) → Buf (Elt Ideal) ℓ) : Prop :=
  ∀ c : Dev Cert.KernelIdeal.nD,
    (Cert.Pre_usual.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_usual [hPre_usual : Cert.Pre_usual.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_usual.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_KernelIdeal_pre_usual [hKernelIdeal : Cert.KernelIdeal.Facts] [hPre_usual : Cert.Pre_usual.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_usual m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_ReferenceIdeal_pre_usual [hReferenceIdeal : Cert.ReferenceIdeal.Facts] [hPre_usual : Cert.Pre_usual.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_usual m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def preserves_Kernel_KernelIdeal : Prop :=
  True

def algebraic_KernelIdeal_ReferenceIdeal_pre_usual [hKernelIdeal : Cert.KernelIdeal.Facts] [hReferenceIdeal : Cert.ReferenceIdeal.Facts] [hPre_usual : Cert.Pre_usual.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_usual m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_usual : Cert.Pre_usual.Facts),
    quiescent_Kernel (hKernel := hKernel)
    ∧ quiescent_KernelIdeal (hKernelIdeal := hKernelIdeal)
    ∧ quiescent_KernelIdeal_pre_usual (hKernelIdeal := hKernelIdeal) (hPre_usual := hPre_usual)
    ∧ quiescent_ReferenceIdeal (hReferenceIdeal := hReferenceIdeal)
    ∧ quiescent_ReferenceIdeal_pre_usual (hReferenceIdeal := hReferenceIdeal) (hPre_usual := hPre_usual)
    ∧ preserves_Kernel_KernelIdeal
    ∧ algebraic_KernelIdeal_ReferenceIdeal_pre_usual (hKernelIdeal := hKernelIdeal) (hReferenceIdeal := hReferenceIdeal) (hPre_usual := hPre_usual)
-- ==== Pre_usual.lean ====
abbrev S1x512x120 : Shape := ⟨3, ![1, 512, 120]⟩
abbrev S512x512 : Shape := ⟨2, ![512, 512]⟩
abbrev S128x512 : Shape := ⟨2, ![128, 512]⟩
abbrev S128x128 : Shape := ⟨2, ![128, 128]⟩
abbrev S64x128 : Shape := ⟨2, ![64, 128]⟩
abbrev S64x64 : Shape := ⟨2, ![64, 64]⟩
abbrev S_ : Shape := ⟨0, ![]⟩

class Facts : Prop where
  bcast_S_S128x512 : S_.BroadcastsInDim S128x512 (![] : Fin 0 → Fin S128x512.rank)
  reducesTo_S128x512_S_d0_1 : S128x512.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S64x128 : S_.BroadcastsInDim S64x128 (![] : Fin 0 → Fin S64x128.rank)
  reducesTo_S64x128_S_d0_1 : S64x128.ReducesTo [0, 1] S_
  bcast_S_S64x64 : S_.BroadcastsInDim S64x64 (![] : Fin 0 → Fin S64x64.rank)
  reducesTo_S64x64_S_d0_1 : S64x64.ReducesTo [0, 1] S_

variable [Facts]

def fn_part6 {F : FTy → Type} [FloatOps F] (main_v79 : IVec S_ 1) (main_v85 : IVec S_ 1) (main_v100 : IVec S_ 1) : IVec S_ 1 :=
  let main_v101 : IVec S_ 1 := andi main_v100 main_v79
  let main_v102 : IVec S_ 1 := andi main_v101 main_v85
  main_v102

def fn_part5 {F : FTy → Type} [FloatOps F] (main_arg20 : IVec S64x64 32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v49 : IVec S_ 1) (main_v55 : IVec S_ 1) (main_v61 : IVec S_ 1) (main_v67 : IVec S_ 1) (main_v73 : IVec S_ 1) (main_v79 : IVec S_ 1) : IVec S_ 1 :=
  let main_c_38 : IVec S_ 32 := constantI S_ 32 1#32
  let main_v80 : IVec S64x64 32 := broadcastInDim S64x64 ![] bcast_S_S64x64 main_c_38
  let main_v81 : IVec S64x64 1 := cmpi .sge main_arg20 main_v80
  let main_c_39 : IVec S_ 32 := constantI S_ 32 10#32
  let main_v82 : IVec S64x64 32 := broadcastInDim S64x64 ![] bcast_S_S64x64 main_c_39
  let main_v83 : IVec S64x64 1 := cmpi .sle main_arg20 main_v82
  let main_v84 : IVec S64x64 1 := andi main_v81 main_v83
  let main_c_40 : IVec S_ 1 := constantI S_ 1 1#1
  let main_v85 : IVec S_ 1 := (fun x v => Host.reduce IntOp.andi x v reducesTo_S64x64_S_d0_1 h_S_) main_v84 main_c_40
  let main_v86 : IVec S_ 1 := andi main_v3 main_v7
  let main_v87 : IVec S_ 1 := andi main_v86 main_v11
  let main_v88 : IVec S_ 1 := andi main_v87 main_v15
  let main_v89 : IVec S_ 1 := andi main_v88 main_v19
  let main_v90 : IVec S_ 1 := andi main_v89 main_v23
  let main_v91 : IVec S_ 1 := andi main_v90 main_v27
  let main_v92 : IVec S_ 1 := andi main_v91 main_v31
  let main_v93 : IVec S_ 1 := andi main_v92 main_v35
  let main_v94 : IVec S_ 1 := andi main_v93 main_v39
  let main_v95 : IVec S_ 1 := andi main_v94 main_v43
  let main_v96 : IVec S_ 1 := andi main_v95 main_v49
  let main_v97 : IVec S_ 1 := andi main_v96 main_v55
  let main_v98 : IVec S_ 1 := andi main_v97 main_v61
  let main_v99 : IVec S_ 1 := andi main_v98 main_v67
  let main_v100 : IVec S_ 1 := andi main_v99 main_v73
  fn_part6 (F := F) main_v79 main_v85 main_v100

def fn_part4 {F : FTy → Type} [FloatOps F] (main_arg17 : IVec S128x128 32) (main_arg18 : IVec S64x128 32) (main_arg19 : IVec S64x128 32) (main_arg20 : IVec S64x64 32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v49 : IVec S_ 1) (main_v55 : IVec S_ 1) (main_v61 : IVec S_ 1) (main_v63 : IVec S128x128 1) : IVec S_ 1 :=
  let main_c_30 : IVec S_ 32 := constantI S_ 32 10#32
  let main_v64 : IVec S128x128 32 := broadcastInDim S128x128 ![] bcast_S_S128x128 main_c_30
  let main_v65 : IVec S128x128 1 := cmpi .sle main_arg17 main_v64
  let main_v66 : IVec S128x128 1 := andi main_v63 main_v65
  let main_c_31 : IVec S_ 1 := constantI S_ 1 1#1
  let main_v67 : IVec S_ 1 := (fun x v => Host.reduce IntOp.andi x v reducesTo_S128x128_S_d0_1 h_S_) main_v66 main_c_31
  let main_c_32 : IVec S_ 32 := constantI S_ 32 1#32
  let main_v68 : IVec S64x128 32 := broadcastInDim S64x128 ![] bcast_S_S64x128 main_c_32
  let main_v69 : IVec S64x128 1 := cmpi .sge main_arg18 main_v68
  let main_c_33 : IVec S_ 32 := constantI S_ 32 10#32
  let main_v70 : IVec S64x128 32 := broadcastInDim S64x128 ![] bcast_S_S64x128 main_c_33
  let main_v71 : IVec S64x128 1 := cmpi .sle main_arg18 main_v70
  let main_v72 : IVec S64x128 1 := andi main_v69 main_v71
  let main_c_34 : IVec S_ 1 := constantI S_ 1 1#1
  let main_v73 : IVec S_ 1 := (fun x v => Host.reduce IntOp.andi x v reducesTo_S64x128_S_d0_1 h_S_) main_v72 main_c_34
  let main_c_35 : IVec S_ 32 := constantI S_ 32 1#32
  let main_v74 : IVec S64x128 32 := broadcastInDim S64x128 ![] bcast_S_S64x128 main_c_35
  let main_v75 : IVec S64x128 1 := cmpi .sge main_arg19 main_v74
  let main_c_36 : IVec S_ 32 := constantI S_ 32 10#32
  let main_v76 : IVec S64x128 32 := broadcastInDim S64x128 ![] bcast_S_S64x128 main_c_36
  let main_v77 : IVec S64x128 1 := cmpi .sle main_arg19 main_v76
  let main_v78 : IVec S64x128 1 := andi main_v75 main_v77
  let main_c_37 : IVec S_ 1 := constantI S_ 1 1#1
  let main_v79 : IVec S_ 1 := (fun x v => Host.reduce IntOp.andi x v reducesTo_S64x128_S_d0_1 h_S_) main_v78 main_c_37
  fn_part5 (F := F) main_arg20 main_v3 main_v7 main_v11 main_v15 main_v19 main_v23 main_v27 main_v31 main_v35 main_v39 main_v43 main_v49 main_v55 main_v61 main_v67 main_v73 main_v79

def fn_part3 {F : FTy → Type} [FloatOps F] (main_arg15 : IVec S128x128 32) (main_arg16 : IVec S128x512 32) (main_arg17 : IVec S128x128 32) (main_arg18 : IVec S64x128 32) (main_arg19 : IVec S64x128 32) (main_arg20 : IVec S64x64 32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v45 : IVec S128x512 1) (main_v47 : IVec S128x512 1) : IVec S_ 1 :=
  let main_v48 : IVec S128x512 1 := andi main_v45 main_v47
  let main_c_22 : IVec S_ 1 := constantI S_ 1 1#1
  let main_v49 : IVec S_ 1 := (fun x v => Host.reduce IntOp.andi x v reducesTo_S128x512_S_d0_1 h_S_) main_v48 main_c_22
  let main_c_23 : IVec S_ 32 := constantI S_ 32 1#32
  let main_v50 : IVec S128x128 32 := broadcastInDim S128x128 ![] bcast_S_S128x128 main_c_23
  let main_v51 : IVec S128x128 1 := cmpi .sge main_arg15 main_v50
  let main_c_24 : IVec S_ 32 := constantI S_ 32 10#32
  let main_v52 : IVec S128x128 32 := broadcastInDim S128x128 ![] bcast_S_S128x128 main_c_24
  let main_v53 : IVec S128x128 1 := cmpi .sle main_arg15 main_v52
  let main_v54 : IVec S128x128 1 := andi main_v51 main_v53
  let main_c_25 : IVec S_ 1 := constantI S_ 1 1#1
  let main_v55 : IVec S_ 1 := (fun x v => Host.reduce IntOp.andi x v reducesTo_S128x128_S_d0_1 h_S_) main_v54 main_c_25
  let main_c_26 : IVec S_ 32 := constantI S_ 32 1#32
  let main_v56 : IVec S128x512 32 := broadcastInDim S128x512 ![] bcast_S_S128x512 main_c_26
  let main_v57 : IVec S128x512 1 := cmpi .sge main_arg16 main_v56
  let main_c_27 : IVec S_ 32 := constantI S_ 32 10#32
  let main_v58 : IVec S128x512 32 := broadcastInDim S128x512 ![] bcast_S_S128x512 main_c_27
  let main_v59 : IVec S128x512 1 := cmpi .sle main_arg16 main_v58
  let main_v60 : IVec S128x512 1 := andi main_v57 main_v59
  let main_c_28 : IVec S_ 1 := constantI S_ 1 1#1
  let main_v61 : IVec S_ 1 := (fun x v => Host.reduce IntOp.andi x v reducesTo_S128x512_S_d0_1 h_S_) main_v60 main_c_28
  let main_c_29 : IVec S_ 32 := constantI S_ 32 1#32
  let main_v62 : IVec S128x128 32 := broadcastInDim S128x128 ![] bcast_S_S128x128 main_c_29
  let main_v63 : IVec S128x128 1 := cmpi .sge main_arg17 main_v62
  fn_part4 (F := F) main_arg17 main_arg18 main_arg19 main_arg20 main_v3 main_v7 main_v11 main_v15 main_v19 main_v23 main_v27 main_v31 main_v35 main_v39 main_v43 main_v49 main_v55 main_v61 main_v63

def fn_part2 {F : FTy → Type} [FloatOps F] (main_arg11 : FVec F S64x128 .f32) (main_arg12 : FVec F S64x128 .f32) (main_arg13 : FVec F S64x64 .f32) (main_arg14 : IVec S128x512 32) (main_arg15 : IVec S128x128 32) (main_arg16 : IVec S128x512 32) (main_arg17 : IVec S128x128 32) (main_arg18 : IVec S64x128 32) (main_arg19 : IVec S64x128 32) (main_arg20 : IVec S64x64 32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S64x128 .f32 := Host.absf main_arg11
  let main_cst_14 : FVec F S_ .f32 := constant S_ .f32 0x7F800000#32
  let main_v33 : FVec F S64x128 .f32 := broadcastInDim S64x128 ![] bcast_S_S64x128 main_cst_14
  let main_v34 : IVec S64x128 1 := cmpf .olt main_v32 main_v33
  let main_c_15 : IVec S_ 1 := constantI S_ 1 1#1
  let main_v35 : IVec S_ 1 := (fun x v => Host.reduce IntOp.andi x v reducesTo_S64x128_S_d0_1 h_S_) main_v34 main_c_15
  let main_v36 : FVec F S64x128 .f32 := Host.absf main_arg12
  let main_cst_16 : FVec F S_ .f32 := constant S_ .f32 0x7F800000#32
  let main_v37 : FVec F S64x128 .f32 := broadcastInDim S64x128 ![] bcast_S_S64x128 main_cst_16
  let main_v38 : IVec S64x128 1 := cmpf .olt main_v36 main_v37
  let main_c_17 : IVec S_ 1 := constantI S_ 1 1#1
  let main_v39 : IVec S_ 1 := (fun x v => Host.reduce IntOp.andi x v reducesTo_S64x128_S_d0_1 h_S_) main_v38 main_c_17
  let main_v40 : FVec F S64x64 .f32 := Host.absf main_arg13
  let main_cst_18 : FVec F S_ .f32 := constant S_ .f32 0x7F800000#32
  let main_v41 : FVec F S64x64 .f32 := broadcastInDim S64x64 ![] bcast_S_S64x64 main_cst_18
  let main_v42 : IVec S64x64 1 := cmpf .olt main_v40 main_v41
  let main_c_19 : IVec S_ 1 := constantI S_ 1 1#1
  let main_v43 : IVec S_ 1 := (fun x v => Host.reduce IntOp.andi x v reducesTo_S64x64_S_d0_1 h_S_) main_v42 main_c_19
  let main_c_20 : IVec S_ 32 := constantI S_ 32 1#32
  let main_v44 : IVec S128x512 32 := broadcastInDim S128x512 ![] bcast_S_S128x512 main_c_20
  let main_v45 : IVec S128x512 1 := cmpi .sge main_arg14 main_v44
  let main_c_21 : IVec S_ 32 := constantI S_ 32 10#32
  let main_v46 : IVec S128x512 32 := broadcastInDim S128x512 ![] bcast_S_S128x512 main_c_21
  let main_v47 : IVec S128x512 1 := cmpi .sle main_arg14 main_v46
  fn_part3 (F := F) main_arg15 main_arg16 main_arg17 main_arg18 main_arg19 main_arg20 main_v3 main_v7 main_v11 main_v15 main_v19 main_v23 main_v27 main_v31 main_v35 main_v39 main_v43 main_v45 main_v47

def fn_part1 {F : FTy → Type} [FloatOps F] (main_arg7 : FVec F S128x512 .f32) (main_arg8 : FVec F S128x128 .f32) (main_arg9 : FVec F S64x128 .f32) (main_arg10 : FVec F S64x128 .f32) (main_arg11 : FVec F S64x128 .f32) (main_arg12 : FVec F S64x128 .f32) (main_arg13 : FVec F S64x64 .f32) (main_arg14 : IVec S128x512 32) (main_arg15 : IVec S128x128 32) (main_arg16 : IVec S128x512 32) (main_arg17 : IVec S128x128 32) (main_arg18 : IVec S64x128 32) (main_arg19 : IVec S64x128 32) (main_arg20 : IVec S64x64 32) (main_v3 : IVec S_ 1) (main_v7 : IVec S_ 1) (main_v11 : IVec S_ 1) (main_v15 : IVec S_ 1) : IVec S_ 1 :=
  let main_v16 : FVec F S128x512 .f32 := Host.absf main_arg7
  let main_cst_6 : FVec F S_ .f32 := constant S_ .f32 0x7F800000#32
  let main_v17 : FVec F S128x512 .f32 := broadcastInDim S128x512 ![] bcast_S_S128x512 main_cst_6
  let main_v18 : IVec S128x512 1 := cmpf .olt main_v16 main_v17
  let main_c_7 : IVec S_ 1 := constantI S_ 1 1#1
  let main_v19 : IVec S_ 1 := (fun x v => Host.reduce IntOp.andi x v reducesTo_S128x512_S_d0_1 h_S_) main_v18 main_c_7
  let main_v20 : FVec F S128x128 .f32 := Host.absf main_arg8
  let main_cst_8 : FVec F S_ .f32 := constant S_ .f32 0x7F800000#32
  let main_v21 : FVec F S128x128 .f32 := broadcastInDim S128x128 ![] bcast_S_S128x128 main_cst_8
  let main_v22 : IVec S128x128 1 := cmpf .olt main_v20 main_v21
  let main_c_9 : IVec S_ 1 := constantI S_ 1 1#1
  let main_v23 : IVec S_ 1 := (fun x v => Host.reduce IntOp.andi x v reducesTo_S128x128_S_d0_1 h_S_) main_v22 main_c_9
  let main_v24 : FVec F S64x128 .f32 := Host.absf main_arg9
  let main_cst_10 : FVec F S_ .f32 := constant S_ .f32 0x7F800000#32
  let main_v25 : FVec F S64x128 .f32 := broadcastInDim S64x128 ![] bcast_S_S64x128 main_cst_10
  let main_v26 : IVec S64x128 1 := cmpf .olt main_v24 main_v25
  let main_c_11 : IVec S_ 1 := constantI S_ 1 1#1
  let main_v27 : IVec S_ 1 := (fun x v => Host.reduce IntOp.andi x v reducesTo_S64x128_S_d0_1 h_S_) main_v26 main_c_11
  let main_v28 : FVec F S64x128 .f32 := Host.absf main_arg10
  let main_cst_12 : FVec F S_ .f32 := constant S_ .f32 0x7F800000#32
  let main_v29 : FVec F S64x128 .f32 := broadcastInDim S64x128 ![] bcast_S_S64x128 main_cst_12
  let main_v30 : IVec S64x128 1 := cmpf .olt main_v28 main_v29
  let main_c_13 : IVec S_ 1 := constantI S_ 1 1#1
  let main_v31 : IVec S_ 1 := (fun x v => Host.reduce IntOp.andi x v reducesTo_S64x128_S_d0_1 h_S_) main_v30 main_c_13
  fn_part2 (F := F) main_arg11 main_arg12 main_arg13 main_arg14 main_arg15 main_arg16 main_arg17 main_arg18 main_arg19 main_arg20 main_v3 main_v7 main_v11 main_v15 main_v19 main_v23 main_v27 main_v31

def fn {F : FTy → Type} [FloatOps F] (main_arg0 : FVec F S1x512x120 .f32) (main_arg1 : FVec F S512x512 .f32) (main_arg2 : FVec F S128x512 .f32) (main_arg3 : FVec F S128x512 .f32) (main_arg4 : FVec F S128x128 .f32) (main_arg5 : FVec F S512x512 .f32) (main_arg6 : FVec F S128x512 .f32) (main_arg7 : FVec F S128x512 .f32) (main_arg8 : FVec F S128x128 .f32) (main_arg9 : FVec F S64x128 .f32) (main_arg10 : FVec F S64x128 .f32) (main_arg11 : FVec F S64x128 .f32) (main_arg12 : FVec F S64x128 .f32) (main_arg13 : FVec F S64x64 .f32) (main_arg14 : IVec S128x512 32) (main_arg15 : IVec S128x128 32) (main_arg16 : IVec S128x512 32) (main_arg17 : IVec S128x128 32) (main_arg18 : IVec S64x128 32) (main_arg19 : IVec S64x128 32) (main_arg20 : IVec S64x64 32) : IVec S_ 1 :=
  let main_v0 : FVec F S128x512 .f32 := Host.absf main_arg2
  let main_cst : FVec F S_ .f32 := constant S_ .f32 0x7F800000#32
  let main_v1 : FVec F S128x512 .f32 := broadcastInDim S128x512 ![] bcast_S_S128x512 main_cst
  let main_v2 : IVec S128x512 1 := cmpf .olt main_v0 main_v1
  let main_c : IVec S_ 1 := constantI S_ 1 1#1
  let main_v3 : IVec S_ 1 := (fun x v => Host.reduce IntOp.andi x v reducesTo_S128x512_S_d0_1 h_S_) main_v2 main_c
  let main_v4 : FVec F S128x512 .f32 := Host.absf main_arg3
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : FVec F S128x128 .f32 := Host.absf main_arg4
  let main_cst_2 : FVec F S_ .f32 := constant S_ .f32 0x7F800000#32
  let main_v9 : FVec F S128x128 .f32 := broadcastInDim S128x128 ![] bcast_S_S128x128 main_cst_2
  let main_v10 : IVec S128x128 1 := cmpf .olt main_v8 main_v9
  let main_c_3 : IVec S_ 1 := constantI S_ 1 1#1
  let main_v11 : IVec S_ 1 := (fun x v => Host.reduce IntOp.andi x v reducesTo_S128x128_S_d0_1 h_S_) main_v10 main_c_3
  let main_v12 : FVec F S128x512 .f32 := Host.absf main_arg6
  let main_cst_4 : FVec F S_ .f32 := constant S_ .f32 0x7F800000#32
  let main_v13 : FVec F S128x512 .f32 := broadcastInDim S128x512 ![] bcast_S_S128x512 main_cst_4
  let main_v14 : IVec S128x512 1 := cmpf .olt main_v12 main_v13
  let main_c_5 : IVec S_ 1 := constantI S_ 1 1#1
  let main_v15 : IVec S_ 1 := (fun x v => Host.reduce IntOp.andi x v reducesTo_S128x512_S_d0_1 h_S_) main_v14 main_c_5
  fn_part1 (F := F) main_arg7 main_arg8 main_arg9 main_arg10 main_arg11 main_arg12 main_arg13 main_arg14 main_arg15 main_arg16 main_arg17 main_arg18 main_arg19 main_arg20 main_v3 main_v7 main_v11 main_v15
-- ==== Kernel.lean ====
abbrev S1x512x120 : Shape := ⟨3, ![1, 512, 120]⟩
abbrev S512x512 : Shape := ⟨2, ![512, 512]⟩
abbrev S128x512 : Shape := ⟨2, ![128, 512]⟩
abbrev S128x128 : Shape := ⟨2, ![128, 128]⟩
abbrev S64x128 : Shape := ⟨2, ![64, 128]⟩
abbrev S64x64 : Shape := ⟨2, ![64, 64]⟩
abbrev S119x119 : Shape := ⟨2, ![119, 119]⟩
abbrev S_ : Shape := ⟨0, ![]⟩
abbrev S120x1 : Shape := ⟨2, ![120, 1]⟩
abbrev S512x120 : Shape := ⟨2, ![512, 120]⟩
abbrev S1664x119 : Shape := ⟨2, ![1664, 119]⟩
abbrev S576x128 : Shape := ⟨2, ![576, 128]⟩
abbrev S288x128 : Shape := ⟨2, ![288, 128]⟩
abbrev S144x64 : Shape := ⟨2, ![144, 64]⟩
abbrev S144x512 : Shape := ⟨2, ![144, 512]⟩
abbrev S144x256 : Shape := ⟨2, ![144, 256]⟩
abbrev S480x128 : Shape := ⟨2, ![480, 128]⟩
abbrev S240x128 : Shape := ⟨2, ![240, 128]⟩
abbrev S32x128 : Shape := ⟨2, ![32, 128]⟩
abbrev S16x64 : Shape := ⟨2, ![16, 64]⟩
abbrev S120x512 : Shape := ⟨2, ![120, 512]⟩
abbrev S119x512 : Shape := ⟨2, ![119, 512]⟩
abbrev S476x128 : Shape := ⟨2, ![476, 128]⟩
abbrev S4x128 : Shape := ⟨2, ![4, 128]⟩
abbrev S8x1 : Shape := ⟨2, ![8, 1]⟩
abbrev S1x1 : Shape := ⟨2, ![1, 1]⟩
abbrev S119x128 : Shape := ⟨2, ![119, 128]⟩
abbrev S119x256 : Shape := ⟨2, ![119, 256]⟩
abbrev S238x128 : Shape := ⟨2, ![238, 128]⟩
abbrev S2x1 : Shape := ⟨2, ![2, 1]⟩
abbrev S2x128 : Shape := ⟨2, ![2, 128]⟩
abbrev S16x128 : Shape := ⟨2, ![16, 128]⟩
abbrev S144x128 : Shape := ⟨2, ![144, 128]⟩
abbrev S119x64 : Shape := ⟨2, ![119, 64]⟩
abbrev S1x64 : Shape := ⟨2, ![1, 64]⟩
abbrev S8x64 : Shape := ⟨2, ![8, 64]⟩
abbrev S512x119 : Shape := ⟨2, ![512, 119]⟩
abbrev S128x119 : Shape := ⟨2, ![128, 119]⟩
abbrev S64x119 : Shape := ⟨2, ![64, 119]⟩

abbrev nBuf : Space → Nat
  | .hbm => 59
  | .vmem => 39
  | .smem => 0
  | _ => 0

abbrev bufTy : (tb : Table) → Fin (tcTables nBuf tb) → BufTy
  | .hbm, ⟨0, _⟩ => ⟨S1x512x120, .f32⟩
  | .hbm, ⟨1, _⟩ => ⟨S512x512, .f32⟩
  | .hbm, ⟨2, _⟩ => ⟨S128x512, .f32⟩
  | .hbm, ⟨3, _⟩ => ⟨S128x512, .f32⟩
  | .hbm, ⟨4, _⟩ => ⟨S128x128, .f32⟩
  | .hbm, ⟨5, _⟩ => ⟨S512x512, .f32⟩
  | .hbm, ⟨6, _⟩ => ⟨S128x512, .f32⟩
  | .hbm, ⟨7, _⟩ => ⟨S128x512, .f32⟩
  | .hbm, ⟨8, _⟩ => ⟨S128x128, .f32⟩
  | .hbm, ⟨9, _⟩ => ⟨S64x128, .f32⟩
  | .hbm, ⟨10, _⟩ => ⟨S64x128, .f32⟩
  | .hbm, ⟨11, _⟩ => ⟨S64x128, .f32⟩
  | .hbm, ⟨12, _⟩ => ⟨S64x128, .f32⟩
  | .hbm, ⟨13, _⟩ => ⟨S64x64, .f32⟩
  | .hbm, ⟨14, _⟩ => ⟨S128x512, .i32⟩
  | .hbm, ⟨15, _⟩ => ⟨S128x128, .i32⟩
  | .hbm, ⟨16, _⟩ => ⟨S128x512, .i32⟩
  | .hbm, ⟨17, _⟩ => ⟨S128x128, .i32⟩
  | .hbm, ⟨18, _⟩ => ⟨S64x128, .i32⟩
  | .hbm, ⟨19, _⟩ => ⟨S64x128, .i32⟩
  | .hbm, ⟨20, _⟩ => ⟨S64x64, .i32⟩
  | .hbm, ⟨21, _⟩ => ⟨S119x119, .i32⟩
  | .hbm, ⟨22, _⟩ => ⟨S119x119, .i32⟩
  | .hbm, ⟨23, _⟩ => ⟨S119x119, .i32⟩
  | .hbm, ⟨24, _⟩ => ⟨S119x119, .f32⟩
  | .hbm, ⟨25, _⟩ => ⟨S119x119, .i1⟩
  | .hbm, ⟨26, _⟩ => ⟨S_, .f32⟩
  | .hbm, ⟨27, _⟩ => ⟨S119x119, .f32⟩
  | .hbm, ⟨28, _⟩ => ⟨S119x119, .f32⟩
  | .hbm, ⟨29, _⟩ => ⟨S119x119, .f32⟩
  | .hbm, ⟨30, _⟩ => ⟨S_, .f32⟩
  | .hbm, ⟨31, _⟩ => ⟨S_, .f32⟩
  | .hbm, ⟨32, _⟩ => ⟨S119x119, .f32⟩
  | .hbm, ⟨33, _⟩ => ⟨S119x119, .f32⟩
  | .hbm, ⟨34, _⟩ => ⟨S119x119, .i32⟩
  | .hbm, ⟨35, _⟩ => ⟨S119x119, .i32⟩
  | .hbm, ⟨36, _⟩ => ⟨S119x119, .i32⟩
  | .hbm, ⟨37, _⟩ => ⟨S119x119, .f32⟩
  | .hbm, ⟨38, _⟩ => ⟨S119x119, .i1⟩
  | .hbm, ⟨39, _⟩ => ⟨S_, .f32⟩
  | .hbm, ⟨40, _⟩ => ⟨S119x119, .f32⟩
  | .hbm, ⟨41, _⟩ => ⟨S119x119, .f32⟩
  | .hbm, ⟨42, _⟩ => ⟨S119x119, .f32⟩
  | .hbm, ⟨43, _⟩ => ⟨S_, .f32⟩
  | .hbm, ⟨44, _⟩ => ⟨S_, .f32⟩
  | .hbm, ⟨45, _⟩ => ⟨S119x119, .f32⟩
  | .hbm, ⟨46, _⟩ => ⟨S119x119, .f32⟩
  | .hbm, ⟨47, _⟩ => ⟨S120x1, .i32⟩
  | .hbm, ⟨48, _⟩ => ⟨S120x1, .f32⟩
  | .hbm, ⟨49, _⟩ => ⟨S_, .f32⟩
  | .hbm, ⟨50, _⟩ => ⟨S_, .f32⟩
  | .hbm, ⟨51, _⟩ => ⟨S120x1, .f32⟩
  | .hbm, ⟨52, _⟩ => ⟨S120x1, .f32⟩
  | .hbm, ⟨53, _⟩ => ⟨S120x1, .f32⟩
  | .hbm, ⟨54, _⟩ => ⟨S_, .f32⟩
  | .hbm, ⟨55, _⟩ => ⟨S120x1, .f32⟩
  | .hbm, ⟨56, _⟩ => ⟨S120x1, .f32⟩
  | .hbm, ⟨57, _⟩ => ⟨S512x120, .f32⟩
  | .hbm, ⟨58, _⟩ => ⟨S1664x119, .f32⟩
  | .local _ .vmem, ⟨0, _⟩ => ⟨S512x120, .f32⟩
  | .local _ .vmem, ⟨1, _⟩ => ⟨S119x119, .f32⟩
  | .local _ .vmem, ⟨2, _⟩ => ⟨S119x119, .f32⟩
  | .local _ .vmem, ⟨3, _⟩ => ⟨S120x1, .f32⟩
  | .local _ .vmem, ⟨4, _⟩ => ⟨S512x512, .f32⟩
  | .local _ .vmem, ⟨5, _⟩ => ⟨S512x512, .f32⟩
  | .local _ .vmem, ⟨6, _⟩ => ⟨S128x512, .f32⟩
  | .local _ .vmem, ⟨7, _⟩ => ⟨S128x512, .f32⟩
  | .local _ .vmem, ⟨8, _⟩ => ⟨S128x128, .f32⟩
  | .local _ .vmem, ⟨9, _⟩ => ⟨S128x512, .f32⟩
  | .local _ .vmem, ⟨10, _⟩ => ⟨S128x512, .f32⟩
  | .local _ .vmem, ⟨11, _⟩ => ⟨S128x128, .f32⟩
  | .local _ .vmem, ⟨12, _⟩ => ⟨S64x128, .f32⟩
  | .local _ .vmem, ⟨13, _⟩ => ⟨S64x128, .f32⟩
  | .local _ .vmem, ⟨14, _⟩ => ⟨S64x128, .f32⟩
  | .local _ .vmem, ⟨15, _⟩ => ⟨S64x128, .f32⟩
  | .local _ .vmem, ⟨16, _⟩ => ⟨S64x64, .f32⟩
  | .local _ .vmem, ⟨17, _⟩ => ⟨S128x512, .i32⟩
  | .local _ .vmem, ⟨18, _⟩ => ⟨S128x128, .i32⟩
  | .local _ .vmem, ⟨19, _⟩ => ⟨S128x512, .i32⟩
  | .local _ .vmem, ⟨20, _⟩ => ⟨S128x128, .i32⟩
  | .local _ .vmem, ⟨21, _⟩ => ⟨S64x128, .i32⟩
  | .local _ .vmem, ⟨22, _⟩ => ⟨S64x128, .i32⟩
  | .local _ .vmem, ⟨23, _⟩ => ⟨S64x64, .i32⟩
  | .local _ .vmem, ⟨24, _⟩ => ⟨S1664x119, .f32⟩
  | .local _ .vmem, ⟨25, _⟩ => ⟨S576x128, .f32⟩
  | .local _ .vmem, ⟨26, _⟩ => ⟨S576x128, .f32⟩
  | .local _ .vmem, ⟨27, _⟩ => ⟨S288x128, .f32⟩
  | .local _ .vmem, ⟨28, _⟩ => ⟨S288x128, .f32⟩
  | .local _ .vmem, ⟨29, _⟩ => ⟨S144x64, .f32⟩
  | .local _ .vmem, ⟨30, _⟩ => ⟨S144x64, .f32⟩
  | .local _ .vmem, ⟨31, _⟩ => ⟨S144x512, .f32⟩
  | .local _ .vmem, ⟨32, _⟩ => ⟨S144x512, .f32⟩
  | .local _ .vmem, ⟨33, _⟩ => ⟨S144x256, .f32⟩
  | .local _ .vmem, ⟨34, _⟩ => ⟨S144x256, .f32⟩
  | .local _ .vmem, ⟨35, _⟩ => ⟨S480x128, .f32⟩
  | .local _ .vmem, ⟨36, _⟩ => ⟨S480x128, .f32⟩
  | .local _ .vmem, ⟨37, _⟩ => ⟨S240x128, .f32⟩
  | .local _ .vmem, ⟨38, _⟩ => ⟨S240x128, .f32⟩
  | _, _ => ⟨S1x512x120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_cst : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_1 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_cst_2 : Ref sig .tc := ⟨.hbm, 43, rfl⟩
abbrev main_call1_v0 : Ref sig .tc := ⟨.hbm, 44, rfl⟩
abbrev main_call1_v1 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_cst_3 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_cst_4 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_scratch5 : Ref sig .tc := ⟨.vmem, 30, rfl⟩
abbrev cc0_scratch6 : Ref sig .tc := ⟨.vmem, 31, rfl⟩
abbrev cc0_scratch7 : Ref sig .tc := ⟨.vmem, 32, rfl⟩
abbrev cc0_scratch8 : Ref sig .tc := ⟨.vmem, 33, rfl⟩
abbrev cc0_scratch9 : Ref sig .tc := ⟨.vmem, 34, rfl⟩
abbrev cc0_scratch10 : Ref sig .tc := ⟨.vmem, 35, rfl⟩
abbrev cc0_scratch11 : Ref sig .tc := ⟨.vmem, 36, rfl⟩
abbrev cc0_scratch12 : Ref sig .tc := ⟨.vmem, 37, rfl⟩
abbrev cc0_scratch13 : Ref sig .tc := ⟨.vmem, 38, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c15_i32 : BitVec 32 := 15#32
  let v56 : BitVec 32 := Scalar.addi c0_i32 c15_i32
  let c1_i32 : BitVec 32 := 1#32
  ⟨c0_i32, v56, c1_i32⟩
def k0_off1 (k0_t1 : Fin k0_t1_loop.trips) : Fin 2 → Nat :=
  let c0_i32 : BitVec 32 := 0#32
  let c1_i32 : BitVec 32 := 1#32
  let arg39 : BitVec 32 := Scf.iv c0_i32 c1_i32 k0_t1
  let c8_i32_579 : BitVec 32 := 8#32
  let v1692 : BitVec 32 := Scalar.muli arg39 c8_i32_579
  let v1693 : Index := Scalar.indexCast v1692
  let c0_580 : Index := 0#32
  ![v1693.toNat, 0]
def k0_off2 (k0_t1 : Fin k0_t1_loop.trips) : Fin 2 → Nat :=
  let c32_i32 : BitVec 32 := 32#32
  let c0_i32 : BitVec 32 := 0#32
  let c1_i32 : BitVec 32 := 1#32
  let arg39 : BitVec 32 := Scf.iv c0_i32 c1_i32 k0_t1
  let v1696 : BitVec 32 := Scalar.muli c32_i32 arg39
  let v1697 : Index := Scalar.indexCast v1696
  let c0_581 : Index := 0#32
  ![v1697.toNat, 0]
def k0_off3 (k0_t1 : Fin k0_t1_loop.trips) : Fin 2 → Nat :=
  let c4_i32_694 : BitVec 32 := 4#32
  let c16_i32 : BitVec 32 := 16#32
  let c0_i32 : BitVec 32 := 0#32
  let c1_i32 : BitVec 32 := 1#32
  let arg39 : BitVec 32 := Scf.iv c0_i32 c1_i32 k0_t1
  let c8_i32_579 : BitVec 32 := 8#32
  let v1692 : BitVec 32 := Scalar.muli arg39 c8_i32_579
  let v2076 : BitVec 32 := Scalar.addi c16_i32 v1692
  let v2077 : BitVec 32 := Scalar.muli c4_i32_694 v2076
  let v2078 : Index := Scalar.indexCast v2077
  let c0_695 : Index := 0#32
  ![v2078.toNat, 0]
@[reducible] def k0_t2_loop : Scf.Loop 32 :=
  let c0_i32_210 : BitVec 32 := 0#32
  let c15_i32_211 : BitVec 32 := 15#32
  let v607 : BitVec 32 := Scalar.addi c0_i32_210 c15_i32_211
  let c1_i32_212 : BitVec 32 := 1#32
  ⟨c0_i32_210, v607, c1_i32_212⟩
def k0_off4 (k0_t2 : Fin k0_t2_loop.trips) : Fin 2 → Nat :=
  let c16_i32 : BitVec 32 := 16#32
  let c0_i32_210 : BitVec 32 := 0#32
  let c1_i32_212 : BitVec 32 := 1#32
  let arg39 : BitVec 32 := Scf.iv c0_i32_210 c1_i32_212 k0_t2
  let v1693 : BitVec 32 := Scalar.muli c16_i32 arg39
  let v1694 : Index := Scalar.indexCast v1693
  let c0_580 : Index := 0#32
  ![v1694.toNat, 0]
def k0_off5 (k0_t2 : Fin k0_t2_loop.trips) : Fin 2 → Nat :=
  let c2_i32_694 : BitVec 32 := 2#32
  let c16_i32_693 : BitVec 32 := 16#32
  let c0_i32_210 : BitVec 32 := 0#32
  let c1_i32_212 : BitVec 32 := 1#32
  let arg39 : BitVec 32 := Scf.iv c0_i32_210 c1_i32_212 k0_t2
  let c8_i32_579 : BitVec 32 := 8#32
  let v1692 : BitVec 32 := Scalar.muli arg39 c8_i32_579
  let v2065 : BitVec 32 := Scalar.addi c16_i32_693 v1692
  let v2066 : BitVec 32 := Scalar.muli c2_i32_694 v2065
  let v2067 : Index := Scalar.indexCast v2066
  let c0_695 : Index := 0#32
  ![v2067.toNat, 0]
@[reducible] def k0_t3_loop : Scf.Loop 32 :=
  let c0_i32_320 : BitVec 32 := 0#32
  let c15_i32_321 : BitVec 32 := 15#32
  let v955 : BitVec 32 := Scalar.addi c0_i32_320 c15_i32_321
  let c1_i32_322 : BitVec 32 := 1#32
  ⟨c0_i32_320, v955, c1_i32_322⟩
def k0_off6 (k0_t3 : Fin k0_t3_loop.trips) : Fin 2 → Nat :=
  let c16_i32 : BitVec 32 := 16#32
  let c0_i32_320 : BitVec 32 := 0#32
  let c1_i32_322 : BitVec 32 := 1#32
  let arg39 : BitVec 32 := Scf.iv c0_i32_320 c1_i32_322 k0_t3
  let v1693 : BitVec 32 := Scalar.muli c16_i32 arg39
  let v1694 : Index := Scalar.indexCast v1693
  let c0_580 : Index := 0#32
  ![v1694.toNat, 0]
def k0_off7 (k0_t3 : Fin k0_t3_loop.trips) : Fin 2 → Nat :=
  let c2_i32_694 : BitVec 32 := 2#32
  let c16_i32_693 : BitVec 32 := 16#32
  let c0_i32_320 : BitVec 32 := 0#32
  let c1_i32_322 : BitVec 32 := 1#32
  let arg39 : BitVec 32 := Scf.iv c0_i32_320 c1_i32_322 k0_t3
  let c8_i32_579 : BitVec 32 := 8#32
  let v1692 : BitVec 32 := Scalar.muli arg39 c8_i32_579
  let v2065 : BitVec 32 := Scalar.addi c16_i32_693 v1692
  let v2066 : BitVec 32 := Scalar.muli c2_i32_694 v2065
  let v2067 : Index := Scalar.indexCast v2066
  let c0_695 : Index := 0#32
  ![v2067.toNat, 0]
@[reducible] def k0_t4_loop : Scf.Loop 32 :=
  let c0_i32_493 : BitVec 32 := 0#32
  let c15_i32_494 : BitVec 32 := 15#32
  let v1491 : BitVec 32 := Scalar.addi c0_i32_493 c15_i32_494
  let c1_i32_495 : BitVec 32 := 1#32
  ⟨c0_i32_493, v1491, c1_i32_495⟩
def k0_off8 (k0_t4 : Fin k0_t4_loop.trips) : Fin 2 → Nat :=
  let c8_i32_580 : BitVec 32 := 8#32
  let c0_i32_493 : BitVec 32 := 0#32
  let c1_i32_495 : BitVec 32 := 1#32
  let arg39 : BitVec 32 := Scf.iv c0_i32_493 c1_i32_495 k0_t4
  let v1693 : BitVec 32 := Scalar.muli c8_i32_580 arg39
  let v1694 : Index := Scalar.indexCast v1693
  let c0_581 : Index := 0#32
  ![v1694.toNat, 0]
def k0_off9 (k0_t4 : Fin k0_t4_loop.trips) : Fin 2 → Nat :=
  let c1_i32_702 : BitVec 32 := 1#32
  let c16_i32 : BitVec 32 := 16#32
  let c0_i32_493 : BitVec 32 := 0#32
  let c1_i32_495 : BitVec 32 := 1#32
  let arg39 : BitVec 32 := Scf.iv c0_i32_493 c1_i32_495 k0_t4
  let c8_i32_579 : BitVec 32 := 8#32
  let v1692 : BitVec 32 := Scalar.muli arg39 c8_i32_579
  let v2065 : BitVec 32 := Scalar.addi c16_i32 v1692
  let v2066 : BitVec 32 := Scalar.muli c1_i32_702 v2065
  let v2067 : Index := Scalar.indexCast v2066
  let c0_703 : Index := 0#32
  ![v2067.toNat, 0]
@[reducible] def k0_t5_loop : Scf.Loop 32 :=
  let c0_i32_551 : BitVec 32 := 0#32
  let c15_i32_552 : BitVec 32 := 15#32
  let v1666 : BitVec 32 := Scalar.addi c0_i32_551 c15_i32_552
  let c1_i32_553 : BitVec 32 := 1#32
  ⟨c0_i32_551, v1666, c1_i32_553⟩
def k0_off10 (k0_t5 : Fin k0_t5_loop.trips) : Fin 2 → Nat :=
  let c8_i32_580 : BitVec 32 := 8#32
  let c0_i32_551 : BitVec 32 := 0#32
  let c1_i32_553 : BitVec 32 := 1#32
  let arg39 : BitVec 32 := Scf.iv c0_i32_551 c1_i32_553 k0_t5
  let v1693 : BitVec 32 := Scalar.muli c8_i32_580 arg39
  let v1694 : Index := Scalar.indexCast v1693
  let c0_581 : Index := 0#32
  ![v1694.toNat, 0]
def k0_off11 (k0_t5 : Fin k0_t5_loop.trips) : Fin 2 → Nat :=
  let c1_i32_702 : BitVec 32 := 1#32
  let c16_i32 : BitVec 32 := 16#32
  let c0_i32_551 : BitVec 32 := 0#32
  let c1_i32_553 : BitVec 32 := 1#32
  let arg39 : BitVec 32 := Scf.iv c0_i32_551 c1_i32_553 k0_t5
  let c8_i32_579 : BitVec 32 := 8#32
  let v1692 : BitVec 32 := Scalar.muli arg39 c8_i32_579
  let v2065 : BitVec 32 := Scalar.addi c16_i32 v1692
  let v2066 : BitVec 32 := Scalar.muli c1_i32_702 v2065
  let v2067 : Index := Scalar.indexCast v2066
  let c0_703 : Index := 0#32
  ![v2067.toNat, 0]
abbrev stage0_0 : Fin 1 → Memref sig .tc .vmem S512x120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S119x119 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S119x119 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S120x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S64x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S64x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S64x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S64x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S64x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S128x512 .i32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S128x128 .i32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S128x512 .i32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S128x128 .i32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S64x128 .i32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S64x128 .i32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S64x64 .i32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1664x119 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
-- ==== ReferenceIdeal.lean ====
abbrev S1x512x120 : Shape := ⟨3, ![1, 512, 120]⟩
abbrev S512x512 : Shape := ⟨2, ![512, 512]⟩
abbrev S128x512 : Shape := ⟨2, ![128, 512]⟩
abbrev S128x128 : Shape := ⟨2, ![128, 128]⟩
abbrev S64x128 : Shape := ⟨2, ![64, 128]⟩
abbrev S64x64 : Shape := ⟨2, ![64, 64]⟩
abbrev S1x512x119 : Shape := ⟨3, ![1, 512, 119]⟩
abbrev S_ : Shape := ⟨0, ![]⟩
abbrev S1x512x1 : Shape := ⟨3, ![1, 512, 1]⟩
abbrev S512 : Shape := ⟨1, ![512]⟩
abbrev S512x11 : Shape := ⟨2, ![512, 11]⟩
abbrev S128 : Shape := ⟨1, ![128]⟩
abbrev S128x11 : Shape := ⟨2, ![128, 11]⟩
abbrev S64 : Shape := ⟨1, ![64]⟩
abbrev S64x11 : Shape := ⟨2, ![64, 11]⟩
abbrev S512x119 : Shape := ⟨2, ![512, 119]⟩
abbrev S119x512 : Shape := ⟨2, ![119, 512]⟩
abbrev S119x1664 : Shape := ⟨2, ![119, 1664]⟩
abbrev S1x512 : Shape := ⟨2, ![1, 512]⟩
abbrev S512x10 : Shape := ⟨2, ![512, 10]⟩
abbrev S512x1 : Shape := ⟨2, ![512, 1]⟩
abbrev S128x512x1 : Shape := ⟨3, ![128, 512, 1]⟩
abbrev S128x512x2 : Shape := ⟨3, ![128, 512, 2]⟩
abbrev S128x10 : Shape := ⟨2, ![128, 10]⟩
abbrev S128x1 : Shape := ⟨2, ![128, 1]⟩
abbrev S1x128 : Shape := ⟨2, ![1, 128]⟩
abbrev S128x128x1 : Shape := ⟨3, ![128, 128, 1]⟩
abbrev S128x128x2 : Shape := ⟨3, ![128, 128, 2]⟩
abbrev S64x128x1 : Shape := ⟨3, ![64, 128, 1]⟩
abbrev S64x128x2 : Shape := ⟨3, ![64, 128, 2]⟩
abbrev S64x10 : Shape := ⟨2, ![64, 10]⟩
abbrev S64x1 : Shape := ⟨2, ![64, 1]⟩
abbrev S1x64 : Shape := ⟨2, ![1, 64]⟩
abbrev S64x64x1 : Shape := ⟨3, ![64, 64, 1]⟩
abbrev S64x64x2 : Shape := ⟨3, ![64, 64, 2]⟩
abbrev S1664 : Shape := ⟨1, ![1664]⟩
abbrev S1x1664 : Shape := ⟨2, ![1, 1664]⟩
abbrev S1664x119 : Shape := ⟨2, ![1664, 119]⟩

abbrev nBuf : Space → Nat
  | .hbm => 1106
  | .vmem => 0
  | .smem => 0
  | _ => 0

abbrev hbmTy0_0 (i : Nat) : BufTy := match i % 128 with
  | 0 => ⟨S1x512x120, .f32⟩
  | 1 => ⟨S512x512, .f32⟩
  | 2 => ⟨S128x512, .f32⟩
  | 3 => ⟨S128x512, .f32⟩
  | 4 => ⟨S128x128, .f32⟩
  | 5 => ⟨S512x512, .f32⟩
  | 6 => ⟨S128x512, .f32⟩
  | 7 => ⟨S128x512, .f32⟩
  | 8 => ⟨S128x128, .f32⟩
  | 9 => ⟨S64x128, .f32⟩
  | 10 => ⟨S64x128, .f32⟩
  | 11 => ⟨S64x128, .f32⟩
  | 12 => ⟨S64x128, .f32⟩
  | 13 => ⟨S64x64, .f32⟩
  | 14 => ⟨S128x512, .i32⟩
  | 15 => ⟨S128x128, .i32⟩
  | 16 => ⟨S128x512, .i32⟩
  | 17 => ⟨S128x128, .i32⟩
  | 18 => ⟨S64x128, .i32⟩
  | 19 => ⟨S64x128, .i32⟩
  | 20 => ⟨S64x64, .i32⟩
  | 21 => ⟨S1x512x119, .f32⟩
  | 22 => ⟨S1x512x119, .f32⟩
  | 23 => ⟨S1x512x119, .f32⟩
  | 24 => ⟨S1x512x119, .f32⟩
  | 25 => ⟨S_, .f32⟩
  | 26 => ⟨S1x512x119, .f32⟩
  | 27 => ⟨S1x512x119, .f32⟩
  | 28 => ⟨S_, .f32⟩
  | 29 => ⟨S1x512x1, .f32⟩
  | 30 => ⟨S1x512x120, .f32⟩
  | 31 => ⟨S_, .f32⟩
  | 32 => ⟨S512, .f32⟩
  | 33 => ⟨S_, .f32⟩
  | 34 => ⟨S128x512, .f32⟩
  | 35 => ⟨S_, .f32⟩
  | 36 => ⟨S128x512, .f32⟩
  | 37 => ⟨S_, .f32⟩
  | 38 => ⟨S128x128, .f32⟩
  | 39 => ⟨S_, .f32⟩
  | 40 => ⟨S512, .f32⟩
  | 41 => ⟨S_, .f32⟩
  | 42 => ⟨S128x512, .f32⟩
  | 43 => ⟨S_, .f32⟩
  | 44 => ⟨S128x512, .f32⟩
  | 45 => ⟨S_, .f32⟩
  | 46 => ⟨S128x128, .f32⟩
  | 47 => ⟨S_, .f32⟩
  | 48 => ⟨S64x128, .f32⟩
  | 49 => ⟨S_, .f32⟩
  | 50 => ⟨S64x128, .f32⟩
  | 51 => ⟨S_, .f32⟩
  | 52 => ⟨S64x128, .f32⟩
  | 53 => ⟨S_, .f32⟩
  | 54 => ⟨S64x128, .f32⟩
  | 55 => ⟨S_, .f32⟩
  | 56 => ⟨S64x64, .f32⟩
  | 57 => ⟨S_, .f32⟩
  | 58 => ⟨S512, .f32⟩
  | 59 => ⟨S_, .f32⟩
  | 60 => ⟨S512, .f32⟩
  | 61 => ⟨S_, .f32⟩
  | 62 => ⟨S512x11, .f32⟩
  | 63 => ⟨S_, .f32⟩
  | 64 => ⟨S128, .f32⟩
  | 65 => ⟨S_, .f32⟩
  | 66 => ⟨S128, .f32⟩
  | 67 => ⟨S_, .f32⟩
  | 68 => ⟨S128x11, .f32⟩
  | 69 => ⟨S_, .f32⟩
  | 70 => ⟨S128, .f32⟩
  | 71 => ⟨S_, .f32⟩
  | 72 => ⟨S128, .f32⟩
  | 73 => ⟨S_, .f32⟩
  | 74 => ⟨S128x11, .f32⟩
  | 75 => ⟨S_, .f32⟩
  | 76 => ⟨S512, .f32⟩
  | 77 => ⟨S_, .f32⟩
  | 78 => ⟨S512, .f32⟩
  | 79 => ⟨S_, .f32⟩
  | 80 => ⟨S512x11, .f32⟩
  | 81 => ⟨S_, .f32⟩
  | 82 => ⟨S128, .f32⟩
  | 83 => ⟨S_, .f32⟩
  | 84 => ⟨S128, .f32⟩
  | 85 => ⟨S_, .f32⟩
  | 86 => ⟨S128x11, .f32⟩
  | 87 => ⟨S_, .f32⟩
  | 88 => ⟨S128, .f32⟩
  | 89 => ⟨S_, .f32⟩
  | 90 => ⟨S128, .f32⟩
  | 91 => ⟨S_, .f32⟩
  | 92 => ⟨S128x11, .f32⟩
  | 93 => ⟨S_, .f32⟩
  | 94 => ⟨S64, .f32⟩
  | 95 => ⟨S_, .f32⟩
  | 96 => ⟨S64, .f32⟩
  | 97 => ⟨S_, .f32⟩
  | 98 => ⟨S64x11, .f32⟩
  | 99 => ⟨S_, .f32⟩
  | 100 => ⟨S64, .f32⟩
  | 101 => ⟨S_, .f32⟩
  | 102 => ⟨S64, .f32⟩
  | 103 => ⟨S_, .f32⟩
  | 104 => ⟨S64x11, .f32⟩
  | 105 => ⟨S1x512x119, .f32⟩
  | 106 => ⟨S512x119, .f32⟩
  | 107 => ⟨S119x512, .f32⟩
  | 108 => ⟨S1x512x119, .f32⟩
  | 109 => ⟨S512x119, .f32⟩
  | 110 => ⟨S119x512, .f32⟩
  | 111 => ⟨S_, .f32⟩
  | 112 => ⟨S_, .f32⟩
  | 113 => ⟨S119x1664, .f32⟩
  | 114 => ⟨S_, .i32⟩
  | 115 => ⟨S119x512, .f32⟩
  | 116 => ⟨S119x512, .f32⟩
  | 117 => ⟨S512x512, .f32⟩
  | 118 => ⟨S128x512, .i32⟩
  | 119 => ⟨S128x512, .f32⟩
  | 120 => ⟨S128x512, .f32⟩
  | 121 => ⟨S128x128, .i32⟩
  | 122 => ⟨S128x128, .f32⟩
  | 123 => ⟨S512x512, .f32⟩
  | 124 => ⟨S128x512, .i32⟩
  | 125 => ⟨S128x512, .f32⟩
  | 126 => ⟨S128x512, .f32⟩
  | 127 => ⟨S128x128, .i32⟩
  | _ => ⟨S1x512x120, .f32⟩

abbrev hbmTy0_1 (i : Nat) : BufTy := match i % 128 with
  | 0 => ⟨S128x128, .f32⟩
  | 1 => ⟨S64x128, .i32⟩
  | 2 => ⟨S64x128, .f32⟩
  | 3 => ⟨S64x128, .i32⟩
  | 4 => ⟨S64x128, .f32⟩
  | 5 => ⟨S64x128, .f32⟩
  | 6 => ⟨S64x128, .f32⟩
  | 7 => ⟨S64x64, .i32⟩
  | 8 => ⟨S64x64, .f32⟩
  | 9 => ⟨S_, .i32⟩
  | 10 => ⟨S_, .f32⟩
  | 11 => ⟨S512, .f32⟩
  | 12 => ⟨S512, .f32⟩
  | 13 => ⟨S512x11, .f32⟩
  | 14 => ⟨S128, .f32⟩
  | 15 => ⟨S128, .f32⟩
  | 16 => ⟨S128x11, .f32⟩
  | 17 => ⟨S128, .f32⟩
  | 18 => ⟨S128, .f32⟩
  | 19 => ⟨S128x11, .f32⟩
  | 20 => ⟨S512, .f32⟩
  | 21 => ⟨S512, .f32⟩
  | 22 => ⟨S512x11, .f32⟩
  | 23 => ⟨S128, .f32⟩
  | 24 => ⟨S128, .f32⟩
  | 25 => ⟨S128x11, .f32⟩
  | 26 => ⟨S128, .f32⟩
  | 27 => ⟨S128, .f32⟩
  | 28 => ⟨S128x11, .f32⟩
  | 29 => ⟨S64, .f32⟩
  | 30 => ⟨S64, .f32⟩
  | 31 => ⟨S64x11, .f32⟩
  | 32 => ⟨S64, .f32⟩
  | 33 => ⟨S64, .f32⟩
  | 34 => ⟨S64x11, .f32⟩
  | 35 => ⟨S512, .f32⟩
  | 36 => ⟨S128x512, .f32⟩
  | 37 => ⟨S128x512, .f32⟩
  | 38 => ⟨S128x128, .f32⟩
  | 39 => ⟨S512, .f32⟩
  | 40 => ⟨S128x512, .f32⟩
  | 41 => ⟨S128x512, .f32⟩
  | 42 => ⟨S128x128, .f32⟩
  | 43 => ⟨S64x128, .f32⟩
  | 44 => ⟨S64x128, .f32⟩
  | 45 => ⟨S64x128, .f32⟩
  | 46 => ⟨S64x128, .f32⟩
  | 47 => ⟨S64x64, .f32⟩
  | 48 => ⟨S119x1664, .f32⟩
  | 49 => ⟨S_, .i32⟩
  | 50 => ⟨S_, .i1⟩
  | 51 => ⟨S_, .i32⟩
  | 52 => ⟨S1x512, .f32⟩
  | 53 => ⟨S512, .f32⟩
  | 54 => ⟨S_, .i32⟩
  | 55 => ⟨S1x512, .f32⟩
  | 56 => ⟨S512, .f32⟩
  | 57 => ⟨S_, .f32⟩
  | 58 => ⟨S_, .f32⟩
  | 59 => ⟨S_, .f32⟩
  | 60 => ⟨S512, .f32⟩
  | 61 => ⟨S512, .f32⟩
  | 62 => ⟨S512, .f32⟩
  | 63 => ⟨S512, .f32⟩
  | 64 => ⟨S_, .f32⟩
  | 65 => ⟨S512, .f32⟩
  | 66 => ⟨S512, .f32⟩
  | 67 => ⟨S512, .f32⟩
  | 68 => ⟨S_, .f32⟩
  | 69 => ⟨S512, .f32⟩
  | 70 => ⟨S512, .f32⟩
  | 71 => ⟨S512, .f32⟩
  | 72 => ⟨S_, .f32⟩
  | 73 => ⟨S512, .f32⟩
  | 74 => ⟨S512, .f32⟩
  | 75 => ⟨S512, .f32⟩
  | 76 => ⟨S512, .f32⟩
  | 77 => ⟨S_, .f32⟩
  | 78 => ⟨S512, .f32⟩
  | 79 => ⟨S512, .f32⟩
  | 80 => ⟨S512, .f32⟩
  | 81 => ⟨S_, .f32⟩
  | 82 => ⟨S512, .f32⟩
  | 83 => ⟨S512, .f32⟩
  | 84 => ⟨S512, .f32⟩
  | 85 => ⟨S_, .f32⟩
  | 86 => ⟨S512, .f32⟩
  | 87 => ⟨S512, .f32⟩
  | 88 => ⟨S512, .f32⟩
  | 89 => ⟨S_, .f32⟩
  | 90 => ⟨S512, .f32⟩
  | 91 => ⟨S512, .f32⟩
  | 92 => ⟨S512, .f32⟩
  | 93 => ⟨S512, .f32⟩
  | 94 => ⟨S_, .f32⟩
  | 95 => ⟨S512, .f32⟩
  | 96 => ⟨S512, .f32⟩
  | 97 => ⟨S512, .f32⟩
  | 98 => ⟨S_, .f32⟩
  | 99 => ⟨S512, .f32⟩
  | 100 => ⟨S512, .f32⟩
  | 101 => ⟨S512, .f32⟩
  | 102 => ⟨S512, .f32⟩
  | 103 => ⟨S512, .f32⟩
  | 104 => ⟨S512, .f32⟩
  | 105 => ⟨S_, .f32⟩
  | 106 => ⟨S512, .f32⟩
  | 107 => ⟨S512, .i1⟩
  | 108 => ⟨S512, .f32⟩
  | 109 => ⟨S_, .f32⟩
  | 110 => ⟨S512, .f32⟩
  | 111 => ⟨S512, .i1⟩
  | 112 => ⟨S_, .f32⟩
  | 113 => ⟨S_, .f32⟩
  | 114 => ⟨S512, .f32⟩
  | 115 => ⟨S512, .f32⟩
  | 116 => ⟨S_, .f32⟩
  | 117 => ⟨S512, .f32⟩
  | 118 => ⟨S512, .i1⟩
  | 119 => ⟨S_, .f32⟩
  | 120 => ⟨S512, .f32⟩
  | 121 => ⟨S512, .f32⟩
  | 122 => ⟨S512, .f32⟩
  | 123 => ⟨S512x10, .f32⟩
  | 124 => ⟨S512x1, .f32⟩
  | 125 => ⟨S512x11, .f32⟩
  | 126 => ⟨S_, .f32⟩
  | 127 => ⟨S_, .f32⟩
  | _ => ⟨S1x512x120, .f32⟩

abbrev hbmTy0_2 (i : Nat) : BufTy := match i % 128 with
  | 0 => ⟨S_, .i32⟩
  | 1 => ⟨S128x512, .i32⟩
  | 2 => ⟨S128x512, .i32⟩
  | 3 => ⟨S512, .i32⟩
  | 4 => ⟨S1x512, .i32⟩
  | 5 => ⟨S_, .i32⟩
  | 6 => ⟨S1x512, .i32⟩
  | 7 => ⟨S1x512, .i1⟩
  | 8 => ⟨S_, .i32⟩
  | 9 => ⟨S1x512, .i32⟩
  | 10 => ⟨S1x512, .i32⟩
  | 11 => ⟨S1x512, .i32⟩
  | 12 => ⟨S_, .i32⟩
  | 13 => ⟨S128x512, .i32⟩
  | 14 => ⟨S128x512, .i1⟩
  | 15 => ⟨S_, .i32⟩
  | 16 => ⟨S128x512, .i32⟩
  | 17 => ⟨S128x512, .i32⟩
  | 18 => ⟨S128x512, .i32⟩
  | 19 => ⟨S128x512, .i32⟩
  | 20 => ⟨S128x512x1, .i32⟩
  | 21 => ⟨S128x512x1, .i32⟩
  | 22 => ⟨S128x512x2, .i32⟩
  | 23 => ⟨S128x512, .f32⟩
  | 24 => ⟨S_, .f32⟩
  | 25 => ⟨S_, .f32⟩
  | 26 => ⟨S_, .f32⟩
  | 27 => ⟨S128x512, .f32⟩
  | 28 => ⟨S128x512, .f32⟩
  | 29 => ⟨S128x512, .f32⟩
  | 30 => ⟨S128x512, .f32⟩
  | 31 => ⟨S_, .f32⟩
  | 32 => ⟨S128, .f32⟩
  | 33 => ⟨S_, .f32⟩
  | 34 => ⟨S128, .f32⟩
  | 35 => ⟨S128, .f32⟩
  | 36 => ⟨S128, .f32⟩
  | 37 => ⟨S_, .f32⟩
  | 38 => ⟨S128, .f32⟩
  | 39 => ⟨S128, .f32⟩
  | 40 => ⟨S128, .f32⟩
  | 41 => ⟨S_, .f32⟩
  | 42 => ⟨S128, .f32⟩
  | 43 => ⟨S128, .f32⟩
  | 44 => ⟨S128, .f32⟩
  | 45 => ⟨S128, .f32⟩
  | 46 => ⟨S_, .f32⟩
  | 47 => ⟨S128, .f32⟩
  | 48 => ⟨S128, .f32⟩
  | 49 => ⟨S128, .f32⟩
  | 50 => ⟨S_, .f32⟩
  | 51 => ⟨S128, .f32⟩
  | 52 => ⟨S128, .f32⟩
  | 53 => ⟨S128, .f32⟩
  | 54 => ⟨S_, .f32⟩
  | 55 => ⟨S128, .f32⟩
  | 56 => ⟨S128, .f32⟩
  | 57 => ⟨S128, .f32⟩
  | 58 => ⟨S_, .f32⟩
  | 59 => ⟨S128, .f32⟩
  | 60 => ⟨S128, .f32⟩
  | 61 => ⟨S128, .f32⟩
  | 62 => ⟨S128, .f32⟩
  | 63 => ⟨S_, .f32⟩
  | 64 => ⟨S128, .f32⟩
  | 65 => ⟨S128, .f32⟩
  | 66 => ⟨S128, .f32⟩
  | 67 => ⟨S_, .f32⟩
  | 68 => ⟨S128, .f32⟩
  | 69 => ⟨S128, .f32⟩
  | 70 => ⟨S128, .f32⟩
  | 71 => ⟨S_, .f32⟩
  | 72 => ⟨S128, .f32⟩
  | 73 => ⟨S128, .f32⟩
  | 74 => ⟨S128, .f32⟩
  | 75 => ⟨S_, .f32⟩
  | 76 => ⟨S128, .f32⟩
  | 77 => ⟨S128, .i1⟩
  | 78 => ⟨S128, .f32⟩
  | 79 => ⟨S_, .f32⟩
  | 80 => ⟨S128, .f32⟩
  | 81 => ⟨S128, .i1⟩
  | 82 => ⟨S_, .f32⟩
  | 83 => ⟨S_, .f32⟩
  | 84 => ⟨S128, .f32⟩
  | 85 => ⟨S128, .f32⟩
  | 86 => ⟨S_, .f32⟩
  | 87 => ⟨S128, .f32⟩
  | 88 => ⟨S128, .i1⟩
  | 89 => ⟨S_, .f32⟩
  | 90 => ⟨S128, .f32⟩
  | 91 => ⟨S128, .f32⟩
  | 92 => ⟨S128, .f32⟩
  | 93 => ⟨S128x10, .f32⟩
  | 94 => ⟨S128x1, .f32⟩
  | 95 => ⟨S128x11, .f32⟩
  | 96 => ⟨S_, .i32⟩
  | 97 => ⟨S128x512, .i32⟩
  | 98 => ⟨S128x512, .i32⟩
  | 99 => ⟨S512, .i32⟩
  | 100 => ⟨S1x512, .i32⟩
  | 101 => ⟨S_, .i32⟩
  | 102 => ⟨S1x512, .i32⟩
  | 103 => ⟨S1x512, .i1⟩
  | 104 => ⟨S_, .i32⟩
  | 105 => ⟨S1x512, .i32⟩
  | 106 => ⟨S1x512, .i32⟩
  | 107 => ⟨S1x512, .i32⟩
  | 108 => ⟨S_, .i32⟩
  | 109 => ⟨S128x512, .i32⟩
  | 110 => ⟨S128x512, .i1⟩
  | 111 => ⟨S_, .i32⟩
  | 112 => ⟨S128x512, .i32⟩
  | 113 => ⟨S128x512, .i32⟩
  | 114 => ⟨S128x512, .i32⟩
  | 115 => ⟨S128x512, .i32⟩
  | 116 => ⟨S128x512x1, .i32⟩
  | 117 => ⟨S128x512x1, .i32⟩
  | 118 => ⟨S128x512x2, .i32⟩
  | 119 => ⟨S128x512, .f32⟩
  | 120 => ⟨S_, .f32⟩
  | 121 => ⟨S_, .f32⟩
  | 122 => ⟨S_, .f32⟩
  | 123 => ⟨S128x512, .f32⟩
  | 124 => ⟨S128x512, .f32⟩
  | 125 => ⟨S128x512, .f32⟩
  | 126 => ⟨S128x512, .f32⟩
  | 127 => ⟨S_, .f32⟩
  | _ => ⟨S1x512x120, .f32⟩

abbrev hbmTy0_3 (i : Nat) : BufTy := match i % 128 with
  | 0 => ⟨S128, .f32⟩
  | 1 => ⟨S_, .i32⟩
  | 2 => ⟨S128x128, .i32⟩
  | 3 => ⟨S128x128, .i32⟩
  | 4 => ⟨S128, .i32⟩
  | 5 => ⟨S1x128, .i32⟩
  | 6 => ⟨S_, .i32⟩
  | 7 => ⟨S1x128, .i32⟩
  | 8 => ⟨S1x128, .i1⟩
  | 9 => ⟨S_, .i32⟩
  | 10 => ⟨S1x128, .i32⟩
  | 11 => ⟨S1x128, .i32⟩
  | 12 => ⟨S1x128, .i32⟩
  | 13 => ⟨S_, .i32⟩
  | 14 => ⟨S128x128, .i32⟩
  | 15 => ⟨S128x128, .i1⟩
  | 16 => ⟨S_, .i32⟩
  | 17 => ⟨S128x128, .i32⟩
  | 18 => ⟨S128x128, .i32⟩
  | 19 => ⟨S128x128, .i32⟩
  | 20 => ⟨S128x128, .i32⟩
  | 21 => ⟨S128x128x1, .i32⟩
  | 22 => ⟨S128x128x1, .i32⟩
  | 23 => ⟨S128x128x2, .i32⟩
  | 24 => ⟨S128x128, .f32⟩
  | 25 => ⟨S_, .f32⟩
  | 26 => ⟨S_, .f32⟩
  | 27 => ⟨S_, .f32⟩
  | 28 => ⟨S128x128, .f32⟩
  | 29 => ⟨S128x128, .f32⟩
  | 30 => ⟨S128x128, .f32⟩
  | 31 => ⟨S128x128, .f32⟩
  | 32 => ⟨S_, .f32⟩
  | 33 => ⟨S128, .f32⟩
  | 34 => ⟨S_, .f32⟩
  | 35 => ⟨S128, .f32⟩
  | 36 => ⟨S128, .f32⟩
  | 37 => ⟨S_, .f32⟩
  | 38 => ⟨S128, .f32⟩
  | 39 => ⟨S128, .f32⟩
  | 40 => ⟨S128, .f32⟩
  | 41 => ⟨S_, .f32⟩
  | 42 => ⟨S128, .f32⟩
  | 43 => ⟨S128, .f32⟩
  | 44 => ⟨S128, .f32⟩
  | 45 => ⟨S_, .f32⟩
  | 46 => ⟨S128, .f32⟩
  | 47 => ⟨S128, .f32⟩
  | 48 => ⟨S128, .f32⟩
  | 49 => ⟨S_, .f32⟩
  | 50 => ⟨S128, .f32⟩
  | 51 => ⟨S128, .f32⟩
  | 52 => ⟨S128, .f32⟩
  | 53 => ⟨S128, .f32⟩
  | 54 => ⟨S_, .f32⟩
  | 55 => ⟨S128, .f32⟩
  | 56 => ⟨S128, .f32⟩
  | 57 => ⟨S128, .f32⟩
  | 58 => ⟨S_, .f32⟩
  | 59 => ⟨S128, .f32⟩
  | 60 => ⟨S128, .f32⟩
  | 61 => ⟨S128, .f32⟩
  | 62 => ⟨S_, .f32⟩
  | 63 => ⟨S128, .f32⟩
  | 64 => ⟨S128, .f32⟩
  | 65 => ⟨S128, .f32⟩
  | 66 => ⟨S_, .f32⟩
  | 67 => ⟨S128, .f32⟩
  | 68 => ⟨S128, .f32⟩
  | 69 => ⟨S128, .f32⟩
  | 70 => ⟨S128, .f32⟩
  | 71 => ⟨S_, .f32⟩
  | 72 => ⟨S128, .f32⟩
  | 73 => ⟨S128, .f32⟩
  | 74 => ⟨S128, .f32⟩
  | 75 => ⟨S_, .f32⟩
  | 76 => ⟨S128, .f32⟩
  | 77 => ⟨S128, .f32⟩
  | 78 => ⟨S128, .f32⟩
  | 79 => ⟨S_, .f32⟩
  | 80 => ⟨S128, .f32⟩
  | 81 => ⟨S128, .f32⟩
  | 82 => ⟨S128, .f32⟩
  | 83 => ⟨S_, .f32⟩
  | 84 => ⟨S128, .f32⟩
  | 85 => ⟨S128, .i1⟩
  | 86 => ⟨S128, .f32⟩
  | 87 => ⟨S_, .f32⟩
  | 88 => ⟨S128, .f32⟩
  | 89 => ⟨S128, .i1⟩
  | 90 => ⟨S_, .f32⟩
  | 91 => ⟨S_, .f32⟩
  | 92 => ⟨S128, .f32⟩
  | 93 => ⟨S128, .f32⟩
  | 94 => ⟨S_, .f32⟩
  | 95 => ⟨S128, .f32⟩
  | 96 => ⟨S128, .i1⟩
  | 97 => ⟨S_, .f32⟩
  | 98 => ⟨S128, .f32⟩
  | 99 => ⟨S128, .f32⟩
  | 100 => ⟨S128, .f32⟩
  | 101 => ⟨S128x10, .f32⟩
  | 102 => ⟨S128x1, .f32⟩
  | 103 => ⟨S128x11, .f32⟩
  | 104 => ⟨S_, .f32⟩
  | 105 => ⟨S_, .f32⟩
  | 106 => ⟨S_, .f32⟩
  | 107 => ⟨S512, .f32⟩
  | 108 => ⟨S512, .f32⟩
  | 109 => ⟨S512, .f32⟩
  | 110 => ⟨S512, .f32⟩
  | 111 => ⟨S_, .f32⟩
  | 112 => ⟨S512, .f32⟩
  | 113 => ⟨S512, .f32⟩
  | 114 => ⟨S512, .f32⟩
  | 115 => ⟨S_, .f32⟩
  | 116 => ⟨S512, .f32⟩
  | 117 => ⟨S512, .f32⟩
  | 118 => ⟨S512, .f32⟩
  | 119 => ⟨S_, .f32⟩
  | 120 => ⟨S512, .f32⟩
  | 121 => ⟨S512, .f32⟩
  | 122 => ⟨S512, .f32⟩
  | 123 => ⟨S512, .f32⟩
  | 124 => ⟨S_, .f32⟩
  | 125 => ⟨S512, .f32⟩
  | 126 => ⟨S512, .f32⟩
  | 127 => ⟨S512, .f32⟩
  | _ => ⟨S1x512x120, .f32⟩

abbrev hbmTy0_4 (i : Nat) : BufTy := match i % 128 with
  | 0 => ⟨S_, .f32⟩
  | 1 => ⟨S512, .f32⟩
  | 2 => ⟨S512, .f32⟩
  | 3 => ⟨S512, .f32⟩
  | 4 => ⟨S_, .f32⟩
  | 5 => ⟨S512, .f32⟩
  | 6 => ⟨S512, .f32⟩
  | 7 => ⟨S512, .f32⟩
  | 8 => ⟨S_, .f32⟩
  | 9 => ⟨S512, .f32⟩
  | 10 => ⟨S512, .f32⟩
  | 11 => ⟨S512, .f32⟩
  | 12 => ⟨S512, .f32⟩
  | 13 => ⟨S_, .f32⟩
  | 14 => ⟨S512, .f32⟩
  | 15 => ⟨S512, .f32⟩
  | 16 => ⟨S512, .f32⟩
  | 17 => ⟨S_, .f32⟩
  | 18 => ⟨S512, .f32⟩
  | 19 => ⟨S512, .f32⟩
  | 20 => ⟨S512, .f32⟩
  | 21 => ⟨S_, .f32⟩
  | 22 => ⟨S512, .f32⟩
  | 23 => ⟨S512, .f32⟩
  | 24 => ⟨S512, .f32⟩
  | 25 => ⟨S_, .f32⟩
  | 26 => ⟨S512, .f32⟩
  | 27 => ⟨S512, .i1⟩
  | 28 => ⟨S512, .f32⟩
  | 29 => ⟨S_, .f32⟩
  | 30 => ⟨S512, .f32⟩
  | 31 => ⟨S512, .i1⟩
  | 32 => ⟨S_, .f32⟩
  | 33 => ⟨S_, .f32⟩
  | 34 => ⟨S512, .f32⟩
  | 35 => ⟨S512, .f32⟩
  | 36 => ⟨S_, .f32⟩
  | 37 => ⟨S512, .f32⟩
  | 38 => ⟨S512, .i1⟩
  | 39 => ⟨S_, .f32⟩
  | 40 => ⟨S512, .f32⟩
  | 41 => ⟨S512, .f32⟩
  | 42 => ⟨S512, .f32⟩
  | 43 => ⟨S512x10, .f32⟩
  | 44 => ⟨S512x1, .f32⟩
  | 45 => ⟨S512x11, .f32⟩
  | 46 => ⟨S_, .i32⟩
  | 47 => ⟨S128x512, .i32⟩
  | 48 => ⟨S128x512, .i32⟩
  | 49 => ⟨S512, .i32⟩
  | 50 => ⟨S1x512, .i32⟩
  | 51 => ⟨S_, .i32⟩
  | 52 => ⟨S1x512, .i32⟩
  | 53 => ⟨S1x512, .i1⟩
  | 54 => ⟨S_, .i32⟩
  | 55 => ⟨S1x512, .i32⟩
  | 56 => ⟨S1x512, .i32⟩
  | 57 => ⟨S1x512, .i32⟩
  | 58 => ⟨S_, .i32⟩
  | 59 => ⟨S128x512, .i32⟩
  | 60 => ⟨S128x512, .i1⟩
  | 61 => ⟨S_, .i32⟩
  | 62 => ⟨S128x512, .i32⟩
  | 63 => ⟨S128x512, .i32⟩
  | 64 => ⟨S128x512, .i32⟩
  | 65 => ⟨S128x512, .i32⟩
  | 66 => ⟨S128x512x1, .i32⟩
  | 67 => ⟨S128x512x1, .i32⟩
  | 68 => ⟨S128x512x2, .i32⟩
  | 69 => ⟨S128x512, .f32⟩
  | 70 => ⟨S_, .f32⟩
  | 71 => ⟨S_, .f32⟩
  | 72 => ⟨S_, .f32⟩
  | 73 => ⟨S128x512, .f32⟩
  | 74 => ⟨S128x512, .f32⟩
  | 75 => ⟨S128x512, .f32⟩
  | 76 => ⟨S128x512, .f32⟩
  | 77 => ⟨S_, .f32⟩
  | 78 => ⟨S128, .f32⟩
  | 79 => ⟨S_, .f32⟩
  | 80 => ⟨S128, .f32⟩
  | 81 => ⟨S128, .f32⟩
  | 82 => ⟨S128, .f32⟩
  | 83 => ⟨S_, .f32⟩
  | 84 => ⟨S128, .f32⟩
  | 85 => ⟨S128, .f32⟩
  | 86 => ⟨S128, .f32⟩
  | 87 => ⟨S_, .f32⟩
  | 88 => ⟨S128, .f32⟩
  | 89 => ⟨S128, .f32⟩
  | 90 => ⟨S128, .f32⟩
  | 91 => ⟨S128, .f32⟩
  | 92 => ⟨S_, .f32⟩
  | 93 => ⟨S128, .f32⟩
  | 94 => ⟨S128, .f32⟩
  | 95 => ⟨S128, .f32⟩
  | 96 => ⟨S_, .f32⟩
  | 97 => ⟨S128, .f32⟩
  | 98 => ⟨S128, .f32⟩
  | 99 => ⟨S128, .f32⟩
  | 100 => ⟨S_, .f32⟩
  | 101 => ⟨S128, .f32⟩
  | 102 => ⟨S128, .f32⟩
  | 103 => ⟨S128, .f32⟩
  | 104 => ⟨S_, .f32⟩
  | 105 => ⟨S128, .f32⟩
  | 106 => ⟨S128, .f32⟩
  | 107 => ⟨S128, .f32⟩
  | 108 => ⟨S128, .f32⟩
  | 109 => ⟨S_, .f32⟩
  | 110 => ⟨S128, .f32⟩
  | 111 => ⟨S128, .f32⟩
  | 112 => ⟨S128, .f32⟩
  | 113 => ⟨S_, .f32⟩
  | 114 => ⟨S128, .f32⟩
  | 115 => ⟨S128, .f32⟩
  | 116 => ⟨S128, .f32⟩
  | 117 => ⟨S_, .f32⟩
  | 118 => ⟨S128, .f32⟩
  | 119 => ⟨S128, .f32⟩
  | 120 => ⟨S128, .f32⟩
  | 121 => ⟨S_, .f32⟩
  | 122 => ⟨S128, .f32⟩
  | 123 => ⟨S128, .i1⟩
  | 124 => ⟨S128, .f32⟩
  | 125 => ⟨S_, .f32⟩
  | 126 => ⟨S128, .f32⟩
  | 127 => ⟨S128, .i1⟩
  | _ => ⟨S1x512x120, .f32⟩

abbrev hbmTy0_5 (i : Nat) : BufTy := match i % 128 with
  | 0 => ⟨S_, .f32⟩
  | 1 => ⟨S_, .f32⟩
  | 2 => ⟨S128, .f32⟩
  | 3 => ⟨S128, .f32⟩
  | 4 => ⟨S_, .f32⟩
  | 5 => ⟨S128, .f32⟩
  | 6 => ⟨S128, .i1⟩
  | 7 => ⟨S_, .f32⟩
  | 8 => ⟨S128, .f32⟩
  | 9 => ⟨S128, .f32⟩
  | 10 => ⟨S128, .f32⟩
  | 11 => ⟨S128x10, .f32⟩
  | 12 => ⟨S128x1, .f32⟩
  | 13 => ⟨S128x11, .f32⟩
  | 14 => ⟨S_, .i32⟩
  | 15 => ⟨S128x512, .i32⟩
  | 16 => ⟨S128x512, .i32⟩
  | 17 => ⟨S512, .i32⟩
  | 18 => ⟨S1x512, .i32⟩
  | 19 => ⟨S_, .i32⟩
  | 20 => ⟨S1x512, .i32⟩
  | 21 => ⟨S1x512, .i1⟩
  | 22 => ⟨S_, .i32⟩
  | 23 => ⟨S1x512, .i32⟩
  | 24 => ⟨S1x512, .i32⟩
  | 25 => ⟨S1x512, .i32⟩
  | 26 => ⟨S_, .i32⟩
  | 27 => ⟨S128x512, .i32⟩
  | 28 => ⟨S128x512, .i1⟩
  | 29 => ⟨S_, .i32⟩
  | 30 => ⟨S128x512, .i32⟩
  | 31 => ⟨S128x512, .i32⟩
  | 32 => ⟨S128x512, .i32⟩
  | 33 => ⟨S128x512, .i32⟩
  | 34 => ⟨S128x512x1, .i32⟩
  | 35 => ⟨S128x512x1, .i32⟩
  | 36 => ⟨S128x512x2, .i32⟩
  | 37 => ⟨S128x512, .f32⟩
  | 38 => ⟨S_, .f32⟩
  | 39 => ⟨S_, .f32⟩
  | 40 => ⟨S_, .f32⟩
  | 41 => ⟨S128x512, .f32⟩
  | 42 => ⟨S128x512, .f32⟩
  | 43 => ⟨S128x512, .f32⟩
  | 44 => ⟨S128x512, .f32⟩
  | 45 => ⟨S_, .f32⟩
  | 46 => ⟨S128, .f32⟩
  | 47 => ⟨S_, .i32⟩
  | 48 => ⟨S128x128, .i32⟩
  | 49 => ⟨S128x128, .i32⟩
  | 50 => ⟨S128, .i32⟩
  | 51 => ⟨S1x128, .i32⟩
  | 52 => ⟨S_, .i32⟩
  | 53 => ⟨S1x128, .i32⟩
  | 54 => ⟨S1x128, .i1⟩
  | 55 => ⟨S_, .i32⟩
  | 56 => ⟨S1x128, .i32⟩
  | 57 => ⟨S1x128, .i32⟩
  | 58 => ⟨S1x128, .i32⟩
  | 59 => ⟨S_, .i32⟩
  | 60 => ⟨S128x128, .i32⟩
  | 61 => ⟨S128x128, .i1⟩
  | 62 => ⟨S_, .i32⟩
  | 63 => ⟨S128x128, .i32⟩
  | 64 => ⟨S128x128, .i32⟩
  | 65 => ⟨S128x128, .i32⟩
  | 66 => ⟨S128x128, .i32⟩
  | 67 => ⟨S128x128x1, .i32⟩
  | 68 => ⟨S128x128x1, .i32⟩
  | 69 => ⟨S128x128x2, .i32⟩
  | 70 => ⟨S128x128, .f32⟩
  | 71 => ⟨S_, .f32⟩
  | 72 => ⟨S_, .f32⟩
  | 73 => ⟨S_, .f32⟩
  | 74 => ⟨S128x128, .f32⟩
  | 75 => ⟨S128x128, .f32⟩
  | 76 => ⟨S128x128, .f32⟩
  | 77 => ⟨S128x128, .f32⟩
  | 78 => ⟨S_, .f32⟩
  | 79 => ⟨S128, .f32⟩
  | 80 => ⟨S_, .f32⟩
  | 81 => ⟨S128, .f32⟩
  | 82 => ⟨S128, .f32⟩
  | 83 => ⟨S_, .f32⟩
  | 84 => ⟨S128, .f32⟩
  | 85 => ⟨S128, .f32⟩
  | 86 => ⟨S128, .f32⟩
  | 87 => ⟨S_, .f32⟩
  | 88 => ⟨S128, .f32⟩
  | 89 => ⟨S128, .f32⟩
  | 90 => ⟨S128, .f32⟩
  | 91 => ⟨S_, .f32⟩
  | 92 => ⟨S128, .f32⟩
  | 93 => ⟨S128, .f32⟩
  | 94 => ⟨S128, .f32⟩
  | 95 => ⟨S_, .f32⟩
  | 96 => ⟨S128, .f32⟩
  | 97 => ⟨S128, .f32⟩
  | 98 => ⟨S128, .f32⟩
  | 99 => ⟨S128, .f32⟩
  | 100 => ⟨S_, .f32⟩
  | 101 => ⟨S128, .f32⟩
  | 102 => ⟨S128, .f32⟩
  | 103 => ⟨S128, .f32⟩
  | 104 => ⟨S_, .f32⟩
  | 105 => ⟨S128, .f32⟩
  | 106 => ⟨S128, .f32⟩
  | 107 => ⟨S128, .f32⟩
  | 108 => ⟨S_, .f32⟩
  | 109 => ⟨S128, .f32⟩
  | 110 => ⟨S128, .f32⟩
  | 111 => ⟨S128, .f32⟩
  | 112 => ⟨S_, .f32⟩
  | 113 => ⟨S128, .f32⟩
  | 114 => ⟨S128, .f32⟩
  | 115 => ⟨S128, .f32⟩
  | 116 => ⟨S128, .f32⟩
  | 117 => ⟨S_, .f32⟩
  | 118 => ⟨S128, .f32⟩
  | 119 => ⟨S128, .f32⟩
  | 120 => ⟨S128, .f32⟩
  | 121 => ⟨S_, .f32⟩
  | 122 => ⟨S128, .f32⟩
  | 123 => ⟨S128, .f32⟩
  | 124 => ⟨S128, .f32⟩
  | 125 => ⟨S_, .f32⟩
  | 126 => ⟨S128, .f32⟩
  | 127 => ⟨S128, .f32⟩
  | _ => ⟨S1x512x120, .f32⟩

abbrev hbmTy0_6 (i : Nat) : BufTy := match i % 128 with
  | 0 => ⟨S128, .f32⟩
  | 1 => ⟨S_, .f32⟩
  | 2 => ⟨S128, .f32⟩
  | 3 => ⟨S128, .i1⟩
  | 4 => ⟨S128, .f32⟩
  | 5 => ⟨S_, .f32⟩
  | 6 => ⟨S128, .f32⟩
  | 7 => ⟨S128, .i1⟩
  | 8 => ⟨S_, .f32⟩
  | 9 => ⟨S_, .f32⟩
  | 10 => ⟨S128, .f32⟩
  | 11 => ⟨S128, .f32⟩
  | 12 => ⟨S_, .f32⟩
  | 13 => ⟨S128, .f32⟩
  | 14 => ⟨S128, .i1⟩
  | 15 => ⟨S_, .f32⟩
  | 16 => ⟨S128, .f32⟩
  | 17 => ⟨S128, .f32⟩
  | 18 => ⟨S128, .f32⟩
  | 19 => ⟨S128x10, .f32⟩
  | 20 => ⟨S128x1, .f32⟩
  | 21 => ⟨S128x11, .f32⟩
  | 22 => ⟨S_, .i32⟩
  | 23 => ⟨S64x128, .i32⟩
  | 24 => ⟨S64x128, .i32⟩
  | 25 => ⟨S128, .i32⟩
  | 26 => ⟨S1x128, .i32⟩
  | 27 => ⟨S_, .i32⟩
  | 28 => ⟨S1x128, .i32⟩
  | 29 => ⟨S1x128, .i1⟩
  | 30 => ⟨S_, .i32⟩
  | 31 => ⟨S1x128, .i32⟩
  | 32 => ⟨S1x128, .i32⟩
  | 33 => ⟨S1x128, .i32⟩
  | 34 => ⟨S_, .i32⟩
  | 35 => ⟨S64x128, .i32⟩
  | 36 => ⟨S64x128, .i1⟩
  | 37 => ⟨S_, .i32⟩
  | 38 => ⟨S64x128, .i32⟩
  | 39 => ⟨S64x128, .i32⟩
  | 40 => ⟨S64x128, .i32⟩
  | 41 => ⟨S64x128, .i32⟩
  | 42 => ⟨S64x128x1, .i32⟩
  | 43 => ⟨S64x128x1, .i32⟩
  | 44 => ⟨S64x128x2, .i32⟩
  | 45 => ⟨S64x128, .f32⟩
  | 46 => ⟨S_, .f32⟩
  | 47 => ⟨S_, .f32⟩
  | 48 => ⟨S_, .f32⟩
  | 49 => ⟨S64x128, .f32⟩
  | 50 => ⟨S64x128, .f32⟩
  | 51 => ⟨S64x128, .f32⟩
  | 52 => ⟨S64x128, .f32⟩
  | 53 => ⟨S_, .f32⟩
  | 54 => ⟨S64, .f32⟩
  | 55 => ⟨S_, .i32⟩
  | 56 => ⟨S64x128, .i32⟩
  | 57 => ⟨S64x128, .i32⟩
  | 58 => ⟨S128, .i32⟩
  | 59 => ⟨S1x128, .i32⟩
  | 60 => ⟨S_, .i32⟩
  | 61 => ⟨S1x128, .i32⟩
  | 62 => ⟨S1x128, .i1⟩
  | 63 => ⟨S_, .i32⟩
  | 64 => ⟨S1x128, .i32⟩
  | 65 => ⟨S1x128, .i32⟩
  | 66 => ⟨S1x128, .i32⟩
  | 67 => ⟨S_, .i32⟩
  | 68 => ⟨S64x128, .i32⟩
  | 69 => ⟨S64x128, .i1⟩
  | 70 => ⟨S_, .i32⟩
  | 71 => ⟨S64x128, .i32⟩
  | 72 => ⟨S64x128, .i32⟩
  | 73 => ⟨S64x128, .i32⟩
  | 74 => ⟨S64x128, .i32⟩
  | 75 => ⟨S64x128x1, .i32⟩
  | 76 => ⟨S64x128x1, .i32⟩
  | 77 => ⟨S64x128x2, .i32⟩
  | 78 => ⟨S64x128, .f32⟩
  | 79 => ⟨S_, .f32⟩
  | 80 => ⟨S_, .f32⟩
  | 81 => ⟨S_, .f32⟩
  | 82 => ⟨S64x128, .f32⟩
  | 83 => ⟨S64x128, .f32⟩
  | 84 => ⟨S64x128, .f32⟩
  | 85 => ⟨S64x128, .f32⟩
  | 86 => ⟨S_, .f32⟩
  | 87 => ⟨S64, .f32⟩
  | 88 => ⟨S_, .f32⟩
  | 89 => ⟨S64, .f32⟩
  | 90 => ⟨S64, .f32⟩
  | 91 => ⟨S_, .f32⟩
  | 92 => ⟨S64, .f32⟩
  | 93 => ⟨S64, .f32⟩
  | 94 => ⟨S64, .f32⟩
  | 95 => ⟨S_, .f32⟩
  | 96 => ⟨S64, .f32⟩
  | 97 => ⟨S64, .f32⟩
  | 98 => ⟨S64, .f32⟩
  | 99 => ⟨S_, .f32⟩
  | 100 => ⟨S64, .f32⟩
  | 101 => ⟨S64, .f32⟩
  | 102 => ⟨S64, .f32⟩
  | 103 => ⟨S_, .f32⟩
  | 104 => ⟨S64, .f32⟩
  | 105 => ⟨S64, .f32⟩
  | 106 => ⟨S64, .f32⟩
  | 107 => ⟨S64, .f32⟩
  | 108 => ⟨S_, .f32⟩
  | 109 => ⟨S64, .f32⟩
  | 110 => ⟨S64, .f32⟩
  | 111 => ⟨S64, .f32⟩
  | 112 => ⟨S_, .f32⟩
  | 113 => ⟨S64, .f32⟩
  | 114 => ⟨S64, .f32⟩
  | 115 => ⟨S64, .f32⟩
  | 116 => ⟨S_, .f32⟩
  | 117 => ⟨S64, .f32⟩
  | 118 => ⟨S64, .f32⟩
  | 119 => ⟨S64, .f32⟩
  | 120 => ⟨S_, .f32⟩
  | 121 => ⟨S64, .f32⟩
  | 122 => ⟨S64, .f32⟩
  | 123 => ⟨S64, .f32⟩
  | 124 => ⟨S64, .f32⟩
  | 125 => ⟨S_, .f32⟩
  | 126 => ⟨S64, .f32⟩
  | 127 => ⟨S64, .f32⟩
  | _ => ⟨S1x512x120, .f32⟩

abbrev hbmTy0_7 (i : Nat) : BufTy := match i % 128 with
  | 0 => ⟨S64, .f32⟩
  | 1 => ⟨S_, .f32⟩
  | 2 => ⟨S64, .f32⟩
  | 3 => ⟨S64, .f32⟩
  | 4 => ⟨S64, .f32⟩
  | 5 => ⟨S_, .f32⟩
  | 6 => ⟨S64, .f32⟩
  | 7 => ⟨S64, .f32⟩
  | 8 => ⟨S64, .f32⟩
  | 9 => ⟨S_, .f32⟩
  | 10 => ⟨S64, .f32⟩
  | 11 => ⟨S64, .i1⟩
  | 12 => ⟨S64, .f32⟩
  | 13 => ⟨S_, .f32⟩
  | 14 => ⟨S64, .f32⟩
  | 15 => ⟨S64, .i1⟩
  | 16 => ⟨S_, .f32⟩
  | 17 => ⟨S_, .f32⟩
  | 18 => ⟨S64, .f32⟩
  | 19 => ⟨S64, .f32⟩
  | 20 => ⟨S_, .f32⟩
  | 21 => ⟨S64, .f32⟩
  | 22 => ⟨S64, .i1⟩
  | 23 => ⟨S_, .f32⟩
  | 24 => ⟨S64, .f32⟩
  | 25 => ⟨S64, .f32⟩
  | 26 => ⟨S64, .f32⟩
  | 27 => ⟨S64x10, .f32⟩
  | 28 => ⟨S64x1, .f32⟩
  | 29 => ⟨S64x11, .f32⟩
  | 30 => ⟨S_, .i32⟩
  | 31 => ⟨S64x128, .i32⟩
  | 32 => ⟨S64x128, .i32⟩
  | 33 => ⟨S128, .i32⟩
  | 34 => ⟨S1x128, .i32⟩
  | 35 => ⟨S_, .i32⟩
  | 36 => ⟨S1x128, .i32⟩
  | 37 => ⟨S1x128, .i1⟩
  | 38 => ⟨S_, .i32⟩
  | 39 => ⟨S1x128, .i32⟩
  | 40 => ⟨S1x128, .i32⟩
  | 41 => ⟨S1x128, .i32⟩
  | 42 => ⟨S_, .i32⟩
  | 43 => ⟨S64x128, .i32⟩
  | 44 => ⟨S64x128, .i1⟩
  | 45 => ⟨S_, .i32⟩
  | 46 => ⟨S64x128, .i32⟩
  | 47 => ⟨S64x128, .i32⟩
  | 48 => ⟨S64x128, .i32⟩
  | 49 => ⟨S64x128, .i32⟩
  | 50 => ⟨S64x128x1, .i32⟩
  | 51 => ⟨S64x128x1, .i32⟩
  | 52 => ⟨S64x128x2, .i32⟩
  | 53 => ⟨S64x128, .f32⟩
  | 54 => ⟨S_, .f32⟩
  | 55 => ⟨S_, .f32⟩
  | 56 => ⟨S_, .f32⟩
  | 57 => ⟨S64x128, .f32⟩
  | 58 => ⟨S64x128, .f32⟩
  | 59 => ⟨S64x128, .f32⟩
  | 60 => ⟨S64x128, .f32⟩
  | 61 => ⟨S_, .f32⟩
  | 62 => ⟨S64, .f32⟩
  | 63 => ⟨S_, .i32⟩
  | 64 => ⟨S64x128, .i32⟩
  | 65 => ⟨S64x128, .i32⟩
  | 66 => ⟨S128, .i32⟩
  | 67 => ⟨S1x128, .i32⟩
  | 68 => ⟨S_, .i32⟩
  | 69 => ⟨S1x128, .i32⟩
  | 70 => ⟨S1x128, .i1⟩
  | 71 => ⟨S_, .i32⟩
  | 72 => ⟨S1x128, .i32⟩
  | 73 => ⟨S1x128, .i32⟩
  | 74 => ⟨S1x128, .i32⟩
  | 75 => ⟨S_, .i32⟩
  | 76 => ⟨S64x128, .i32⟩
  | 77 => ⟨S64x128, .i1⟩
  | 78 => ⟨S_, .i32⟩
  | 79 => ⟨S64x128, .i32⟩
  | 80 => ⟨S64x128, .i32⟩
  | 81 => ⟨S64x128, .i32⟩
  | 82 => ⟨S64x128, .i32⟩
  | 83 => ⟨S64x128x1, .i32⟩
  | 84 => ⟨S64x128x1, .i32⟩
  | 85 => ⟨S64x128x2, .i32⟩
  | 86 => ⟨S64x128, .f32⟩
  | 87 => ⟨S_, .f32⟩
  | 88 => ⟨S_, .f32⟩
  | 89 => ⟨S_, .f32⟩
  | 90 => ⟨S64x128, .f32⟩
  | 91 => ⟨S64x128, .f32⟩
  | 92 => ⟨S64x128, .f32⟩
  | 93 => ⟨S64x128, .f32⟩
  | 94 => ⟨S_, .f32⟩
  | 95 => ⟨S64, .f32⟩
  | 96 => ⟨S_, .i32⟩
  | 97 => ⟨S64x64, .i32⟩
  | 98 => ⟨S64x64, .i32⟩
  | 99 => ⟨S64, .i32⟩
  | 100 => ⟨S1x64, .i32⟩
  | 101 => ⟨S_, .i32⟩
  | 102 => ⟨S1x64, .i32⟩
  | 103 => ⟨S1x64, .i1⟩
  | 104 => ⟨S_, .i32⟩
  | 105 => ⟨S1x64, .i32⟩
  | 106 => ⟨S1x64, .i32⟩
  | 107 => ⟨S1x64, .i32⟩
  | 108 => ⟨S_, .i32⟩
  | 109 => ⟨S64x64, .i32⟩
  | 110 => ⟨S64x64, .i1⟩
  | 111 => ⟨S_, .i32⟩
  | 112 => ⟨S64x64, .i32⟩
  | 113 => ⟨S64x64, .i32⟩
  | 114 => ⟨S64x64, .i32⟩
  | 115 => ⟨S64x64, .i32⟩
  | 116 => ⟨S64x64x1, .i32⟩
  | 117 => ⟨S64x64x1, .i32⟩
  | 118 => ⟨S64x64x2, .i32⟩
  | 119 => ⟨S64x64, .f32⟩
  | 120 => ⟨S_, .f32⟩
  | 121 => ⟨S_, .f32⟩
  | 122 => ⟨S_, .f32⟩
  | 123 => ⟨S64x64, .f32⟩
  | 124 => ⟨S64x64, .f32⟩
  | 125 => ⟨S64x64, .f32⟩
  | 126 => ⟨S64x64, .f32⟩
  | 127 => ⟨S_, .f32⟩
  | _ => ⟨S1x512x120, .f32⟩

abbrev hbmTy0_8 (i : Nat) : BufTy := match i % 128 with
  | 0 => ⟨S64, .f32⟩
  | 1 => ⟨S_, .f32⟩
  | 2 => ⟨S64, .f32⟩
  | 3 => ⟨S64, .f32⟩
  | 4 => ⟨S_, .f32⟩
  | 5 => ⟨S64, .f32⟩
  | 6 => ⟨S64, .f32⟩
  | 7 => ⟨S64, .f32⟩
  | 8 => ⟨S_, .f32⟩
  | 9 => ⟨S64, .f32⟩
  | 10 => ⟨S64, .f32⟩
  | 11 => ⟨S64, .f32⟩
  | 12 => ⟨S_, .f32⟩
  | 13 => ⟨S64, .f32⟩
  | 14 => ⟨S64, .f32⟩
  | 15 => ⟨S64, .f32⟩
  | 16 => ⟨S_, .f32⟩
  | 17 => ⟨S64, .f32⟩
  | 18 => ⟨S64, .f32⟩
  | 19 => ⟨S64, .f32⟩
  | 20 => ⟨S_, .f32⟩
  | 21 => ⟨S64, .f32⟩
  | 22 => ⟨S64, .f32⟩
  | 23 => ⟨S64, .f32⟩
  | 24 => ⟨S64, .f32⟩
  | 25 => ⟨S_, .f32⟩
  | 26 => ⟨S64, .f32⟩
  | 27 => ⟨S64, .f32⟩
  | 28 => ⟨S64, .f32⟩
  | 29 => ⟨S_, .f32⟩
  | 30 => ⟨S64, .f32⟩
  | 31 => ⟨S64, .f32⟩
  | 32 => ⟨S64, .f32⟩
  | 33 => ⟨S_, .f32⟩
  | 34 => ⟨S64, .f32⟩
  | 35 => ⟨S64, .f32⟩
  | 36 => ⟨S64, .f32⟩
  | 37 => ⟨S_, .f32⟩
  | 38 => ⟨S64, .f32⟩
  | 39 => ⟨S64, .f32⟩
  | 40 => ⟨S64, .f32⟩
  | 41 => ⟨S64, .f32⟩
  | 42 => ⟨S_, .f32⟩
  | 43 => ⟨S64, .f32⟩
  | 44 => ⟨S64, .f32⟩
  | 45 => ⟨S64, .f32⟩
  | 46 => ⟨S_, .f32⟩
  | 47 => ⟨S64, .f32⟩
  | 48 => ⟨S64, .f32⟩
  | 49 => ⟨S64, .f32⟩
  | 50 => ⟨S_, .f32⟩
  | 51 => ⟨S64, .f32⟩
  | 52 => ⟨S64, .f32⟩
  | 53 => ⟨S64, .f32⟩
  | 54 => ⟨S_, .f32⟩
  | 55 => ⟨S64, .f32⟩
  | 56 => ⟨S64, .i1⟩
  | 57 => ⟨S64, .f32⟩
  | 58 => ⟨S_, .f32⟩
  | 59 => ⟨S64, .f32⟩
  | 60 => ⟨S64, .i1⟩
  | 61 => ⟨S_, .f32⟩
  | 62 => ⟨S_, .f32⟩
  | 63 => ⟨S64, .f32⟩
  | 64 => ⟨S64, .f32⟩
  | 65 => ⟨S_, .f32⟩
  | 66 => ⟨S64, .f32⟩
  | 67 => ⟨S64, .i1⟩
  | 68 => ⟨S_, .f32⟩
  | 69 => ⟨S64, .f32⟩
  | 70 => ⟨S64, .f32⟩
  | 71 => ⟨S64, .f32⟩
  | 72 => ⟨S64x10, .f32⟩
  | 73 => ⟨S64x1, .f32⟩
  | 74 => ⟨S64x11, .f32⟩
  | 75 => ⟨S1664, .f32⟩
  | 76 => ⟨S1x1664, .f32⟩
  | 77 => ⟨S_, .i32⟩
  | 78 => ⟨S119x1664, .f32⟩
  | 79 => ⟨S_, .i32⟩
  | 80 => ⟨S_, .i32⟩
  | 81 => ⟨S1664x119, .f32⟩
  | _ => ⟨S1x512x120, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S1x512x120, .f32⟩

abbrev bufTy : (tb : Table) → Fin (tcTables nBuf tb) → BufTy
  | .hbm, ⟨i, _⟩ => hbmTy i
  | _, _ => ⟨S1x512x120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_call0_v0 : Ref sig .tc := ⟨.hbm, 21, rfl⟩
abbrev main_call0_v1 : Ref sig .tc := ⟨.hbm, 22, rfl⟩
abbrev main_v0 : Ref sig .tc := ⟨.hbm, 23, rfl⟩
abbrev main_v1 : Ref sig .tc := ⟨.hbm, 24, rfl⟩
abbrev main_cst : Ref sig .tc := ⟨.hbm, 25, rfl⟩
abbrev main_v2 : Ref sig .tc := ⟨.hbm, 26, rfl⟩
abbrev main_v3 : Ref sig .tc := ⟨.hbm, 27, rfl⟩
abbrev main_cst_0 : Ref sig .tc := ⟨.hbm, 28, rfl⟩
abbrev main_v4 : Ref sig .tc := ⟨.hbm, 29, rfl⟩
abbrev main_v5 : Ref sig .tc := ⟨.hbm, 30, rfl⟩
abbrev main_cst_1 : Ref sig .tc := ⟨.hbm, 31, rfl⟩
abbrev main_v6 : Ref sig .tc := ⟨.hbm, 32, rfl⟩
abbrev main_cst_2 : Ref sig .tc := ⟨.hbm, 33, rfl⟩
abbrev main_v7 : Ref sig .tc := ⟨.hbm, 34, rfl⟩
abbrev main_cst_3 : Ref sig .tc := ⟨.hbm, 35, rfl⟩
abbrev main_v8 : Ref sig .tc := ⟨.hbm, 36, rfl⟩
abbrev main_cst_4 : Ref sig .tc := ⟨.hbm, 37, rfl⟩
abbrev main_v9 : Ref sig .tc := ⟨.hbm, 38, rfl⟩
abbrev main_cst_5 : Ref sig .tc := ⟨.hbm, 39, rfl⟩
abbrev main_v10 : Ref sig .tc := ⟨.hbm, 40, rfl⟩
abbrev main_cst_6 : Ref sig .tc := ⟨.hbm, 41, rfl⟩
abbrev main_v11 : Ref sig .tc := ⟨.hbm, 42, rfl⟩
abbrev main_cst_7 : Ref sig .tc := ⟨.hbm, 43, rfl⟩
abbrev main_v12 : Ref sig .tc := ⟨.hbm, 44, rfl⟩
abbrev main_cst_8 : Ref sig .tc := ⟨.hbm, 45, rfl⟩
abbrev main_v13 : Ref sig .tc := ⟨.hbm, 46, rfl⟩
abbrev main_cst_9 : Ref sig .tc := ⟨.hbm, 47, rfl⟩
abbrev main_v14 : Ref sig .tc := ⟨.hbm, 48, rfl⟩
abbrev main_cst_10 : Ref sig .tc := ⟨.hbm, 49, rfl⟩
abbrev main_v15 : Ref sig .tc := ⟨.hbm, 50, rfl⟩
abbrev main_cst_11 : Ref sig .tc := ⟨.hbm, 51, rfl⟩
abbrev main_v16 : Ref sig .tc := ⟨.hbm, 52, rfl⟩
abbrev main_cst_12 : Ref sig .tc := ⟨.hbm, 53, rfl⟩
abbrev main_v17 : Ref sig .tc := ⟨.hbm, 54, rfl⟩
abbrev main_cst_13 : Ref sig .tc := ⟨.hbm, 55, rfl⟩
abbrev main_v18 : Ref sig .tc := ⟨.hbm, 56, rfl⟩
abbrev main_cst_14 : Ref sig .tc := ⟨.hbm, 57, rfl⟩
abbrev main_v19 : Ref sig .tc := ⟨.hbm, 58, rfl⟩
abbrev main_cst_15 : Ref sig .tc := ⟨.hbm, 59, rfl⟩
abbrev main_v20 : Ref sig .tc := ⟨.hbm, 60, rfl⟩
abbrev main_cst_16 : Ref sig .tc := ⟨.hbm, 61, rfl⟩
abbrev main_v21 : Ref sig .tc := ⟨.hbm, 62, rfl⟩
abbrev main_cst_17 : Ref sig .tc := ⟨.hbm, 63, rfl⟩
abbrev main_v22 : Ref sig .tc := ⟨.hbm, 64, rfl⟩
abbrev main_cst_18 : Ref sig .tc := ⟨.hbm, 65, rfl⟩
abbrev main_v23 : Ref sig .tc := ⟨.hbm, 66, rfl⟩
abbrev main_cst_19 : Ref sig .tc := ⟨.hbm, 67, rfl⟩
abbrev main_v24 : Ref sig .tc := ⟨.hbm, 68, rfl⟩
abbrev main_cst_20 : Ref sig .tc := ⟨.hbm, 69, rfl⟩
abbrev main_v25 : Ref sig .tc := ⟨.hbm, 70, rfl⟩
abbrev main_cst_21 : Ref sig .tc := ⟨.hbm, 71, rfl⟩
abbrev main_v26 : Ref sig .tc := ⟨.hbm, 72, rfl⟩
abbrev main_cst_22 : Ref sig .tc := ⟨.hbm, 73, rfl⟩
abbrev main_v27 : Ref sig .tc := ⟨.hbm, 74, rfl⟩
abbrev main_cst_23 : Ref sig .tc := ⟨.hbm, 75, rfl⟩
abbrev main_v28 : Ref sig .tc := ⟨.hbm, 76, rfl⟩
abbrev main_cst_24 : Ref sig .tc := ⟨.hbm, 77, rfl⟩
abbrev main_v29 : Ref sig .tc := ⟨.hbm, 78, rfl⟩
abbrev main_cst_25 : Ref sig .tc := ⟨.hbm, 79, rfl⟩
abbrev main_v30 : Ref sig .tc := ⟨.hbm, 80, rfl⟩
abbrev main_cst_26 : Ref sig .tc := ⟨.hbm, 81, rfl⟩
abbrev main_v31 : Ref sig .tc := ⟨.hbm, 82, rfl⟩
abbrev main_cst_27 : Ref sig .tc := ⟨.hbm, 83, rfl⟩
abbrev main_v32 : Ref sig .tc := ⟨.hbm, 84, rfl⟩
abbrev main_cst_28 : Ref sig .tc := ⟨.hbm, 85, rfl⟩
abbrev main_v33 : Ref sig .tc := ⟨.hbm, 86, rfl⟩
abbrev main_cst_29 : Ref sig .tc := ⟨.hbm, 87, rfl⟩
abbrev main_v34 : Ref sig .tc := ⟨.hbm, 88, rfl⟩
abbrev main_cst_30 : Ref sig .tc := ⟨.hbm, 89, rfl⟩
abbrev main_v35 : Ref sig .tc := ⟨.hbm, 90, rfl⟩
abbrev main_cst_31 : Ref sig .tc := ⟨.hbm, 91, rfl⟩
abbrev main_v36 : Ref sig .tc := ⟨.hbm, 92, rfl⟩
abbrev main_cst_32 : Ref sig .tc := ⟨.hbm, 93, rfl⟩
abbrev main_v37 : Ref sig .tc := ⟨.hbm, 94, rfl⟩
abbrev main_cst_33 : Ref sig .tc := ⟨.hbm, 95, rfl⟩
abbrev main_v38 : Ref sig .tc := ⟨.hbm, 96, rfl⟩
abbrev main_cst_34 : Ref sig .tc := ⟨.hbm, 97, rfl⟩
abbrev main_v39 : Ref sig .tc := ⟨.hbm, 98, rfl⟩
abbrev main_cst_35 : Ref sig .tc := ⟨.hbm, 99, rfl⟩
abbrev main_v40 : Ref sig .tc := ⟨.hbm, 100, rfl⟩
abbrev main_cst_36 : Ref sig .tc := ⟨.hbm, 101, rfl⟩
abbrev main_v41 : Ref sig .tc := ⟨.hbm, 102, rfl⟩
abbrev main_cst_37 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_cst_38 : Ref sig .tc := ⟨.hbm, 111, rfl⟩
abbrev main_cst_39 : Ref sig .tc := ⟨.hbm, 112, rfl⟩
abbrev main_v49 : Ref sig .tc := ⟨.hbm, 113, rfl⟩
abbrev main_c : Ref sig .tc := ⟨.hbm, 114, rfl⟩
abbrev main_v50_0 : Ref sig .tc := ⟨.hbm, 115, rfl⟩
abbrev main_v50_1 : Ref sig .tc := ⟨.hbm, 116, rfl⟩
abbrev main_v50_2 : Ref sig .tc := ⟨.hbm, 117, rfl⟩
abbrev main_v50_3 : Ref sig .tc := ⟨.hbm, 118, rfl⟩
abbrev main_v50_4 : Ref sig .tc := ⟨.hbm, 119, rfl⟩
abbrev main_v50_5 : Ref sig .tc := ⟨.hbm, 120, rfl⟩
abbrev main_v50_6 : Ref sig .tc := ⟨.hbm, 121, rfl⟩
abbrev main_v50_7 : Ref sig .tc := ⟨.hbm, 122, rfl⟩
abbrev main_v50_8 : Ref sig .tc := ⟨.hbm, 123, rfl⟩
abbrev main_v50_9 : Ref sig .tc := ⟨.hbm, 124, rfl⟩
abbrev main_v50_10 : Ref sig .tc := ⟨.hbm, 125, rfl⟩
abbrev main_v50_11 : Ref sig .tc := ⟨.hbm, 126, rfl⟩
abbrev main_v50_12 : Ref sig .tc := ⟨.hbm, 127, rfl⟩
abbrev main_v50_13 : Ref sig .tc := ⟨.hbm, 128, rfl⟩
abbrev main_v50_14 : Ref sig .tc := ⟨.hbm, 129, rfl⟩
abbrev main_v50_15 : Ref sig .tc := ⟨.hbm, 130, rfl⟩
abbrev main_v50_16 : Ref sig .tc := ⟨.hbm, 131, rfl⟩
abbrev main_v50_17 : Ref sig .tc := ⟨.hbm, 132, rfl⟩
abbrev main_v50_18 : Ref sig .tc := ⟨.hbm, 133, rfl⟩
abbrev main_v50_19 : Ref sig .tc := ⟨.hbm, 134, rfl⟩
abbrev main_v50_20 : Ref sig .tc := ⟨.hbm, 135, rfl⟩
abbrev main_v50_21 : Ref sig .tc := ⟨.hbm, 136, rfl⟩
abbrev main_v50_22 : Ref sig .tc := ⟨.hbm, 137, rfl⟩
abbrev main_v50_23 : Ref sig .tc := ⟨.hbm, 138, rfl⟩
abbrev main_v50_24 : Ref sig .tc := ⟨.hbm, 139, rfl⟩
abbrev main_v50_25 : Ref sig .tc := ⟨.hbm, 140, rfl⟩
abbrev main_v50_26 : Ref sig .tc := ⟨.hbm, 141, rfl⟩
abbrev main_v50_27 : Ref sig .tc := ⟨.hbm, 142, rfl⟩
abbrev main_v50_28 : Ref sig .tc := ⟨.hbm, 143, rfl⟩
abbrev main_v50_29 : Ref sig .tc := ⟨.hbm, 144, rfl⟩
abbrev main_v50_30 : Ref sig .tc := ⟨.hbm, 145, rfl⟩
abbrev main_v50_31 : Ref sig .tc := ⟨.hbm, 146, rfl⟩
abbrev main_v50_32 : Ref sig .tc := ⟨.hbm, 147, rfl⟩
abbrev main_v50_33 : Ref sig .tc := ⟨.hbm, 148, rfl⟩
abbrev main_v50_34 : Ref sig .tc := ⟨.hbm, 149, rfl⟩
abbrev main_v50_35 : Ref sig .tc := ⟨.hbm, 150, rfl⟩
abbrev main_v50_36 : Ref sig .tc := ⟨.hbm, 151, rfl⟩
abbrev main_v50_37 : Ref sig .tc := ⟨.hbm, 152, rfl⟩
abbrev main_v50_38 : Ref sig .tc := ⟨.hbm, 153, rfl⟩
abbrev main_v50_39 : Ref sig .tc := ⟨.hbm, 154, rfl⟩
abbrev main_v50_40 : Ref sig .tc := ⟨.hbm, 155, rfl⟩
abbrev main_v50_41 : Ref sig .tc := ⟨.hbm, 156, rfl⟩
abbrev main_v50_42 : Ref sig .tc := ⟨.hbm, 157, rfl⟩
abbrev main_v50_43 : Ref sig .tc := ⟨.hbm, 158, rfl⟩
abbrev main_v50_44 : Ref sig .tc := ⟨.hbm, 159, rfl⟩
abbrev main_v50_45 : Ref sig .tc := ⟨.hbm, 160, rfl⟩
abbrev main_v50_46 : Ref sig .tc := ⟨.hbm, 161, rfl⟩
abbrev main_v50_47 : Ref sig .tc := ⟨.hbm, 162, rfl⟩
abbrev main_v50_48 : Ref sig .tc := ⟨.hbm, 163, rfl⟩
abbrev main_v50_49 : Ref sig .tc := ⟨.hbm, 164, rfl⟩
abbrev main_v50_50 : Ref sig .tc := ⟨.hbm, 165, rfl⟩
abbrev main_v50_51 : Ref sig .tc := ⟨.hbm, 166, rfl⟩
abbrev main_v50_52 : Ref sig .tc := ⟨.hbm, 167, rfl⟩
abbrev main_v50_53 : Ref sig .tc := ⟨.hbm, 168, rfl⟩
abbrev main_v50_54 : Ref sig .tc := ⟨.hbm, 169, rfl⟩
abbrev main_v50_55 : Ref sig .tc := ⟨.hbm, 170, rfl⟩
abbrev main_v50_56 : Ref sig .tc := ⟨.hbm, 171, rfl⟩
abbrev main_v50_57 : Ref sig .tc := ⟨.hbm, 172, rfl⟩
abbrev main_v50_58 : Ref sig .tc := ⟨.hbm, 173, rfl⟩
abbrev main_v50_59 : Ref sig .tc := ⟨.hbm, 174, rfl⟩
abbrev main_v50_60 : Ref sig .tc := ⟨.hbm, 175, rfl⟩
abbrev main_v50_61 : Ref sig .tc := ⟨.hbm, 176, rfl⟩
abbrev main_while0c_c_101 : Ref sig .tc := ⟨.hbm, 177, rfl⟩
abbrev main_while0c_v52 : Ref sig .tc := ⟨.hbm, 178, rfl⟩
abbrev main_while0b_call1_c : Ref sig .tc := ⟨.hbm, 179, rfl⟩
abbrev main_while0b_call1_v0 : Ref sig .tc := ⟨.hbm, 180, rfl⟩
abbrev main_while0b_v52 : Ref sig .tc := ⟨.hbm, 181, rfl⟩
abbrev main_while0b_call2_c : Ref sig .tc := ⟨.hbm, 182, rfl⟩
abbrev main_while0b_call2_v0 : Ref sig .tc := ⟨.hbm, 183, rfl⟩
abbrev main_while0b_v53 : Ref sig .tc := ⟨.hbm, 184, rfl⟩
abbrev main_while0b_cst_101 : Ref sig .tc := ⟨.hbm, 185, rfl⟩
abbrev main_while0b_v54 : Ref sig .tc := ⟨.hbm, 186, rfl⟩
abbrev main_while0b_v55 : Ref sig .tc := ⟨.hbm, 187, rfl⟩
abbrev main_while0b_v56 : Ref sig .tc := ⟨.hbm, 188, rfl⟩
abbrev main_while0b_v57 : Ref sig .tc := ⟨.hbm, 189, rfl⟩
abbrev main_while0b_v58 : Ref sig .tc := ⟨.hbm, 190, rfl⟩
abbrev main_while0b_v59 : Ref sig .tc := ⟨.hbm, 191, rfl⟩
abbrev main_while0b_cst_102 : Ref sig .tc := ⟨.hbm, 192, rfl⟩
abbrev main_while0b_v60 : Ref sig .tc := ⟨.hbm, 193, rfl⟩
abbrev main_while0b_v61 : Ref sig .tc := ⟨.hbm, 194, rfl⟩
abbrev main_while0b_v62 : Ref sig .tc := ⟨.hbm, 195, rfl⟩
abbrev main_while0b_cst_103 : Ref sig .tc := ⟨.hbm, 196, rfl⟩
abbrev main_while0b_v63 : Ref sig .tc := ⟨.hbm, 197, rfl⟩
abbrev main_while0b_v64 : Ref sig .tc := ⟨.hbm, 198, rfl⟩
abbrev main_while0b_v65 : Ref sig .tc := ⟨.hbm, 199, rfl⟩
abbrev main_while0b_cst_104 : Ref sig .tc := ⟨.hbm, 200, rfl⟩
abbrev main_while0b_v66 : Ref sig .tc := ⟨.hbm, 201, rfl⟩
abbrev main_while0b_v67 : Ref sig .tc := ⟨.hbm, 202, rfl⟩
abbrev main_while0b_v68 : Ref sig .tc := ⟨.hbm, 203, rfl⟩
abbrev main_while0b_v69 : Ref sig .tc := ⟨.hbm, 204, rfl⟩
abbrev main_while0b_cst_105 : Ref sig .tc := ⟨.hbm, 205, rfl⟩
abbrev main_while0b_v70 : Ref sig .tc := ⟨.hbm, 206, rfl⟩
abbrev main_while0b_v71 : Ref sig .tc := ⟨.hbm, 207, rfl⟩
abbrev main_while0b_v72 : Ref sig .tc := ⟨.hbm, 208, rfl⟩
abbrev main_while0b_cst_106 : Ref sig .tc := ⟨.hbm, 209, rfl⟩
abbrev main_while0b_v73 : Ref sig .tc := ⟨.hbm, 210, rfl⟩
abbrev main_while0b_v74 : Ref sig .tc := ⟨.hbm, 211, rfl⟩
abbrev main_while0b_v75 : Ref sig .tc := ⟨.hbm, 212, rfl⟩
abbrev main_while0b_cst_107 : Ref sig .tc := ⟨.hbm, 213, rfl⟩
abbrev main_while0b_v76 : Ref sig .tc := ⟨.hbm, 214, rfl⟩
abbrev main_while0b_v77 : Ref sig .tc := ⟨.hbm, 215, rfl⟩
abbrev main_while0b_v78 : Ref sig .tc := ⟨.hbm, 216, rfl⟩
abbrev main_while0b_cst_108 : Ref sig .tc := ⟨.hbm, 217, rfl⟩
abbrev main_while0b_v79 : Ref sig .tc := ⟨.hbm, 218, rfl⟩
abbrev main_while0b_v80 : Ref sig .tc := ⟨.hbm, 219, rfl⟩
abbrev main_while0b_v81 : Ref sig .tc := ⟨.hbm, 220, rfl⟩
abbrev main_while0b_v82 : Ref sig .tc := ⟨.hbm, 221, rfl⟩
abbrev main_while0b_cst_109 : Ref sig .tc := ⟨.hbm, 222, rfl⟩
abbrev main_while0b_v83 : Ref sig .tc := ⟨.hbm, 223, rfl⟩
abbrev main_while0b_v84 : Ref sig .tc := ⟨.hbm, 224, rfl⟩
abbrev main_while0b_v85 : Ref sig .tc := ⟨.hbm, 225, rfl⟩
abbrev main_while0b_cst_110 : Ref sig .tc := ⟨.hbm, 226, rfl⟩
abbrev main_while0b_v86 : Ref sig .tc := ⟨.hbm, 227, rfl⟩
abbrev main_while0b_v87 : Ref sig .tc := ⟨.hbm, 228, rfl⟩
abbrev main_while0b_v88 : Ref sig .tc := ⟨.hbm, 229, rfl⟩
abbrev main_while0b_v89 : Ref sig .tc := ⟨.hbm, 230, rfl⟩
abbrev main_while0b_v90 : Ref sig .tc := ⟨.hbm, 231, rfl⟩
abbrev main_while0b_v91 : Ref sig .tc := ⟨.hbm, 232, rfl⟩
abbrev main_while0b_cst_111 : Ref sig .tc := ⟨.hbm, 233, rfl⟩
abbrev main_while0b_v92 : Ref sig .tc := ⟨.hbm, 234, rfl⟩
abbrev main_while0b_v93 : Ref sig .tc := ⟨.hbm, 235, rfl⟩
abbrev main_while0b_v94 : Ref sig .tc := ⟨.hbm, 236, rfl⟩
abbrev main_while0b_cst_112 : Ref sig .tc := ⟨.hbm, 237, rfl⟩
abbrev main_while0b_v95 : Ref sig .tc := ⟨.hbm, 238, rfl⟩
abbrev main_while0b_v96 : Ref sig .tc := ⟨.hbm, 239, rfl⟩
abbrev main_while0b_cst_113 : Ref sig .tc := ⟨.hbm, 240, rfl⟩
abbrev main_while0b_call3_v0 : Ref sig .tc := ⟨.hbm, 241, rfl⟩
abbrev main_while0b_call3_v1 : Ref sig .tc := ⟨.hbm, 242, rfl⟩
abbrev main_while0b_v97 : Ref sig .tc := ⟨.hbm, 243, rfl⟩
abbrev main_while0b_cst_114 : Ref sig .tc := ⟨.hbm, 244, rfl⟩
abbrev main_while0b_v98 : Ref sig .tc := ⟨.hbm, 245, rfl⟩
abbrev main_while0b_v99 : Ref sig .tc := ⟨.hbm, 246, rfl⟩
abbrev main_while0b_cst_115 : Ref sig .tc := ⟨.hbm, 247, rfl⟩
abbrev main_while0b_v100 : Ref sig .tc := ⟨.hbm, 248, rfl⟩
abbrev main_while0b_v101 : Ref sig .tc := ⟨.hbm, 249, rfl⟩
abbrev main_while0b_v102 : Ref sig .tc := ⟨.hbm, 250, rfl⟩
abbrev main_while0b_v103 : Ref sig .tc := ⟨.hbm, 251, rfl⟩
abbrev main_while0b_v104 : Ref sig .tc := ⟨.hbm, 252, rfl⟩
abbrev main_while0b_v105 : Ref sig .tc := ⟨.hbm, 253, rfl⟩
abbrev main_while0b_cst_116 : Ref sig .tc := ⟨.hbm, 254, rfl⟩
abbrev main_while0b_v106 : Ref sig .tc := ⟨.hbm, 255, rfl⟩
abbrev main_while0b_c_117 : Ref sig .tc := ⟨.hbm, 256, rfl⟩
abbrev main_while0b_v107 : Ref sig .tc := ⟨.hbm, 257, rfl⟩
abbrev main_while0b_v108 : Ref sig .tc := ⟨.hbm, 258, rfl⟩
abbrev main_while0b_v109 : Ref sig .tc := ⟨.hbm, 259, rfl⟩
abbrev main_while0b_v110 : Ref sig .tc := ⟨.hbm, 260, rfl⟩
abbrev main_while0b_c_118 : Ref sig .tc := ⟨.hbm, 261, rfl⟩
abbrev main_while0b_v111 : Ref sig .tc := ⟨.hbm, 262, rfl⟩
abbrev main_while0b_v112 : Ref sig .tc := ⟨.hbm, 263, rfl⟩
abbrev main_while0b_c_119 : Ref sig .tc := ⟨.hbm, 264, rfl⟩
abbrev main_while0b_v113 : Ref sig .tc := ⟨.hbm, 265, rfl⟩
abbrev main_while0b_v114 : Ref sig .tc := ⟨.hbm, 266, rfl⟩
abbrev main_while0b_v115 : Ref sig .tc := ⟨.hbm, 267, rfl⟩
abbrev main_while0b_c_120 : Ref sig .tc := ⟨.hbm, 268, rfl⟩
abbrev main_while0b_v116 : Ref sig .tc := ⟨.hbm, 269, rfl⟩
abbrev main_while0b_v117 : Ref sig .tc := ⟨.hbm, 270, rfl⟩
abbrev main_while0b_c_121 : Ref sig .tc := ⟨.hbm, 271, rfl⟩
abbrev main_while0b_v118 : Ref sig .tc := ⟨.hbm, 272, rfl⟩
abbrev main_while0b_v119 : Ref sig .tc := ⟨.hbm, 273, rfl⟩
abbrev main_while0b_v120 : Ref sig .tc := ⟨.hbm, 274, rfl⟩
abbrev main_while0b_v121 : Ref sig .tc := ⟨.hbm, 275, rfl⟩
abbrev main_while0b_v122 : Ref sig .tc := ⟨.hbm, 276, rfl⟩
abbrev main_while0b_v123 : Ref sig .tc := ⟨.hbm, 277, rfl⟩
abbrev main_while0b_v124 : Ref sig .tc := ⟨.hbm, 278, rfl⟩
abbrev main_while0b_v125 : Ref sig .tc := ⟨.hbm, 279, rfl⟩
abbrev main_while0b_cst_122 : Ref sig .tc := ⟨.hbm, 280, rfl⟩
abbrev main_while0b_v126 : Ref sig .tc := ⟨.hbm, 281, rfl⟩
abbrev main_while0b_v127 : Ref sig .tc := ⟨.hbm, 282, rfl⟩
abbrev main_while0b_v128 : Ref sig .tc := ⟨.hbm, 283, rfl⟩
abbrev main_while0b_v129 : Ref sig .tc := ⟨.hbm, 284, rfl⟩
abbrev main_while0b_v130 : Ref sig .tc := ⟨.hbm, 285, rfl⟩
abbrev main_while0b_v131 : Ref sig .tc := ⟨.hbm, 286, rfl⟩
abbrev main_while0b_cst_123 : Ref sig .tc := ⟨.hbm, 287, rfl⟩
abbrev main_while0b_v132 : Ref sig .tc := ⟨.hbm, 288, rfl⟩
abbrev main_while0b_cst_124 : Ref sig .tc := ⟨.hbm, 289, rfl⟩
abbrev main_while0b_v133 : Ref sig .tc := ⟨.hbm, 290, rfl⟩
abbrev main_while0b_v134 : Ref sig .tc := ⟨.hbm, 291, rfl⟩
abbrev main_while0b_v135 : Ref sig .tc := ⟨.hbm, 292, rfl⟩
abbrev main_while0b_cst_125 : Ref sig .tc := ⟨.hbm, 293, rfl⟩
abbrev main_while0b_v136 : Ref sig .tc := ⟨.hbm, 294, rfl⟩
abbrev main_while0b_v137 : Ref sig .tc := ⟨.hbm, 295, rfl⟩
abbrev main_while0b_v138 : Ref sig .tc := ⟨.hbm, 296, rfl⟩
abbrev main_while0b_cst_126 : Ref sig .tc := ⟨.hbm, 297, rfl⟩
abbrev main_while0b_v139 : Ref sig .tc := ⟨.hbm, 298, rfl⟩
abbrev main_while0b_v140 : Ref sig .tc := ⟨.hbm, 299, rfl⟩
abbrev main_while0b_v141 : Ref sig .tc := ⟨.hbm, 300, rfl⟩
abbrev main_while0b_v142 : Ref sig .tc := ⟨.hbm, 301, rfl⟩
abbrev main_while0b_cst_127 : Ref sig .tc := ⟨.hbm, 302, rfl⟩
abbrev main_while0b_v143 : Ref sig .tc := ⟨.hbm, 303, rfl⟩
abbrev main_while0b_v144 : Ref sig .tc := ⟨.hbm, 304, rfl⟩
abbrev main_while0b_v145 : Ref sig .tc := ⟨.hbm, 305, rfl⟩
abbrev main_while0b_cst_128 : Ref sig .tc := ⟨.hbm, 306, rfl⟩
abbrev main_while0b_v146 : Ref sig .tc := ⟨.hbm, 307, rfl⟩
abbrev main_while0b_v147 : Ref sig .tc := ⟨.hbm, 308, rfl⟩
abbrev main_while0b_v148 : Ref sig .tc := ⟨.hbm, 309, rfl⟩
abbrev main_while0b_cst_129 : Ref sig .tc := ⟨.hbm, 310, rfl⟩
abbrev main_while0b_v149 : Ref sig .tc := ⟨.hbm, 311, rfl⟩
abbrev main_while0b_v150 : Ref sig .tc := ⟨.hbm, 312, rfl⟩
abbrev main_while0b_v151 : Ref sig .tc := ⟨.hbm, 313, rfl⟩
abbrev main_while0b_cst_130 : Ref sig .tc := ⟨.hbm, 314, rfl⟩
abbrev main_while0b_v152 : Ref sig .tc := ⟨.hbm, 315, rfl⟩
abbrev main_while0b_v153 : Ref sig .tc := ⟨.hbm, 316, rfl⟩
abbrev main_while0b_v154 : Ref sig .tc := ⟨.hbm, 317, rfl⟩
abbrev main_while0b_v155 : Ref sig .tc := ⟨.hbm, 318, rfl⟩
abbrev main_while0b_cst_131 : Ref sig .tc := ⟨.hbm, 319, rfl⟩
abbrev main_while0b_v156 : Ref sig .tc := ⟨.hbm, 320, rfl⟩
abbrev main_while0b_v157 : Ref sig .tc := ⟨.hbm, 321, rfl⟩
abbrev main_while0b_v158 : Ref sig .tc := ⟨.hbm, 322, rfl⟩
abbrev main_while0b_cst_132 : Ref sig .tc := ⟨.hbm, 323, rfl⟩
abbrev main_while0b_v159 : Ref sig .tc := ⟨.hbm, 324, rfl⟩
abbrev main_while0b_v160 : Ref sig .tc := ⟨.hbm, 325, rfl⟩
abbrev main_while0b_v161 : Ref sig .tc := ⟨.hbm, 326, rfl⟩
abbrev main_while0b_cst_133 : Ref sig .tc := ⟨.hbm, 327, rfl⟩
abbrev main_while0b_v162 : Ref sig .tc := ⟨.hbm, 328, rfl⟩
abbrev main_while0b_v163 : Ref sig .tc := ⟨.hbm, 329, rfl⟩
abbrev main_while0b_v164 : Ref sig .tc := ⟨.hbm, 330, rfl⟩
abbrev main_while0b_cst_134 : Ref sig .tc := ⟨.hbm, 331, rfl⟩
abbrev main_while0b_v165 : Ref sig .tc := ⟨.hbm, 332, rfl⟩
abbrev main_while0b_v166 : Ref sig .tc := ⟨.hbm, 333, rfl⟩
abbrev main_while0b_v167 : Ref sig .tc := ⟨.hbm, 334, rfl⟩
abbrev main_while0b_cst_135 : Ref sig .tc := ⟨.hbm, 335, rfl⟩
abbrev main_while0b_v168 : Ref sig .tc := ⟨.hbm, 336, rfl⟩
abbrev main_while0b_v169 : Ref sig .tc := ⟨.hbm, 337, rfl⟩
abbrev main_while0b_cst_136 : Ref sig .tc := ⟨.hbm, 338, rfl⟩
abbrev main_while0b_call5_v0 : Ref sig .tc := ⟨.hbm, 339, rfl⟩
abbrev main_while0b_call5_v1 : Ref sig .tc := ⟨.hbm, 340, rfl⟩
abbrev main_while0b_v170 : Ref sig .tc := ⟨.hbm, 341, rfl⟩
abbrev main_while0b_cst_137 : Ref sig .tc := ⟨.hbm, 342, rfl⟩
abbrev main_while0b_v171 : Ref sig .tc := ⟨.hbm, 343, rfl⟩
abbrev main_while0b_v172 : Ref sig .tc := ⟨.hbm, 344, rfl⟩
abbrev main_while0b_cst_138 : Ref sig .tc := ⟨.hbm, 345, rfl⟩
abbrev main_while0b_v173 : Ref sig .tc := ⟨.hbm, 346, rfl⟩
abbrev main_while0b_v174 : Ref sig .tc := ⟨.hbm, 347, rfl⟩
abbrev main_while0b_v175 : Ref sig .tc := ⟨.hbm, 348, rfl⟩
abbrev main_while0b_v176 : Ref sig .tc := ⟨.hbm, 349, rfl⟩
abbrev main_while0b_v177 : Ref sig .tc := ⟨.hbm, 350, rfl⟩
abbrev main_while0b_v178 : Ref sig .tc := ⟨.hbm, 351, rfl⟩
abbrev main_while0b_c_139 : Ref sig .tc := ⟨.hbm, 352, rfl⟩
abbrev main_while0b_v179 : Ref sig .tc := ⟨.hbm, 353, rfl⟩
abbrev main_while0b_v180 : Ref sig .tc := ⟨.hbm, 354, rfl⟩
abbrev main_while0b_v181 : Ref sig .tc := ⟨.hbm, 355, rfl⟩
abbrev main_while0b_v182 : Ref sig .tc := ⟨.hbm, 356, rfl⟩
abbrev main_while0b_c_140 : Ref sig .tc := ⟨.hbm, 357, rfl⟩
abbrev main_while0b_v183 : Ref sig .tc := ⟨.hbm, 358, rfl⟩
abbrev main_while0b_v184 : Ref sig .tc := ⟨.hbm, 359, rfl⟩
abbrev main_while0b_c_141 : Ref sig .tc := ⟨.hbm, 360, rfl⟩
abbrev main_while0b_v185 : Ref sig .tc := ⟨.hbm, 361, rfl⟩
abbrev main_while0b_v186 : Ref sig .tc := ⟨.hbm, 362, rfl⟩
abbrev main_while0b_v187 : Ref sig .tc := ⟨.hbm, 363, rfl⟩
abbrev main_while0b_c_142 : Ref sig .tc := ⟨.hbm, 364, rfl⟩
abbrev main_while0b_v188 : Ref sig .tc := ⟨.hbm, 365, rfl⟩
abbrev main_while0b_v189 : Ref sig .tc := ⟨.hbm, 366, rfl⟩
abbrev main_while0b_c_143 : Ref sig .tc := ⟨.hbm, 367, rfl⟩
abbrev main_while0b_v190 : Ref sig .tc := ⟨.hbm, 368, rfl⟩
abbrev main_while0b_v191 : Ref sig .tc := ⟨.hbm, 369, rfl⟩
abbrev main_while0b_v192 : Ref sig .tc := ⟨.hbm, 370, rfl⟩
abbrev main_while0b_v193 : Ref sig .tc := ⟨.hbm, 371, rfl⟩
abbrev main_while0b_v194 : Ref sig .tc := ⟨.hbm, 372, rfl⟩
abbrev main_while0b_v195 : Ref sig .tc := ⟨.hbm, 373, rfl⟩
abbrev main_while0b_v196 : Ref sig .tc := ⟨.hbm, 374, rfl⟩
abbrev main_while0b_v197 : Ref sig .tc := ⟨.hbm, 375, rfl⟩
abbrev main_while0b_cst_144 : Ref sig .tc := ⟨.hbm, 376, rfl⟩
abbrev main_while0b_v198 : Ref sig .tc := ⟨.hbm, 377, rfl⟩
abbrev main_while0b_v199 : Ref sig .tc := ⟨.hbm, 378, rfl⟩
abbrev main_while0b_v200 : Ref sig .tc := ⟨.hbm, 379, rfl⟩
abbrev main_while0b_v201 : Ref sig .tc := ⟨.hbm, 380, rfl⟩
abbrev main_while0b_v202 : Ref sig .tc := ⟨.hbm, 381, rfl⟩
abbrev main_while0b_v203 : Ref sig .tc := ⟨.hbm, 382, rfl⟩
abbrev main_while0b_cst_145 : Ref sig .tc := ⟨.hbm, 383, rfl⟩
abbrev main_while0b_v204 : Ref sig .tc := ⟨.hbm, 384, rfl⟩
abbrev main_while0b_c_146 : Ref sig .tc := ⟨.hbm, 385, rfl⟩
abbrev main_while0b_v205 : Ref sig .tc := ⟨.hbm, 386, rfl⟩
abbrev main_while0b_v206 : Ref sig .tc := ⟨.hbm, 387, rfl⟩
abbrev main_while0b_v207 : Ref sig .tc := ⟨.hbm, 388, rfl⟩
abbrev main_while0b_v208 : Ref sig .tc := ⟨.hbm, 389, rfl⟩
abbrev main_while0b_c_147 : Ref sig .tc := ⟨.hbm, 390, rfl⟩
abbrev main_while0b_v209 : Ref sig .tc := ⟨.hbm, 391, rfl⟩
abbrev main_while0b_v210 : Ref sig .tc := ⟨.hbm, 392, rfl⟩
abbrev main_while0b_c_148 : Ref sig .tc := ⟨.hbm, 393, rfl⟩
abbrev main_while0b_v211 : Ref sig .tc := ⟨.hbm, 394, rfl⟩
abbrev main_while0b_v212 : Ref sig .tc := ⟨.hbm, 395, rfl⟩
abbrev main_while0b_v213 : Ref sig .tc := ⟨.hbm, 396, rfl⟩
abbrev main_while0b_c_149 : Ref sig .tc := ⟨.hbm, 397, rfl⟩
abbrev main_while0b_v214 : Ref sig .tc := ⟨.hbm, 398, rfl⟩
abbrev main_while0b_v215 : Ref sig .tc := ⟨.hbm, 399, rfl⟩
abbrev main_while0b_c_150 : Ref sig .tc := ⟨.hbm, 400, rfl⟩
abbrev main_while0b_v216 : Ref sig .tc := ⟨.hbm, 401, rfl⟩
abbrev main_while0b_v217 : Ref sig .tc := ⟨.hbm, 402, rfl⟩
abbrev main_while0b_v218 : Ref sig .tc := ⟨.hbm, 403, rfl⟩
abbrev main_while0b_v219 : Ref sig .tc := ⟨.hbm, 404, rfl⟩
abbrev main_while0b_v220 : Ref sig .tc := ⟨.hbm, 405, rfl⟩
abbrev main_while0b_v221 : Ref sig .tc := ⟨.hbm, 406, rfl⟩
abbrev main_while0b_v222 : Ref sig .tc := ⟨.hbm, 407, rfl⟩
abbrev main_while0b_v223 : Ref sig .tc := ⟨.hbm, 408, rfl⟩
abbrev main_while0b_cst_151 : Ref sig .tc := ⟨.hbm, 409, rfl⟩
abbrev main_while0b_v224 : Ref sig .tc := ⟨.hbm, 410, rfl⟩
abbrev main_while0b_v225 : Ref sig .tc := ⟨.hbm, 411, rfl⟩
abbrev main_while0b_v226 : Ref sig .tc := ⟨.hbm, 412, rfl⟩
abbrev main_while0b_v227 : Ref sig .tc := ⟨.hbm, 413, rfl⟩
abbrev main_while0b_v228 : Ref sig .tc := ⟨.hbm, 414, rfl⟩
abbrev main_while0b_v229 : Ref sig .tc := ⟨.hbm, 415, rfl⟩
abbrev main_while0b_cst_152 : Ref sig .tc := ⟨.hbm, 416, rfl⟩
abbrev main_while0b_v230 : Ref sig .tc := ⟨.hbm, 417, rfl⟩
abbrev main_while0b_cst_153 : Ref sig .tc := ⟨.hbm, 418, rfl⟩
abbrev main_while0b_v231 : Ref sig .tc := ⟨.hbm, 419, rfl⟩
abbrev main_while0b_v232 : Ref sig .tc := ⟨.hbm, 420, rfl⟩
abbrev main_while0b_cst_154 : Ref sig .tc := ⟨.hbm, 421, rfl⟩
abbrev main_while0b_v233 : Ref sig .tc := ⟨.hbm, 422, rfl⟩
abbrev main_while0b_v234 : Ref sig .tc := ⟨.hbm, 423, rfl⟩
abbrev main_while0b_v235 : Ref sig .tc := ⟨.hbm, 424, rfl⟩
abbrev main_while0b_cst_155 : Ref sig .tc := ⟨.hbm, 425, rfl⟩
abbrev main_while0b_v236 : Ref sig .tc := ⟨.hbm, 426, rfl⟩
abbrev main_while0b_v237 : Ref sig .tc := ⟨.hbm, 427, rfl⟩
abbrev main_while0b_v238 : Ref sig .tc := ⟨.hbm, 428, rfl⟩
abbrev main_while0b_cst_156 : Ref sig .tc := ⟨.hbm, 429, rfl⟩
abbrev main_while0b_v239 : Ref sig .tc := ⟨.hbm, 430, rfl⟩
abbrev main_while0b_v240 : Ref sig .tc := ⟨.hbm, 431, rfl⟩
abbrev main_while0b_v241 : Ref sig .tc := ⟨.hbm, 432, rfl⟩
abbrev main_while0b_cst_157 : Ref sig .tc := ⟨.hbm, 433, rfl⟩
abbrev main_while0b_v242 : Ref sig .tc := ⟨.hbm, 434, rfl⟩
abbrev main_while0b_v243 : Ref sig .tc := ⟨.hbm, 435, rfl⟩
abbrev main_while0b_v244 : Ref sig .tc := ⟨.hbm, 436, rfl⟩
abbrev main_while0b_v245 : Ref sig .tc := ⟨.hbm, 437, rfl⟩
abbrev main_while0b_cst_158 : Ref sig .tc := ⟨.hbm, 438, rfl⟩
abbrev main_while0b_v246 : Ref sig .tc := ⟨.hbm, 439, rfl⟩
abbrev main_while0b_v247 : Ref sig .tc := ⟨.hbm, 440, rfl⟩
abbrev main_while0b_v248 : Ref sig .tc := ⟨.hbm, 441, rfl⟩
abbrev main_while0b_cst_159 : Ref sig .tc := ⟨.hbm, 442, rfl⟩
abbrev main_while0b_v249 : Ref sig .tc := ⟨.hbm, 443, rfl⟩
abbrev main_while0b_v250 : Ref sig .tc := ⟨.hbm, 444, rfl⟩
abbrev main_while0b_v251 : Ref sig .tc := ⟨.hbm, 445, rfl⟩
abbrev main_while0b_cst_160 : Ref sig .tc := ⟨.hbm, 446, rfl⟩
abbrev main_while0b_v252 : Ref sig .tc := ⟨.hbm, 447, rfl⟩
abbrev main_while0b_v253 : Ref sig .tc := ⟨.hbm, 448, rfl⟩
abbrev main_while0b_v254 : Ref sig .tc := ⟨.hbm, 449, rfl⟩
abbrev main_while0b_cst_161 : Ref sig .tc := ⟨.hbm, 450, rfl⟩
abbrev main_while0b_v255 : Ref sig .tc := ⟨.hbm, 451, rfl⟩
abbrev main_while0b_v256 : Ref sig .tc := ⟨.hbm, 452, rfl⟩
abbrev main_while0b_v257 : Ref sig .tc := ⟨.hbm, 453, rfl⟩
abbrev main_while0b_v258 : Ref sig .tc := ⟨.hbm, 454, rfl⟩
abbrev main_while0b_cst_162 : Ref sig .tc := ⟨.hbm, 455, rfl⟩
abbrev main_while0b_v259 : Ref sig .tc := ⟨.hbm, 456, rfl⟩
abbrev main_while0b_v260 : Ref sig .tc := ⟨.hbm, 457, rfl⟩
abbrev main_while0b_v261 : Ref sig .tc := ⟨.hbm, 458, rfl⟩
abbrev main_while0b_cst_163 : Ref sig .tc := ⟨.hbm, 459, rfl⟩
abbrev main_while0b_v262 : Ref sig .tc := ⟨.hbm, 460, rfl⟩
abbrev main_while0b_v263 : Ref sig .tc := ⟨.hbm, 461, rfl⟩
abbrev main_while0b_v264 : Ref sig .tc := ⟨.hbm, 462, rfl⟩
abbrev main_while0b_cst_164 : Ref sig .tc := ⟨.hbm, 463, rfl⟩
abbrev main_while0b_v265 : Ref sig .tc := ⟨.hbm, 464, rfl⟩
abbrev main_while0b_v266 : Ref sig .tc := ⟨.hbm, 465, rfl⟩
abbrev main_while0b_v267 : Ref sig .tc := ⟨.hbm, 466, rfl⟩
abbrev main_while0b_cst_165 : Ref sig .tc := ⟨.hbm, 467, rfl⟩
abbrev main_while0b_v268 : Ref sig .tc := ⟨.hbm, 468, rfl⟩
abbrev main_while0b_v269 : Ref sig .tc := ⟨.hbm, 469, rfl⟩
abbrev main_while0b_v270 : Ref sig .tc := ⟨.hbm, 470, rfl⟩
abbrev main_while0b_cst_166 : Ref sig .tc := ⟨.hbm, 471, rfl⟩
abbrev main_while0b_v271 : Ref sig .tc := ⟨.hbm, 472, rfl⟩
abbrev main_while0b_v272 : Ref sig .tc := ⟨.hbm, 473, rfl⟩
abbrev main_while0b_cst_167 : Ref sig .tc := ⟨.hbm, 474, rfl⟩
abbrev main_while0b_call7_v0 : Ref sig .tc := ⟨.hbm, 475, rfl⟩
abbrev main_while0b_call7_v1 : Ref sig .tc := ⟨.hbm, 476, rfl⟩
abbrev main_while0b_v273 : Ref sig .tc := ⟨.hbm, 477, rfl⟩
abbrev main_while0b_cst_168 : Ref sig .tc := ⟨.hbm, 478, rfl⟩
abbrev main_while0b_v274 : Ref sig .tc := ⟨.hbm, 479, rfl⟩
abbrev main_while0b_v275 : Ref sig .tc := ⟨.hbm, 480, rfl⟩
abbrev main_while0b_cst_169 : Ref sig .tc := ⟨.hbm, 481, rfl⟩
abbrev main_while0b_v276 : Ref sig .tc := ⟨.hbm, 482, rfl⟩
abbrev main_while0b_v277 : Ref sig .tc := ⟨.hbm, 483, rfl⟩
abbrev main_while0b_v278 : Ref sig .tc := ⟨.hbm, 484, rfl⟩
abbrev main_while0b_v279 : Ref sig .tc := ⟨.hbm, 485, rfl⟩
abbrev main_while0b_v280 : Ref sig .tc := ⟨.hbm, 486, rfl⟩
abbrev main_while0b_v281 : Ref sig .tc := ⟨.hbm, 487, rfl⟩
abbrev main_while0b_cst_170 : Ref sig .tc := ⟨.hbm, 488, rfl⟩
abbrev main_while0b_v282 : Ref sig .tc := ⟨.hbm, 489, rfl⟩
abbrev main_while0b_v283 : Ref sig .tc := ⟨.hbm, 490, rfl⟩
abbrev main_while0b_v284 : Ref sig .tc := ⟨.hbm, 491, rfl⟩
abbrev main_while0b_v285 : Ref sig .tc := ⟨.hbm, 492, rfl⟩
abbrev main_while0b_v286 : Ref sig .tc := ⟨.hbm, 493, rfl⟩
abbrev main_while0b_v287 : Ref sig .tc := ⟨.hbm, 494, rfl⟩
abbrev main_while0b_cst_171 : Ref sig .tc := ⟨.hbm, 495, rfl⟩
abbrev main_while0b_v288 : Ref sig .tc := ⟨.hbm, 496, rfl⟩
abbrev main_while0b_v289 : Ref sig .tc := ⟨.hbm, 497, rfl⟩
abbrev main_while0b_v290 : Ref sig .tc := ⟨.hbm, 498, rfl⟩
abbrev main_while0b_cst_172 : Ref sig .tc := ⟨.hbm, 499, rfl⟩
abbrev main_while0b_v291 : Ref sig .tc := ⟨.hbm, 500, rfl⟩
abbrev main_while0b_v292 : Ref sig .tc := ⟨.hbm, 501, rfl⟩
abbrev main_while0b_v293 : Ref sig .tc := ⟨.hbm, 502, rfl⟩
abbrev main_while0b_cst_173 : Ref sig .tc := ⟨.hbm, 503, rfl⟩
abbrev main_while0b_v294 : Ref sig .tc := ⟨.hbm, 504, rfl⟩
abbrev main_while0b_v295 : Ref sig .tc := ⟨.hbm, 505, rfl⟩
abbrev main_while0b_v296 : Ref sig .tc := ⟨.hbm, 506, rfl⟩
abbrev main_while0b_v297 : Ref sig .tc := ⟨.hbm, 507, rfl⟩
abbrev main_while0b_cst_174 : Ref sig .tc := ⟨.hbm, 508, rfl⟩
abbrev main_while0b_v298 : Ref sig .tc := ⟨.hbm, 509, rfl⟩
abbrev main_while0b_v299 : Ref sig .tc := ⟨.hbm, 510, rfl⟩
abbrev main_while0b_v300 : Ref sig .tc := ⟨.hbm, 511, rfl⟩
abbrev main_while0b_cst_175 : Ref sig .tc := ⟨.hbm, 512, rfl⟩
abbrev main_while0b_v301 : Ref sig .tc := ⟨.hbm, 513, rfl⟩
abbrev main_while0b_v302 : Ref sig .tc := ⟨.hbm, 514, rfl⟩
abbrev main_while0b_v303 : Ref sig .tc := ⟨.hbm, 515, rfl⟩
abbrev main_while0b_cst_176 : Ref sig .tc := ⟨.hbm, 516, rfl⟩
abbrev main_while0b_v304 : Ref sig .tc := ⟨.hbm, 517, rfl⟩
abbrev main_while0b_v305 : Ref sig .tc := ⟨.hbm, 518, rfl⟩
abbrev main_while0b_v306 : Ref sig .tc := ⟨.hbm, 519, rfl⟩
abbrev main_while0b_cst_177 : Ref sig .tc := ⟨.hbm, 520, rfl⟩
abbrev main_while0b_v307 : Ref sig .tc := ⟨.hbm, 521, rfl⟩
abbrev main_while0b_v308 : Ref sig .tc := ⟨.hbm, 522, rfl⟩
abbrev main_while0b_v309 : Ref sig .tc := ⟨.hbm, 523, rfl⟩
abbrev main_while0b_v310 : Ref sig .tc := ⟨.hbm, 524, rfl⟩
abbrev main_while0b_cst_178 : Ref sig .tc := ⟨.hbm, 525, rfl⟩
abbrev main_while0b_v311 : Ref sig .tc := ⟨.hbm, 526, rfl⟩
abbrev main_while0b_v312 : Ref sig .tc := ⟨.hbm, 527, rfl⟩
abbrev main_while0b_v313 : Ref sig .tc := ⟨.hbm, 528, rfl⟩
abbrev main_while0b_cst_179 : Ref sig .tc := ⟨.hbm, 529, rfl⟩
abbrev main_while0b_v314 : Ref sig .tc := ⟨.hbm, 530, rfl⟩
abbrev main_while0b_v315 : Ref sig .tc := ⟨.hbm, 531, rfl⟩
abbrev main_while0b_v316 : Ref sig .tc := ⟨.hbm, 532, rfl⟩
abbrev main_while0b_cst_180 : Ref sig .tc := ⟨.hbm, 533, rfl⟩
abbrev main_while0b_v317 : Ref sig .tc := ⟨.hbm, 534, rfl⟩
abbrev main_while0b_v318 : Ref sig .tc := ⟨.hbm, 535, rfl⟩
abbrev main_while0b_v319 : Ref sig .tc := ⟨.hbm, 536, rfl⟩
abbrev main_while0b_cst_181 : Ref sig .tc := ⟨.hbm, 537, rfl⟩
abbrev main_while0b_v320 : Ref sig .tc := ⟨.hbm, 538, rfl⟩
abbrev main_while0b_v321 : Ref sig .tc := ⟨.hbm, 539, rfl⟩
abbrev main_while0b_v322 : Ref sig .tc := ⟨.hbm, 540, rfl⟩
abbrev main_while0b_cst_182 : Ref sig .tc := ⟨.hbm, 541, rfl⟩
abbrev main_while0b_v323 : Ref sig .tc := ⟨.hbm, 542, rfl⟩
abbrev main_while0b_v324 : Ref sig .tc := ⟨.hbm, 543, rfl⟩
abbrev main_while0b_cst_183 : Ref sig .tc := ⟨.hbm, 544, rfl⟩
abbrev main_while0b_call9_v0 : Ref sig .tc := ⟨.hbm, 545, rfl⟩
abbrev main_while0b_call9_v1 : Ref sig .tc := ⟨.hbm, 546, rfl⟩
abbrev main_while0b_v325 : Ref sig .tc := ⟨.hbm, 547, rfl⟩
abbrev main_while0b_cst_184 : Ref sig .tc := ⟨.hbm, 548, rfl⟩
abbrev main_while0b_v326 : Ref sig .tc := ⟨.hbm, 549, rfl⟩
abbrev main_while0b_v327 : Ref sig .tc := ⟨.hbm, 550, rfl⟩
abbrev main_while0b_cst_185 : Ref sig .tc := ⟨.hbm, 551, rfl⟩
abbrev main_while0b_v328 : Ref sig .tc := ⟨.hbm, 552, rfl⟩
abbrev main_while0b_v329 : Ref sig .tc := ⟨.hbm, 553, rfl⟩
abbrev main_while0b_v330 : Ref sig .tc := ⟨.hbm, 554, rfl⟩
abbrev main_while0b_v331 : Ref sig .tc := ⟨.hbm, 555, rfl⟩
abbrev main_while0b_v332 : Ref sig .tc := ⟨.hbm, 556, rfl⟩
abbrev main_while0b_v333 : Ref sig .tc := ⟨.hbm, 557, rfl⟩
abbrev main_while0b_c_186 : Ref sig .tc := ⟨.hbm, 558, rfl⟩
abbrev main_while0b_v334 : Ref sig .tc := ⟨.hbm, 559, rfl⟩
abbrev main_while0b_v335 : Ref sig .tc := ⟨.hbm, 560, rfl⟩
abbrev main_while0b_v336 : Ref sig .tc := ⟨.hbm, 561, rfl⟩
abbrev main_while0b_v337 : Ref sig .tc := ⟨.hbm, 562, rfl⟩
abbrev main_while0b_c_187 : Ref sig .tc := ⟨.hbm, 563, rfl⟩
abbrev main_while0b_v338 : Ref sig .tc := ⟨.hbm, 564, rfl⟩
abbrev main_while0b_v339 : Ref sig .tc := ⟨.hbm, 565, rfl⟩
abbrev main_while0b_c_188 : Ref sig .tc := ⟨.hbm, 566, rfl⟩
abbrev main_while0b_v340 : Ref sig .tc := ⟨.hbm, 567, rfl⟩
abbrev main_while0b_v341 : Ref sig .tc := ⟨.hbm, 568, rfl⟩
abbrev main_while0b_v342 : Ref sig .tc := ⟨.hbm, 569, rfl⟩
abbrev main_while0b_c_189 : Ref sig .tc := ⟨.hbm, 570, rfl⟩
abbrev main_while0b_v343 : Ref sig .tc := ⟨.hbm, 571, rfl⟩
abbrev main_while0b_v344 : Ref sig .tc := ⟨.hbm, 572, rfl⟩
abbrev main_while0b_c_190 : Ref sig .tc := ⟨.hbm, 573, rfl⟩
abbrev main_while0b_v345 : Ref sig .tc := ⟨.hbm, 574, rfl⟩
abbrev main_while0b_v346 : Ref sig .tc := ⟨.hbm, 575, rfl⟩
abbrev main_while0b_v347 : Ref sig .tc := ⟨.hbm, 576, rfl⟩
abbrev main_while0b_v348 : Ref sig .tc := ⟨.hbm, 577, rfl⟩
abbrev main_while0b_v349 : Ref sig .tc := ⟨.hbm, 578, rfl⟩
abbrev main_while0b_v350 : Ref sig .tc := ⟨.hbm, 579, rfl⟩
abbrev main_while0b_v351 : Ref sig .tc := ⟨.hbm, 580, rfl⟩
abbrev main_while0b_v352 : Ref sig .tc := ⟨.hbm, 581, rfl⟩
abbrev main_while0b_cst_191 : Ref sig .tc := ⟨.hbm, 582, rfl⟩
abbrev main_while0b_v353 : Ref sig .tc := ⟨.hbm, 583, rfl⟩
abbrev main_while0b_v354 : Ref sig .tc := ⟨.hbm, 584, rfl⟩
abbrev main_while0b_v355 : Ref sig .tc := ⟨.hbm, 585, rfl⟩
abbrev main_while0b_v356 : Ref sig .tc := ⟨.hbm, 586, rfl⟩
abbrev main_while0b_v357 : Ref sig .tc := ⟨.hbm, 587, rfl⟩
abbrev main_while0b_v358 : Ref sig .tc := ⟨.hbm, 588, rfl⟩
abbrev main_while0b_cst_192 : Ref sig .tc := ⟨.hbm, 589, rfl⟩
abbrev main_while0b_v359 : Ref sig .tc := ⟨.hbm, 590, rfl⟩
abbrev main_while0b_cst_193 : Ref sig .tc := ⟨.hbm, 591, rfl⟩
abbrev main_while0b_v360 : Ref sig .tc := ⟨.hbm, 592, rfl⟩
abbrev main_while0b_v361 : Ref sig .tc := ⟨.hbm, 593, rfl⟩
abbrev main_while0b_v362 : Ref sig .tc := ⟨.hbm, 594, rfl⟩
abbrev main_while0b_cst_194 : Ref sig .tc := ⟨.hbm, 595, rfl⟩
abbrev main_while0b_v363 : Ref sig .tc := ⟨.hbm, 596, rfl⟩
abbrev main_while0b_v364 : Ref sig .tc := ⟨.hbm, 597, rfl⟩
abbrev main_while0b_v365 : Ref sig .tc := ⟨.hbm, 598, rfl⟩
abbrev main_while0b_cst_195 : Ref sig .tc := ⟨.hbm, 599, rfl⟩
abbrev main_while0b_v366 : Ref sig .tc := ⟨.hbm, 600, rfl⟩
abbrev main_while0b_v367 : Ref sig .tc := ⟨.hbm, 601, rfl⟩
abbrev main_while0b_v368 : Ref sig .tc := ⟨.hbm, 602, rfl⟩
abbrev main_while0b_v369 : Ref sig .tc := ⟨.hbm, 603, rfl⟩
abbrev main_while0b_cst_196 : Ref sig .tc := ⟨.hbm, 604, rfl⟩
abbrev main_while0b_v370 : Ref sig .tc := ⟨.hbm, 605, rfl⟩
abbrev main_while0b_v371 : Ref sig .tc := ⟨.hbm, 606, rfl⟩
abbrev main_while0b_v372 : Ref sig .tc := ⟨.hbm, 607, rfl⟩
abbrev main_while0b_cst_197 : Ref sig .tc := ⟨.hbm, 608, rfl⟩
abbrev main_while0b_v373 : Ref sig .tc := ⟨.hbm, 609, rfl⟩
abbrev main_while0b_v374 : Ref sig .tc := ⟨.hbm, 610, rfl⟩
abbrev main_while0b_v375 : Ref sig .tc := ⟨.hbm, 611, rfl⟩
abbrev main_while0b_cst_198 : Ref sig .tc := ⟨.hbm, 612, rfl⟩
abbrev main_while0b_v376 : Ref sig .tc := ⟨.hbm, 613, rfl⟩
abbrev main_while0b_v377 : Ref sig .tc := ⟨.hbm, 614, rfl⟩
abbrev main_while0b_v378 : Ref sig .tc := ⟨.hbm, 615, rfl⟩
abbrev main_while0b_cst_199 : Ref sig .tc := ⟨.hbm, 616, rfl⟩
abbrev main_while0b_v379 : Ref sig .tc := ⟨.hbm, 617, rfl⟩
abbrev main_while0b_v380 : Ref sig .tc := ⟨.hbm, 618, rfl⟩
abbrev main_while0b_v381 : Ref sig .tc := ⟨.hbm, 619, rfl⟩
abbrev main_while0b_v382 : Ref sig .tc := ⟨.hbm, 620, rfl⟩
abbrev main_while0b_cst_200 : Ref sig .tc := ⟨.hbm, 621, rfl⟩
abbrev main_while0b_v383 : Ref sig .tc := ⟨.hbm, 622, rfl⟩
abbrev main_while0b_v384 : Ref sig .tc := ⟨.hbm, 623, rfl⟩
abbrev main_while0b_v385 : Ref sig .tc := ⟨.hbm, 624, rfl⟩
abbrev main_while0b_cst_201 : Ref sig .tc := ⟨.hbm, 625, rfl⟩
abbrev main_while0b_v386 : Ref sig .tc := ⟨.hbm, 626, rfl⟩
abbrev main_while0b_v387 : Ref sig .tc := ⟨.hbm, 627, rfl⟩
abbrev main_while0b_v388 : Ref sig .tc := ⟨.hbm, 628, rfl⟩
abbrev main_while0b_cst_202 : Ref sig .tc := ⟨.hbm, 629, rfl⟩
abbrev main_while0b_v389 : Ref sig .tc := ⟨.hbm, 630, rfl⟩
abbrev main_while0b_v390 : Ref sig .tc := ⟨.hbm, 631, rfl⟩
abbrev main_while0b_v391 : Ref sig .tc := ⟨.hbm, 632, rfl⟩
abbrev main_while0b_cst_203 : Ref sig .tc := ⟨.hbm, 633, rfl⟩
abbrev main_while0b_v392 : Ref sig .tc := ⟨.hbm, 634, rfl⟩
abbrev main_while0b_v393 : Ref sig .tc := ⟨.hbm, 635, rfl⟩
abbrev main_while0b_v394 : Ref sig .tc := ⟨.hbm, 636, rfl⟩
abbrev main_while0b_cst_204 : Ref sig .tc := ⟨.hbm, 637, rfl⟩
abbrev main_while0b_v395 : Ref sig .tc := ⟨.hbm, 638, rfl⟩
abbrev main_while0b_v396 : Ref sig .tc := ⟨.hbm, 639, rfl⟩
abbrev main_while0b_cst_205 : Ref sig .tc := ⟨.hbm, 640, rfl⟩
abbrev main_while0b_call11_v0 : Ref sig .tc := ⟨.hbm, 641, rfl⟩
abbrev main_while0b_call11_v1 : Ref sig .tc := ⟨.hbm, 642, rfl⟩
abbrev main_while0b_v397 : Ref sig .tc := ⟨.hbm, 643, rfl⟩
abbrev main_while0b_cst_206 : Ref sig .tc := ⟨.hbm, 644, rfl⟩
abbrev main_while0b_v398 : Ref sig .tc := ⟨.hbm, 645, rfl⟩
abbrev main_while0b_v399 : Ref sig .tc := ⟨.hbm, 646, rfl⟩
abbrev main_while0b_cst_207 : Ref sig .tc := ⟨.hbm, 647, rfl⟩
abbrev main_while0b_v400 : Ref sig .tc := ⟨.hbm, 648, rfl⟩
abbrev main_while0b_v401 : Ref sig .tc := ⟨.hbm, 649, rfl⟩
abbrev main_while0b_v402 : Ref sig .tc := ⟨.hbm, 650, rfl⟩
abbrev main_while0b_v403 : Ref sig .tc := ⟨.hbm, 651, rfl⟩
abbrev main_while0b_v404 : Ref sig .tc := ⟨.hbm, 652, rfl⟩
abbrev main_while0b_v405 : Ref sig .tc := ⟨.hbm, 653, rfl⟩
abbrev main_while0b_c_208 : Ref sig .tc := ⟨.hbm, 654, rfl⟩
abbrev main_while0b_v406 : Ref sig .tc := ⟨.hbm, 655, rfl⟩
abbrev main_while0b_v407 : Ref sig .tc := ⟨.hbm, 656, rfl⟩
abbrev main_while0b_v408 : Ref sig .tc := ⟨.hbm, 657, rfl⟩
abbrev main_while0b_v409 : Ref sig .tc := ⟨.hbm, 658, rfl⟩
abbrev main_while0b_c_209 : Ref sig .tc := ⟨.hbm, 659, rfl⟩
abbrev main_while0b_v410 : Ref sig .tc := ⟨.hbm, 660, rfl⟩
abbrev main_while0b_v411 : Ref sig .tc := ⟨.hbm, 661, rfl⟩
abbrev main_while0b_c_210 : Ref sig .tc := ⟨.hbm, 662, rfl⟩
abbrev main_while0b_v412 : Ref sig .tc := ⟨.hbm, 663, rfl⟩
abbrev main_while0b_v413 : Ref sig .tc := ⟨.hbm, 664, rfl⟩
abbrev main_while0b_v414 : Ref sig .tc := ⟨.hbm, 665, rfl⟩
abbrev main_while0b_c_211 : Ref sig .tc := ⟨.hbm, 666, rfl⟩
abbrev main_while0b_v415 : Ref sig .tc := ⟨.hbm, 667, rfl⟩
abbrev main_while0b_v416 : Ref sig .tc := ⟨.hbm, 668, rfl⟩
abbrev main_while0b_c_212 : Ref sig .tc := ⟨.hbm, 669, rfl⟩
abbrev main_while0b_v417 : Ref sig .tc := ⟨.hbm, 670, rfl⟩
abbrev main_while0b_v418 : Ref sig .tc := ⟨.hbm, 671, rfl⟩
abbrev main_while0b_v419 : Ref sig .tc := ⟨.hbm, 672, rfl⟩
abbrev main_while0b_v420 : Ref sig .tc := ⟨.hbm, 673, rfl⟩
abbrev main_while0b_v421 : Ref sig .tc := ⟨.hbm, 674, rfl⟩
abbrev main_while0b_v422 : Ref sig .tc := ⟨.hbm, 675, rfl⟩
abbrev main_while0b_v423 : Ref sig .tc := ⟨.hbm, 676, rfl⟩
abbrev main_while0b_v424 : Ref sig .tc := ⟨.hbm, 677, rfl⟩
abbrev main_while0b_cst_213 : Ref sig .tc := ⟨.hbm, 678, rfl⟩
abbrev main_while0b_v425 : Ref sig .tc := ⟨.hbm, 679, rfl⟩
abbrev main_while0b_v426 : Ref sig .tc := ⟨.hbm, 680, rfl⟩
abbrev main_while0b_v427 : Ref sig .tc := ⟨.hbm, 681, rfl⟩
abbrev main_while0b_v428 : Ref sig .tc := ⟨.hbm, 682, rfl⟩
abbrev main_while0b_v429 : Ref sig .tc := ⟨.hbm, 683, rfl⟩
abbrev main_while0b_v430 : Ref sig .tc := ⟨.hbm, 684, rfl⟩
abbrev main_while0b_cst_214 : Ref sig .tc := ⟨.hbm, 685, rfl⟩
abbrev main_while0b_v431 : Ref sig .tc := ⟨.hbm, 686, rfl⟩
abbrev main_while0b_c_215 : Ref sig .tc := ⟨.hbm, 687, rfl⟩
abbrev main_while0b_v432 : Ref sig .tc := ⟨.hbm, 688, rfl⟩
abbrev main_while0b_v433 : Ref sig .tc := ⟨.hbm, 689, rfl⟩
abbrev main_while0b_v434 : Ref sig .tc := ⟨.hbm, 690, rfl⟩
abbrev main_while0b_v435 : Ref sig .tc := ⟨.hbm, 691, rfl⟩
abbrev main_while0b_c_216 : Ref sig .tc := ⟨.hbm, 692, rfl⟩
abbrev main_while0b_v436 : Ref sig .tc := ⟨.hbm, 693, rfl⟩
abbrev main_while0b_v437 : Ref sig .tc := ⟨.hbm, 694, rfl⟩
abbrev main_while0b_c_217 : Ref sig .tc := ⟨.hbm, 695, rfl⟩
abbrev main_while0b_v438 : Ref sig .tc := ⟨.hbm, 696, rfl⟩
abbrev main_while0b_v439 : Ref sig .tc := ⟨.hbm, 697, rfl⟩
abbrev main_while0b_v440 : Ref sig .tc := ⟨.hbm, 698, rfl⟩
abbrev main_while0b_c_218 : Ref sig .tc := ⟨.hbm, 699, rfl⟩
abbrev main_while0b_v441 : Ref sig .tc := ⟨.hbm, 700, rfl⟩
abbrev main_while0b_v442 : Ref sig .tc := ⟨.hbm, 701, rfl⟩
abbrev main_while0b_c_219 : Ref sig .tc := ⟨.hbm, 702, rfl⟩
abbrev main_while0b_v443 : Ref sig .tc := ⟨.hbm, 703, rfl⟩
abbrev main_while0b_v444 : Ref sig .tc := ⟨.hbm, 704, rfl⟩
abbrev main_while0b_v445 : Ref sig .tc := ⟨.hbm, 705, rfl⟩
abbrev main_while0b_v446 : Ref sig .tc := ⟨.hbm, 706, rfl⟩
abbrev main_while0b_v447 : Ref sig .tc := ⟨.hbm, 707, rfl⟩
abbrev main_while0b_v448 : Ref sig .tc := ⟨.hbm, 708, rfl⟩
abbrev main_while0b_v449 : Ref sig .tc := ⟨.hbm, 709, rfl⟩
abbrev main_while0b_v450 : Ref sig .tc := ⟨.hbm, 710, rfl⟩
abbrev main_while0b_cst_220 : Ref sig .tc := ⟨.hbm, 711, rfl⟩
abbrev main_while0b_v451 : Ref sig .tc := ⟨.hbm, 712, rfl⟩
abbrev main_while0b_v452 : Ref sig .tc := ⟨.hbm, 713, rfl⟩
abbrev main_while0b_v453 : Ref sig .tc := ⟨.hbm, 714, rfl⟩
abbrev main_while0b_v454 : Ref sig .tc := ⟨.hbm, 715, rfl⟩
abbrev main_while0b_v455 : Ref sig .tc := ⟨.hbm, 716, rfl⟩
abbrev main_while0b_v456 : Ref sig .tc := ⟨.hbm, 717, rfl⟩
abbrev main_while0b_cst_221 : Ref sig .tc := ⟨.hbm, 718, rfl⟩
abbrev main_while0b_v457 : Ref sig .tc := ⟨.hbm, 719, rfl⟩
abbrev main_while0b_cst_222 : Ref sig .tc := ⟨.hbm, 720, rfl⟩
abbrev main_while0b_v458 : Ref sig .tc := ⟨.hbm, 721, rfl⟩
abbrev main_while0b_v459 : Ref sig .tc := ⟨.hbm, 722, rfl⟩
abbrev main_while0b_cst_223 : Ref sig .tc := ⟨.hbm, 723, rfl⟩
abbrev main_while0b_v460 : Ref sig .tc := ⟨.hbm, 724, rfl⟩
abbrev main_while0b_v461 : Ref sig .tc := ⟨.hbm, 725, rfl⟩
abbrev main_while0b_v462 : Ref sig .tc := ⟨.hbm, 726, rfl⟩
abbrev main_while0b_cst_224 : Ref sig .tc := ⟨.hbm, 727, rfl⟩
abbrev main_while0b_v463 : Ref sig .tc := ⟨.hbm, 728, rfl⟩
abbrev main_while0b_v464 : Ref sig .tc := ⟨.hbm, 729, rfl⟩
abbrev main_while0b_v465 : Ref sig .tc := ⟨.hbm, 730, rfl⟩
abbrev main_while0b_cst_225 : Ref sig .tc := ⟨.hbm, 731, rfl⟩
abbrev main_while0b_v466 : Ref sig .tc := ⟨.hbm, 732, rfl⟩
abbrev main_while0b_v467 : Ref sig .tc := ⟨.hbm, 733, rfl⟩
abbrev main_while0b_v468 : Ref sig .tc := ⟨.hbm, 734, rfl⟩
abbrev main_while0b_cst_226 : Ref sig .tc := ⟨.hbm, 735, rfl⟩
abbrev main_while0b_v469 : Ref sig .tc := ⟨.hbm, 736, rfl⟩
abbrev main_while0b_v470 : Ref sig .tc := ⟨.hbm, 737, rfl⟩
abbrev main_while0b_v471 : Ref sig .tc := ⟨.hbm, 738, rfl⟩
abbrev main_while0b_v472 : Ref sig .tc := ⟨.hbm, 739, rfl⟩
abbrev main_while0b_cst_227 : Ref sig .tc := ⟨.hbm, 740, rfl⟩
abbrev main_while0b_v473 : Ref sig .tc := ⟨.hbm, 741, rfl⟩
abbrev main_while0b_v474 : Ref sig .tc := ⟨.hbm, 742, rfl⟩
abbrev main_while0b_v475 : Ref sig .tc := ⟨.hbm, 743, rfl⟩
abbrev main_while0b_cst_228 : Ref sig .tc := ⟨.hbm, 744, rfl⟩
abbrev main_while0b_v476 : Ref sig .tc := ⟨.hbm, 745, rfl⟩
abbrev main_while0b_v477 : Ref sig .tc := ⟨.hbm, 746, rfl⟩
abbrev main_while0b_v478 : Ref sig .tc := ⟨.hbm, 747, rfl⟩
abbrev main_while0b_cst_229 : Ref sig .tc := ⟨.hbm, 748, rfl⟩
abbrev main_while0b_v479 : Ref sig .tc := ⟨.hbm, 749, rfl⟩
abbrev main_while0b_v480 : Ref sig .tc := ⟨.hbm, 750, rfl⟩
abbrev main_while0b_v481 : Ref sig .tc := ⟨.hbm, 751, rfl⟩
abbrev main_while0b_cst_230 : Ref sig .tc := ⟨.hbm, 752, rfl⟩
abbrev main_while0b_v482 : Ref sig .tc := ⟨.hbm, 753, rfl⟩
abbrev main_while0b_v483 : Ref sig .tc := ⟨.hbm, 754, rfl⟩
abbrev main_while0b_v484 : Ref sig .tc := ⟨.hbm, 755, rfl⟩
abbrev main_while0b_v485 : Ref sig .tc := ⟨.hbm, 756, rfl⟩
abbrev main_while0b_cst_231 : Ref sig .tc := ⟨.hbm, 757, rfl⟩
abbrev main_while0b_v486 : Ref sig .tc := ⟨.hbm, 758, rfl⟩
abbrev main_while0b_v487 : Ref sig .tc := ⟨.hbm, 759, rfl⟩
abbrev main_while0b_v488 : Ref sig .tc := ⟨.hbm, 760, rfl⟩
abbrev main_while0b_cst_232 : Ref sig .tc := ⟨.hbm, 761, rfl⟩
abbrev main_while0b_v489 : Ref sig .tc := ⟨.hbm, 762, rfl⟩
abbrev main_while0b_v490 : Ref sig .tc := ⟨.hbm, 763, rfl⟩
abbrev main_while0b_v491 : Ref sig .tc := ⟨.hbm, 764, rfl⟩
abbrev main_while0b_cst_233 : Ref sig .tc := ⟨.hbm, 765, rfl⟩
abbrev main_while0b_v492 : Ref sig .tc := ⟨.hbm, 766, rfl⟩
abbrev main_while0b_v493 : Ref sig .tc := ⟨.hbm, 767, rfl⟩
abbrev main_while0b_v494 : Ref sig .tc := ⟨.hbm, 768, rfl⟩
abbrev main_while0b_cst_234 : Ref sig .tc := ⟨.hbm, 769, rfl⟩
abbrev main_while0b_v495 : Ref sig .tc := ⟨.hbm, 770, rfl⟩
abbrev main_while0b_v496 : Ref sig .tc := ⟨.hbm, 771, rfl⟩
abbrev main_while0b_v497 : Ref sig .tc := ⟨.hbm, 772, rfl⟩
abbrev main_while0b_cst_235 : Ref sig .tc := ⟨.hbm, 773, rfl⟩
abbrev main_while0b_v498 : Ref sig .tc := ⟨.hbm, 774, rfl⟩
abbrev main_while0b_v499 : Ref sig .tc := ⟨.hbm, 775, rfl⟩
abbrev main_while0b_cst_236 : Ref sig .tc := ⟨.hbm, 776, rfl⟩
abbrev main_while0b_call13_v0 : Ref sig .tc := ⟨.hbm, 777, rfl⟩
abbrev main_while0b_call13_v1 : Ref sig .tc := ⟨.hbm, 778, rfl⟩
abbrev main_while0b_v500 : Ref sig .tc := ⟨.hbm, 779, rfl⟩
abbrev main_while0b_cst_237 : Ref sig .tc := ⟨.hbm, 780, rfl⟩
abbrev main_while0b_v501 : Ref sig .tc := ⟨.hbm, 781, rfl⟩
abbrev main_while0b_v502 : Ref sig .tc := ⟨.hbm, 782, rfl⟩
abbrev main_while0b_cst_238 : Ref sig .tc := ⟨.hbm, 783, rfl⟩
abbrev main_while0b_v503 : Ref sig .tc := ⟨.hbm, 784, rfl⟩
abbrev main_while0b_v504 : Ref sig .tc := ⟨.hbm, 785, rfl⟩
abbrev main_while0b_v505 : Ref sig .tc := ⟨.hbm, 786, rfl⟩
abbrev main_while0b_v506 : Ref sig .tc := ⟨.hbm, 787, rfl⟩
abbrev main_while0b_v507 : Ref sig .tc := ⟨.hbm, 788, rfl⟩
abbrev main_while0b_v508 : Ref sig .tc := ⟨.hbm, 789, rfl⟩
abbrev main_while0b_c_239 : Ref sig .tc := ⟨.hbm, 790, rfl⟩
abbrev main_while0b_v509 : Ref sig .tc := ⟨.hbm, 791, rfl⟩
abbrev main_while0b_v510 : Ref sig .tc := ⟨.hbm, 792, rfl⟩
abbrev main_while0b_v511 : Ref sig .tc := ⟨.hbm, 793, rfl⟩
abbrev main_while0b_v512 : Ref sig .tc := ⟨.hbm, 794, rfl⟩
abbrev main_while0b_c_240 : Ref sig .tc := ⟨.hbm, 795, rfl⟩
abbrev main_while0b_v513 : Ref sig .tc := ⟨.hbm, 796, rfl⟩
abbrev main_while0b_v514 : Ref sig .tc := ⟨.hbm, 797, rfl⟩
abbrev main_while0b_c_241 : Ref sig .tc := ⟨.hbm, 798, rfl⟩
abbrev main_while0b_v515 : Ref sig .tc := ⟨.hbm, 799, rfl⟩
abbrev main_while0b_v516 : Ref sig .tc := ⟨.hbm, 800, rfl⟩
abbrev main_while0b_v517 : Ref sig .tc := ⟨.hbm, 801, rfl⟩
abbrev main_while0b_c_242 : Ref sig .tc := ⟨.hbm, 802, rfl⟩
abbrev main_while0b_v518 : Ref sig .tc := ⟨.hbm, 803, rfl⟩
abbrev main_while0b_v519 : Ref sig .tc := ⟨.hbm, 804, rfl⟩
abbrev main_while0b_c_243 : Ref sig .tc := ⟨.hbm, 805, rfl⟩
abbrev main_while0b_v520 : Ref sig .tc := ⟨.hbm, 806, rfl⟩
abbrev main_while0b_v521 : Ref sig .tc := ⟨.hbm, 807, rfl⟩
abbrev main_while0b_v522 : Ref sig .tc := ⟨.hbm, 808, rfl⟩
abbrev main_while0b_v523 : Ref sig .tc := ⟨.hbm, 809, rfl⟩
abbrev main_while0b_v524 : Ref sig .tc := ⟨.hbm, 810, rfl⟩
abbrev main_while0b_v525 : Ref sig .tc := ⟨.hbm, 811, rfl⟩
abbrev main_while0b_v526 : Ref sig .tc := ⟨.hbm, 812, rfl⟩
abbrev main_while0b_v527 : Ref sig .tc := ⟨.hbm, 813, rfl⟩
abbrev main_while0b_cst_244 : Ref sig .tc := ⟨.hbm, 814, rfl⟩
abbrev main_while0b_v528 : Ref sig .tc := ⟨.hbm, 815, rfl⟩
abbrev main_while0b_v529 : Ref sig .tc := ⟨.hbm, 816, rfl⟩
abbrev main_while0b_v530 : Ref sig .tc := ⟨.hbm, 817, rfl⟩
abbrev main_while0b_v531 : Ref sig .tc := ⟨.hbm, 818, rfl⟩
abbrev main_while0b_v532 : Ref sig .tc := ⟨.hbm, 819, rfl⟩
abbrev main_while0b_v533 : Ref sig .tc := ⟨.hbm, 820, rfl⟩
abbrev main_while0b_cst_245 : Ref sig .tc := ⟨.hbm, 821, rfl⟩
abbrev main_while0b_v534 : Ref sig .tc := ⟨.hbm, 822, rfl⟩
abbrev main_while0b_c_246 : Ref sig .tc := ⟨.hbm, 823, rfl⟩
abbrev main_while0b_v535 : Ref sig .tc := ⟨.hbm, 824, rfl⟩
abbrev main_while0b_v536 : Ref sig .tc := ⟨.hbm, 825, rfl⟩
abbrev main_while0b_v537 : Ref sig .tc := ⟨.hbm, 826, rfl⟩
abbrev main_while0b_v538 : Ref sig .tc := ⟨.hbm, 827, rfl⟩
abbrev main_while0b_c_247 : Ref sig .tc := ⟨.hbm, 828, rfl⟩
abbrev main_while0b_v539 : Ref sig .tc := ⟨.hbm, 829, rfl⟩
abbrev main_while0b_v540 : Ref sig .tc := ⟨.hbm, 830, rfl⟩
abbrev main_while0b_c_248 : Ref sig .tc := ⟨.hbm, 831, rfl⟩
abbrev main_while0b_v541 : Ref sig .tc := ⟨.hbm, 832, rfl⟩
abbrev main_while0b_v542 : Ref sig .tc := ⟨.hbm, 833, rfl⟩
abbrev main_while0b_v543 : Ref sig .tc := ⟨.hbm, 834, rfl⟩
abbrev main_while0b_c_249 : Ref sig .tc := ⟨.hbm, 835, rfl⟩
abbrev main_while0b_v544 : Ref sig .tc := ⟨.hbm, 836, rfl⟩
abbrev main_while0b_v545 : Ref sig .tc := ⟨.hbm, 837, rfl⟩
abbrev main_while0b_c_250 : Ref sig .tc := ⟨.hbm, 838, rfl⟩
abbrev main_while0b_v546 : Ref sig .tc := ⟨.hbm, 839, rfl⟩
abbrev main_while0b_v547 : Ref sig .tc := ⟨.hbm, 840, rfl⟩
abbrev main_while0b_v548 : Ref sig .tc := ⟨.hbm, 841, rfl⟩
abbrev main_while0b_v549 : Ref sig .tc := ⟨.hbm, 842, rfl⟩
abbrev main_while0b_v550 : Ref sig .tc := ⟨.hbm, 843, rfl⟩
abbrev main_while0b_v551 : Ref sig .tc := ⟨.hbm, 844, rfl⟩
abbrev main_while0b_v552 : Ref sig .tc := ⟨.hbm, 845, rfl⟩
abbrev main_while0b_v553 : Ref sig .tc := ⟨.hbm, 846, rfl⟩
abbrev main_while0b_cst_251 : Ref sig .tc := ⟨.hbm, 847, rfl⟩
abbrev main_while0b_v554 : Ref sig .tc := ⟨.hbm, 848, rfl⟩
abbrev main_while0b_v555 : Ref sig .tc := ⟨.hbm, 849, rfl⟩
abbrev main_while0b_v556 : Ref sig .tc := ⟨.hbm, 850, rfl⟩
abbrev main_while0b_v557 : Ref sig .tc := ⟨.hbm, 851, rfl⟩
abbrev main_while0b_v558 : Ref sig .tc := ⟨.hbm, 852, rfl⟩
abbrev main_while0b_v559 : Ref sig .tc := ⟨.hbm, 853, rfl⟩
abbrev main_while0b_cst_252 : Ref sig .tc := ⟨.hbm, 854, rfl⟩
abbrev main_while0b_v560 : Ref sig .tc := ⟨.hbm, 855, rfl⟩
abbrev main_while0b_cst_253 : Ref sig .tc := ⟨.hbm, 856, rfl⟩
abbrev main_while0b_v561 : Ref sig .tc := ⟨.hbm, 857, rfl⟩
abbrev main_while0b_v562 : Ref sig .tc := ⟨.hbm, 858, rfl⟩
abbrev main_while0b_cst_254 : Ref sig .tc := ⟨.hbm, 859, rfl⟩
abbrev main_while0b_v563 : Ref sig .tc := ⟨.hbm, 860, rfl⟩
abbrev main_while0b_v564 : Ref sig .tc := ⟨.hbm, 861, rfl⟩
abbrev main_while0b_v565 : Ref sig .tc := ⟨.hbm, 862, rfl⟩
abbrev main_while0b_cst_255 : Ref sig .tc := ⟨.hbm, 863, rfl⟩
abbrev main_while0b_v566 : Ref sig .tc := ⟨.hbm, 864, rfl⟩
abbrev main_while0b_v567 : Ref sig .tc := ⟨.hbm, 865, rfl⟩
abbrev main_while0b_v568 : Ref sig .tc := ⟨.hbm, 866, rfl⟩
abbrev main_while0b_cst_256 : Ref sig .tc := ⟨.hbm, 867, rfl⟩
abbrev main_while0b_v569 : Ref sig .tc := ⟨.hbm, 868, rfl⟩
abbrev main_while0b_v570 : Ref sig .tc := ⟨.hbm, 869, rfl⟩
abbrev main_while0b_v571 : Ref sig .tc := ⟨.hbm, 870, rfl⟩
abbrev main_while0b_cst_257 : Ref sig .tc := ⟨.hbm, 871, rfl⟩
abbrev main_while0b_v572 : Ref sig .tc := ⟨.hbm, 872, rfl⟩
abbrev main_while0b_v573 : Ref sig .tc := ⟨.hbm, 873, rfl⟩
abbrev main_while0b_v574 : Ref sig .tc := ⟨.hbm, 874, rfl⟩
abbrev main_while0b_v575 : Ref sig .tc := ⟨.hbm, 875, rfl⟩
abbrev main_while0b_cst_258 : Ref sig .tc := ⟨.hbm, 876, rfl⟩
abbrev main_while0b_v576 : Ref sig .tc := ⟨.hbm, 877, rfl⟩
abbrev main_while0b_v577 : Ref sig .tc := ⟨.hbm, 878, rfl⟩
abbrev main_while0b_v578 : Ref sig .tc := ⟨.hbm, 879, rfl⟩
abbrev main_while0b_cst_259 : Ref sig .tc := ⟨.hbm, 880, rfl⟩
abbrev main_while0b_v579 : Ref sig .tc := ⟨.hbm, 881, rfl⟩
abbrev main_while0b_v580 : Ref sig .tc := ⟨.hbm, 882, rfl⟩
abbrev main_while0b_v581 : Ref sig .tc := ⟨.hbm, 883, rfl⟩
abbrev main_while0b_cst_260 : Ref sig .tc := ⟨.hbm, 884, rfl⟩
abbrev main_while0b_v582 : Ref sig .tc := ⟨.hbm, 885, rfl⟩
abbrev main_while0b_v583 : Ref sig .tc := ⟨.hbm, 886, rfl⟩
abbrev main_while0b_v584 : Ref sig .tc := ⟨.hbm, 887, rfl⟩
abbrev main_while0b_cst_261 : Ref sig .tc := ⟨.hbm, 888, rfl⟩
abbrev main_while0b_v585 : Ref sig .tc := ⟨.hbm, 889, rfl⟩
abbrev main_while0b_v586 : Ref sig .tc := ⟨.hbm, 890, rfl⟩
abbrev main_while0b_v587 : Ref sig .tc := ⟨.hbm, 891, rfl⟩
abbrev main_while0b_v588 : Ref sig .tc := ⟨.hbm, 892, rfl⟩
abbrev main_while0b_cst_262 : Ref sig .tc := ⟨.hbm, 893, rfl⟩
abbrev main_while0b_v589 : Ref sig .tc := ⟨.hbm, 894, rfl⟩
abbrev main_while0b_v590 : Ref sig .tc := ⟨.hbm, 895, rfl⟩
abbrev main_while0b_v591 : Ref sig .tc := ⟨.hbm, 896, rfl⟩
abbrev main_while0b_cst_263 : Ref sig .tc := ⟨.hbm, 897, rfl⟩
abbrev main_while0b_v592 : Ref sig .tc := ⟨.hbm, 898, rfl⟩
abbrev main_while0b_v593 : Ref sig .tc := ⟨.hbm, 899, rfl⟩
abbrev main_while0b_v594 : Ref sig .tc := ⟨.hbm, 900, rfl⟩
abbrev main_while0b_cst_264 : Ref sig .tc := ⟨.hbm, 901, rfl⟩
abbrev main_while0b_v595 : Ref sig .tc := ⟨.hbm, 902, rfl⟩
abbrev main_while0b_v596 : Ref sig .tc := ⟨.hbm, 903, rfl⟩
abbrev main_while0b_v597 : Ref sig .tc := ⟨.hbm, 904, rfl⟩
abbrev main_while0b_cst_265 : Ref sig .tc := ⟨.hbm, 905, rfl⟩
abbrev main_while0b_v598 : Ref sig .tc := ⟨.hbm, 906, rfl⟩
abbrev main_while0b_v599 : Ref sig .tc := ⟨.hbm, 907, rfl⟩
abbrev main_while0b_v600 : Ref sig .tc := ⟨.hbm, 908, rfl⟩
abbrev main_while0b_cst_266 : Ref sig .tc := ⟨.hbm, 909, rfl⟩
abbrev main_while0b_v601 : Ref sig .tc := ⟨.hbm, 910, rfl⟩
abbrev main_while0b_v602 : Ref sig .tc := ⟨.hbm, 911, rfl⟩
abbrev main_while0b_cst_267 : Ref sig .tc := ⟨.hbm, 912, rfl⟩
abbrev main_while0b_call15_v0 : Ref sig .tc := ⟨.hbm, 913, rfl⟩
abbrev main_while0b_call15_v1 : Ref sig .tc := ⟨.hbm, 914, rfl⟩
abbrev main_while0b_v603 : Ref sig .tc := ⟨.hbm, 915, rfl⟩
abbrev main_while0b_cst_268 : Ref sig .tc := ⟨.hbm, 916, rfl⟩
abbrev main_while0b_v604 : Ref sig .tc := ⟨.hbm, 917, rfl⟩
abbrev main_while0b_v605 : Ref sig .tc := ⟨.hbm, 918, rfl⟩
abbrev main_while0b_cst_269 : Ref sig .tc := ⟨.hbm, 919, rfl⟩
abbrev main_while0b_v606 : Ref sig .tc := ⟨.hbm, 920, rfl⟩
abbrev main_while0b_v607 : Ref sig .tc := ⟨.hbm, 921, rfl⟩
abbrev main_while0b_v608 : Ref sig .tc := ⟨.hbm, 922, rfl⟩
abbrev main_while0b_v609 : Ref sig .tc := ⟨.hbm, 923, rfl⟩
abbrev main_while0b_v610 : Ref sig .tc := ⟨.hbm, 924, rfl⟩
abbrev main_while0b_v611 : Ref sig .tc := ⟨.hbm, 925, rfl⟩
abbrev main_while0b_c_270 : Ref sig .tc := ⟨.hbm, 926, rfl⟩
abbrev main_while0b_v612 : Ref sig .tc := ⟨.hbm, 927, rfl⟩
abbrev main_while0b_v613 : Ref sig .tc := ⟨.hbm, 928, rfl⟩
abbrev main_while0b_v614 : Ref sig .tc := ⟨.hbm, 929, rfl⟩
abbrev main_while0b_v615 : Ref sig .tc := ⟨.hbm, 930, rfl⟩
abbrev main_while0b_c_271 : Ref sig .tc := ⟨.hbm, 931, rfl⟩
abbrev main_while0b_v616 : Ref sig .tc := ⟨.hbm, 932, rfl⟩
abbrev main_while0b_v617 : Ref sig .tc := ⟨.hbm, 933, rfl⟩
abbrev main_while0b_c_272 : Ref sig .tc := ⟨.hbm, 934, rfl⟩
abbrev main_while0b_v618 : Ref sig .tc := ⟨.hbm, 935, rfl⟩
abbrev main_while0b_v619 : Ref sig .tc := ⟨.hbm, 936, rfl⟩
abbrev main_while0b_v620 : Ref sig .tc := ⟨.hbm, 937, rfl⟩
abbrev main_while0b_c_273 : Ref sig .tc := ⟨.hbm, 938, rfl⟩
abbrev main_while0b_v621 : Ref sig .tc := ⟨.hbm, 939, rfl⟩
abbrev main_while0b_v622 : Ref sig .tc := ⟨.hbm, 940, rfl⟩
abbrev main_while0b_c_274 : Ref sig .tc := ⟨.hbm, 941, rfl⟩
abbrev main_while0b_v623 : Ref sig .tc := ⟨.hbm, 942, rfl⟩
abbrev main_while0b_v624 : Ref sig .tc := ⟨.hbm, 943, rfl⟩
abbrev main_while0b_v625 : Ref sig .tc := ⟨.hbm, 944, rfl⟩
abbrev main_while0b_v626 : Ref sig .tc := ⟨.hbm, 945, rfl⟩
abbrev main_while0b_v627 : Ref sig .tc := ⟨.hbm, 946, rfl⟩
abbrev main_while0b_v628 : Ref sig .tc := ⟨.hbm, 947, rfl⟩
abbrev main_while0b_v629 : Ref sig .tc := ⟨.hbm, 948, rfl⟩
abbrev main_while0b_v630 : Ref sig .tc := ⟨.hbm, 949, rfl⟩
abbrev main_while0b_cst_275 : Ref sig .tc := ⟨.hbm, 950, rfl⟩
abbrev main_while0b_v631 : Ref sig .tc := ⟨.hbm, 951, rfl⟩
abbrev main_while0b_v632 : Ref sig .tc := ⟨.hbm, 952, rfl⟩
abbrev main_while0b_v633 : Ref sig .tc := ⟨.hbm, 953, rfl⟩
abbrev main_while0b_v634 : Ref sig .tc := ⟨.hbm, 954, rfl⟩
abbrev main_while0b_v635 : Ref sig .tc := ⟨.hbm, 955, rfl⟩
abbrev main_while0b_v636 : Ref sig .tc := ⟨.hbm, 956, rfl⟩
abbrev main_while0b_cst_276 : Ref sig .tc := ⟨.hbm, 957, rfl⟩
abbrev main_while0b_v637 : Ref sig .tc := ⟨.hbm, 958, rfl⟩
abbrev main_while0b_c_277 : Ref sig .tc := ⟨.hbm, 959, rfl⟩
abbrev main_while0b_v638 : Ref sig .tc := ⟨.hbm, 960, rfl⟩
abbrev main_while0b_v639 : Ref sig .tc := ⟨.hbm, 961, rfl⟩
abbrev main_while0b_v640 : Ref sig .tc := ⟨.hbm, 962, rfl⟩
abbrev main_while0b_v641 : Ref sig .tc := ⟨.hbm, 963, rfl⟩
abbrev main_while0b_c_278 : Ref sig .tc := ⟨.hbm, 964, rfl⟩
abbrev main_while0b_v642 : Ref sig .tc := ⟨.hbm, 965, rfl⟩
abbrev main_while0b_v643 : Ref sig .tc := ⟨.hbm, 966, rfl⟩
abbrev main_while0b_c_279 : Ref sig .tc := ⟨.hbm, 967, rfl⟩
abbrev main_while0b_v644 : Ref sig .tc := ⟨.hbm, 968, rfl⟩
abbrev main_while0b_v645 : Ref sig .tc := ⟨.hbm, 969, rfl⟩
abbrev main_while0b_v646 : Ref sig .tc := ⟨.hbm, 970, rfl⟩
abbrev main_while0b_c_280 : Ref sig .tc := ⟨.hbm, 971, rfl⟩
abbrev main_while0b_v647 : Ref sig .tc := ⟨.hbm, 972, rfl⟩
abbrev main_while0b_v648 : Ref sig .tc := ⟨.hbm, 973, rfl⟩
abbrev main_while0b_c_281 : Ref sig .tc := ⟨.hbm, 974, rfl⟩
abbrev main_while0b_v649 : Ref sig .tc := ⟨.hbm, 975, rfl⟩
abbrev main_while0b_v650 : Ref sig .tc := ⟨.hbm, 976, rfl⟩
abbrev main_while0b_v651 : Ref sig .tc := ⟨.hbm, 977, rfl⟩
abbrev main_while0b_v652 : Ref sig .tc := ⟨.hbm, 978, rfl⟩
abbrev main_while0b_v653 : Ref sig .tc := ⟨.hbm, 979, rfl⟩
abbrev main_while0b_v654 : Ref sig .tc := ⟨.hbm, 980, rfl⟩
abbrev main_while0b_v655 : Ref sig .tc := ⟨.hbm, 981, rfl⟩
abbrev main_while0b_v656 : Ref sig .tc := ⟨.hbm, 982, rfl⟩
abbrev main_while0b_cst_282 : Ref sig .tc := ⟨.hbm, 983, rfl⟩
abbrev main_while0b_v657 : Ref sig .tc := ⟨.hbm, 984, rfl⟩
abbrev main_while0b_v658 : Ref sig .tc := ⟨.hbm, 985, rfl⟩
abbrev main_while0b_v659 : Ref sig .tc := ⟨.hbm, 986, rfl⟩
abbrev main_while0b_v660 : Ref sig .tc := ⟨.hbm, 987, rfl⟩
abbrev main_while0b_v661 : Ref sig .tc := ⟨.hbm, 988, rfl⟩
abbrev main_while0b_v662 : Ref sig .tc := ⟨.hbm, 989, rfl⟩
abbrev main_while0b_cst_283 : Ref sig .tc := ⟨.hbm, 990, rfl⟩
abbrev main_while0b_v663 : Ref sig .tc := ⟨.hbm, 991, rfl⟩
abbrev main_while0b_c_284 : Ref sig .tc := ⟨.hbm, 992, rfl⟩
abbrev main_while0b_v664 : Ref sig .tc := ⟨.hbm, 993, rfl⟩
abbrev main_while0b_v665 : Ref sig .tc := ⟨.hbm, 994, rfl⟩
abbrev main_while0b_v666 : Ref sig .tc := ⟨.hbm, 995, rfl⟩
abbrev main_while0b_v667 : Ref sig .tc := ⟨.hbm, 996, rfl⟩
abbrev main_while0b_c_285 : Ref sig .tc := ⟨.hbm, 997, rfl⟩
abbrev main_while0b_v668 : Ref sig .tc := ⟨.hbm, 998, rfl⟩
abbrev main_while0b_v669 : Ref sig .tc := ⟨.hbm, 999, rfl⟩
abbrev main_while0b_c_286 : Ref sig .tc := ⟨.hbm, 1000, rfl⟩
abbrev main_while0b_v670 : Ref sig .tc := ⟨.hbm, 1001, rfl⟩
abbrev main_while0b_v671 : Ref sig .tc := ⟨.hbm, 1002, rfl⟩
abbrev main_while0b_v672 : Ref sig .tc := ⟨.hbm, 1003, rfl⟩
abbrev main_while0b_c_287 : Ref sig .tc := ⟨.hbm, 1004, rfl⟩
abbrev main_while0b_v673 : Ref sig .tc := ⟨.hbm, 1005, rfl⟩
abbrev main_while0b_v674 : Ref sig .tc := ⟨.hbm, 1006, rfl⟩
abbrev main_while0b_c_288 : Ref sig .tc := ⟨.hbm, 1007, rfl⟩
abbrev main_while0b_v675 : Ref sig .tc := ⟨.hbm, 1008, rfl⟩
abbrev main_while0b_v676 : Ref sig .tc := ⟨.hbm, 1009, rfl⟩
abbrev main_while0b_v677 : Ref sig .tc := ⟨.hbm, 1010, rfl⟩
abbrev main_while0b_v678 : Ref sig .tc := ⟨.hbm, 1011, rfl⟩
abbrev main_while0b_v679 : Ref sig .tc := ⟨.hbm, 1012, rfl⟩
abbrev main_while0b_v680 : Ref sig .tc := ⟨.hbm, 1013, rfl⟩
abbrev main_while0b_v681 : Ref sig .tc := ⟨.hbm, 1014, rfl⟩
abbrev main_while0b_v682 : Ref sig .tc := ⟨.hbm, 1015, rfl⟩
abbrev main_while0b_cst_289 : Ref sig .tc := ⟨.hbm, 1016, rfl⟩
abbrev main_while0b_v683 : Ref sig .tc := ⟨.hbm, 1017, rfl⟩
abbrev main_while0b_v684 : Ref sig .tc := ⟨.hbm, 1018, rfl⟩
abbrev main_while0b_v685 : Ref sig .tc := ⟨.hbm, 1019, rfl⟩
abbrev main_while0b_v686 : Ref sig .tc := ⟨.hbm, 1020, rfl⟩
abbrev main_while0b_v687 : Ref sig .tc := ⟨.hbm, 1021, rfl⟩
abbrev main_while0b_v688 : Ref sig .tc := ⟨.hbm, 1022, rfl⟩
abbrev main_while0b_cst_290 : Ref sig .tc := ⟨.hbm, 1023, rfl⟩
abbrev main_while0b_v689 : Ref sig .tc := ⟨.hbm, 1024, rfl⟩
abbrev main_while0b_cst_291 : Ref sig .tc := ⟨.hbm, 1025, rfl⟩
abbrev main_while0b_v690 : Ref sig .tc := ⟨.hbm, 1026, rfl⟩
abbrev main_while0b_v691 : Ref sig .tc := ⟨.hbm, 1027, rfl⟩
abbrev main_while0b_cst_292 : Ref sig .tc := ⟨.hbm, 1028, rfl⟩
abbrev main_while0b_v692 : Ref sig .tc := ⟨.hbm, 1029, rfl⟩
abbrev main_while0b_v693 : Ref sig .tc := ⟨.hbm, 1030, rfl⟩
abbrev main_while0b_v694 : Ref sig .tc := ⟨.hbm, 1031, rfl⟩
abbrev main_while0b_cst_293 : Ref sig .tc := ⟨.hbm, 1032, rfl⟩
abbrev main_while0b_v695 : Ref sig .tc := ⟨.hbm, 1033, rfl⟩
abbrev main_while0b_v696 : Ref sig .tc := ⟨.hbm, 1034, rfl⟩
abbrev main_while0b_v697 : Ref sig .tc := ⟨.hbm, 1035, rfl⟩
abbrev main_while0b_cst_294 : Ref sig .tc := ⟨.hbm, 1036, rfl⟩
abbrev main_while0b_v698 : Ref sig .tc := ⟨.hbm, 1037, rfl⟩
abbrev main_while0b_v699 : Ref sig .tc := ⟨.hbm, 1038, rfl⟩
abbrev main_while0b_v700 : Ref sig .tc := ⟨.hbm, 1039, rfl⟩
abbrev main_while0b_cst_295 : Ref sig .tc := ⟨.hbm, 1040, rfl⟩
abbrev main_while0b_v701 : Ref sig .tc := ⟨.hbm, 1041, rfl⟩
abbrev main_while0b_v702 : Ref sig .tc := ⟨.hbm, 1042, rfl⟩
abbrev main_while0b_v703 : Ref sig .tc := ⟨.hbm, 1043, rfl⟩
abbrev main_while0b_cst_296 : Ref sig .tc := ⟨.hbm, 1044, rfl⟩
abbrev main_while0b_v704 : Ref sig .tc := ⟨.hbm, 1045, rfl⟩
abbrev main_while0b_v705 : Ref sig .tc := ⟨.hbm, 1046, rfl⟩
abbrev main_while0b_v706 : Ref sig .tc := ⟨.hbm, 1047, rfl⟩
abbrev main_while0b_v707 : Ref sig .tc := ⟨.hbm, 1048, rfl⟩
abbrev main_while0b_cst_297 : Ref sig .tc := ⟨.hbm, 1049, rfl⟩
abbrev main_while0b_v708 : Ref sig .tc := ⟨.hbm, 1050, rfl⟩
abbrev main_while0b_v709 : Ref sig .tc := ⟨.hbm, 1051, rfl⟩
abbrev main_while0b_v710 : Ref sig .tc := ⟨.hbm, 1052, rfl⟩
abbrev main_while0b_cst_298 : Ref sig .tc := ⟨.hbm, 1053, rfl⟩
abbrev main_while0b_v711 : Ref sig .tc := ⟨.hbm, 1054, rfl⟩
abbrev main_while0b_v712 : Ref sig .tc := ⟨.hbm, 1055, rfl⟩
abbrev main_while0b_v713 : Ref sig .tc := ⟨.hbm, 1056, rfl⟩
abbrev main_while0b_cst_299 : Ref sig .tc := ⟨.hbm, 1057, rfl⟩
abbrev main_while0b_v714 : Ref sig .tc := ⟨.hbm, 1058, rfl⟩
abbrev main_while0b_v715 : Ref sig .tc := ⟨.hbm, 1059, rfl⟩
abbrev main_while0b_v716 : Ref sig .tc := ⟨.hbm, 1060, rfl⟩
abbrev main_while0b_cst_300 : Ref sig .tc := ⟨.hbm, 1061, rfl⟩
abbrev main_while0b_v717 : Ref sig .tc := ⟨.hbm, 1062, rfl⟩
abbrev main_while0b_v718 : Ref sig .tc := ⟨.hbm, 1063, rfl⟩
abbrev main_while0b_v719 : Ref sig .tc := ⟨.hbm, 1064, rfl⟩
abbrev main_while0b_v720 : Ref sig .tc := ⟨.hbm, 1065, rfl⟩
abbrev main_while0b_cst_301 : Ref sig .tc := ⟨.hbm, 1066, rfl⟩
abbrev main_while0b_v721 : Ref sig .tc := ⟨.hbm, 1067, rfl⟩
abbrev main_while0b_v722 : Ref sig .tc := ⟨.hbm, 1068, rfl⟩
abbrev main_while0b_v723 : Ref sig .tc := ⟨.hbm, 1069, rfl⟩
abbrev main_while0b_cst_302 : Ref sig .tc := ⟨.hbm, 1070, rfl⟩
abbrev main_while0b_v724 : Ref sig .tc := ⟨.hbm, 1071, rfl⟩
abbrev main_while0b_v725 : Ref sig .tc := ⟨.hbm, 1072, rfl⟩
abbrev main_while0b_v726 : Ref sig .tc := ⟨.hbm, 1073, rfl⟩
abbrev main_while0b_cst_303 : Ref sig .tc := ⟨.hbm, 1074, rfl⟩
abbrev main_while0b_v727 : Ref sig .tc := ⟨.hbm, 1075, rfl⟩
abbrev main_while0b_v728 : Ref sig .tc := ⟨.hbm, 1076, rfl⟩
abbrev main_while0b_v729 : Ref sig .tc := ⟨.hbm, 1077, rfl⟩
abbrev main_while0b_cst_304 : Ref sig .tc := ⟨.hbm, 1078, rfl⟩
abbrev main_while0b_v730 : Ref sig .tc := ⟨.hbm, 1079, rfl⟩
abbrev main_while0b_v731 : Ref sig .tc := ⟨.hbm, 1080, rfl⟩
abbrev main_while0b_v732 : Ref sig .tc := ⟨.hbm, 1081, rfl⟩
abbrev main_while0b_cst_305 : Ref sig .tc := ⟨.hbm, 1082, rfl⟩
abbrev main_while0b_v733 : Ref sig .tc := ⟨.hbm, 1083, rfl⟩
abbrev main_while0b_v734 : Ref sig .tc := ⟨.hbm, 1084, rfl⟩
abbrev main_while0b_cst_306 : Ref sig .tc := ⟨.hbm, 1085, rfl⟩
abbrev main_while0b_call17_v0 : Ref sig .tc := ⟨.hbm, 1086, rfl⟩
abbrev main_while0b_call17_v1 : Ref sig .tc := ⟨.hbm, 1087, rfl⟩
abbrev main_while0b_v735 : Ref sig .tc := ⟨.hbm, 1088, rfl⟩
abbrev main_while0b_cst_307 : Ref sig .tc := ⟨.hbm, 1089, rfl⟩
abbrev main_while0b_v736 : Ref sig .tc := ⟨.hbm, 1090, rfl⟩
abbrev main_while0b_v737 : Ref sig .tc := ⟨.hbm, 1091, rfl⟩
abbrev main_while0b_cst_308 : Ref sig .tc := ⟨.hbm, 1092, rfl⟩
abbrev main_while0b_v738 : Ref sig .tc := ⟨.hbm, 1093, rfl⟩
abbrev main_while0b_v739 : Ref sig .tc := ⟨.hbm, 1094, rfl⟩
abbrev main_while0b_v740 : Ref sig .tc := ⟨.hbm, 1095, rfl⟩
abbrev main_while0b_v741 : Ref sig .tc := ⟨.hbm, 1096, rfl⟩
abbrev main_while0b_v742 : Ref sig .tc := ⟨.hbm, 1097, rfl⟩
abbrev main_while0b_v743 : Ref sig .tc := ⟨.hbm, 1098, rfl⟩
abbrev main_while0b_v744 : Ref sig .tc := ⟨.hbm, 1099, rfl⟩
abbrev main_while0b_call19_v0 : Ref sig .tc := ⟨.hbm, 1100, rfl⟩
abbrev main_while0b_call19_c : Ref sig .tc := ⟨.hbm, 1101, rfl⟩
abbrev main_while0b_v745 : Ref sig .tc := ⟨.hbm, 1102, rfl⟩
abbrev main_while0b_c_309 : Ref sig .tc := ⟨.hbm, 1103, rfl⟩
abbrev main_while0b_v746 : Ref sig .tc := ⟨.hbm, 1104, rfl⟩
abbrev main_v51 : Ref sig .tc := ⟨.hbm, 1105, rfl⟩

abbrev nD : Nat := 1
abbrev τ : Topo := Topo.v7x

variable {F : FTy → Type} [FloatOps F]

abbrev main_while0_count : Scf.Loop 32 := ⟨0#32, 119#32, 1#32⟩
-- ==== Proof.KernelIdeal.Run.lean ====
module

public import proofs.«01_k».proof.Proof.Gen.KernelIdeal.Loops
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The kernel body run once

The body is run from its input blocks `x0 … x23` and from the contents `g25 … g38` its scratch buffers happen to
hold; the pieces it leaves in the output's block are the witness. The scratch contents are parameters because the
layers read back rows no store of theirs has filled (the padding of the last block of time steps). -/

set_option maxHeartbeats 4000000 in
/-- The pieces the body stores into its output block, and that it runs to a continuation holding them. -/
noncomputable def bodyRun (c : Dev nD)
    (arg0 : Memref sig .tc .vmem S512x120 .f32) (harg0 : arg0.IsWhole) (arg1 : Memref sig .tc .vmem S119x119 .f32) (harg1 : arg1.IsWhole)
    (arg2 : Memref sig .tc .vmem S119x119 .f32) (harg2 : arg2.IsWhole) (arg3 : Memref sig .tc .vmem S120x1 .f32) (harg3 : arg3.IsWhole)
    (arg4 : Memref sig .tc .vmem S512x512 .f32) (harg4 : arg4.IsWhole) (arg5 : Memref sig .tc .vmem S512x512 .f32) (harg5 : arg5.IsWhole)
    (arg6 : Memref sig .tc .vmem S128x512 .f32) (harg6 : arg6.IsWhole) (arg7 : Memref sig .tc .vmem S128x512 .f32) (harg7 : arg7.IsWhole)
    (arg8 : Memref sig .tc .vmem S128x128 .f32) (harg8 : arg8.IsWhole) (arg9 : Memref sig .tc .vmem S128x512 .f32) (harg9 : arg9.IsWhole)
    (arg10 : Memref sig .tc .vmem S128x512 .f32) (harg10 : arg10.IsWhole) (arg11 : Memref sig .tc .vmem S128x128 .f32) (harg11 : arg11.IsWhole)
    (arg12 : Memref sig .tc .vmem S64x128 .f32) (harg12 : arg12.IsWhole) (arg13 : Memref sig .tc .vmem S64x128 .f32) (harg13 : arg13.IsWhole)
    (arg14 : Memref sig .tc .vmem S64x128 .f32) (harg14 : arg14.IsWhole) (arg15 : Memref sig .tc .vmem S64x128 .f32) (harg15 : arg15.IsWhole)
    (arg16 : Memref sig .tc .vmem S64x64 .f32) (harg16 : arg16.IsWhole) (arg17 : Memref sig .tc .vmem S128x512 .i32) (harg17 : arg17.IsWhole)
    (arg18 : Memref sig .tc .vmem S128x128 .i32) (harg18 : arg18.IsWhole) (arg19 : Memref sig .tc .vmem S128x512 .i32) (harg19 : arg19.IsWhole)
    (arg20 : Memref sig .tc .vmem S128x128 .i32) (harg20 : arg20.IsWhole) (arg21 : Memref sig .tc .vmem S64x128 .i32) (harg21 : arg21.IsWhole)
    (arg22 : Memref sig .tc .vmem S64x128 .i32) (harg22 : arg22.IsWhole) (arg23 : Memref sig .tc .vmem S64x64 .i32) (harg23 : arg23.IsWhole)
    (arg24 : Memref sig .tc .vmem S1664x119 .f32) (harg24 : arg24.IsWhole) (arg25 : Memref sig .tc .vmem S576x128 .f32) (harg25 : arg25.IsWhole)
    (arg26 : Memref sig .tc .vmem S576x128 .f32) (harg26 : arg26.IsWhole) (arg27 : Memref sig .tc .vmem S288x128 .f32) (harg27 : arg27.IsWhole)
    (arg28 : Memref sig .tc .vmem S288x128 .f32) (harg28 : arg28.IsWhole) (arg29 : Memref sig .tc .vmem S144x64 .f32) (harg29 : arg29.IsWhole)
    (arg30 : Memref sig .tc .vmem S144x64 .f32) (harg30 : arg30.IsWhole) (arg31 : Memref sig .tc .vmem S144x512 .f32) (harg31 : arg31.IsWhole)
    (arg32 : Memref sig .tc .vmem S144x512 .f32) (harg32 : arg32.IsWhole) (arg33 : Memref sig .tc .vmem S144x256 .f32) (harg33 : arg33.IsWhole)
    (arg34 : Memref sig .tc .vmem S144x256 .f32) (harg34 : arg34.IsWhole) (arg35 : Memref sig .tc .vmem S480x128 .f32) (harg35 : arg35.IsWhole)
    (arg36 : Memref sig .tc .vmem S480x128 .f32) (harg36 : arg36.IsWhole) (arg37 : Memref sig .tc .vmem S240x128 .f32) (harg37 : arg37.IsWhole)
    (arg38 : Memref sig .tc .vmem S240x128 .f32) (harg38 : arg38.IsWhole)
    (x0 : Vec F S512x120 .f32) (x1 : Vec F S119x119 .f32) (x2 : Vec F S119x119 .f32) (x3 : Vec F S120x1 .f32) (x4 : Vec F S512x512 .f32) (x5 : Vec F S512x512 .f32)
    (x6 : Vec F S128x512 .f32) (x7 : Vec F S128x512 .f32) (x8 : Vec F S128x128 .f32) (x9 : Vec F S128x512 .f32) (x10 : Vec F S128x512 .f32) (x11 : Vec F S128x128 .f32)
    (x12 : Vec F S64x128 .f32) (x13 : Vec F S64x128 .f32) (x14 : Vec F S64x128 .f32) (x15 : Vec F S64x128 .f32) (x16 : Vec F S64x64 .f32) (x17 : Vec F S128x512 .i32)
    (x18 : Vec F S128x128 .i32) (x19 : Vec F S128x512 .i32) (x20 : Vec F S128x128 .i32) (x21 : Vec F S64x128 .i32) (x22 : Vec F S64x128 .i32) (x23 : Vec F S64x64 .i32)
    (g25 : Vec F S576x128 .f32) (g26 : Vec F S576x128 .f32) (g27 : Vec F S288x128 .f32) (g28 : Vec F S288x128 .f32) (g29 : Vec F S144x64 .f32) (g30 : Vec F S144x64 .f32)
    (g31 : Vec F S144x512 .f32) (g32 : Vec F S144x512 .f32) (g33 : Vec F S144x256 .f32) (g34 : Vec F S144x256 .f32) (g35 : Vec F S480x128 .f32) (g36 : Vec F S480x128 .f32)
    (g37 : Vec F S240x128 .f32) (g38 : Vec F S240x128 .f32) :
    { L24 : List (View.Piece (Elt F) S1664x119 .f32) //
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗
        owns (c : Thread nD τ) arg4 fullShare x4 ∗ owns (c : Thread nD τ) arg5 fullShare x5 ∗ owns (c : Thread nD τ) arg6 fullShare x6 ∗ owns (c : Thread nD τ) arg7 fullShare x7 ∗
        owns (c : Thread nD τ) arg8 fullShare x8 ∗ owns (c : Thread nD τ) arg9 fullShare x9 ∗ owns (c : Thread nD τ) arg10 fullShare x10 ∗ owns (c : Thread nD τ) arg11 fullShare x11 ∗
        owns (c : Thread nD τ) arg12 fullShare x12 ∗ owns (c : Thread nD τ) arg13 fullShare x13 ∗ owns (c : Thread nD τ) arg14 fullShare x14 ∗ owns (c : Thread nD τ) arg15 fullShare x15 ∗
        owns (c : Thread nD τ) arg16 fullShare x16 ∗ owns (c : Thread nD τ) arg17 fullShare x17 ∗ owns (c : Thread nD τ) arg18 fullShare x18 ∗ owns (c : Thread nD τ) arg19 fullShare x19 ∗
        owns (c : Thread nD τ) arg20 fullShare x20 ∗ owns (c : Thread nD τ) arg21 fullShare x21 ∗ owns (c : Thread nD τ) arg22 fullShare x22 ∗ owns (c : Thread nD τ) arg23 fullShare x23 ∗
        (∃ d, owns (c : Thread nD τ) arg24 fullShare d) ∗ owns (c : Thread nD τ) arg25 fullShare g25 ∗ owns (c : Thread nD τ) arg26 fullShare g26 ∗
        owns (c : Thread nD τ) arg27 fullShare g27 ∗ owns (c : Thread nD τ) arg28 fullShare g28 ∗ owns (c : Thread nD τ) arg29 fullShare g29 ∗ owns (c : Thread nD τ) arg30 fullShare g30 ∗
        owns (c : Thread nD τ) arg31 fullShare g31 ∗ owns (c : Thread nD τ) arg32 fullShare g32 ∗ owns (c : Thread nD τ) arg33 fullShare g33 ∗ owns (c : Thread nD τ) arg34 fullShare g34 ∗
        owns (c : Thread nD τ) arg35 fullShare g35 ∗ owns (c : Thread nD τ) arg36 fullShare g36 ∗ owns (c : Thread nD τ) arg37 fullShare g37 ∗ owns (c : Thread nD τ) arg38 fullShare g38 ∗
        (iprop(owns (c : Thread nD τ) arg0 fullShare x0 ∗ owns (c : Thread nD τ) arg1 fullShare x1 ∗ owns (c : Thread nD τ) arg2 fullShare x2 ∗ owns (c : Thread nD τ) arg3 fullShare x3 ∗
        owns (c : Thread nD τ) arg4 fullShare x4 ∗ owns (c : Thread nD τ) arg5 fullShare x5 ∗ owns (c : Thread nD τ) arg6 fullShare x6 ∗ owns (c : Thread nD τ) arg7 fullShare x7 ∗
        owns (c : Thread nD τ) arg8 fullShare x8 ∗ owns (c : Thread nD τ) arg9 fullShare x9 ∗ owns (c : Thread nD τ) arg10 fullShare x10 ∗ owns (c : Thread nD τ) arg11 fullShare x11 ∗
        owns (c : Thread nD τ) arg12 fullShare x12 ∗ owns (c : Thread nD τ) arg13 fullShare x13 ∗ owns (c : Thread nD τ) arg14 fullShare x14 ∗ owns (c : Thread nD τ) arg15 fullShare x15 ∗
        owns (c : Thread nD τ) arg16 fullShare x16 ∗ owns (c : Thread nD τ) arg17 fullShare x17 ∗ owns (c : Thread nD τ) arg18 fullShare x18 ∗ owns (c : Thread nD τ) arg19 fullShare x19 ∗
        owns (c : Thread nD τ) arg20 fullShare x20 ∗ owns (c : Thread nD τ) arg21 fullShare x21 ∗ owns (c : Thread nD τ) arg22 fullShare x22 ∗ owns (c : Thread nD τ) arg23 fullShare x23 ∗
        (∃ f, arg24.view.loc (c : Thread nD τ) ↦[arg24.view.set]{fullShare} arg24.view.writes (Elt F) f L24) ∗ (∃ d, owns (c : Thread nD τ) arg25 fullShare d) ∗
        (∃ d, owns (c : Thread nD τ) arg26 fullShare d) ∗ (∃ d, owns (c : Thread nD τ) arg27 fullShare d) ∗ (∃ d, owns (c : Thread nD τ) arg28 fullShare d) ∗
        (∃ d, owns (c : Thread nD τ) arg29 fullShare d) ∗ (∃ d, owns (c : Thread nD τ) arg30 fullShare d) ∗ (∃ d, owns (c : Thread nD τ) arg31 fullShare d) ∗
        (∃ d, owns (c : Thread nD τ) arg32 fullShare d) ∗ (∃ d, owns (c : Thread nD τ) arg33 fullShare d) ∗ (∃ d, owns (c : Thread nD τ) arg34 fullShare d) ∗
        (∃ d, owns (c : Thread nD τ) arg35 fullShare d) ∗ (∃ d, owns (c : Thread nD τ) arg36 fullShare d) ∗ (∃ d, owns (c : Thread nD τ) arg37 fullShare d) ∗
        (∃ d, owns (c : Thread nD τ) arg38 fullShare d)) -∗ K ⟨⟩))
          ⊢ wp frame (wpE (defs₀ (F := F)) Variants.none c none) E (cc0__snn_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38) K } := by
  refine ⟨?_, fun E K => ?run⟩
  case run =>
    simp only [cc0__snn_body_eq_skeleton]; unfold cc0__snn_body_skel
    simp only [k0_part50_eq_skeleton, k0_part51_eq_skeleton, k0_part52_eq_skeleton, k0_part53_eq_skeleton, k0_part54_eq_skeleton, k0_part55_eq_skeleton, k0_part56_eq_skeleton,
      k0_part57_eq_skeleton, k0_part58_eq_skeleton, k0_part59_eq_skeleton, k0_part60_eq_skeleton, k0_part61_eq_skeleton, k0_part62_eq_skeleton, k0_part63_eq_skeleton,
      k0_part64_eq_skeleton, k0_part65_eq_skeleton, k0_part66_eq_skeleton, k0_part67_eq_skeleton, k0_part68_eq_skeleton, k0_part69_eq_skeleton, k0_part70_eq_skeleton,
      k0_part71_eq_skeleton, k0_part72_eq_skeleton, k0_part73_eq_skeleton, k0_part74_eq_skeleton, k0_part75_eq_skeleton, k0_part76_eq_skeleton, k0_part77_eq_skeleton,
      k0_part78_eq_skeleton, k0_part79_eq_skeleton, k0_part80_eq_skeleton, k0_part81_eq_skeleton, k0_part82_eq_skeleton, k0_part83_eq_skeleton, k0_part84_eq_skeleton,
      k0_part85_eq_skeleton, k0_part86_eq_skeleton, k0_part87_eq_skeleton, k0_part88_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%d24, %f24, -, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩, ⟨%f36, %hf36, H36⟩, ⟨%f37, %hf37, H37⟩, ⟨%f38, %hf38, H38⟩, Hk⟩
    obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23; obtain rfl := harg25.eq_unread hf25; obtain rfl := harg26.eq_unread hf26; obtain rfl := harg27.eq_unread hf27; obtain rfl := harg28.eq_unread hf28; obtain rfl := harg29.eq_unread hf29; obtain rfl := harg30.eq_unread hf30; obtain rfl := harg31.eq_unread hf31; obtain rfl := harg32.eq_unread hf32; obtain rfl := harg33.eq_unread hf33; obtain rfl := harg34.eq_unread hf34; obtain rfl := harg35.eq_unread hf35; obtain rfl := harg36.eq_unread hf36; obtain rfl := harg37.eq_unread hf37; obtain rfl := harg38.eq_unread hf38
    sl_exec
    sl_step
    iapply Hk
    isplitl [H0]; · iexists _; isplitr; (ipureintro; exact harg0.read_unread _); iexact H0
    isplitl [H1]; · iexists _; isplitr; (ipureintro; exact harg1.read_unread _); iexact H1
    isplitl [H2]; · iexists _; isplitr; (ipureintro; exact harg2.read_unread _); iexact H2
    isplitl [H3]; · iexists _; isplitr; (ipureintro; exact harg3.read_unread _); iexact H3
    isplitl [H4]; · iexists _; isplitr; (ipureintro; exact harg4.read_unread _); iexact H4
    isplitl [H5]; · iexists _; isplitr; (ipureintro; exact harg5.read_unread _); iexact H5
    isplitl [H6]; · iexists _; isplitr; (ipureintro; exact harg6.read_unread _); iexact H6
    isplitl [H7]; · iexists _; isplitr; (ipureintro; exact harg7.read_unread _); iexact H7
    isplitl [H8]; · iexists _; isplitr; (ipureintro; exact harg8.read_unread _); iexact H8
    isplitl [H9]; · iexists _; isplitr; (ipureintro; exact harg9.read_unread _); iexact H9
    isplitl [H10]; · iexists _; isplitr; (ipureintro; exact harg10.read_unread _); iexact H10
    isplitl [H11]; · iexists _; isplitr; (ipureintro; exact harg11.read_unread _); iexact H11
    isplitl [H12]; · iexists _; isplitr; (ipureintro; exact harg12.read_unread _); iexact H12
    isplitl [H13]; · iexists _; isplitr; (ipureintro; exact harg13.read_unread _); iexact H13
    isplitl [H14]; · iexists _; isplitr; (ipureintro; exact harg14.read_unread _); iexact H14
    isplitl [H15]; · iexists _; isplitr; (ipureintro; exact harg15.read_unread _); iexact H15
    isplitl [H16]; · iexists _; isplitr; (ipureintro; exact harg16.read_unread _); iexact H16
    isplitl [H17]; · iexists _; isplitr; (ipureintro; exact harg17.read_unread _); iexact H17
    isplitl [H18]; · iexists _; isplitr; (ipureintro; exact harg18.read_unread _); iexact H18
    isplitl [H19]; · iexists _; isplitr; (ipureintro; exact harg19.read_unread _); iexact H19
    isplitl [H20]; · iexists _; isplitr; (ipureintro; exact harg20.read_unread _); iexact H20
    isplitl [H21]; · iexists _; isplitr; (ipureintro; exact harg21.read_unread _); iexact H21
    isplitl [H22]; · iexists _; isplitr; (ipureintro; exact harg22.read_unread _); iexact H22
    isplitl [H23]; · iexists _; isplitr; (ipureintro; exact harg23.read_unread _); iexact H23
    isplitl [H24]; · iexists _; iexact H24
    isplitl [H25]; · (iexists _, _; isplitr; swap; iexact H25; ipureintro; rfl)
    isplitl [H26]; · (iexists _, _; isplitr; swap; iexact H26; ipureintro; rfl)
    isplitl [H27]; · (iexists _, _; isplitr; swap; iexact H27; ipureintro; rfl)
    isplitl [H28]; · (iexists _, _; isplitr; swap; iexact H28; ipureintro; rfl)
    isplitl [H29]; · (iexists _, _; isplitr; swap; iexact H29; ipureintro; rfl)
    isplitl [H30]; · (iexists _, _; isplitr; swap; iexact H30; ipureintro; rfl)
    isplitl [H31]; · (iexists _, _; isplitr; swap; iexact H31; ipureintro; rfl)
    isplitl [H32]; · (iexists _, _; isplitr; swap; iexact H32; ipureintro; rfl)
    isplitl [H33]; · (iexists _, _; isplitr; swap; iexact H33; ipureintro; rfl)
    isplitl [H34]; · (iexists _, _; isplitr; swap; iexact H34; ipureintro; rfl)
    isplitl [H35]; · (iexists _, _; isplitr; swap; iexact H35; ipureintro; rfl)
    isplitl [H36]; · (iexists _, _; isplitr; swap; iexact H36; ipureintro; rfl)
    isplitl [H37]; · (iexists _, _; isplitr; swap; iexact H37; ipureintro; rfl)
    iexists _, _; isplitr; swap; iexact H38; ipureintro; rfl

end Cert.KernelIdeal.Gen

end
-- ==== Proof.KernelIdeal.Body.lean ====
module

public import proofs.«01_k».proof.Proof.KernelIdeal.Run
public import proofs.«01_k».proof.Proof.Gen.KernelIdeal.Launch
public import proofs.«01_k».proof.Proof.Gen.KernelIdeal.Points
public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The kernel's body at the pipeline's one point, and the frame

What the body leaves in the output's block is named by a relation (`Leaves24`): the run's pieces over whatever the
block and the scratch buffers held before. The frame forgets the output; the value theorem of the idealized kernel
uses the relation. -/

variable (m : (ℓ : Loc nD τ sig) → Buf (Elt F) ℓ) (ρ : Dev nD → PrngReg)

abbrev ms0_0 (t : Fin cfg0.N) : Memref sig .tc .vmem S512x120 .f32 := win0_0.stage (cfg0.slots t 0)
abbrev hs0_0 (t : Fin cfg0.N) : (ms0_0 t).IsWhole := hstage0_0 0
abbrev ms0_1 (t : Fin cfg0.N) : Memref sig .tc .vmem S119x119 .f32 := win0_1.stage (cfg0.slots t 1)
abbrev hs0_1 (t : Fin cfg0.N) : (ms0_1 t).IsWhole := hstage0_1 0
abbrev ms0_2 (t : Fin cfg0.N) : Memref sig .tc .vmem S119x119 .f32 := win0_2.stage (cfg0.slots t 2)
abbrev hs0_2 (t : Fin cfg0.N) : (ms0_2 t).IsWhole := hstage0_2 0
abbrev ms0_3 (t : Fin cfg0.N) : Memref sig .tc .vmem S120x1 .f32 := win0_3.stage (cfg0.slots t 3)
abbrev hs0_3 (t : Fin cfg0.N) : (ms0_3 t).IsWhole := hstage0_3 0
abbrev ms0_4 (t : Fin cfg0.N) : Memref sig .tc .vmem S512x512 .f32 := win0_4.stage (cfg0.slots t 4)
abbrev hs0_4 (t : Fin cfg0.N) : (ms0_4 t).IsWhole := hstage0_4 0
abbrev ms0_5 (t : Fin cfg0.N) : Memref sig .tc .vmem S512x512 .f32 := win0_5.stage (cfg0.slots t 5)
abbrev hs0_5 (t : Fin cfg0.N) : (ms0_5 t).IsWhole := hstage0_5 0
abbrev ms0_6 (t : Fin cfg0.N) : Memref sig .tc .vmem S128x512 .f32 := win0_6.stage (cfg0.slots t 6)
abbrev hs0_6 (t : Fin cfg0.N) : (ms0_6 t).IsWhole := hstage0_6 0
abbrev ms0_7 (t : Fin cfg0.N) : Memref sig .tc .vmem S128x512 .f32 := win0_7.stage (cfg0.slots t 7)
abbrev hs0_7 (t : Fin cfg0.N) : (ms0_7 t).IsWhole := hstage0_7 0
abbrev ms0_8 (t : Fin cfg0.N) : Memref sig .tc .vmem S128x128 .f32 := win0_8.stage (cfg0.slots t 8)
abbrev hs0_8 (t : Fin cfg0.N) : (ms0_8 t).IsWhole := hstage0_8 0
abbrev ms0_9 (t : Fin cfg0.N) : Memref sig .tc .vmem S128x512 .f32 := win0_9.stage (cfg0.slots t 9)
abbrev hs0_9 (t : Fin cfg0.N) : (ms0_9 t).IsWhole := hstage0_9 0
abbrev ms0_10 (t : Fin cfg0.N) : Memref sig .tc .vmem S128x512 .f32 := win0_10.stage (cfg0.slots t 10)
abbrev hs0_10 (t : Fin cfg0.N) : (ms0_10 t).IsWhole := hstage0_10 0
abbrev ms0_11 (t : Fin cfg0.N) : Memref sig .tc .vmem S128x128 .f32 := win0_11.stage (cfg0.slots t 11)
abbrev hs0_11 (t : Fin cfg0.N) : (ms0_11 t).IsWhole := hstage0_11 0
abbrev ms0_12 (t : Fin cfg0.N) : Memref sig .tc .vmem S64x128 .f32 := win0_12.stage (cfg0.slots t 12)
abbrev hs0_12 (t : Fin cfg0.N) : (ms0_12 t).IsWhole := hstage0_12 0
abbrev ms0_13 (t : Fin cfg0.N) : Memref sig .tc .vmem S64x128 .f32 := win0_13.stage (cfg0.slots t 13)
abbrev hs0_13 (t : Fin cfg0.N) : (ms0_13 t).IsWhole := hstage0_13 0
abbrev ms0_14 (t : Fin cfg0.N) : Memref sig .tc .vmem S64x128 .f32 := win0_14.stage (cfg0.slots t 14)
abbrev hs0_14 (t : Fin cfg0.N) : (ms0_14 t).IsWhole := hstage0_14 0
abbrev ms0_15 (t : Fin cfg0.N) : Memref sig .tc .vmem S64x128 .f32 := win0_15.stage (cfg0.slots t 15)
abbrev hs0_15 (t : Fin cfg0.N) : (ms0_15 t).IsWhole := hstage0_15 0
abbrev ms0_16 (t : Fin cfg0.N) : Memref sig .tc .vmem S64x64 .f32 := win0_16.stage (cfg0.slots t 16)
abbrev hs0_16 (t : Fin cfg0.N) : (ms0_16 t).IsWhole := hstage0_16 0
abbrev ms0_17 (t : Fin cfg0.N) : Memref sig .tc .vmem S128x512 .i32 := win0_17.stage (cfg0.slots t 17)
abbrev hs0_17 (t : Fin cfg0.N) : (ms0_17 t).IsWhole := hstage0_17 0
abbrev ms0_18 (t : Fin cfg0.N) : Memref sig .tc .vmem S128x128 .i32 := win0_18.stage (cfg0.slots t 18)
abbrev hs0_18 (t : Fin cfg0.N) : (ms0_18 t).IsWhole := hstage0_18 0
abbrev ms0_19 (t : Fin cfg0.N) : Memref sig .tc .vmem S128x512 .i32 := win0_19.stage (cfg0.slots t 19)
abbrev hs0_19 (t : Fin cfg0.N) : (ms0_19 t).IsWhole := hstage0_19 0
abbrev ms0_20 (t : Fin cfg0.N) : Memref sig .tc .vmem S128x128 .i32 := win0_20.stage (cfg0.slots t 20)
abbrev hs0_20 (t : Fin cfg0.N) : (ms0_20 t).IsWhole := hstage0_20 0
abbrev ms0_21 (t : Fin cfg0.N) : Memref sig .tc .vmem S64x128 .i32 := win0_21.stage (cfg0.slots t 21)
abbrev hs0_21 (t : Fin cfg0.N) : (ms0_21 t).IsWhole := hstage0_21 0
abbrev ms0_22 (t : Fin cfg0.N) : Memref sig .tc .vmem S64x128 .i32 := win0_22.stage (cfg0.slots t 22)
abbrev hs0_22 (t : Fin cfg0.N) : (ms0_22 t).IsWhole := hstage0_22 0
abbrev ms0_23 (t : Fin cfg0.N) : Memref sig .tc .vmem S64x64 .i32 := win0_23.stage (cfg0.slots t 23)
abbrev hs0_23 (t : Fin cfg0.N) : (ms0_23 t).IsWhole := hstage0_23 0
abbrev ms0_24 (t : Fin cfg0.N) : Memref sig .tc .vmem S1664x119 .f32 := win0_24.stage (cfg0.slots t 24)
abbrev hs0_24 (t : Fin cfg0.N) : (ms0_24 t).IsWhole := hstage0_24 0
abbrev scM0_0 : Memref sig .tc .vmem S576x128 .f32 := Memref.whole cc0_scratch0
abbrev scM0_1 : Memref sig .tc .vmem S576x128 .f32 := Memref.whole cc0_scratch1
abbrev scM0_2 : Memref sig .tc .vmem S288x128 .f32 := Memref.whole cc0_scratch2
abbrev scM0_3 : Memref sig .tc .vmem S288x128 .f32 := Memref.whole cc0_scratch3
abbrev scM0_4 : Memref sig .tc .vmem S144x64 .f32 := Memref.whole cc0_scratch4
abbrev scM0_5 : Memref sig .tc .vmem S144x64 .f32 := Memref.whole cc0_scratch5
abbrev scM0_6 : Memref sig .tc .vmem S144x512 .f32 := Memref.whole cc0_scratch6
abbrev scM0_7 : Memref sig .tc .vmem S144x512 .f32 := Memref.whole cc0_scratch7
abbrev scM0_8 : Memref sig .tc .vmem S144x256 .f32 := Memref.whole cc0_scratch8
abbrev scM0_9 : Memref sig .tc .vmem S144x256 .f32 := Memref.whole cc0_scratch9
abbrev scM0_10 : Memref sig .tc .vmem S480x128 .f32 := Memref.whole cc0_scratch10
abbrev scM0_11 : Memref sig .tc .vmem S480x128 .f32 := Memref.whole cc0_scratch11
abbrev scM0_12 : Memref sig .tc .vmem S240x128 .f32 := Memref.whole cc0_scratch12
abbrev scM0_13 : Memref sig .tc .vmem S240x128 .f32 := Memref.whole cc0_scratch13

/-- The class invariant with the scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗
          (∃ d, owns (c : Thread nD τ) scM0_3 fullShare d) ∗ (∃ d, owns (c : Thread nD τ) scM0_4 fullShare d) ∗ (∃ d, owns (c : Thread nD τ) scM0_5 fullShare d) ∗
          (∃ d, owns (c : Thread nD τ) scM0_6 fullShare d) ∗ (∃ d, owns (c : Thread nD τ) scM0_7 fullShare d) ∗ (∃ d, owns (c : Thread nD τ) scM0_8 fullShare d) ∗
          (∃ d, owns (c : Thread nD τ) scM0_9 fullShare d) ∗ (∃ d, owns (c : Thread nD τ) scM0_10 fullShare d) ∗ (∃ d, owns (c : Thread nD τ) scM0_11 fullShare d) ∗
          (∃ d, owns (c : Thread nD τ) scM0_12 fullShare d) ∗ (∃ d, owns (c : Thread nD τ) scM0_13 fullShare d)) ∗ (∃ r, prngReg c r)) := by
  unfold Pipeline.ΦA; rw [scopedRest0_eq]; simp only [scM0_0, scM0_1, scM0_2, scM0_3, scM0_4, scM0_5, scM0_6, scM0_7, scM0_8, scM0_9, scM0_10, scM0_11, scM0_12, scM0_13, owns_whole]; try rfl

/-- The pieces of the output at a point, from given scratch contents. -/
def piecesAt (c : Dev nD) (t : Fin cfg0.N)
    (g25 : Vec F S576x128 .f32) (g26 : Vec F S576x128 .f32) (g27 : Vec F S288x128 .f32) (g28 : Vec F S288x128 .f32) (g29 : Vec F S144x64 .f32) (g30 : Vec F S144x64 .f32)
    (g31 : Vec F S144x512 .f32) (g32 : Vec F S144x512 .f32) (g33 : Vec F S144x256 .f32) (g34 : Vec F S144x256 .f32) (g35 : Vec F S480x128 .f32) (g36 : Vec F S480x128 .f32)
    (g37 : Vec F S240x128 .f32) (g38 : Vec F S240x128 .f32) :
    List (View.Piece (Elt F) S1664x119 .f32) :=
  (bodyRun c
    (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
    (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t)
    (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t)
    scM0_0 (Memref.isWhole_whole _) scM0_1 (Memref.isWhole_whole _) scM0_2 (Memref.isWhole_whole _) scM0_3 (Memref.isWhole_whole _) scM0_4 (Memref.isWhole_whole _)
    scM0_5 (Memref.isWhole_whole _) scM0_6 (Memref.isWhole_whole _) scM0_7 (Memref.isWhole_whole _) scM0_8 (Memref.isWhole_whole _) scM0_9 (Memref.isWhole_whole _)
    scM0_10 (Memref.isWhole_whole _) scM0_11 (Memref.isWhole_whole _) scM0_12 (Memref.isWhole_whole _) scM0_13 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    (iblk m c 12 t) (iblk m c 13 t) (iblk m c 14 t) (iblk m c 15 t) (iblk m c 16 t) (iblk m c 17 t) (iblk m c 18 t) (iblk m c 19 t) (iblk m c 20 t) (iblk m c 21 t) (iblk m c 22 t)
    (iblk m c 23 t) g25 g26 g27 g28 g29 g30 g31 g32 g33 g34 g35 g36 g37 g38).1

/-- What the body may leave in the output's block. -/
def Leaves24 (c : Dev nD) (t : Fin cfg0.N) (X : Vec F S1664x119 .f32) : Prop :=
  ∃ g25 g26 g27 g28 g29 g30 g31 g32 g33 g34 g35 g36 g37 g38 f,
    (ms0_24 t).view.read (Elt F) ((ms0_24 t).view.writes (Elt F) f (piecesAt m c t g25 g26 g27 g28 g29 g30 g31 g32 g33 g34 g35 g36 g37 g38)) = X

/-- The pipeline's proof data: every input's block as fetched, the output's block at `O`. -/
def dats (O : Dev nD → Fin cfg0.N → Vec F S1664x119 .f32) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => O c t
    | ⟨_ + 25, h⟩ => absurd h (Nat.not_lt.2 (Nat.le_add_left _ _))
  Φ _ := Pipeline.ΦA spec0 c
  q _ := fullShare
  owed _ := 0

/-- The output, forgotten by the frame. -/
def forgets0 : Fin cfg0.W → Bool := fun w => w.val == 24

variable (O : Dev nD → Fin cfg0.N → Vec F S1664x119 .f32)

theorem A_eq (c : Dev nD) (w : Fin cfg0.W) : (dats m O 0 c).A w = V m c (Pipeline.arrRef spec0 w) := by
  dsimp only [dats]

theorem after0_0 (c : Dev nD) (t : Fin cfg0.N) : (dats m O 0 c).after 0 t = iblk m c 0 t := by dsimp only [dats]
theorem after0_1 (c : Dev nD) (t : Fin cfg0.N) : (dats m O 0 c).after 1 t = iblk m c 1 t := by dsimp only [dats]
theorem after0_2 (c : Dev nD) (t : Fin cfg0.N) : (dats m O 0 c).after 2 t = iblk m c 2 t := by dsimp only [dats]
theorem after0_3 (c : Dev nD) (t : Fin cfg0.N) : (dats m O 0 c).after 3 t = iblk m c 3 t := by dsimp only [dats]
theorem after0_4 (c : Dev nD) (t : Fin cfg0.N) : (dats m O 0 c).after 4 t = iblk m c 4 t := by dsimp only [dats]
theorem after0_5 (c : Dev nD) (t : Fin cfg0.N) : (dats m O 0 c).after 5 t = iblk m c 5 t := by dsimp only [dats]
theorem after0_6 (c : Dev nD) (t : Fin cfg0.N) : (dats m O 0 c).after 6 t = iblk m c 6 t := by dsimp only [dats]
theorem after0_7 (c : Dev nD) (t : Fin cfg0.N) : (dats m O 0 c).after 7 t = iblk m c 7 t := by dsimp only [dats]
theorem after0_8 (c : Dev nD) (t : Fin cfg0.N) : (dats m O 0 c).after 8 t = iblk m c 8 t := by dsimp only [dats]
theorem after0_9 (c : Dev nD) (t : Fin cfg0.N) : (dats m O 0 c).after 9 t = iblk m c 9 t := by dsimp only [dats]
theorem after0_10 (c : Dev nD) (t : Fin cfg0.N) : (dats m O 0 c).after 10 t = iblk m c 10 t := by dsimp only [dats]
theorem after0_11 (c : Dev nD) (t : Fin cfg0.N) : (dats m O 0 c).after 11 t = iblk m c 11 t := by dsimp only [dats]
theorem after0_12 (c : Dev nD) (t : Fin cfg0.N) : (dats m O 0 c).after 12 t = iblk m c 12 t := by dsimp only [dats]
theorem after0_13 (c : Dev nD) (t : Fin cfg0.N) : (dats m O 0 c).after 13 t = iblk m c 13 t := by dsimp only [dats]
theorem after0_14 (c : Dev nD) (t : Fin cfg0.N) : (dats m O 0 c).after 14 t = iblk m c 14 t := by dsimp only [dats]
theorem after0_15 (c : Dev nD) (t : Fin cfg0.N) : (dats m O 0 c).after 15 t = iblk m c 15 t := by dsimp only [dats]
theorem after0_16 (c : Dev nD) (t : Fin cfg0.N) : (dats m O 0 c).after 16 t = iblk m c 16 t := by dsimp only [dats]
theorem after0_17 (c : Dev nD) (t : Fin cfg0.N) : (dats m O 0 c).after 17 t = iblk m c 17 t := by dsimp only [dats]
theorem after0_18 (c : Dev nD) (t : Fin cfg0.N) : (dats m O 0 c).after 18 t = iblk m c 18 t := by dsimp only [dats]
theorem after0_19 (c : Dev nD) (t : Fin cfg0.N) : (dats m O 0 c).after 19 t = iblk m c 19 t := by dsimp only [dats]
theorem after0_20 (c : Dev nD) (t : Fin cfg0.N) : (dats m O 0 c).after 20 t = iblk m c 20 t := by dsimp only [dats]
theorem after0_21 (c : Dev nD) (t : Fin cfg0.N) : (dats m O 0 c).after 21 t = iblk m c 21 t := by dsimp only [dats]
theorem after0_22 (c : Dev nD) (t : Fin cfg0.N) : (dats m O 0 c).after 22 t = iblk m c 22 t := by dsimp only [dats]
theorem after0_23 (c : Dev nD) (t : Fin cfg0.N) : (dats m O 0 c).after 23 t = iblk m c 23 t := by dsimp only [dats]
theorem after0_24 (c : Dev nD) (t : Fin cfg0.N) : (dats m O 0 c).after 24 t = O c t := by dsimp only [dats]

theorem before0_0 (c : Dev nD) (t : Fin cfg0.N) (d) : (dats m O 0 c).before 0 t d = iblk m c 0 t :=
  before0_0_of m (dats m O 0 c) (A_eq m O c 0) (after0_0 m O c) t d
theorem before0_1 (c : Dev nD) (t : Fin cfg0.N) (d) : (dats m O 0 c).before 1 t d = iblk m c 1 t :=
  before0_1_of m (dats m O 0 c) (A_eq m O c 1) (after0_1 m O c) t d
theorem before0_2 (c : Dev nD) (t : Fin cfg0.N) (d) : (dats m O 0 c).before 2 t d = iblk m c 2 t :=
  before0_2_of m (dats m O 0 c) (A_eq m O c 2) (after0_2 m O c) t d
theorem before0_3 (c : Dev nD) (t : Fin cfg0.N) (d) : (dats m O 0 c).before 3 t d = iblk m c 3 t :=
  before0_3_of m (dats m O 0 c) (A_eq m O c 3) (after0_3 m O c) t d
theorem before0_4 (c : Dev nD) (t : Fin cfg0.N) (d) : (dats m O 0 c).before 4 t d = iblk m c 4 t :=
  before0_4_of m (dats m O 0 c) (A_eq m O c 4) (after0_4 m O c) t d
theorem before0_5 (c : Dev nD) (t : Fin cfg0.N) (d) : (dats m O 0 c).before 5 t d = iblk m c 5 t :=
  before0_5_of m (dats m O 0 c) (A_eq m O c 5) (after0_5 m O c) t d
theorem before0_6 (c : Dev nD) (t : Fin cfg0.N) (d) : (dats m O 0 c).before 6 t d = iblk m c 6 t :=
  before0_6_of m (dats m O 0 c) (A_eq m O c 6) (after0_6 m O c) t d
theorem before0_7 (c : Dev nD) (t : Fin cfg0.N) (d) : (dats m O 0 c).before 7 t d = iblk m c 7 t :=
  before0_7_of m (dats m O 0 c) (A_eq m O c 7) (after0_7 m O c) t d
theorem before0_8 (c : Dev nD) (t : Fin cfg0.N) (d) : (dats m O 0 c).before 8 t d = iblk m c 8 t :=
  before0_8_of m (dats m O 0 c) (A_eq m O c 8) (after0_8 m O c) t d
theorem before0_9 (c : Dev nD) (t : Fin cfg0.N) (d) : (dats m O 0 c).before 9 t d = iblk m c 9 t :=
  before0_9_of m (dats m O 0 c) (A_eq m O c 9) (after0_9 m O c) t d
theorem before0_10 (c : Dev nD) (t : Fin cfg0.N) (d) : (dats m O 0 c).before 10 t d = iblk m c 10 t :=
  before0_10_of m (dats m O 0 c) (A_eq m O c 10) (after0_10 m O c) t d
theorem before0_11 (c : Dev nD) (t : Fin cfg0.N) (d) : (dats m O 0 c).before 11 t d = iblk m c 11 t :=
  before0_11_of m (dats m O 0 c) (A_eq m O c 11) (after0_11 m O c) t d
theorem before0_12 (c : Dev nD) (t : Fin cfg0.N) (d) : (dats m O 0 c).before 12 t d = iblk m c 12 t :=
  before0_12_of m (dats m O 0 c) (A_eq m O c 12) (after0_12 m O c) t d
theorem before0_13 (c : Dev nD) (t : Fin cfg0.N) (d) : (dats m O 0 c).before 13 t d = iblk m c 13 t :=
  before0_13_of m (dats m O 0 c) (A_eq m O c 13) (after0_13 m O c) t d
theorem before0_14 (c : Dev nD) (t : Fin cfg0.N) (d) : (dats m O 0 c).before 14 t d = iblk m c 14 t :=
  before0_14_of m (dats m O 0 c) (A_eq m O c 14) (after0_14 m O c) t d
theorem before0_15 (c : Dev nD) (t : Fin cfg0.N) (d) : (dats m O 0 c).before 15 t d = iblk m c 15 t :=
  before0_15_of m (dats m O 0 c) (A_eq m O c 15) (after0_15 m O c) t d
theorem before0_16 (c : Dev nD) (t : Fin cfg0.N) (d) : (dats m O 0 c).before 16 t d = iblk m c 16 t :=
  before0_16_of m (dats m O 0 c) (A_eq m O c 16) (after0_16 m O c) t d
theorem before0_17 (c : Dev nD) (t : Fin cfg0.N) (d) : (dats m O 0 c).before 17 t d = iblk m c 17 t :=
  before0_17_of m (dats m O 0 c) (A_eq m O c 17) (after0_17 m O c) t d
theorem before0_18 (c : Dev nD) (t : Fin cfg0.N) (d) : (dats m O 0 c).before 18 t d = iblk m c 18 t :=
  before0_18_of m (dats m O 0 c) (A_eq m O c 18) (after0_18 m O c) t d
theorem before0_19 (c : Dev nD) (t : Fin cfg0.N) (d) : (dats m O 0 c).before 19 t d = iblk m c 19 t :=
  before0_19_of m (dats m O 0 c) (A_eq m O c 19) (after0_19 m O c) t d
theorem before0_20 (c : Dev nD) (t : Fin cfg0.N) (d) : (dats m O 0 c).before 20 t d = iblk m c 20 t :=
  before0_20_of m (dats m O 0 c) (A_eq m O c 20) (after0_20 m O c) t d
theorem before0_21 (c : Dev nD) (t : Fin cfg0.N) (d) : (dats m O 0 c).before 21 t d = iblk m c 21 t :=
  before0_21_of m (dats m O 0 c) (A_eq m O c 21) (after0_21 m O c) t d
theorem before0_22 (c : Dev nD) (t : Fin cfg0.N) (d) : (dats m O 0 c).before 22 t d = iblk m c 22 t :=
  before0_22_of m (dats m O 0 c) (A_eq m O c 22) (after0_22 m O c) t d
theorem before0_23 (c : Dev nD) (t : Fin cfg0.N) (d) : (dats m O 0 c).before 23 t d = iblk m c 23 t :=
  before0_23_of m (dats m O 0 c) (A_eq m O c 23) (after0_23 m O c) t d

/-- What the body is called with. -/
def bodyPre (c : Dev nD) (t : Fin cfg0.N) : sProp 𝕄 :=
  iprop((dats m O 0 c).Φ t.castSucc ∗ (dats m O 0 c).owesAt () t.castSucc
    ∗ (∃ d, owns (c : Thread nD τ) (ms0_0 t) fullShare ((dats m O 0 c).before 0 t d))
    ∗ (∃ d, owns (c : Thread nD τ) (ms0_1 t) fullShare ((dats m O 0 c).before 1 t d))
    ∗ (∃ d, owns (c : Thread nD τ) (ms0_2 t) fullShare ((dats m O 0 c).before 2 t d))
    ∗ (∃ d, owns (c : Thread nD τ) (ms0_3 t) fullShare ((dats m O 0 c).before 3 t d))
    ∗ (∃ d, owns (c : Thread nD τ) (ms0_4 t) fullShare ((dats m O 0 c).before 4 t d))
    ∗ (∃ d, owns (c : Thread nD τ) (ms0_5 t) fullShare ((dats m O 0 c).before 5 t d))
    ∗ (∃ d, owns (c : Thread nD τ) (ms0_6 t) fullShare ((dats m O 0 c).before 6 t d))
    ∗ (∃ d, owns (c : Thread nD τ) (ms0_7 t) fullShare ((dats m O 0 c).before 7 t d))
    ∗ (∃ d, owns (c : Thread nD τ) (ms0_8 t) fullShare ((dats m O 0 c).before 8 t d))
    ∗ (∃ d, owns (c : Thread nD τ) (ms0_9 t) fullShare ((dats m O 0 c).before 9 t d))
    ∗ (∃ d, owns (c : Thread nD τ) (ms0_10 t) fullShare ((dats m O 0 c).before 10 t d))
    ∗ (∃ d, owns (c : Thread nD τ) (ms0_11 t) fullShare ((dats m O 0 c).before 11 t d))
    ∗ (∃ d, owns (c : Thread nD τ) (ms0_12 t) fullShare ((dats m O 0 c).before 12 t d))
    ∗ (∃ d, owns (c : Thread nD τ) (ms0_13 t) fullShare ((dats m O 0 c).before 13 t d))
    ∗ (∃ d, owns (c : Thread nD τ) (ms0_14 t) fullShare ((dats m O 0 c).before 14 t d))
    ∗ (∃ d, owns (c : Thread nD τ) (ms0_15 t) fullShare ((dats m O 0 c).before 15 t d))
    ∗ (∃ d, owns (c : Thread nD τ) (ms0_16 t) fullShare ((dats m O 0 c).before 16 t d))
    ∗ (∃ d, owns (c : Thread nD τ) (ms0_17 t) fullShare ((dats m O 0 c).before 17 t d))
    ∗ (∃ d, owns (c : Thread nD τ) (ms0_18 t) fullShare ((dats m O 0 c).before 18 t d))
    ∗ (∃ d, owns (c : Thread nD τ) (ms0_19 t) fullShare ((dats m O 0 c).before 19 t d))
    ∗ (∃ d, owns (c : Thread nD τ) (ms0_20 t) fullShare ((dats m O 0 c).before 20 t d))
    ∗ (∃ d, owns (c : Thread nD τ) (ms0_21 t) fullShare ((dats m O 0 c).before 21 t d))
    ∗ (∃ d, owns (c : Thread nD τ) (ms0_22 t) fullShare ((dats m O 0 c).before 22 t d))
    ∗ (∃ d, owns (c : Thread nD τ) (ms0_23 t) fullShare ((dats m O 0 c).before 23 t d))
    ∗ (∃ d, owns (c : Thread nD τ) (ms0_24 t) fullShare d))
/-- What it returns, the output's block at some contents the relation allows. -/
def bodyPost (c : Dev nD) (t : Fin cfg0.N) : sProp 𝕄 :=
  iprop((dats m O 0 c).Φ t.succ ∗ (dats m O 0 c).owesAt () t.succ
    ∗ owns (c : Thread nD τ) (ms0_0 t) fullShare ((dats m O 0 c).after 0 t)
    ∗ owns (c : Thread nD τ) (ms0_1 t) fullShare ((dats m O 0 c).after 1 t)
    ∗ owns (c : Thread nD τ) (ms0_2 t) fullShare ((dats m O 0 c).after 2 t)
    ∗ owns (c : Thread nD τ) (ms0_3 t) fullShare ((dats m O 0 c).after 3 t)
    ∗ owns (c : Thread nD τ) (ms0_4 t) fullShare ((dats m O 0 c).after 4 t)
    ∗ owns (c : Thread nD τ) (ms0_5 t) fullShare ((dats m O 0 c).after 5 t)
    ∗ owns (c : Thread nD τ) (ms0_6 t) fullShare ((dats m O 0 c).after 6 t)
    ∗ owns (c : Thread nD τ) (ms0_7 t) fullShare ((dats m O 0 c).after 7 t)
    ∗ owns (c : Thread nD τ) (ms0_8 t) fullShare ((dats m O 0 c).after 8 t)
    ∗ owns (c : Thread nD τ) (ms0_9 t) fullShare ((dats m O 0 c).after 9 t)
    ∗ owns (c : Thread nD τ) (ms0_10 t) fullShare ((dats m O 0 c).after 10 t)
    ∗ owns (c : Thread nD τ) (ms0_11 t) fullShare ((dats m O 0 c).after 11 t)
    ∗ owns (c : Thread nD τ) (ms0_12 t) fullShare ((dats m O 0 c).after 12 t)
    ∗ owns (c : Thread nD τ) (ms0_13 t) fullShare ((dats m O 0 c).after 13 t)
    ∗ owns (c : Thread nD τ) (ms0_14 t) fullShare ((dats m O 0 c).after 14 t)
    ∗ owns (c : Thread nD τ) (ms0_15 t) fullShare ((dats m O 0 c).after 15 t)
    ∗ owns (c : Thread nD τ) (ms0_16 t) fullShare ((dats m O 0 c).after 16 t)
    ∗ owns (c : Thread nD τ) (ms0_17 t) fullShare ((dats m O 0 c).after 17 t)
    ∗ owns (c : Thread nD τ) (ms0_18 t) fullShare ((dats m O 0 c).after 18 t)
    ∗ owns (c : Thread nD τ) (ms0_19 t) fullShare ((dats m O 0 c).after 19 t)
    ∗ owns (c : Thread nD τ) (ms0_20 t) fullShare ((dats m O 0 c).after 20 t)
    ∗ owns (c : Thread nD τ) (ms0_21 t) fullShare ((dats m O 0 c).after 21 t)
    ∗ owns (c : Thread nD τ) (ms0_22 t) fullShare ((dats m O 0 c).after 22 t)
    ∗ owns (c : Thread nD τ) (ms0_23 t) fullShare ((dats m O 0 c).after 23 t)
    ∗ (∃ X, ⌜Leaves24 m c t X⌝ ∗ owns (c : Thread nD τ) (ms0_24 t) fullShare X))

set_option maxHeartbeats 1600000 in
/-- The body at the point. -/
theorem sound_body (c : Dev nD) (t : Fin cfg0.N) :
    bodyPre m O c t ⊢ wp frame (wpE (defs₀ (F := F)) Variants.none c none) Set.univ (bodyAt0 t) (fun _ => bodyPost m O c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23]
  rw [show (dats m O 0 c).Φ t.succ = (dats m O 0 c).Φ t.castSucc from rfl,
    show (dats m O 0 c).owesAt () t.succ = (dats m O 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23]
  rw [show (dats m O 0 c).Φ t.castSucc = Pipeline.ΦA spec0 c from rfl, PhiA0_eq]
  iintro ⟨⟨⟨⟨%g25, HS0⟩, ⟨%g26, HS1⟩, ⟨%g27, HS2⟩, ⟨%g28, HS3⟩, ⟨%g29, HS4⟩, ⟨%g30, HS5⟩, ⟨%g31, HS6⟩, ⟨%g32, HS7⟩, ⟨%g33, HS8⟩, ⟨%g34, HS9⟩, ⟨%g35, HS10⟩, ⟨%g36, HS11⟩, ⟨%g37, HS12⟩, ⟨%g38, HS13⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply ((bodyRun c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    (iblk m c 12 t) (iblk m c 13 t) (iblk m c 14 t) (iblk m c 15 t) (iblk m c 16 t) (iblk m c 17 t) (iblk m c 18 t) (iblk m c 19 t) (iblk m c 20 t) (iblk m c 21 t) (iblk m c 22 t)
    (iblk m c 23 t) g25 g26 g27 g28 g29 g30 g31 g32 g33 g34 g35 g36 g37 g38).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexists _; iexact H24
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  iintro ⟨H0, H1, H2, H3, H4, H5, H6, H7, H8, H9, H10, H11, H12, H13, H14, H15, H16, H17, H18, H19, H20, H21, H22, H23, ⟨%e24, H24⟩, HS0, HS1, HS2, HS3, HS4, HS5, HS6, HS7, HS8, HS9, HS10, HS11, HS12, HS13⟩
  isplitl [HS0 HS1 HS2 HS3 HS4 HS5 HS6 HS7 HS8 HS9 HS10 HS11 HS12 HS13 Hg]
  · isplitl [HS0 HS1 HS2 HS3 HS4 HS5 HS6 HS7 HS8 HS9 HS10 HS11 HS12 HS13]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      iexact HS13
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iexists _; isplitr
  swap
  · unfold owns; iexists _; isplitr
    swap; · iexact H24
    ipureintro; rfl
  ipureintro
  exact ⟨g25, g26, g27, g28, g29, g30, g31, g32, g33, g34, g35, g36, g37, g38, e24, rfl⟩

/-- The body table's row at the point is the body. -/
theorem defs₀_row (t : Fin cfg0.N) :
    defs₀ (F := F) .tc cfg0.body (cfg0.bodyArgs t (cfg0.slots t)) = bodyAt0 t := by
  unfold defs₀; rw [Defs.onTc_tc]

/-- The body's returned assertion with the output's block at unnamed contents. -/
theorem bodyPost_forget (c : Dev nD) (t : Fin cfg0.N) :
    bodyPost m O c t ⊢ iprop((dats m O 0 c).Φ t.succ ∗ (dats m O 0 c).owesAt () t.succ
    ∗ owns (c : Thread nD τ) (ms0_0 t) fullShare ((dats m O 0 c).after 0 t)
    ∗ owns (c : Thread nD τ) (ms0_1 t) fullShare ((dats m O 0 c).after 1 t)
    ∗ owns (c : Thread nD τ) (ms0_2 t) fullShare ((dats m O 0 c).after 2 t)
    ∗ owns (c : Thread nD τ) (ms0_3 t) fullShare ((dats m O 0 c).after 3 t)
    ∗ owns (c : Thread nD τ) (ms0_4 t) fullShare ((dats m O 0 c).after 4 t)
    ∗ owns (c : Thread nD τ) (ms0_5 t) fullShare ((dats m O 0 c).after 5 t)
    ∗ owns (c : Thread nD τ) (ms0_6 t) fullShare ((dats m O 0 c).after 6 t)
    ∗ owns (c : Thread nD τ) (ms0_7 t) fullShare ((dats m O 0 c).after 7 t)
    ∗ owns (c : Thread nD τ) (ms0_8 t) fullShare ((dats m O 0 c).after 8 t)
    ∗ owns (c : Thread nD τ) (ms0_9 t) fullShare ((dats m O 0 c).after 9 t)
    ∗ owns (c : Thread nD τ) (ms0_10 t) fullShare ((dats m O 0 c).after 10 t)
    ∗ owns (c : Thread nD τ) (ms0_11 t) fullShare ((dats m O 0 c).after 11 t)
    ∗ owns (c : Thread nD τ) (ms0_12 t) fullShare ((dats m O 0 c).after 12 t)
    ∗ owns (c : Thread nD τ) (ms0_13 t) fullShare ((dats m O 0 c).after 13 t)
    ∗ owns (c : Thread nD τ) (ms0_14 t) fullShare ((dats m O 0 c).after 14 t)
    ∗ owns (c : Thread nD τ) (ms0_15 t) fullShare ((dats m O 0 c).after 15 t)
    ∗ owns (c : Thread nD τ) (ms0_16 t) fullShare ((dats m O 0 c).after 16 t)
    ∗ owns (c : Thread nD τ) (ms0_17 t) fullShare ((dats m O 0 c).after 17 t)
    ∗ owns (c : Thread nD τ) (ms0_18 t) fullShare ((dats m O 0 c).after 18 t)
    ∗ owns (c : Thread nD τ) (ms0_19 t) fullShare ((dats m O 0 c).after 19 t)
    ∗ owns (c : Thread nD τ) (ms0_20 t) fullShare ((dats m O 0 c).after 20 t)
    ∗ owns (c : Thread nD τ) (ms0_21 t) fullShare ((dats m O 0 c).after 21 t)
    ∗ owns (c : Thread nD τ) (ms0_22 t) fullShare ((dats m O 0 c).after 22 t)
    ∗ owns (c : Thread nD τ) (ms0_23 t) fullShare ((dats m O 0 c).after 23 t)
    ∗ (∃ d, owns (c : Thread nD τ) (ms0_24 t) fullShare d)) := by
  unfold bodyPost
  iintro ⟨HP, Ho, H0, H1, H2, H3, H4, H5, H6, H7, H8, H9, H10, H11, H12, H13, H14, H15, H16, H17, H18, H19, H20, H21, H22, H23, ⟨%X, -, HX⟩⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iexists _; iexact HX

set_option maxHeartbeats 4000000 in
/-- The body obligation with the output forgotten. -/
theorem body_obligation (c : Dev nD) :
    BodyObligation (dats (F := F) m O 0 c) (defs₀ (F := F)) Variants.none () Set.univ forgets0 := fun t => by
  rw [bigSep_W0, bigSep_W0, defs₀_row]
  exact triple_restated (sound_body m O c t) rfl .rfl fun _ => bodyPost_forget m O c t

/-- The body's returned assertion with the output's block named, when the relation allows one contents only. -/
theorem bodyPost_exact (hO : ∀ c t X, Leaves24 m c t X → X = O c t) (c : Dev nD) (t : Fin cfg0.N) :
    bodyPost m O c t ⊢ iprop((dats m O 0 c).Φ t.succ ∗ (dats m O 0 c).owesAt () t.succ
    ∗ owns (c : Thread nD τ) (ms0_0 t) fullShare ((dats m O 0 c).after 0 t)
    ∗ owns (c : Thread nD τ) (ms0_1 t) fullShare ((dats m O 0 c).after 1 t)
    ∗ owns (c : Thread nD τ) (ms0_2 t) fullShare ((dats m O 0 c).after 2 t)
    ∗ owns (c : Thread nD τ) (ms0_3 t) fullShare ((dats m O 0 c).after 3 t)
    ∗ owns (c : Thread nD τ) (ms0_4 t) fullShare ((dats m O 0 c).after 4 t)
    ∗ owns (c : Thread nD τ) (ms0_5 t) fullShare ((dats m O 0 c).after 5 t)
    ∗ owns (c : Thread nD τ) (ms0_6 t) fullShare ((dats m O 0 c).after 6 t)
    ∗ owns (c : Thread nD τ) (ms0_7 t) fullShare ((dats m O 0 c).after 7 t)
    ∗ owns (c : Thread nD τ) (ms0_8 t) fullShare ((dats m O 0 c).after 8 t)
    ∗ owns (c : Thread nD τ) (ms0_9 t) fullShare ((dats m O 0 c).after 9 t)
    ∗ owns (c : Thread nD τ) (ms0_10 t) fullShare ((dats m O 0 c).after 10 t)
    ∗ owns (c : Thread nD τ) (ms0_11 t) fullShare ((dats m O 0 c).after 11 t)
    ∗ owns (c : Thread nD τ) (ms0_12 t) fullShare ((dats m O 0 c).after 12 t)
    ∗ owns (c : Thread nD τ) (ms0_13 t) fullShare ((dats m O 0 c).after 13 t)
    ∗ owns (c : Thread nD τ) (ms0_14 t) fullShare ((dats m O 0 c).after 14 t)
    ∗ owns (c : Thread nD τ) (ms0_15 t) fullShare ((dats m O 0 c).after 15 t)
    ∗ owns (c : Thread nD τ) (ms0_16 t) fullShare ((dats m O 0 c).after 16 t)
    ∗ owns (c : Thread nD τ) (ms0_17 t) fullShare ((dats m O 0 c).after 17 t)
    ∗ owns (c : Thread nD τ) (ms0_18 t) fullShare ((dats m O 0 c).after 18 t)
    ∗ owns (c : Thread nD τ) (ms0_19 t) fullShare ((dats m O 0 c).after 19 t)
    ∗ owns (c : Thread nD τ) (ms0_20 t) fullShare ((dats m O 0 c).after 20 t)
    ∗ owns (c : Thread nD τ) (ms0_21 t) fullShare ((dats m O 0 c).after 21 t)
    ∗ owns (c : Thread nD τ) (ms0_22 t) fullShare ((dats m O 0 c).after 22 t)
    ∗ owns (c : Thread nD τ) (ms0_23 t) fullShare ((dats m O 0 c).after 23 t)
    ∗ owns (c : Thread nD τ) (ms0_24 t) fullShare ((dats m O 0 c).after 24 t)) := by
  unfold bodyPost
  iintro ⟨HP, Ho, H0, H1, H2, H3, H4, H5, H6, H7, H8, H9, H10, H11, H12, H13, H14, H15, H16, H17, H18, H19, H20, H21, H22, H23, ⟨%X, %hX, HX⟩⟩
  obtain rfl := hO c t X hX
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  rw [after0_24]; iexact HX

/-- The precondition of the exact obligation gives the one the body is run from. -/
theorem bodyPre_exact (c : Dev nD) (t : Fin cfg0.N) :
    iprop((dats m O 0 c).Φ t.castSucc ∗ (dats m O 0 c).owesAt () t.castSucc
    ∗ (∃ d, owns (c : Thread nD τ) (ms0_0 t) fullShare ((dats m O 0 c).before 0 t d))
    ∗ (∃ d, owns (c : Thread nD τ) (ms0_1 t) fullShare ((dats m O 0 c).before 1 t d))
    ∗ (∃ d, owns (c : Thread nD τ) (ms0_2 t) fullShare ((dats m O 0 c).before 2 t d))
    ∗ (∃ d, owns (c : Thread nD τ) (ms0_3 t) fullShare ((dats m O 0 c).before 3 t d))
    ∗ (∃ d, owns (c : Thread nD τ) (ms0_4 t) fullShare ((dats m O 0 c).before 4 t d))
    ∗ (∃ d, owns (c : Thread nD τ) (ms0_5 t) fullShare ((dats m O 0 c).before 5 t d))
    ∗ (∃ d, owns (c : Thread nD τ) (ms0_6 t) fullShare ((dats m O 0 c).before 6 t d))
    ∗ (∃ d, owns (c : Thread nD τ) (ms0_7 t) fullShare ((dats m O 0 c).before 7 t d))
    ∗ (∃ d, owns (c : Thread nD τ) (ms0_8 t) fullShare ((dats m O 0 c).before 8 t d))
    ∗ (∃ d, owns (c : Thread nD τ) (ms0_9 t) fullShare ((dats m O 0 c).before 9 t d))
    ∗ (∃ d, owns (c : Thread nD τ) (ms0_10 t) fullShare ((dats m O 0 c).before 10 t d))
    ∗ (∃ d, owns (c : Thread nD τ) (ms0_11 t) fullShare ((dats m O 0 c).before 11 t d))
    ∗ (∃ d, owns (c : Thread nD τ) (ms0_12 t) fullShare ((dats m O 0 c).before 12 t d))
    ∗ (∃ d, owns (c : Thread nD τ) (ms0_13 t) fullShare ((dats m O 0 c).before 13 t d))
    ∗ (∃ d, owns (c : Thread nD τ) (ms0_14 t) fullShare ((dats m O 0 c).before 14 t d))
    ∗ (∃ d, owns (c : Thread nD τ) (ms0_15 t) fullShare ((dats m O 0 c).before 15 t d))
    ∗ (∃ d, owns (c : Thread nD τ) (ms0_16 t) fullShare ((dats m O 0 c).before 16 t d))
    ∗ (∃ d, owns (c : Thread nD τ) (ms0_17 t) fullShare ((dats m O 0 c).before 17 t d))
    ∗ (∃ d, owns (c : Thread nD τ) (ms0_18 t) fullShare ((dats m O 0 c).before 18 t d))
    ∗ (∃ d, owns (c : Thread nD τ) (ms0_19 t) fullShare ((dats m O 0 c).before 19 t d))
    ∗ (∃ d, owns (c : Thread nD τ) (ms0_20 t) fullShare ((dats m O 0 c).before 20 t d))
    ∗ (∃ d, owns (c : Thread nD τ) (ms0_21 t) fullShare ((dats m O 0 c).before 21 t d))
    ∗ (∃ d, owns (c : Thread nD τ) (ms0_22 t) fullShare ((dats m O 0 c).before 22 t d))
    ∗ (∃ d, owns (c : Thread nD τ) (ms0_23 t) fullShare ((dats m O 0 c).before 23 t d))
    ∗ (∃ d, owns (c : Thread nD τ) (ms0_24 t) fullShare ((dats m O 0 c).before 24 t d))) ⊢ bodyPre m O c t := by
  unfold bodyPre
  iintro ⟨HP, Ho, H0, H1, H2, H3, H4, H5, H6, H7, H8, H9, H10, H11, H12, H13, H14, H15, H16, H17, H18, H19, H20, H21, H22, H23, ⟨%X, HX⟩⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iexists _; iexact HX

set_option maxHeartbeats 4000000 in
/-- The exact body obligation, when the relation allows one contents only. -/
theorem body_obligation_exact (hO : ∀ c t X, Leaves24 m c t X → X = O c t) (c : Dev nD) :
    BodyObligation (dats (F := F) m O 0 c) (defs₀ (F := F)) Variants.none () Set.univ := fun t => by
  rw [bigSep_W0, bigSep_W0, defs₀_row]
  exact triple_restated (sound_body m O c t) rfl (bodyPre_exact m O c t) fun _ => bodyPost_exact m O hO c t

/-! ## The run and the frame -/

set_option backward.isDefEq.respectTransparency.types false in
/-- Every execution terminates with the inputs as launched and every counter at zero. -/
theorem run_main_forget :
    θ_run defs (onTc (τ := τ) (main (F := F))) (s₀ m ρ)
      (fun r => Pipeline.RDat.FramePost (cfgs 0) (fun c => (dats m O 0 c).toRForget forgets0) (V m) r ∧ r.2.sem = fun _ => 0) :=
  Pipeline.θ_run_frame_forget (Q' := _) cfgs (dats m O) (0 : Fin 1) launch0 defs₀ Variants.none forgets0 m ρ main
    (hbody := fun c => (body_obligation m O c).loose) (hshare := fun c => (dats m O 0 c).share_full fun _ => rfl)
    (howed := fun _ _ => rfl) (V := V m) (hmain := hmain m Variants.none) (hA := A_eq m O) (hΦ := fun _ _ => rfl)

set_option backward.isDefEq.respectTransparency.types false in
/-- The same with the output named. -/
theorem run_main_exact (hO : ∀ c t X, Leaves24 m c t X → X = O c t) :
    θ_run defs (onTc (τ := τ) (main (F := F))) (s₀ m ρ)
      (fun r => (Pipeline.FramePost cfgs (dats m O) 0 (V m)) r ∧ r.2.sem = fun _ => 0) :=
  Pipeline.θ_run_frame (Q' := _) cfgs (dats m O) (0 : Fin 1) launch0 defs₀ Variants.none m ρ main
    (hbody := fun c => (body_obligation_exact m O hO c).loose) (hshare := fun c => (dats m O 0 c).share_full fun _ => rfl)
    (howed := fun _ _ => rfl) (V := V m) (hmain := hmain m Variants.none) (hA := A_eq m O) (hΦ := fun _ _ => rfl)

/-- An input's array ends as the region found it. -/
theorem input_kept {r : PUnit × MemSt nD τ sig (Elt F)}
    (h : Pipeline.RDat.FramePost (cfgs 0) (fun c => (dats m O 0 c).toRForget forgets0) (V m) r) (c : Dev nD) (w : Fin cfg0.W)
    (hw : (cfg0.win w).isOut = false) :
    r.2.mem ((cfg0.win w).arr.view.loc (c.tc : Thread nD τ)) = V m c (Pipeline.arrRef spec0 w) :=
  (Eq.mp (congrFun (((dats m O 0 c).toRForget forgets0).ArrAt_in w hw _) _) ((h c).1 w)).trans (A_eq m O c w)

/-- The frame: every argument ends as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20))
      ∧ r.2.sem = fun _ => 0) :=
  (θ_run defs _ _).mono (fun _ h => ⟨fun c => ⟨((h.1 c).2 main_arg0 (Pipeline.mem_restRefs_of main_arg0 (by decide) (by decide))).trans (V_main_arg0 m c),
      (input_kept m _ h.1 c 4 rfl).trans (V_main_arg1 m c),
      (input_kept m _ h.1 c 6 rfl).trans (V_main_arg2 m c),
      (input_kept m _ h.1 c 7 rfl).trans (V_main_arg3 m c),
      (input_kept m _ h.1 c 8 rfl).trans (V_main_arg4 m c),
      (input_kept m _ h.1 c 5 rfl).trans (V_main_arg5 m c),
      (input_kept m _ h.1 c 9 rfl).trans (V_main_arg6 m c),
      (input_kept m _ h.1 c 10 rfl).trans (V_main_arg7 m c),
      (input_kept m _ h.1 c 11 rfl).trans (V_main_arg8 m c),
      (input_kept m _ h.1 c 12 rfl).trans (V_main_arg9 m c),
      (input_kept m _ h.1 c 13 rfl).trans (V_main_arg10 m c),
      (input_kept m _ h.1 c 14 rfl).trans (V_main_arg11 m c),
      (input_kept m _ h.1 c 15 rfl).trans (V_main_arg12 m c),
      (input_kept m _ h.1 c 16 rfl).trans (V_main_arg13 m c),
      (input_kept m _ h.1 c 17 rfl).trans (V_main_arg14 m c),
      (input_kept m _ h.1 c 18 rfl).trans (V_main_arg15 m c),
      (input_kept m _ h.1 c 19 rfl).trans (V_main_arg16 m c),
      (input_kept m _ h.1 c 20 rfl).trans (V_main_arg17 m c),
      (input_kept m _ h.1 c 21 rfl).trans (V_main_arg18 m c),
      (input_kept m _ h.1 c 22 rfl).trans (V_main_arg19 m c),
      (input_kept m _ h.1 c 23 rfl).trans (V_main_arg20 m c)⟩, h.2⟩) (run_main_forget m ρ fun _ t => Pipeline.Dat.unnamed (cfg := cfg0) 24 t)

end Cert.KernelIdeal.Gen

end
-- ==== Proof.RefFrame.lean ====
/- The reference's frame: its run leaves every argument as launched, and it declares no semaphore. -/
module

public import proofs.«01_k».proof.Defs
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

/-- The reference ends with its arguments unchanged and every counter at zero: the last conjuncts of its run. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.Proof

end
-- ==== Proof.Spec.lean ====
/- The network over the extended reals, one neuron and one synapse at a time: the scalar mathematics that the kernel and
   the reference are both read as. -/
module

public import Idealize.ShloMosaic.PureOps.Ideal
public import Mathlib.Tactic.Ring

@[expose] public section

noncomputable section

namespace Cert.Snn

open Idealize.ShloMosaic

/-- The extended real that a float word denotes. -/
abbrev wd (b : BitVec 32) : EReal := Ideal.ofBits .f32 b

/-- Half a millisecond of the membrane. -/
def half (v u I : EReal) : EReal :=
  v + wd 0x3F000000#32 * (((((wd 0x3D23D70A#32 * v) * v + wd 0x40A00000#32 * v) + wd 0x430C0000#32) - u) + I)

/-- The membrane before the reset. -/
def vMid (v u I : EReal) : EReal := half (half v u I) u I

/-- The recovery variable before the reset. -/
def uMid (a v u : EReal) : EReal := u + a * (wd 0x3E4CCCCD#32 * v - u)

/-- A bit as an extended real. -/
def bit (b : BitVec 1) : EReal := ((b.toNat : ℝ) : EReal)

/-- One where the membrane has reached the threshold, else zero. -/
def spk (v : EReal) : EReal := bit (Ideal.cmp .oge v (wd 0x41F00000#32))

/-- One step of a neuron with rate `a`, jump `d` and current `I`. -/
def stepS (a d I : EReal) (p : EReal × EReal) : EReal × EReal :=
  (Scalar.select (Ideal.cmp .ogt (spk (vMid p.1 p.2 I)) (wd 0x00000000#32)) (wd 0xC2820000#32) (vMid p.1 p.2 I),
   Scalar.select (Ideal.cmp .ogt (spk (vMid p.1 p.2 I)) (wd 0x00000000#32))
     (uMid a (vMid p.1 p.2 I) p.2 + d) (uMid a (vMid p.1 p.2 I) p.2))

/-- A neuron at rest. -/
def rest : EReal × EReal := (wd 0xC2820000#32, wd 0xC1500000#32)

/-- The neuron after `n` steps from `p`. -/
def runS (a : ℕ → EReal) (d : EReal) (I : ℕ → EReal) (p : EReal × EReal) : ℕ → EReal × EReal
  | 0 => p
  | n + 1 => stepS (a n) d (I n) (runS a d I p n)

/-- The spike of step `n`. -/
def spikeS (a : ℕ → EReal) (d : EReal) (I : ℕ → EReal) (n : ℕ) : EReal :=
  spk (vMid (runS a d I rest n).1 (runS a d I rest n).2 (I n))

/-- Equal rates and currents before step `n` give equal states at step `n`. -/
theorem runS_congr {a a' I I' : ℕ → EReal} {d : EReal} {p : EReal × EReal} {n : ℕ} (ha : ∀ t < n, a t = a' t)
    (hI : ∀ t < n, I t = I' t) : runS a d I p n = runS a' d I' p n := by
  induction n with
  | zero => rfl
  | succ n ih =>
    rw [runS, runS, ih (fun t h => ha t (by omega)) (fun t h => hI t (by omega)), ha n (by omega), hI n (by omega)]

/-- Equal rates before step `n` and currents up to it give equal spikes at step `n`. -/
theorem spikeS_congr {a a' I I' : ℕ → EReal} {d : EReal} {n : ℕ} (ha : ∀ t < n, a t = a' t)
    (hI : ∀ t ≤ n, I t = I' t) : spikeS a d I n = spikeS a' d I' n := by
  rw [spikeS, spikeS, runS_congr ha (fun t h => hI t (by omega)), hI n le_rfl]

/-- Running on: `m` steps from where `n` steps led. -/
theorem runS_add (a : ℕ → EReal) (d : EReal) (I : ℕ → EReal) (p : EReal × EReal) (n m : ℕ) :
    runS (fun t => a (n + t)) d (fun t => I (n + t)) (runS a d I p n) m = runS a d I p (n + m) := by
  induction m with
  | zero => rfl
  | succ m ih => rw [runS, ih]; rfl

/-- A spike is zero or one. -/
theorem spk_cases (v : EReal) : spk v = 0 ∨ spk v = 1 := by
  unfold spk bit
  have h := (Ideal.cmp .oge v (wd 0x41F00000#32)).isLt
  have h2 : (Ideal.cmp .oge v (wd 0x41F00000#32)).toNat = 0 ∨ (Ideal.cmp .oge v (wd 0x41F00000#32)).toNat = 1 := by omega
  rcases h2 with e | e <;> rw [e] <;> simp

/-- A trace: it decays by `l` and takes in `x`. -/
def tr (l : EReal) (x : ℕ → EReal) : ℕ → EReal
  | 0 => 0
  | n + 1 => tr l x n * l + x n

theorem tr_congr {l : EReal} {x x' : ℕ → EReal} {n : ℕ} (h : ∀ t < n, x t = x' t) : tr l x n = tr l x' n := by
  induction n with
  | zero => rfl
  | succ n ih => rw [tr, tr, ih (fun t ht => h t (by omega)), h n (by omega)]

/-- A spike train seen `d` steps late, silent before it starts. -/
def late (S : ℕ → EReal) (d t : ℕ) : EReal := if d ≤ t then S (t - d) else 0

end Cert.Snn

end
-- ==== Proof.Cells.lean ====
/- One update of a layer of neurons, as the vector operations of the kernel spell it, and eight of them in a row. -/
module

public import proofs.«01_k».proof.Proof.Gen.KernelIdeal

@[expose] public section

noncomputable section

namespace Cert.Snn

open Idealize.ShloMosaic

section Vectors

variable {F : FTy → Type} [FloatOps F] {s : Shape}

/-- The vector that holds one float word everywhere. -/
abbrev bc (s : Shape) (b : BitVec 32) : FVec F s .f32 := broadcast s (Scalar.ofBits .f32 b)

/-- Half a millisecond of the membrane: `v + 0.5 (0.04 v v + 5 v + 140 - u + I)`. -/
def vHalf (v u I : FVec F s .f32) : FVec F s .f32 :=
  addf v (mulf (bc s 0x3F000000#32) (addf (subf (addf (addf (mulf (mulf (bc s 0x3D23D70A#32) v) v)
    (mulf (bc s 0x40A00000#32) v)) (bc s 0x430C0000#32)) u) I))

/-- The membrane before the reset: two half steps at the same recovery variable. -/
def vPre (v u I : FVec F s .f32) : FVec F s .f32 := vHalf (vHalf v u I) u I

/-- The recovery variable before the reset. -/
def uPre (A v u : FVec F s .f32) : FVec F s .f32 := addf u (mulf A (subf (mulf (bc s 0x3E4CCCCD#32) v) u))

/-- One where the membrane has reached the threshold, zero elsewhere. -/
def spkV (v : FVec F s .f32) : FVec F s .f32 := sitofp .f32 (extui 32 (cmpf .oge v (bc s 0x41F00000#32)) (by decide))

/-- The membrane after the reset. -/
def vPost (v : FVec F s .f32) : FVec F s .f32 :=
  select (cmpf .ogt (spkV v) (bc s 0x00000000#32)) (bc s 0xC2820000#32) v

/-- The recovery variable after the reset. -/
def uPost (D v u : FVec F s .f32) : FVec F s .f32 :=
  select (cmpf .ogt (spkV v) (bc s 0x00000000#32)) (addf u D) u

/-- One step of a layer: rates `A`, jumps `D`, current `I`. -/
def cell (A D I : FVec F s .f32) (p : FVec F s .f32 × FVec F s .f32) : FVec F s .f32 × FVec F s .f32 :=
  (vPost (vPre p.1 p.2 I), uPost D (vPre p.1 p.2 I) (uPre A (vPre p.1 p.2 I) p.2))

/-- The layer after `n` steps. -/
def cells (A : ℕ → FVec F s .f32) (D : FVec F s .f32) (I : ℕ → FVec F s .f32) (p : FVec F s .f32 × FVec F s .f32) :
    ℕ → FVec F s .f32 × FVec F s .f32
  | 0 => p
  | n + 1 => cell (A n) D (I n) (cells A D I p n)

/-- The spikes of step `n`. -/
def spikesAt (A : ℕ → FVec F s .f32) (D : FVec F s .f32) (I : ℕ → FVec F s .f32) (p : FVec F s .f32 × FVec F s .f32)
    (n : ℕ) : FVec F s .f32 :=
  spkV (vPre (cells A D I p n).1 (cells A D I p n).2 (I n))

end Vectors

/-- Rows `m j` to `m j + m` lie in an array of `8 m` rows. -/
theorem slices8 {R m w j : ℕ} (h : 8 * m ≤ R) :
    (⟨2, ![R, w]⟩ : Shape).Slices ![m * (j % 8), 0] ⟨2, ![m, w]⟩ := by
  refine ⟨rfl, Fin.forall_fin_two.mpr ⟨?_, ?_⟩⟩
  · show m * (j % 8) + m ≤ R
    have : m * (j % 8) + m = m * (j % 8 + 1) := (Nat.mul_succ m (j % 8)).symm
    have := Nat.mul_le_mul_left m (show j % 8 + 1 ≤ 8 by omega)
    omega
  · show 0 + w ≤ w
    omega

/-- The `j`-th group of `m` rows of a block of `8 m`. -/
def group {α : Type} {R w : ℕ} (m : ℕ) (h : 8 * m ≤ R) (x : (⟨2, ![R, w]⟩ : Shape).Idx → α) (j : ℕ) :
    (⟨2, ![m, w]⟩ : Shape).Idx → α :=
  extractStridedSlice ⟨2, ![m, w]⟩ ![m * (j % 8), 0] x (slices8 h)

end Cert.Snn

end
-- ==== Proof.Trips.lean ====
/- One trip of each of the kernel's five loops: eight steps of its layers, and the block of spikes that it stores. -/
module

public import proofs.«01_k».proof.Proof.Cells
public import Idealize.ShloMosaic.Lib.Pipeline.Value
public import proofs.«01_k».proof.Proof.Gen.KernelIdeal.Loops

@[expose] public section

noncomputable section

namespace Cert.KernelIdeal.Gen

open Idealize.ShloMosaic Idealize.SL.Sem Cert.KernelIdeal Cert.Snn

variable {F : FTy → Type} [FloatOps F]

/-- The spikes of eight steps, one group of rows after the other. -/
def stack8 {m R w : ℕ} (x : ℕ → FVec F ⟨2, ![m, w]⟩ .f32)
    (h : Shape.Concatenates [⟨2, ![m, w]⟩, ⟨2, ![m, w]⟩, ⟨2, ![m, w]⟩, ⟨2, ![m, w]⟩, ⟨2, ![m, w]⟩, ⟨2, ![m, w]⟩, ⟨2, ![m, w]⟩, ⟨2, ![m, w]⟩] ⟨2, ![R, w]⟩ 0) :
    FVec F ⟨2, ![R, w]⟩ .f32 :=
  concatenate ⟨2, ![R, w]⟩ 0 [⟨_, x 0⟩, ⟨_, x 1⟩, ⟨_, x 2⟩, ⟨_, x 3⟩, ⟨_, x 4⟩, ⟨_, x 5⟩, ⟨_, x 6⟩, ⟨_, x 7⟩] h

variable (𝒱 : Variants) (c : Dev nD) (bd : Option 𝒱.V) (arg0 : Memref sig .tc .vmem S512x120 .f32) (harg0 : arg0.IsWhole) (arg1 : Memref sig .tc .vmem S119x119 .f32) (harg1 : arg1.IsWhole) (arg2 : Memref sig .tc .vmem S119x119 .f32) (harg2 : arg2.IsWhole) (arg3 : Memref sig .tc .vmem S120x1 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x128 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x128 .f32) (harg11 : arg11.IsWhole) (arg12 : Memref sig .tc .vmem S64x128 .f32) (harg12 : arg12.IsWhole) (arg13 : Memref sig .tc .vmem S64x128 .f32) (harg13 : arg13.IsWhole) (arg14 : Memref sig .tc .vmem S64x128 .f32) (harg14 : arg14.IsWhole) (arg15 : Memref sig .tc .vmem S64x128 .f32) (harg15 : arg15.IsWhole) (arg16 : Memref sig .tc .vmem S64x64 .f32) (harg16 : arg16.IsWhole) (arg17 : Memref sig .tc .vmem S128x512 .i32) (harg17 : arg17.IsWhole) (arg18 : Memref sig .tc .vmem S128x128 .i32) (harg18 : arg18.IsWhole) (arg19 : Memref sig .tc .vmem S128x512 .i32) (harg19 : arg19.IsWhole) (arg20 : Memref sig .tc .vmem S128x128 .i32) (harg20 : arg20.IsWhole) (arg21 : Memref sig .tc .vmem S64x128 .i32) (harg21 : arg21.IsWhole) (arg22 : Memref sig .tc .vmem S64x128 .i32) (harg22 : arg22.IsWhole) (arg23 : Memref sig .tc .vmem S64x64 .i32) (harg23 : arg23.IsWhole) (arg24 : Memref sig .tc .vmem S1664x119 .f32) (harg24 : arg24.IsWhole) (arg25 : Memref sig .tc .vmem S576x128 .f32) (harg25 : arg25.IsWhole) (arg26 : Memref sig .tc .vmem S576x128 .f32) (harg26 : arg26.IsWhole) (arg27 : Memref sig .tc .vmem S288x128 .f32) (harg27 : arg27.IsWhole) (arg28 : Memref sig .tc .vmem S288x128 .f32) (harg28 : arg28.IsWhole) (arg29 : Memref sig .tc .vmem S144x64 .f32) (harg29 : arg29.IsWhole) (arg30 : Memref sig .tc .vmem S144x64 .f32) (harg30 : arg30.IsWhole) (arg31 : Memref sig .tc .vmem S144x512 .f32) (harg31 : arg31.IsWhole) (arg32 : Memref sig .tc .vmem S144x512 .f32) (harg32 : arg32.IsWhole) (arg33 : Memref sig .tc .vmem S144x256 .f32) (harg33 : arg33.IsWhole) (arg34 : Memref sig .tc .vmem S144x256 .f32) (harg34 : arg34.IsWhole) (arg35 : Memref sig .tc .vmem S480x128 .f32) (harg35 : arg35.IsWhole) (arg36 : Memref sig .tc .vmem S480x128 .f32) (harg36 : arg36.IsWhole) (arg37 : Memref sig .tc .vmem S240x128 .f32) (harg37 : arg37.IsWhole) (arg38 : Memref sig .tc .vmem S240x128 .f32) (harg38 : arg38.IsWhole)

/-- Loop 1: the carried value after a trip. -/
theorem trip_t1_fst (v27 : FVec F S119x512 .f32) (v31 : FVec F S119x512 .f32) (v32 : FVec F S119x512 .f32) (X_arg3 : BufTy.Contents (Elt F) arg3.view.ty) (X_arg35 : BufTy.Contents (Elt F) arg35.view.ty) (X_arg36 : BufTy.Contents (Elt F) arg36.view.ty) (k : Fin k0_t1_loop.trips) (acc : FVec F S4x128 .f32 × FVec F S4x128 .f32 × FVec F S4x128 .f32 × FVec F S4x128 .f32) :
    tripR_k0_t1 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 v27 v31 v32 X_arg3 X_arg35 X_arg36 k acc
      = ((cells (fun j => broadcastTo S4x128 (group 1 (by decide) (shapeCast S8x1 (View.readAt (Elt F) arg3.view (Rect.unit (s := S120x1) (k0_off1 k) S8x1.size (facts.k0_off1_inb k)).toLoadRect X_arg3) facts.shapeCasts_S8x1_S8x1) j) facts.broadcasts_S1x1_S4x128) (bc S4x128 0x41000000#32) (group 4 (by decide) (View.readAt (Elt F) arg35.view (Rect.unit (s := S480x128) (k0_off2 k) S32x128.size (facts.k0_off2_inb k)).toLoadRect X_arg35)) (acc.1, acc.2.1) 8).1, (cells (fun j => broadcastTo S4x128 (group 1 (by decide) (shapeCast S8x1 (View.readAt (Elt F) arg3.view (Rect.unit (s := S120x1) (k0_off1 k) S8x1.size (facts.k0_off1_inb k)).toLoadRect X_arg3) facts.shapeCasts_S8x1_S8x1) j) facts.broadcasts_S1x1_S4x128) (bc S4x128 0x41000000#32) (group 4 (by decide) (View.readAt (Elt F) arg35.view (Rect.unit (s := S480x128) (k0_off2 k) S32x128.size (facts.k0_off2_inb k)).toLoadRect X_arg35)) (acc.1, acc.2.1) 8).2,
        cells (fun _ => bc S4x128 0x3CA3D70A#32) (bc S4x128 0x40000000#32) (group 4 (by decide) (View.readAt (Elt F) arg36.view (Rect.unit (s := S480x128) (k0_off2 k) S32x128.size (facts.k0_off2_inb k)).toLoadRect X_arg36)) acc.2.2 8) := by
  unfold tripR_k0_t1 trip_k0_t1
  rfl

/-- Loop 1: what a trip stores. -/
theorem trip_t1_snd (v27 : FVec F S119x512 .f32) (v31 : FVec F S119x512 .f32) (v32 : FVec F S119x512 .f32) (X_arg3 : BufTy.Contents (Elt F) arg3.view.ty) (X_arg35 : BufTy.Contents (Elt F) arg35.view.ty) (X_arg36 : BufTy.Contents (Elt F) arg36.view.ty) (k : Fin k0_t1_loop.trips) (acc : FVec F S4x128 .f32 × FVec F S4x128 .f32 × FVec F S4x128 .f32 × FVec F S4x128 .f32) :
    tripL_k0_t1 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 v27 v31 v32 X_arg3 X_arg35 X_arg36 k acc
      = ([⟨Rect.unit (s := S576x128) (k0_off3 k) S32x128.size (facts.k0_off3_inb k), stack8 (spikesAt (fun j => broadcastTo S4x128 (group 1 (by decide) (shapeCast S8x1 (View.readAt (Elt F) arg3.view (Rect.unit (s := S120x1) (k0_off1 k) S8x1.size (facts.k0_off1_inb k)).toLoadRect X_arg3) facts.shapeCasts_S8x1_S8x1) j) facts.broadcasts_S1x1_S4x128) (bc S4x128 0x41000000#32) (group 4 (by decide) (View.readAt (Elt F) arg35.view (Rect.unit (s := S480x128) (k0_off2 k) S32x128.size (facts.k0_off2_inb k)).toLoadRect X_arg35)) (acc.1, acc.2.1)) facts.concatenates_S4x128_S4x128_S4x128_S4x128_S4x128_S4x128_S4x128_S4x128_S32x128_d0⟩],
        [⟨Rect.unit (s := S576x128) (k0_off3 k) S32x128.size (facts.k0_off3_inb k), stack8 (spikesAt (fun _ => bc S4x128 0x3CA3D70A#32) (bc S4x128 0x40000000#32) (group 4 (by decide) (View.readAt (Elt F) arg36.view (Rect.unit (s := S480x128) (k0_off2 k) S32x128.size (facts.k0_off2_inb k)).toLoadRect X_arg36)) acc.2.2) facts.concatenates_S4x128_S4x128_S4x128_S4x128_S4x128_S4x128_S4x128_S4x128_S32x128_d0⟩]) := by
  unfold tripL_k0_t1 trip_k0_t1
  simp only [k0_pay41, k0_pay258, shapeCast_self]
  rfl

/-- Loop 2: the carried value after a trip. -/
theorem trip_t2_fst (v604 : FVec F S2x1 .f32) (v605 : FVec F S2x128 .f32) (X_arg37 : BufTy.Contents (Elt F) arg37.view.ty) (k : Fin k0_t2_loop.trips) (acc : FVec F S2x128 .f32 × FVec F S2x128 .f32) :
    tripR_k0_t2 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 v604 v605 X_arg37 k acc
      = cells (fun _ => bc S2x128 0x3DCCCCCD#32) (broadcastTo S2x128 v604 facts.broadcasts_S2x1_S2x128) (group 2 (by decide) (View.readAt (Elt F) arg37.view (Rect.unit (s := S240x128) (k0_off4 k) S16x128.size (facts.k0_off4_inb k)).toLoadRect X_arg37)) acc 8 := by
  unfold tripR_k0_t2 trip_k0_t2
  rfl

/-- Loop 2: what a trip stores. -/
theorem trip_t2_snd (v604 : FVec F S2x1 .f32) (v605 : FVec F S2x128 .f32) (X_arg37 : BufTy.Contents (Elt F) arg37.view.ty) (k : Fin k0_t2_loop.trips) (acc : FVec F S2x128 .f32 × FVec F S2x128 .f32) :
    tripL_k0_t2 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 v604 v605 X_arg37 k acc
      = [⟨Rect.unit (s := S288x128) (k0_off5 k) S16x128.size (facts.k0_off5_inb k), stack8 (spikesAt (fun _ => bc S2x128 0x3DCCCCCD#32) (broadcastTo S2x128 v604 facts.broadcasts_S2x1_S2x128) (group 2 (by decide) (View.readAt (Elt F) arg37.view (Rect.unit (s := S240x128) (k0_off4 k) S16x128.size (facts.k0_off4_inb k)).toLoadRect X_arg37)) acc) facts.concatenates_S2x128_S2x128_S2x128_S2x128_S2x128_S2x128_S2x128_S2x128_S16x128_d0⟩] := by
  unfold tripL_k0_t2 trip_k0_t2
  simp only [k0_pay358, shapeCast_self]
  rfl

/-- Loop 3: the carried value after a trip. -/
theorem trip_t3_fst (v37 : FVec F S119x119 .f32) (v592 : FVec F S119x128 .f32) (v593 : FVec F S119x128 .f32) (v775 : FVec F S119x128 .f32) (v779 : FVec F S128x128 .bf16) (v782 : FVec F S128x128 .bf16) (v785 : FVec F S128x128 .bf16) (v786 : FVec F S144x128 .bf16) (v922 : FVec F S119x128 .f32) (v924 : IVec S128x128 1) (X_arg38 : BufTy.Contents (Elt F) arg38.view.ty) (k : Fin k0_t3_loop.trips) (acc : FVec F S2x128 .f32 × FVec F S2x128 .f32) :
    tripR_k0_t3 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 v37 v592 v593 v775 v779 v782 v785 v786 v922 v924 X_arg38 k acc
      = cells (fun _ => bc S2x128 0x3DCCCCCD#32) (broadcastTo S2x128 (k0_pay388 (F := F)) facts.broadcasts_S2x1_S2x128) (group 2 (by decide) (View.readAt (Elt F) arg38.view (Rect.unit (s := S240x128) (k0_off6 k) S16x128.size (facts.k0_off6_inb k)).toLoadRect X_arg38)) acc 8 := by
  unfold tripR_k0_t3 trip_k0_t3
  rfl

/-- Loop 3: what a trip stores. -/
theorem trip_t3_snd (v37 : FVec F S119x119 .f32) (v592 : FVec F S119x128 .f32) (v593 : FVec F S119x128 .f32) (v775 : FVec F S119x128 .f32) (v779 : FVec F S128x128 .bf16) (v782 : FVec F S128x128 .bf16) (v785 : FVec F S128x128 .bf16) (v786 : FVec F S144x128 .bf16) (v922 : FVec F S119x128 .f32) (v924 : IVec S128x128 1) (X_arg38 : BufTy.Contents (Elt F) arg38.view.ty) (k : Fin k0_t3_loop.trips) (acc : FVec F S2x128 .f32 × FVec F S2x128 .f32) :
    tripL_k0_t3 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 v37 v592 v593 v775 v779 v782 v785 v786 v922 v924 X_arg38 k acc
      = [⟨Rect.unit (s := S288x128) (k0_off7 k) S16x128.size (facts.k0_off7_inb k), stack8 (spikesAt (fun _ => bc S2x128 0x3DCCCCCD#32) (broadcastTo S2x128 (k0_pay388 (F := F)) facts.broadcasts_S2x1_S2x128) (group 2 (by decide) (View.readAt (Elt F) arg38.view (Rect.unit (s := S240x128) (k0_off6 k) S16x128.size (facts.k0_off6_inb k)).toLoadRect X_arg38)) acc) facts.concatenates_S2x128_S2x128_S2x128_S2x128_S2x128_S2x128_S2x128_S2x128_S16x128_d0⟩] := by
  unfold tripL_k0_t3 trip_k0_t3
  simp only [k0_pay393, shapeCast_self]
  rfl

/-- Loop 4: the carried value after a trip. -/
theorem trip_t4_fst (v35 : FVec F S119x119 .f32) (v1213 : FVec F S119x64 .f32) (v1229 : FVec F S64x128 .bf16) (v1232 : FVec F S64x128 .bf16) (v1234 : FVec F S64x128 .bf16) (v1237 : FVec F S64x128 .bf16) (v1240 : FVec F S64x128 .bf16) (v1450 : FVec F S119x64 .f32) (v1459 : FVec F S119x64 .f32) (v1464 : FVec F S64x128 .bf16) (v1465 : FVec F S119x128 .bf16) (v1467 : FVec F S119x64 .f32) (X_arg35 : BufTy.Contents (Elt F) arg35.view.ty) (k : Fin k0_t4_loop.trips) (acc : FVec F S1x64 .f32 × FVec F S1x64 .f32) :
    tripR_k0_t4 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 v35 v1213 v1229 v1232 v1234 v1237 v1240 v1450 v1459 v1464 v1465 v1467 X_arg35 k acc
      = cells (fun _ => bc S1x64 0x3CA3D70A#32) (bc S1x64 0x41000000#32) (group 1 (by decide) (View.readAt (Elt F) arg35.view (Rect.unit (s := S480x128) (k0_off8 k) S8x64.size (facts.k0_off8_inb k)).toLoadRect X_arg35)) acc 8 := by
  unfold tripR_k0_t4 trip_k0_t4
  rfl

/-- Loop 4: what a trip stores. -/
theorem trip_t4_snd (v35 : FVec F S119x119 .f32) (v1213 : FVec F S119x64 .f32) (v1229 : FVec F S64x128 .bf16) (v1232 : FVec F S64x128 .bf16) (v1234 : FVec F S64x128 .bf16) (v1237 : FVec F S64x128 .bf16) (v1240 : FVec F S64x128 .bf16) (v1450 : FVec F S119x64 .f32) (v1459 : FVec F S119x64 .f32) (v1464 : FVec F S64x128 .bf16) (v1465 : FVec F S119x128 .bf16) (v1467 : FVec F S119x64 .f32) (X_arg35 : BufTy.Contents (Elt F) arg35.view.ty) (k : Fin k0_t4_loop.trips) (acc : FVec F S1x64 .f32 × FVec F S1x64 .f32) :
    tripL_k0_t4 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 v35 v1213 v1229 v1232 v1234 v1237 v1240 v1450 v1459 v1464 v1465 v1467 X_arg35 k acc
      = [⟨Rect.unit (s := S144x64) (k0_off9 k) S8x64.size (facts.k0_off9_inb k), stack8 (spikesAt (fun _ => bc S1x64 0x3CA3D70A#32) (bc S1x64 0x41000000#32) (group 1 (by decide) (View.readAt (Elt F) arg35.view (Rect.unit (s := S480x128) (k0_off8 k) S8x64.size (facts.k0_off8_inb k)).toLoadRect X_arg35)) acc) facts.concatenates_S1x64_S1x64_S1x64_S1x64_S1x64_S1x64_S1x64_S1x64_S8x64_d0⟩] := by
  unfold tripL_k0_t4 trip_k0_t4
  simp only [k0_pay492, shapeCast_self]
  rfl

/-- Loop 5: the carried value after a trip. -/
theorem trip_t5_fst (v35 : FVec F S119x119 .f32) (v37 : FVec F S119x119 .f32) (v1222 : FVec F S119x64 .f32) (v1483 : FVec F S119x64 .f32) (v1498 : FVec F S64x64 .bf16) (v1501 : FVec F S64x64 .bf16) (v1639 : FVec F S119x64 .f32) (v1644 : FVec F S64x64 .bf16) (v1645 : FVec F S119x64 .bf16) (v1647 : FVec F S119x64 .f32) (X_arg36 : BufTy.Contents (Elt F) arg36.view.ty) (k : Fin k0_t5_loop.trips) (acc : FVec F S1x64 .f32 × FVec F S1x64 .f32) :
    tripR_k0_t5 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 v35 v37 v1222 v1483 v1498 v1501 v1639 v1644 v1645 v1647 X_arg36 k acc
      = cells (fun _ => bc S1x64 0x3CA3D70A#32) (bc S1x64 0x41000000#32) (group 1 (by decide) (View.readAt (Elt F) arg36.view (Rect.unit (s := S480x128) (k0_off10 k) S8x64.size (facts.k0_off10_inb k)).toLoadRect X_arg36)) acc 8 := by
  unfold tripR_k0_t5 trip_k0_t5
  rfl

/-- Loop 5: what a trip stores. -/
theorem trip_t5_snd (v35 : FVec F S119x119 .f32) (v37 : FVec F S119x119 .f32) (v1222 : FVec F S119x64 .f32) (v1483 : FVec F S119x64 .f32) (v1498 : FVec F S64x64 .bf16) (v1501 : FVec F S64x64 .bf16) (v1639 : FVec F S119x64 .f32) (v1644 : FVec F S64x64 .bf16) (v1645 : FVec F S119x64 .bf16) (v1647 : FVec F S119x64 .f32) (X_arg36 : BufTy.Contents (Elt F) arg36.view.ty) (k : Fin k0_t5_loop.trips) (acc : FVec F S1x64 .f32 × FVec F S1x64 .f32) :
    tripL_k0_t5 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 v35 v37 v1222 v1483 v1498 v1501 v1639 v1644 v1645 v1647 X_arg36 k acc
      = [⟨Rect.unit (s := S144x64) (k0_off11 k) S8x64.size (facts.k0_off11_inb k), stack8 (spikesAt (fun _ => bc S1x64 0x3CA3D70A#32) (bc S1x64 0x41000000#32) (group 1 (by decide) (View.readAt (Elt F) arg36.view (Rect.unit (s := S480x128) (k0_off10 k) S8x64.size (facts.k0_off10_inb k)).toLoadRect X_arg36)) acc) facts.concatenates_S1x64_S1x64_S1x64_S1x64_S1x64_S1x64_S1x64_S1x64_S8x64_d0⟩] := by
  unfold tripL_k0_t5 trip_k0_t5
  simp only [k0_pay514, shapeCast_self]
  rfl

end Cert.KernelIdeal.Gen

end
-- ==== Proof.LoopValue.lean ====
/- What a loop of the kernel computes over the extended reals: after each trip it carries eight more steps of every neuron,
   and its buffer of spikes holds the steps so far. -/
module

public import proofs.«01_k».proof.Proof.Spec
public import proofs.«01_k».proof.Proof.Trips
public import Idealize.ShloMosaic.Lib.WritesUnit
public import Idealize.ShloMosaic.Lib.ValueIdx

@[expose] public section

noncomputable section

namespace Cert.Snn

open Idealize.ShloMosaic Idealize.ShloMosaic.ValueIdx Cert.KernelIdeal.Gen

/-- A bit widened to a word and read signed is the bit. -/
theorem bit_word (b : BitVec 1) : (((b.setWidth 32).toInt : ℝ) : EReal) = bit b := by
  have h : b = 0#1 ∨ b = 1#1 := by
    have := b.isLt
    rcases (show b.toNat = 0 ∨ b.toNat = 1 by omega) with e | e
    · exact .inl (BitVec.eq_of_toNat_eq e)
    · exact .inr (BitVec.eq_of_toNat_eq e)
  rcases h with rfl | rfl <;> simp [bit]

variable {s : Shape}

theorem spkV_apply (v : FVec Ideal s .f32) (j : s.Idx) : spkV v j = spk (v j) := bit_word _

theorem vPre_apply (v u I : FVec Ideal s .f32) (j : s.Idx) : vPre v u I j = vMid (v j) (u j) (I j) := rfl

theorem uPre_apply (A v u : FVec Ideal s .f32) (j : s.Idx) : uPre A v u j = uMid (A j) (v j) (u j) := rfl

/-- A step of a layer is a step of each neuron. -/
theorem cell_apply (A D I : FVec Ideal s .f32) (p : FVec Ideal s .f32 × FVec Ideal s .f32) (j : s.Idx) :
    ((cell A D I p).1 j, (cell A D I p).2 j) = stepS (A j) (D j) (I j) (p.1 j, p.2 j) := by
  refine Prod.ext ?_ ?_
  · show Scalar.select (Ideal.cmp .ogt (spkV (vPre p.1 p.2 I) j) _) _ _ = _
    rw [spkV_apply]
    rfl
  · show Scalar.select (Ideal.cmp .ogt (spkV (vPre p.1 p.2 I) j) _) _ _ = _
    rw [spkV_apply]
    rfl

/-- `n` steps of a layer are `n` steps of each neuron. -/
theorem cells_apply (A : ℕ → FVec Ideal s .f32) (D : FVec Ideal s .f32) (I : ℕ → FVec Ideal s .f32)
    (p : FVec Ideal s .f32 × FVec Ideal s .f32) (j : s.Idx) (n : ℕ) :
    ((cells A D I p n).1 j, (cells A D I p n).2 j)
      = runS (fun t => A t j) (D j) (fun t => I t j) (p.1 j, p.2 j) n := by
  induction n with
  | zero => rfl
  | succ n ih => rw [runS, ← ih]; exact cell_apply _ _ _ _ _

theorem spikesAt_apply (A : ℕ → FVec Ideal s .f32) (D : FVec Ideal s .f32) (I : ℕ → FVec Ideal s .f32)
    (p : FVec Ideal s .f32 × FVec Ideal s .f32) (j : s.Idx) (n : ℕ) :
    spikesAt A D I p n j
      = spk (vMid (runS (fun t => A t j) (D j) (fun t => I t j) (p.1 j, p.2 j) n).1
          (runS (fun t => A t j) (D j) (fun t => I t j) (p.1 j, p.2 j) n).2 (I n j)) := by
  rw [spikesAt, spkV_apply, vPre_apply, ← cells_apply]

/-- A group of rows read at an index. -/
theorem group_apply {α : Type} {R m w : ℕ} (h : 8 * m ≤ R) (x : (⟨2, ![R, w]⟩ : Shape).Idx → α) {j : ℕ} (hj : j < 8)
    (q : Fin m) (c : Fin w) (hq : m * j + q.val < R) : group m h x j (ix2 q c) = x (ix2 ⟨m * j + q.val, hq⟩ c) := by
  unfold group
  refine extractStridedSlice_apply _ _ _ _ _ (Fin.forall_fin_two.mpr ⟨?_, ?_⟩)
  · show m * j + q.val = m * (j % 8) + q.val
    rw [Nat.mod_eq_of_lt hj]
  · show c.val = 0 + c.val
    omega

/-- A stack of eight groups read at an index: the group that its row falls in. -/
theorem stack8_apply {m R w : ℕ} (x : ℕ → FVec Ideal ⟨2, ![m, w]⟩ .f32)
    (h : Shape.Concatenates [⟨2, ![m, w]⟩, ⟨2, ![m, w]⟩, ⟨2, ![m, w]⟩, ⟨2, ![m, w]⟩, ⟨2, ![m, w]⟩, ⟨2, ![m, w]⟩, ⟨2, ![m, w]⟩, ⟨2, ![m, w]⟩] ⟨2, ![R, w]⟩ 0)
    (r : Fin R) (c : Fin w) {j : ℕ} (hj : j < 8) (q : Fin m) (hr : r.val = m * j + q.val) :
    stack8 x h (ix2 r c) = x j (ix2 q c) := by
  have hm : 0 < m := lt_of_le_of_lt (Nat.zero_le _) q.isLt
  refine concatenate_ofFn_apply (N := 8) (s₁ := ⟨2, ![m, w]⟩) 0 (fun n => x n.val) h rfl m rfl (ix2 r c) ⟨j, hj⟩ ?_ (ix2 q c) ?_ ?_
  · show r.val / m = j
    rw [hr, Nat.mul_add_div hm, Nat.div_eq_of_lt q.isLt, Nat.add_zero]
  · show q.val = r.val % m
    rw [hr, Nat.mul_add_mod, Nat.mod_eq_of_lt q.isLt]
  · refine Fin.forall_fin_two.mpr ⟨fun h => absurd rfl h, fun _ => rfl⟩

/-- A loop's value. `S k` is what it carries after `k` trips and the pieces that it has stored, newest first. The blocks
    that it reads are rows of `cur`, its rates are `a`, its jumps `d`. After `k` trips neuron `(q, c)` has made `8 k`
    steps, and the buffer, whatever `base` left there, holds step `t`'s spikes in the rows from `m (16 + t)`. -/
theorem loop_value {sig : RefSig} {κ : Kind} {sp : Space} {H m R w : ℕ}
    (v : View sig κ sp ⟨2, ![H, w]⟩ .f32) (f : v.ty.Contents (Elt Ideal))
    (base : List (View.Piece (Elt Ideal) ⟨2, ![H, w]⟩ .f32))
    (S : ℕ → (FVec Ideal ⟨2, ![m, w]⟩ .f32 × FVec Ideal ⟨2, ![m, w]⟩ .f32)
      × List (View.Piece (Elt Ideal) ⟨2, ![H, w]⟩ .f32))
    (h8 : 8 * m ≤ R) (hR : R = 8 * m) (hc)
    (A : ℕ → ℕ → FVec Ideal ⟨2, ![m, w]⟩ .f32) (D : FVec Ideal ⟨2, ![m, w]⟩ .f32)
    (blk : ℕ → (⟨2, ![R, w]⟩ : Shape).Idx → EReal) (off : ℕ → Fin 2 → ℕ)
    (inb : ∀ k < 15, ∀ a : Fin 2, off k a + (![R, w] : Fin 2 → ℕ) a ≤ (![H, w] : Fin 2 → ℕ) a)
    (a : ℕ → EReal) (d : ℕ → EReal) (cur : ℕ → ℕ → EReal)
    (h0 : ∀ j, ((S 0).1.1 j, (S 0).1.2 j) = rest) (h0' : (S 0).2 = [])
    (hs : ∀ k (hk : k < 15), S (k + 1)
      = (cells (A k) D (group m h8 (blk k)) (S k).1 8,
         [⟨Rect.unit (s := ⟨2, ![H, w]⟩) (off k) ![R, w] (inb k hk),
            stack8 (spikesAt (A k) D (group m h8 (blk k)) (S k).1) hc⟩] ++ (S k).2))
    (hoff : ∀ k < 15, off k = ![m * (16 + 8 * k), 0])
    (hA : ∀ k < 15, ∀ j < 8, ∀ i, A k j i = a (8 * k + j))
    (hD : ∀ q c, D (ix2 q c) = d q.val)
    (hblk : ∀ k < 15, ∀ i c, blk k (ix2 i c) = cur (8 * m * k + i.val) c.val) (k : ℕ) (hk : k ≤ 15) :
    (∀ (q : Fin m) (c : Fin w), ((S k).1.1 (ix2 q c), (S k).1.2 (ix2 q c))
      = runS a (d q.val) (fun t => cur (m * t + q.val) c.val) rest (8 * k))
    ∧ (∀ (r : Fin H) (c : Fin w), v.read (Elt Ideal) (v.writes (Elt Ideal) f ((S k).2 ++ base)) (ix2 r c)
      = if m * 16 ≤ r.val ∧ r.val < m * (16 + 8 * k) then
          spikeS a (d (r.val % m)) (fun t => cur (m * t + r.val % m) c.val) (r.val / m - 16)
        else v.read (Elt Ideal) (v.writes (Elt Ideal) f base) (ix2 r c)) := by
  subst hR
  induction k with
  | zero =>
    refine ⟨fun q c => h0 _, fun r c => ?_⟩
    rw [h0', List.nil_append, if_neg (by omega)]
  | succ k ih =>
    obtain ⟨ih1, ih2⟩ := ih (by omega)
    have hk' : k < 15 := by omega
    -- the currents of the trip's eight steps
    have hI : ∀ (q : Fin m) (c : Fin w), ∀ t < 8,
        group m h8 (blk k) t (ix2 q c) = cur (m * (8 * k + t) + q.val) c.val := by
      intro q c t ht
      have hlt : m * t + q.val < 8 * m := by
        have h1 : m * t + m = m * (t + 1) := (Nat.mul_succ m t).symm
        have h2 := Nat.mul_le_mul_left m (show t + 1 ≤ 8 by omega)
        have h3 := q.isLt
        omega
      rw [group_apply h8 (blk k) ht q c hlt, hblk k hk']
      congr 1
      show 8 * m * k + (m * t + q.val) = m * (8 * k + t) + q.val
      ring
    -- a run of the trip from the carried value is the run so far, gone on
    have hrun : ∀ (q : Fin m) (c : Fin w), ∀ n ≤ 8,
        runS (fun t => A k t (ix2 q c)) (D (ix2 q c)) (fun t => group m h8 (blk k) t (ix2 q c))
          ((S k).1.1 (ix2 q c), (S k).1.2 (ix2 q c)) n
        = runS a (d q.val) (fun t => cur (m * t + q.val) c.val) rest (8 * k + n) := by
      intro q c n hn
      rw [ih1 q c, hD, ← runS_add]
      exact runS_congr (fun t ht => hA k hk' t (by omega) _) (fun t ht => hI q c t (by omega))
    refine ⟨fun q c => ?_, fun r c => ?_⟩
    · rw [hs k hk']
      show ((cells _ _ _ _ 8).1 _, (cells _ _ _ _ 8).2 _) = _
      rw [cells_apply, hrun q c 8 le_rfl]
      rfl
    · rw [hs k hk']
      show v.read (Elt Ideal) (v.writes (Elt Ideal) f (_ :: ((S k).2 ++ base))) (ix2 r c) = _
      rw [View.read_writes_cons_rows v f (inb k hk') _ _ (ix2 r c) (hoff k hk') (W := 8 * m) rfl rfl]
      have hm8 : m * (16 + 8 * (k + 1)) = m * (16 + 8 * k) + 8 * m := by ring
      have hm16 : m * 16 ≤ m * (16 + 8 * k) := Nat.mul_le_mul_left m (by omega)
      have hr0 : (ix2 r c (0 : Fin 2)).val = r.val := rfl
      by_cases h : m * (16 + 8 * k) ≤ r.val ∧ r.val < m * (16 + 8 * k) + 8 * m
      · rw [dif_pos h, if_pos ⟨by omega, by omega⟩]
        have hm : 0 < m := by
          rcases Nat.eq_zero_or_pos m with e | e
          · subst e; omega
          · exact e
        -- the row's step and neuron
        have hmod : r.val % m < m := Nat.mod_lt _ hm
        have hdm := Nat.div_add_mod r.val m
        have hd1 : 16 + 8 * k ≤ r.val / m := (Nat.le_div_iff_mul_le hm).mpr (by rw [Nat.mul_comm]; exact h.1)
        have hd2 : r.val / m < 16 + 8 * k + 8 := by
          refine Nat.div_lt_of_lt_mul ?_
          calc r.val < m * (16 + 8 * k) + 8 * m := h.2
            _ = m * (16 + 8 * k + 8) := by ring
        obtain ⟨j, hj⟩ : ∃ j, r.val / m = 16 + 8 * k + j := ⟨r.val / m - (16 + 8 * k), by omega⟩
        have hj8 : j < 8 := by omega
        have hloc : r.val - m * (16 + 8 * k) = m * j + r.val % m := by
          have : m * (16 + 8 * k + j) = m * (16 + 8 * k) + m * j := Nat.mul_add _ _ _
          rw [hj] at hdm
          omega
        have hidx : Rect.unitLocal (s := ⟨2, ![H, w]⟩) (off := ![m * (16 + 8 * k), 0]) (size := ![8 * m, w]) (ix2 r c)
              (Rect.unit_rows_mem (d := ![H, w]) (ix2 r c) rfl rfl h)
            = ix2 (⟨r.val - m * (16 + 8 * k), by omega⟩ : Fin (8 * m)) c := by
          refine funext (Fin.forall_fin_two.mpr ⟨Fin.ext rfl, Fin.ext ?_⟩)
          show c.val - 0 = c.val
          omega
        refine (congrArg _ hidx).trans ?_
        rw [stack8_apply _ hc _ c hj8 ⟨r.val % m, hmod⟩ hloc, spikesAt_apply, hrun _ c j (by omega), hI _ c j hj8]
        have e : r.val / m - 16 = 8 * k + j := by omega
        rw [e]
        rfl
      · rw [dif_neg h, ih2 r c]
        have hiff : (m * 16 ≤ r.val ∧ r.val < m * (16 + 8 * (k + 1))) ↔ (m * 16 ≤ r.val ∧ r.val < m * (16 + 8 * k)) := by
          omega
        simp only [hiff]

end Cert.Snn

end
-- ==== Proof.Shift.lean ====
/- The delayed synapses as the kernel spells them: for every delay, the rows of the history that many steps back,
against the weights that have this delay. -/
module

public import proofs.«01_k».proof.Proof.LoopValue
public import Idealize.ShloMosaic.Lib.MatmulPlain

@[expose] public section

noncomputable section

namespace Cert.Snn

open Idealize.ShloMosaic Idealize.ShloMosaic.ValueIdx

section Vectors

variable {F : FTy → Type} [FloatOps F] {s : Shape}

/-- The first of the three parts of a weight. -/
def part1 (w : FVec F s .f32) : FVec F s .bf16 := truncf .bf16 w (by decide)

/-- The second part of a weight: what the first leaves. -/
def part2 (w : FVec F s .f32) : FVec F s .bf16 :=
  truncf .bf16 (subf w (extf .f32 (part1 w) (by decide))) (by decide)

/-- The third part of a weight: what the first two leave. -/
def part3 (w : FVec F s .f32) : FVec F s .bf16 :=
  truncf .bf16 (subf (subf w (extf .f32 (part1 w) (by decide))) (extf .f32 (part2 w) (by decide))) (by decide)

/-- One where a synapse has the delay `d`, zero elsewhere. -/
def delayMask (sd : IVec s 32) (d : ℕ) : FVec F s .bf16 :=
  truncf .bf16 (sitofp .f32 (extui 32 (cmpi .eq sd (broadcast s (BitVec.ofNat 32 d))) (by decide))) (by decide)

/-- A history of 144 rows holds the rows from `16 - d` on. -/
theorem late_slices (K d : ℕ) : Shape.Slices (⟨2, ![144, K]⟩ : Shape) ![16 - d, 0] ⟨2, ![119, K]⟩ := by
  refine ⟨rfl, Fin.forall_fin_two.mpr ⟨?_, ?_⟩⟩
  · show 16 - d + 119 ≤ 144
    omega
  · show 0 + K ≤ K
    omega

/-- The spikes `d` steps back. -/
def lateRows {K : ℕ} (hist : FVec F ⟨2, ![144, K]⟩ .bf16) (d : ℕ) : FVec F ⟨2, ![119, K]⟩ .bf16 :=
  extractStridedSlice ⟨2, ![119, K]⟩ ![16 - d, 0] hist (late_slices K d)

variable {M K : ℕ} (dn : DotDims ⟨2, ![119, K]⟩ ⟨2, ![M, K]⟩ ⟨2, ![119, M]⟩) (hist : FVec F ⟨2, ![144, K]⟩ .f32)
  (sd : IVec ⟨2, ![M, K]⟩ 32)

/-- One part of the weights of one delay. -/
def shiftTerm (h : FVec F ⟨2, ![M, K]⟩ .bf16) (d : ℕ) : FVec F ⟨2, ![119, M]⟩ .f32 :=
  matmul dn none (lateRows (truncf .bf16 hist (by decide)) d) (mulf h (delayMask sd d))
    (constant ⟨2, ![119, M]⟩ .f32 0x00000000#32)

variable (w : FVec F ⟨2, ![M, K]⟩ .f32)

/-- The synapses of the delays up to `n`. -/
def shiftSum : ℕ → FVec F ⟨2, ![119, M]⟩ .f32
  | 0 => bc ⟨2, ![119, M]⟩ 0x00000000#32
  | d + 1 => addf (addf (addf (shiftSum d) (shiftTerm dn hist sd (part1 w) (d + 1)))
      (shiftTerm dn hist sd (part2 w) (d + 1))) (shiftTerm dn hist sd (part3 w) (d + 1))

end Vectors

section Values

variable {M K : ℕ} (hist : FVec Ideal ⟨2, ![144, K]⟩ .f32) (sd : IVec ⟨2, ![M, K]⟩ 32)

theorem sub_self_of_finite {x : EReal} (h1 : x ≠ ⊥) (h2 : x ≠ ⊤) : x - x = 0 := by
  lift x to ℝ using ⟨h2, h1⟩
  rw [← EReal.coe_sub, sub_self, EReal.coe_zero]

theorem zero_word : (Scalar.ofBits (F := Ideal) .f32 0x00000000#32 : EReal) = 0 := by
  show Ideal.ofBits .f32 0x00000000#32 = 0
  simp [Ideal.ofBits, Ideal.ieee]

theorem delayMask_apply (d : ℕ) (j) : (delayMask (F := Ideal) sd d j : EReal) = if sd j = BitVec.ofNat 32 d then 1 else 0 := by
  show (((BitVec.setWidth 32 (BitVec.ofBool (sd j == BitVec.ofNat 32 d))).toInt : ℝ) : EReal) = _
  by_cases h : sd j = BitVec.ofNat 32 d
  · rw [if_pos h, h]; simp
  · rw [if_neg h, beq_eq_false_iff_ne.mpr h]; simp

theorem shiftTerm_apply (h : FVec Ideal ⟨2, ![M, K]⟩ .bf16) (d : ℕ) (hd : d ≤ 10) (t : Fin 119) (i : Fin M) :
    (shiftTerm (DotDims.transposedRhs 119 K M) hist sd h d (ix2 t i) : EReal)
      = ∑ k : Fin K, hist (ix2 (⟨t.val + 16 - d, by omega⟩ : Fin 144) k)
          * (h (ix2 i k) * if sd (ix2 i k) = BitVec.ofNat 32 d then 1 else 0) := by
  unfold shiftTerm
  refine (Ideal.matmul_transposedRhs_apply _ _ _ _ t i).trans ?_
  show Scalar.ofBits (F := Ideal) .f32 0x00000000#32 + _ = _
  rw [zero_word, zero_add]
  refine Finset.sum_congr rfl fun k _ => ?_
  congr 1
  · refine extractStridedSlice_apply _ _ _ _ (ix2 (⟨t.val + 16 - d, by omega⟩ : Fin 144) k) ?_
    refine Fin.forall_fin_two.mpr ⟨?_, ?_⟩
    · show t.val + 16 - d = 16 - d + t.val
      omega
    · show k.val = 0 + k.val
      omega
  · exact congrArg (h (ix2 i k) * ·) (delayMask_apply sd d (ix2 i k))

/-- The delay of a synapse. -/
def delayOf {M K : ℕ} (sd : IVec ⟨2, ![M, K]⟩ 32) (i : Fin M) (k : Fin K) : ℕ := (sd (ix2 i k)).toNat

theorem parts_of_finite {w : EReal} (h1 : w ≠ ⊥) (h2 : w ≠ ⊤) : w - w = 0 ∧ w - w - (w - w) = 0 := by
  rw [sub_self_of_finite h1 h2]
  exact ⟨rfl, by simp⟩

variable (w : FVec Ideal ⟨2, ![M, K]⟩ .f32) (hw : ∀ j, (w j : EReal) ≠ ⊥ ∧ (w j : EReal) ≠ ⊤)

include hw in
/-- With finite weights the synapses of the delays up to `n` are a sum over those delays. -/
theorem shiftSum_apply (n : ℕ) (hn : n ≤ 10) (t : Fin 119) (i : Fin M) :
    (shiftSum (DotDims.transposedRhs 119 K M) hist sd w n (ix2 t i) : EReal)
      = ∑ d ∈ Finset.range n, ∑ k : Fin K, hist (ix2 (⟨t.val + 16 - (d + 1), by omega⟩ : Fin 144) k)
          * (w (ix2 i k) * if sd (ix2 i k) = BitVec.ofNat 32 (d + 1) then 1 else 0) := by
  induction n with
  | zero =>
    rw [Finset.sum_range_zero]
    exact zero_word
  | succ n ih =>
    rw [Finset.sum_range_succ, ← ih (by omega)]
    show (shiftSum (DotDims.transposedRhs 119 K M) hist sd w n (ix2 t i) : EReal)
      + shiftTerm (DotDims.transposedRhs 119 K M) hist sd (part1 w) (n + 1) (ix2 t i)
      + shiftTerm (DotDims.transposedRhs 119 K M) hist sd (part2 w) (n + 1) (ix2 t i)
      + shiftTerm (DotDims.transposedRhs 119 K M) hist sd (part3 w) (n + 1) (ix2 t i) = _
    rw [shiftTerm_apply _ _ _ _ hn, shiftTerm_apply _ _ _ _ hn, shiftTerm_apply _ _ _ _ hn]
    have e2 : ∀ j, (part2 w j : EReal) = 0 := fun j => sub_self_of_finite (hw j).1 (hw j).2
    have e3 : ∀ j, (part3 w j : EReal) = 0 := fun j => by
      show (w j - w j : EReal) - part2 w j = 0
      rw [e2 j, sub_self_of_finite (hw j).1 (hw j).2, sub_zero]
    simp only [e2, e3, zero_mul, mul_zero, Finset.sum_const_zero, add_zero]
    rfl

include hw in
/-- With finite weights and delays from one to ten, the synapses add the weighted spikes, each as late as its delay. -/
theorem shiftSum_late (S : ℕ → ℕ → EReal)
    (hS : ∀ (r : Fin 144) (k : Fin K), r.val < 135 → (hist (ix2 r k) : EReal) = if 16 ≤ r.val then S k.val (r.val - 16) else 0)
    (hsd : ∀ i k, 1 ≤ delayOf sd i k ∧ delayOf sd i k ≤ 10) (t : Fin 119) (i : Fin M) :
    (shiftSum (DotDims.transposedRhs 119 K M) hist sd w 10 (ix2 t i) : EReal)
      = ∑ k : Fin K, w (ix2 i k) * late (S k.val) (delayOf sd i k) t.val := by
  rw [shiftSum_apply hist sd w hw 10 le_rfl, Finset.sum_comm]
  refine Finset.sum_congr rfl fun k _ => ?_
  obtain ⟨h1, h2⟩ := hsd i k
  have ht := t.isLt
  obtain ⟨e, he⟩ : ∃ e, delayOf sd i k = e + 1 := ⟨delayOf sd i k - 1, by omega⟩
  have hsdk : sd (ix2 i k) = BitVec.ofNat 32 (e + 1) := by
    rw [← he]
    simp [delayOf]
  rw [Finset.sum_eq_single e]
  · rw [if_pos hsdk, mul_one, mul_comm, hS _ _ (by show t.val + 16 - (e + 1) < 135; omega), he]
    unfold late
    congr 1
    by_cases h : e + 1 ≤ t.val
    · rw [if_pos h, if_pos (by show 16 ≤ t.val + 16 - (e + 1); omega)]
      congr 1
      show t.val + 16 - (e + 1) - 16 = _
      omega
    · rw [if_neg h, if_neg (by show ¬ 16 ≤ t.val + 16 - (e + 1); omega)]
  · intro d hd hne
    rw [if_neg, mul_zero, mul_zero]
    intro h
    rw [hsdk] at h
    have h' := congrArg BitVec.toNat h
    have := Finset.mem_range.mp hd
    simp only [BitVec.toNat_ofNat] at h'
    omega
  · intro h
    exact absurd (Finset.mem_range.mpr (by omega)) h

end Values

end Cert.Snn

end
-- ==== Proof.Net.lean ====
/- The network in the order in which the kernel evaluates it: every current as a sum over the steps before it. -/
module

public import proofs.«01_k».proof.Proof.Shift

@[expose] public section

noncomputable section

namespace Cert.Snn

open Idealize.ShloMosaic Idealize.ShloMosaic.ValueIdx Cert.KernelIdeal

/-- A filter over the steps: row `t` of the matrix against the rows of `X`. -/
def filt (e : FVec Ideal S119x119 .f32) (X : ℕ → ℕ → EReal) (t i : ℕ) : EReal :=
  if h : t < 119 then ∑ s : Fin 119, e (ix2 (⟨t, h⟩ : Fin 119) s) * X s.val i else 0

/-- The weighted late spikes that reach neuron `i` at step `t`. -/
def arrive {M K : ℕ} (w : FVec Ideal ⟨2, ![M, K]⟩ .f32) (sd : IVec ⟨2, ![M, K]⟩ 32) (S : ℕ → ℕ → EReal) (t i : ℕ) : EReal :=
  if h : i < M then ∑ k : Fin K, w (ix2 (⟨i, h⟩ : Fin M) k) * late (S k.val) (delayOf sd ⟨i, h⟩ k) t else 0

/-- The current of a layer behind the input. -/
def drive (e : FVec Ideal S119x119 .f32) (x : ℕ → ℕ → EReal) (w : FVec Ideal S512x512 .f32) (t n : ℕ) : EReal :=
  if h : n < 512 then ∑ k : Fin 512, filt e x t k.val * w (ix2 (⟨n, h⟩ : Fin 512) k) else 0

/-- The spikes of a layer whose neuron `n` has the current `I t n` at step `t`. -/
def fires (a : ℕ → EReal) (d : EReal) (I : ℕ → ℕ → EReal) (n t : ℕ) : EReal := spikeS a d (fun s => I s n) t

theorem fires_congr {a a' : ℕ → EReal} {d : EReal} {I I' : ℕ → ℕ → EReal} {n t : ℕ} (ha : ∀ s < t, a s = a' s)
    (hI : ∀ s ≤ t, I s n = I' s n) : fires a d I n t = fires a' d I' n t := spikeS_congr ha hI

/-- The input at step `t`. -/
def stimAt (x : FVec Ideal S512x120 .f32) (t k : ℕ) : EReal :=
  if h : t < 119 ∧ k < 512 then x (ix2 (⟨k, h.2⟩ : Fin 512) (⟨1 + t, by omega⟩ : Fin 120)) else 0

/-- The magnitude of a number. -/
def mag (x : EReal) : EReal := max x (-x)

/-- The change of the input at step `t`, times five. -/
def jumpAt (x : FVec Ideal S512x120 .f32) (t k : ℕ) : EReal :=
  if h : t < 119 ∧ k < 512 then
    mag (x (ix2 (⟨k, h.2⟩ : Fin 512) (⟨1 + t, by omega⟩ : Fin 120))
      - x (ix2 (⟨k, h.2⟩ : Fin 512) (⟨0 + t, by omega⟩ : Fin 120))) * wd 0x40A00000#32
  else 0

/-- The rates of the first layer, a step each. -/
def rateAt (x : FVec Ideal S120x1 .f32) (t : ℕ) : EReal :=
  if h : t < 120 then x (ix2 (⟨t, h⟩ : Fin 120) (0 : Fin 1)) else 0

/-- What the kernel is given. -/
structure KIn where
  x0 : FVec Ideal S512x120 .f32
  x1 : FVec Ideal S119x119 .f32
  x2 : FVec Ideal S119x119 .f32
  x3 : FVec Ideal S120x1 .f32
  x4 : FVec Ideal S512x512 .f32
  x5 : FVec Ideal S512x512 .f32
  x6 : FVec Ideal S128x512 .f32
  x7 : FVec Ideal S128x512 .f32
  x8 : FVec Ideal S128x128 .f32
  x9 : FVec Ideal S128x512 .f32
  x10 : FVec Ideal S128x512 .f32
  x11 : FVec Ideal S128x128 .f32
  x12 : FVec Ideal S64x128 .f32
  x13 : FVec Ideal S64x128 .f32
  x14 : FVec Ideal S64x128 .f32
  x15 : FVec Ideal S64x128 .f32
  x16 : FVec Ideal S64x64 .f32
  x17 : IVec S128x512 32
  x18 : IVec S128x128 32
  x19 : IVec S128x512 32
  x20 : IVec S128x128 32
  x21 : IVec S64x128 32
  x22 : IVec S64x128 32
  x23 : IVec S64x64 32

/-- Every entry is a number. -/
def Finite {s : Shape} (w : FVec Ideal s .f32) : Prop := ∀ j, (w j : EReal) ≠ ⊥ ∧ (w j : EReal) ≠ ⊤

/-- Every delay is from one to ten steps. -/
def Delays {M K : ℕ} (sd : IVec ⟨2, ![M, K]⟩ 32) : Prop := ∀ i k, 1 ≤ delayOf sd i k ∧ delayOf sd i k ≤ 10

/-- The weights of the delayed synapses are numbers and their delays from one to ten steps. -/
structure KIn.Ok (X : KIn) : Prop where
  w6 : Finite X.x6
  w7 : Finite X.x7
  w8 : Finite X.x8
  w9 : Finite X.x9
  w10 : Finite X.x10
  w11 : Finite X.x11
  w12 : Finite X.x12
  w13 : Finite X.x13
  w14 : Finite X.x14
  w15 : Finite X.x15
  w16 : Finite X.x16
  d17 : Delays X.x17
  d18 : Delays X.x18
  d19 : Delays X.x19
  d20 : Delays X.x20
  d21 : Delays X.x21
  d22 : Delays X.x22
  d23 : Delays X.x23

namespace KIn

variable (X : KIn)

/-- Spikes of the first layer of each branch, neuron and step. -/
def sa0 : ℕ → ℕ → EReal := fires (rateAt X.x3) (wd 0x41000000#32) (drive X.x1 (stimAt X.x0) X.x4)
def ra0 : ℕ → ℕ → EReal := fires (fun _ => wd 0x3CA3D70A#32) (wd 0x40000000#32) (drive X.x1 (jumpAt X.x0) X.x5)

/-- Spikes of the inner neurons of each branch. -/
def sa1 : ℕ → ℕ → EReal :=
  fires (fun _ => wd 0x3DCCCCCD#32) (wd 0x40C00000#32) (filt X.x1 (arrive X.x6 X.x17 X.sa0))
def ra1 : ℕ → ℕ → EReal :=
  fires (fun _ => wd 0x3DCCCCCD#32) (wd 0x40000000#32) (filt X.x1 (arrive X.x9 X.x19 X.ra0))

/-- Currents and spikes of the projection neurons of each branch. -/
def iSa2 (t i : ℕ) : EReal := filt X.x1 (arrive X.x7 X.x17 X.sa0) t i - filt X.x2 (arrive X.x8 X.x18 X.sa1) t i
def iRa2 (t i : ℕ) : EReal := filt X.x1 (arrive X.x10 X.x19 X.ra0) t i - filt X.x2 (arrive X.x11 X.x20 X.ra1) t i
def sa2 : ℕ → ℕ → EReal := fires (fun _ => wd 0x3DCCCCCD#32) (wd 0x40C00000#32) X.iSa2
def ra2 : ℕ → ℕ → EReal := fires (fun _ => wd 0x3DCCCCCD#32) (wd 0x40000000#32) X.iRa2

/-- Currents and spikes of the two kinds of cuneate neurons. -/
def iCn0 : ℕ → ℕ → EReal := filt X.x1 (fun t i => arrive X.x12 X.x21 X.sa2 t i + arrive X.x14 X.x22 X.ra2 t i)
def cn0 : ℕ → ℕ → EReal := fires (fun _ => wd 0x3CA3D70A#32) (wd 0x41000000#32) X.iCn0
def iCn1 (t i : ℕ) : EReal :=
  wd 0x40000000#32 * filt X.x1 (fun t i => arrive X.x13 X.x21 X.sa2 t i + arrive X.x15 X.x22 X.ra2 t i) t i
    - filt X.x2 (arrive X.x16 X.x23 X.cn0) t i
def cn1 : ℕ → ℕ → EReal := fires (fun _ => wd 0x3CA3D70A#32) (wd 0x41000000#32) X.iCn1

/-- The spikes of all neurons, in the order of the output's rows. -/
def out (n t : ℕ) : EReal :=
  if n < 512 then X.sa0 n t
  else if n < 640 then X.sa1 (n - 512) t
  else if n < 768 then X.sa2 (n - 640) t
  else if n < 1280 then X.ra0 (n - 768) t
  else if n < 1408 then X.ra1 (n - 1280) t
  else if n < 1536 then X.ra2 (n - 1408) t
  else if n < 1600 then X.cn0 (n - 1536) t
  else X.cn1 (n - 1600) t

end KIn

end Cert.Snn

end
-- ==== Proof.KernelHost.lean ====
/- What the idealized kernel's launch holds when the body starts. -/
module

public import proofs.«01_k».proof.Proof.Net
public import proofs.«01_k».proof.Proof.Gen.KernelIdeal.Frame
public import proofs.«01_k».proof.Proof.Spec

@[expose] public section

noncomputable section

namespace Cert.KernelIdeal.Gen

open Idealize.ShloMosaic Idealize.ShloMosaic.ValueIdx Idealize.SL.Sem Cert.KernelIdeal Cert.Snn

variable (m : (ℓ : Loc nD τ sig) → Buf (Elt Ideal) ℓ) (ρ : Dev nD → PrngReg)

/-- The table of the decays of a filter, from the word of minus one over its time constant. -/
def decayV (w : BitVec 32) : FVec Ideal S119x119 .f32 :=
  select (cmpi .sge (iotaInDim S119x119 32 0) (iotaInDim S119x119 32 1))
    (Host.exp (mulf (sitofp .f32 (subi (iotaInDim S119x119 32 0) (iotaInDim S119x119 32 1))) (broadcastInDim S119x119 ![] facts.bcast_S_S119x119 (constant S_ .f32 w))))
    (broadcastInDim S119x119 ![] facts.bcast_S_S119x119 (constant S_ .f32 0x00000000#32))

/-- The table of the rates of recovery. -/
def rateV : FVec Ideal S120x1 .f32 :=
  mulf (broadcastInDim S120x1 ![] facts.bcast_S_S120x1 (constant S_ .f32 0x3CA3D70A#32))
    (Host.exp (mulf (sitofp .f32 (iotaInDim S120x1 32 0)) (broadcastInDim S120x1 ![] facts.bcast_S_S120x1 (Host.log (constant S_ .f32 0x3F8147AE#32)))))

/-- What the body reads, from what the launch holds. -/
def kin (c : Dev nD) : KIn where
  x0 := shapeCast S512x120 (m (c.tc.loc main_arg0)) facts.shapeCasts_S1x512x120_S512x120
  x1 := decayV 0xBE4CCCCD#32
  x2 := decayV 0xBDCCCCCD#32
  x3 := rateV
  x4 := m (c.tc.loc main_arg1)
  x5 := m (c.tc.loc main_arg5)
  x6 := m (c.tc.loc main_arg2)
  x7 := m (c.tc.loc main_arg3)
  x8 := m (c.tc.loc main_arg4)
  x9 := m (c.tc.loc main_arg6)
  x10 := m (c.tc.loc main_arg7)
  x11 := m (c.tc.loc main_arg8)
  x12 := m (c.tc.loc main_arg9)
  x13 := m (c.tc.loc main_arg10)
  x14 := m (c.tc.loc main_arg11)
  x15 := m (c.tc.loc main_arg12)
  x16 := m (c.tc.loc main_arg13)
  x17 := m (c.tc.loc main_arg14)
  x18 := m (c.tc.loc main_arg15)
  x19 := m (c.tc.loc main_arg16)
  x20 := m (c.tc.loc main_arg17)
  x21 := m (c.tc.loc main_arg18)
  x22 := m (c.tc.loc main_arg19)
  x23 := m (c.tc.loc main_arg20)

theorem V_v8 (c : Dev nD) : V m c main_v8 = decayV 0xBE4CCCCD#32 := by
  unfold V
  simp only [List.flatten_cons, List.flatten_nil, List.append_nil, List.cons_append, List.nil_append, hostOps0, hostOps0_1, hostOps0_2, hostOps0_3, hostOps0_4]
  after_results
  rfl

theorem V_v17 (c : Dev nD) : V m c main_v17 = decayV 0xBDCCCCCD#32 := by
  unfold V
  simp only [List.flatten_cons, List.flatten_nil, List.append_nil, List.cons_append, List.nil_append, hostOps0, hostOps0_1, hostOps0_2, hostOps0_3, hostOps0_4]
  after_results
  rfl

theorem V_v25 (c : Dev nD) : V m c main_v25 = rateV := by
  unfold V
  simp only [List.flatten_cons, List.flatten_nil, List.append_nil, List.cons_append, List.nil_append, hostOps0, hostOps0_1, hostOps0_2, hostOps0_3, hostOps0_4]
  after_results
  rfl

theorem V_v26 (c : Dev nD) : V m c main_v26 = shapeCast S512x120 (m (c.tc.loc main_arg0)) facts.shapeCasts_S1x512x120_S512x120 := by
  unfold V
  simp only [List.flatten_cons, List.flatten_nil, List.append_nil, List.cons_append, List.nil_append, hostOps0, hostOps0_1, hostOps0_2, hostOps0_3, hostOps0_4]
  after_results
  rfl

end Cert.KernelIdeal.Gen
-- ==== Proof.Pre.lean ====
/- What the precondition says: the weights of the delayed synapses are numbers, their delays from one to ten steps. -/
module

public import proofs.«01_k».proof.Defs
public import proofs.«01_k».proof.Proof.KernelHost
public import Idealize.ShloMosaic.Lib.Decide
public import Idealize.ShloMosaic.Lib.ReduceAll
public import Idealize.ShloMosaic.Lib.Pointwise.Select

@[expose] public section

set_option maxRecDepth 65536

noncomputable section

namespace Cert.Pre_usual

open Idealize.ShloMosaic hiding ix1 ix2 ix3

/-- The shapes that the precondition's operations need. -/
instance facts : Facts where
  bcast_S_S128x512 := by decide
  reducesTo_S128x512_S_d0_1 := by decide
  h_S_ := by decide
  bcast_S_S128x128 := by decide
  reducesTo_S128x128_S_d0_1 := by decide
  bcast_S_S64x128 := by decide
  reducesTo_S64x128_S_d0_1 := by decide
  bcast_S_S64x64 := by decide
  reducesTo_S64x64_S_d0_1 := by decide

open Cert.Snn Idealize.ShloMosaic.ValueIdx

instance : Subsingleton S_.Idx := ⟨fun a b => funext fun i => i.elim0⟩

/-- Both sides of a conjunction hold. -/
theorem both {x y : IVec S_ 1} {i : S_.Idx} (h : andi x y i = 1#1) : x i = 1#1 ∧ y i = 1#1 := IntOp.andi_eq_one.1 h

/-- An array whose absolute values are all below infinity holds numbers. -/
theorem finite_of {s : Shape} {axes : List (Fin s.rank)} (w : FVec Ideal s .f32) (hb : S_.BroadcastsInDim s (![] : Fin 0 → Fin s.rank))
    (hr : s.ReducesTo axes S_) (hu : 0 < S_.numel) (i : S_.Idx)
    (h : Host.reduce IntOp.andi (cmpf .olt (Host.absf w) (broadcastInDim s ![] hb (constant (F := Ideal) S_ .f32 0x7F800000#32)))
      (constantI S_ 1 1#1) hr hu i = 1#1) : Finite w := by
  intro j
  have e : Ideal.cmp .olt (max (w j : EReal) (-(w j : EReal))) (Ideal.ofBits .f32 0x7F800000#32) = 1 := Host.reduce_andi_all _ _ hr hu i h j
  have l := (Ideal.cmp_olt_eq_one _ _).1 e
  rw [show Ideal.ofBits .f32 0x7F800000#32 = ⊤ by simp [Ideal.ofBits, Ideal.ieee]] at l
  refine ⟨fun hz => ?_, fun hz => ?_⟩
  · rw [hz] at l; simp at l
  · rw [hz] at l; simp at l

/-- An array of words from one to ten holds delays. -/
theorem delays_of {M K : ℕ} {axes : List (Fin (Shape.rank ⟨2, ![M, K]⟩))} (d : IVec ⟨2, ![M, K]⟩ 32)
    (hb hb' : S_.BroadcastsInDim ⟨2, ![M, K]⟩ (![] : Fin 0 → Fin (Shape.rank ⟨2, ![M, K]⟩)))
    (hr : Shape.ReducesTo ⟨2, ![M, K]⟩ axes S_) (hu : 0 < S_.numel) (i : S_.Idx)
    (h : Host.reduce IntOp.andi (andi (cmpi .sge d (broadcastInDim ⟨2, ![M, K]⟩ ![] hb (constantI S_ 32 1#32)))
      (cmpi .sle d (broadcastInDim ⟨2, ![M, K]⟩ ![] hb' (constantI S_ 32 10#32)))) (constantI S_ 1 1#1) hr hu i = 1#1) : Delays d := by
  intro a b
  have e : IntOp.andi (IntOp.cmpi .sge (d (ix2 a b)) 1#32) (IntOp.cmpi .sle (d (ix2 a b)) 10#32) = 1#1 :=
    Host.reduce_andi_all _ _ hr hu i h (ix2 a b)
  obtain ⟨l, r⟩ := IntOp.andi_eq_one.1 e
  have l' := IntOp.cmpi_sge.1 l
  have r' := IntOp.cmpi_sle.1 r
  rw [show (1#32 : BitVec 32).toInt = 1 by decide] at l'
  rw [show (10#32 : BitVec 32).toInt = 10 by decide] at r'
  unfold delayOf
  rw [BitVec.toInt_eq_toNat_cond] at l' r'
  have := (d (ix2 a b)).isLt
  split at l' <;> split at r' <;> omega

end Cert.Pre_usual

namespace Cert.KernelIdeal.Gen

open Idealize.ShloMosaic Cert.KernelIdeal Cert.Snn Cert.Pre_usual

/-- Under the precondition the kernel's weights are numbers and its delays are in range. -/
theorem ok_of_pre (m : (ℓ : Loc nD τ sig) → Buf (Elt Ideal) ℓ) (h : Cert.Pre_KernelIdeal_usual m) (c : Dev nD) : (kin m c).Ok := by
  have h0 := congrFun (h c) (fun i => i.elim0)
  dsimp only [Pre_usual.fn, Pre_usual.fn_part1, Pre_usual.fn_part2, Pre_usual.fn_part3, Pre_usual.fn_part4, Pre_usual.fn_part5, Pre_usual.fn_part6] at h0
  obtain ⟨h1, p0⟩ := both h0
  obtain ⟨h2, p1⟩ := both h1
  obtain ⟨h3, p2⟩ := both h2
  obtain ⟨h4, p3⟩ := both h3
  obtain ⟨h5, p4⟩ := both h4
  obtain ⟨h6, p5⟩ := both h5
  obtain ⟨h7, p6⟩ := both h6
  obtain ⟨h8, p7⟩ := both h7
  obtain ⟨h9, p8⟩ := both h8
  obtain ⟨h10, p9⟩ := both h9
  obtain ⟨h11, p10⟩ := both h10
  obtain ⟨h12, p11⟩ := both h11
  obtain ⟨h13, p12⟩ := both h12
  obtain ⟨h14, p13⟩ := both h13
  obtain ⟨h15, p14⟩ := both h14
  obtain ⟨h16, p15⟩ := both h15
  obtain ⟨h17, p16⟩ := both h16
  exact {
    w6 := finite_of _ _ _ _ _ h17
    w7 := finite_of _ _ _ _ _ p16
    w8 := finite_of _ _ _ _ _ p15
    w9 := finite_of _ _ _ _ _ p14
    w10 := finite_of _ _ _ _ _ p13
    w11 := finite_of _ _ _ _ _ p12
    w12 := finite_of _ _ _ _ _ p11
    w13 := finite_of _ _ _ _ _ p10
    w14 := finite_of _ _ _ _ _ p9
    w15 := finite_of _ _ _ _ _ p8
    w16 := finite_of _ _ _ _ _ p7
    d17 := delays_of _ _ _ _ _ _ p6
    d18 := delays_of _ _ _ _ _ _ p5
    d19 := delays_of _ _ _ _ _ _ p4
    d20 := delays_of _ _ _ _ _ _ p3
    d21 := delays_of _ _ _ _ _ _ p2
    d22 := delays_of _ _ _ _ _ _ p1
    d23 := delays_of _ _ _ _ _ _ p0
  }

end Cert.KernelIdeal.Gen

end
-- ==== Proof.LoopHist.lean ====
/- What each of the kernel's five loops leaves in its buffer: rows of zeros, and then the spikes of every step. -/
module

public import proofs.«01_k».proof.Proof.LoopValue

@[expose] public section

noncomputable section

namespace Cert.Snn

open Idealize.ShloMosaic Idealize.ShloMosaic.ValueIdx Cert.KernelIdeal.Gen

/-- The buffer of a loop: sixteen steps of zeros, then the spikes of 119 steps of the currents `I`. -/
theorem loop_hist {sig : RefSig} {κ : Kind} {sp : Space} {H m R w B : ℕ} (hm : 0 < m)
    (v : View sig κ sp ⟨2, ![H, w]⟩ .f32) (f : v.ty.Contents (Elt Ideal))
    (inb0 : ∀ a : Fin 2, (![0, 0] : Fin 2 → ℕ) a + (![B, w] : Fin 2 → ℕ) a ≤ (![H, w] : Fin 2 → ℕ) a)
    (z : (⟨2, ![B, w]⟩ : Shape).Idx → EReal) (hz : ∀ j, z j = 0) (hB : B = m * 16)
    (S : ℕ → (FVec Ideal ⟨2, ![m, w]⟩ .f32 × FVec Ideal ⟨2, ![m, w]⟩ .f32)
      × List (View.Piece (Elt Ideal) ⟨2, ![H, w]⟩ .f32))
    (h8 : 8 * m ≤ R) (hR : R = 8 * m) (hc)
    (A : ℕ → ℕ → FVec Ideal ⟨2, ![m, w]⟩ .f32) (D : FVec Ideal ⟨2, ![m, w]⟩ .f32)
    (blk : ℕ → (⟨2, ![R, w]⟩ : Shape).Idx → EReal) (off : ℕ → Fin 2 → ℕ)
    (inb : ∀ k < 15, ∀ a : Fin 2, off k a + (![R, w] : Fin 2 → ℕ) a ≤ (![H, w] : Fin 2 → ℕ) a)
    (a : ℕ → EReal) (d : ℕ → EReal) (I : ℕ → ℕ → ℕ → EReal)
    (h0 : ∀ j, ((S 0).1.1 j, (S 0).1.2 j) = rest) (h0' : (S 0).2 = [])
    (hs : ∀ k (hk : k < 15), S (k + 1)
      = (cells (A k) D (group m h8 (blk k)) (S k).1 8,
         [⟨Rect.unit (s := ⟨2, ![H, w]⟩) (off k) ![R, w] (inb k hk),
            stack8 (spikesAt (A k) D (group m h8 (blk k)) (S k).1) hc⟩] ++ (S k).2))
    (hoff : ∀ k < 15, off k = ![m * (16 + 8 * k), 0])
    (hA : ∀ k < 15, ∀ j < 8, ∀ i, A k j i = a (8 * k + j))
    (hD : ∀ q c, D (ix2 q c) = d q.val)
    (hblk : ∀ k < 15, ∀ j < 8, ∀ (q : Fin m) (c : Fin w) (hj : m * j + q.val < R), 8 * k + j < 119 →
      blk k (ix2 ⟨m * j + q.val, hj⟩ c) = I (8 * k + j) q.val c.val)
    (t : ℕ) (ht : t < 135) (q : Fin m) (c : Fin w) (r : Fin H) (hr : r.val = m * t + q.val) :
    v.read (Elt Ideal) (v.writes (Elt Ideal) f ((S 15).2
        ++ [⟨Rect.unit (s := ⟨2, ![H, w]⟩) ![0, 0] ![B, w] inb0, z⟩])) (ix2 r c)
      = if 16 ≤ t then spikeS a (d q.val) (fun s => I s q.val c.val) (t - 16) else 0 := by
  subst hB hR
  have hq := q.isLt
  have h8m : 0 < 8 * m := by omega
  have hv := (loop_value v f [⟨Rect.unit (s := ⟨2, ![H, w]⟩) ![0, 0] ![m * 16, w] inb0, z⟩] S h8 rfl hc A D blk off inb a d
    (fun n c => if h : c < w then blk (n / (8 * m)) (ix2 ⟨n % (8 * m), Nat.mod_lt _ h8m⟩ ⟨c, h⟩) else 0)
    h0 h0' hs hoff hA hD (by
      intro k hk i c
      have hi := i.isLt
      rw [dif_pos c.isLt]
      have e1 : (8 * m * k + i.val) / (8 * m) = k := by
        rw [Nat.mul_add_div h8m, Nat.div_eq_of_lt hi, Nat.add_zero]
      have e2 : (8 * m * k + i.val) % (8 * m) = i.val := by
        rw [Nat.mul_add_mod, Nat.mod_eq_of_lt hi]
      simp only [e1, e2]) 15 le_rfl).2 r c
  rw [hv, hr]
  have e1 : (m * t + q.val) / m = t := by rw [Nat.mul_add_div hm, Nat.div_eq_of_lt hq, Nat.add_zero]
  have e2 : (m * t + q.val) % m = q.val := by rw [Nat.mul_add_mod, Nat.mod_eq_of_lt hq]
  rw [e1, e2]
  have hlt : m * t + q.val < m * (16 + 8 * 15) := by
    have h1 : m * t + m = m * (t + 1) := (Nat.mul_succ m t).symm
    have h2 := Nat.mul_le_mul_left m (show t + 1 ≤ 16 + 8 * 15 by omega)
    omega
  by_cases h : 16 ≤ t
  · have hge : m * 16 ≤ m * t + q.val := le_trans (Nat.mul_le_mul_left m h) (Nat.le_add_right _ _)
    rw [if_pos h, if_pos ⟨hge, hlt⟩]
    refine spikeS_congr (fun _ _ => rfl) fun s hs' => ?_
    rw [dif_pos c.isLt]
    have h8s : s % 8 < 8 := Nat.mod_lt _ (by omega)
    have hin : m * (s % 8) + q.val < 8 * m := by
      have h1 : m * (s % 8) + m = m * (s % 8 + 1) := (Nat.mul_succ m _).symm
      have h2 := Nat.mul_le_mul_left m (show s % 8 + 1 ≤ 8 by omega)
      omega
    have e3 : m * s + q.val = 8 * m * (s / 8) + (m * (s % 8) + q.val) := by
      conv_lhs => rw [← Nat.div_add_mod s 8]
      ring
    have e4 : (m * s + q.val) / (8 * m) = s / 8 := by
      rw [e3, Nat.mul_add_div h8m, Nat.div_eq_of_lt hin, Nat.add_zero]
    have e5 : (m * s + q.val) % (8 * m) = m * (s % 8) + q.val := by
      rw [e3, Nat.mul_add_mod, Nat.mod_eq_of_lt hin]
    simp only [e4, e5]
    rw [hblk (s / 8) (by omega) (s % 8) h8s q c hin (by omega)]
    congr 1
    omega
  · have hlt' : m * t + q.val < m * 16 := by
      have h1 : m * t + m = m * (t + 1) := (Nat.mul_succ m t).symm
      have h2 := Nat.mul_le_mul_left m (show t + 1 ≤ 16 by omega)
      omega
    rw [if_neg h, if_neg (by omega)]
    show v.read (Elt Ideal) (v.writes (Elt Ideal) f [_]) (ix2 r c) = 0
    rw [View.read_writes_cons_rows v f inb0 _ _ (ix2 r c) rfl (W := m * 16) rfl rfl,
      dif_pos ⟨Nat.zero_le _, by show r.val < 0 + m * 16; omega⟩]
    exact hz _

/-- A load of whole rows reads those rows. -/
theorem readAt_rows {sig : RefSig} {κ : Kind} {sp : Space} {H R w w' o p : ℕ} {e : EltTy} {F : FTy → Type} (v : View sig κ sp ⟨2, ![H, w]⟩ e)
    (f : v.ty.Contents (Elt F)) (off : Fin 2 → ℕ) (hoff : off = ![o, p])
    (inb : ∀ a : Fin 2, off a + (![R, w'] : Fin 2 → ℕ) a ≤ (![H, w] : Fin 2 → ℕ) a) (i : Fin R) (c : Fin w')
    (hi : o + i.val < H) (hc : p + c.val < w) :
    View.readAt (Elt F) v (Rect.unit (s := ⟨2, ![H, w]⟩) off ![R, w'] inb).toLoadRect f (ix2 i c)
      = v.read (Elt F) f (ix2 ⟨o + i.val, hi⟩ ⟨p + c.val, hc⟩) := by
  subst hoff
  rw [View.readAt_apply]
  congr 1
  refine funext (Fin.forall_fin_two.mpr ⟨Fin.ext ?_, Fin.ext ?_⟩)
  · show o + 1 * i.val = o + i.val
    rw [Nat.one_mul]
  · show p + 1 * c.val = p + c.val
    rw [Nat.one_mul]

end Cert.Snn

end
-- ==== Proof.Hist.lean ====
/- The buffer that each of the kernel's five loops leaves, from the currents that it reads. -/
module

public import proofs.«01_k».proof.Proof.LoopHist

@[expose] public section

noncomputable section

namespace Cert.KernelIdeal.Gen

open Idealize.ShloMosaic Idealize.ShloMosaic.ValueIdx Idealize.SL.Sem Cert.KernelIdeal Cert.Snn

/-- The jumps of two layers that run together: six, and two. -/
def jump2 (q : ℕ) : EReal := if q = 0 then wd 0x40C00000#32 else wd 0x40000000#32

/-- The trip of a step's number. -/
def trip1 (k : ℕ) : Fin k0_t1_loop.trips := ⟨k % 15, by show k % 15 < 15; omega⟩
/-- The trip of a step's number. -/
def trip2 (k : ℕ) : Fin k0_t2_loop.trips := ⟨k % 15, by show k % 15 < 15; omega⟩
/-- The trip of a step's number. -/
def trip3 (k : ℕ) : Fin k0_t3_loop.trips := ⟨k % 15, by show k % 15 < 15; omega⟩
/-- The trip of a step's number. -/
def trip4 (k : ℕ) : Fin k0_t4_loop.trips := ⟨k % 15, by show k % 15 < 15; omega⟩
/-- The trip of a step's number. -/
def trip5 (k : ℕ) : Fin k0_t5_loop.trips := ⟨k % 15, by show k % 15 < 15; omega⟩

theorem off1_eq : ∀ k : Fin k0_t1_loop.trips, k0_off1 k = ![8 * k.val, 0] := by decide +kernel
theorem off2_eq : ∀ k : Fin k0_t1_loop.trips, k0_off2 k = ![4 * (8 * k.val), 0] := by decide +kernel
theorem off3_eq : ∀ k : Fin k0_t1_loop.trips, k0_off3 k = ![4 * (16 + 8 * k.val), 0] := by decide +kernel
theorem off4_eq : ∀ k : Fin k0_t2_loop.trips, k0_off4 k = ![2 * (8 * k.val), 0] := by decide +kernel
theorem off5_eq : ∀ k : Fin k0_t2_loop.trips, k0_off5 k = ![2 * (16 + 8 * k.val), 0] := by decide +kernel
theorem off6_eq : ∀ k : Fin k0_t3_loop.trips, k0_off6 k = ![2 * (8 * k.val), 0] := by decide +kernel
theorem off7_eq : ∀ k : Fin k0_t3_loop.trips, k0_off7 k = ![2 * (16 + 8 * k.val), 0] := by decide +kernel
theorem off8_eq : ∀ k : Fin k0_t4_loop.trips, k0_off8 k = ![1 * (8 * k.val), 0] := by decide +kernel
theorem off9_eq : ∀ k : Fin k0_t4_loop.trips, k0_off9 k = ![1 * (16 + 8 * k.val), 0] := by decide +kernel
theorem off10_eq : ∀ k : Fin k0_t5_loop.trips, k0_off10 k = ![1 * (8 * k.val), 0] := by decide +kernel
theorem off11_eq : ∀ k : Fin k0_t5_loop.trips, k0_off11 k = ![1 * (16 + 8 * k.val), 0] := by decide +kernel

/-- A block of rows of the currents that starts with trip `k`. -/
theorem block_eq {sig : RefSig} {κ : Kind} {sp : Space} {H R w w' m : ℕ} (v : View sig κ sp ⟨2, ![H, w]⟩ .f32)
    (X : v.ty.Contents (Elt Ideal)) (off : Fin 2 → ℕ) (k : ℕ) (hoff : off = ![m * (8 * k), 0])
    (inb : ∀ a : Fin 2, off a + (![R, w'] : Fin 2 → ℕ) a ≤ (![H, w] : Fin 2 → ℕ) a) (I : ℕ → ℕ → ℕ → EReal)
    (hI : ∀ t < 119, ∀ (q : Fin m) (c : Fin w) (r : Fin H), c.val < w' → r.val = m * t + q.val →
      v.read (Elt Ideal) X (ix2 r c) = I t q.val c.val)
    (j : ℕ) (q : Fin m) (c : Fin w') (hj : m * j + q.val < R) (ht : 8 * k + j < 119) :
    View.readAt (Elt Ideal) v (Rect.unit (s := ⟨2, ![H, w]⟩) off ![R, w'] inb).toLoadRect X (ix2 ⟨m * j + q.val, hj⟩ c)
      = I (8 * k + j) q.val c.val := by
  have h0 : off 0 + R ≤ H := inb 0
  have h1 : off 1 + w' ≤ w := inb 1
  have e0 : off 0 = m * (8 * k) := congrFun hoff 0
  have e1 : off 1 = 0 := congrFun hoff 1
  have hc := c.isLt
  rw [readAt_rows v X off hoff inb _ c (by show m * (8 * k) + (m * j + q.val) < H; omega) (by omega)]
  refine (hI (8 * k + j) ht q _ _ (by show 0 + c.val < w'; omega) ?_).trans ?_
  · show m * (8 * k) + (m * j + q.val) = m * (8 * k + j) + q.val
    ring
  · show I (8 * k + j) q.val (0 + c.val) = _
    rw [Nat.zero_add]

theorem wd_zero : wd 0x00000000#32 = 0 := by
  show Ideal.ofBits .f32 0x00000000#32 = 0
  simp [Ideal.ofBits, Ideal.ieee]

/-- The first of two layers that run together jumps by six, the second by two. -/
theorem pair_jump (q : Fin 2) (c : Fin 128) :
    (broadcastTo S2x128 (k0_pay353 (F := Ideal)) facts.broadcasts_S2x1_S2x128 (ix2 q c) : EReal) = jump2 q.val := by
  rw [broadcastTo_apply _ _ (ix2 q c) (ix2 q (0 : Fin 1)) (Fin.forall_fin_two.mpr ⟨rfl, rfl⟩)]
  fin_cases q <;> rfl

/-- The rate of step `j` of a trip, at every neuron. -/
theorem rate_apply (x : FVec Ideal S8x1 .f32) (h) (j : ℕ) (hj : j < 8) (i : S4x128.Idx) :
    broadcastTo S4x128 (group 1 (by decide) x j) h i = x (ix2 ⟨j, hj⟩ (0 : Fin 1)) := by
  obtain ⟨q, y, rfl⟩ : ∃ (q : Fin 4) (y : Fin 128), i = ix2 q y := ⟨i 0, i 1, eq_ix2 i⟩
  rw [broadcastTo_apply _ _ (ix2 q y) (ix2 (0 : Fin 1) (0 : Fin 1)) (Fin.forall_fin_two.mpr ⟨rfl, rfl⟩)]
  rw [group_apply _ x hj (0 : Fin 1) (0 : Fin 1) (by show 1 * j + 0 < 8; omega)]
  congr 1
  refine funext (Fin.forall_fin_two.mpr ⟨Fin.ext ?_, rfl⟩)
  show 1 * j + 0 = j
  omega

variable (𝒱 : Variants) (c : Dev nD) (bd : Option 𝒱.V) (arg0 : Memref sig .tc .vmem S512x120 .f32) (harg0 : arg0.IsWhole) (arg1 : Memref sig .tc .vmem S119x119 .f32) (harg1 : arg1.IsWhole) (arg2 : Memref sig .tc .vmem S119x119 .f32) (harg2 : arg2.IsWhole) (arg3 : Memref sig .tc .vmem S120x1 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x128 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x128 .f32) (harg11 : arg11.IsWhole) (arg12 : Memref sig .tc .vmem S64x128 .f32) (harg12 : arg12.IsWhole) (arg13 : Memref sig .tc .vmem S64x128 .f32) (harg13 : arg13.IsWhole) (arg14 : Memref sig .tc .vmem S64x128 .f32) (harg14 : arg14.IsWhole) (arg15 : Memref sig .tc .vmem S64x128 .f32) (harg15 : arg15.IsWhole) (arg16 : Memref sig .tc .vmem S64x64 .f32) (harg16 : arg16.IsWhole) (arg17 : Memref sig .tc .vmem S128x512 .i32) (harg17 : arg17.IsWhole) (arg18 : Memref sig .tc .vmem S128x128 .i32) (harg18 : arg18.IsWhole) (arg19 : Memref sig .tc .vmem S128x512 .i32) (harg19 : arg19.IsWhole) (arg20 : Memref sig .tc .vmem S128x128 .i32) (harg20 : arg20.IsWhole) (arg21 : Memref sig .tc .vmem S64x128 .i32) (harg21 : arg21.IsWhole) (arg22 : Memref sig .tc .vmem S64x128 .i32) (harg22 : arg22.IsWhole) (arg23 : Memref sig .tc .vmem S64x64 .i32) (harg23 : arg23.IsWhole) (arg24 : Memref sig .tc .vmem S1664x119 .f32) (harg24 : arg24.IsWhole) (arg25 : Memref sig .tc .vmem S576x128 .f32) (harg25 : arg25.IsWhole) (arg26 : Memref sig .tc .vmem S576x128 .f32) (harg26 : arg26.IsWhole) (arg27 : Memref sig .tc .vmem S288x128 .f32) (harg27 : arg27.IsWhole) (arg28 : Memref sig .tc .vmem S288x128 .f32) (harg28 : arg28.IsWhole) (arg29 : Memref sig .tc .vmem S144x64 .f32) (harg29 : arg29.IsWhole) (arg30 : Memref sig .tc .vmem S144x64 .f32) (harg30 : arg30.IsWhole) (arg31 : Memref sig .tc .vmem S144x512 .f32) (harg31 : arg31.IsWhole) (arg32 : Memref sig .tc .vmem S144x512 .f32) (harg32 : arg32.IsWhole) (arg33 : Memref sig .tc .vmem S144x256 .f32) (harg33 : arg33.IsWhole) (arg34 : Memref sig .tc .vmem S144x256 .f32) (harg34 : arg34.IsWhole) (arg35 : Memref sig .tc .vmem S480x128 .f32) (harg35 : arg35.IsWhole) (arg36 : Memref sig .tc .vmem S480x128 .f32) (harg36 : arg36.IsWhole) (arg37 : Memref sig .tc .vmem S240x128 .f32) (harg37 : arg37.IsWhole) (arg38 : Memref sig .tc .vmem S240x128 .f32) (harg38 : arg38.IsWhole)

/-- Loop 1: what it leaves in the buffer of the first of its layers. -/
theorem hist_t1_a (v27 : FVec Ideal S119x512 .f32) (v31 : FVec Ideal S119x512 .f32) (v32 : FVec Ideal S119x512 .f32) (X_arg3 : BufTy.Contents (Elt Ideal) arg3.view.ty) (X_arg35 : BufTy.Contents (Elt Ideal) arg35.view.ty) (X_arg36 : BufTy.Contents (Elt Ideal) arg36.view.ty) (f : BufTy.Contents (Elt Ideal) arg25.view.ty) (inb0) (n : ℕ) (hn : n = 15)
    (a : ℕ → EReal) (ha : ∀ t : Fin 120, arg3.view.read (Elt Ideal) X_arg3 (ix2 t (0 : Fin 1)) = a t.val) (I : ℕ → ℕ → ℕ → EReal)
    (hI : ∀ t < 119, ∀ (q : Fin 4) (c : Fin 128) (r : Fin 480), c.val < 128 → r.val = 4 * t + q.val →
      arg35.view.read (Elt Ideal) X_arg35 (ix2 r c) = I t q.val c.val)
    (t : ℕ) (ht : t < 135) (q : Fin 4) (x : Fin 128) (r : Fin 576) (hr : r.val = 4 * t + q.val) :
    arg25.view.read (Elt Ideal) (arg25.view.writes (Elt Ideal) f ((st_k0_t1 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 v27 v31 v32 X_arg3 X_arg35 X_arg36 (k0_pay254 (F := Ideal), k0_pay255 (F := Ideal), k0_pay256 (F := Ideal), k0_pay257 (F := Ideal)) n).2.1
        ++ [⟨Rect.unit (s := S576x128) ![0, 0] S64x128.size inb0, (k0_pay240 (F := Ideal))⟩])) (ix2 r x)
      = if 16 ≤ t then spikeS a (wd 0x41000000#32) (fun s => I s q.val x.val) (t - 16) else 0 := by
  subst hn
  refine loop_hist (m := 4) (R := 32) (by decide) arg25.view f inb0 (k0_pay240 (F := Ideal)) ?_ rfl
    (fun k => (((st_k0_t1 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 v27 v31 v32 X_arg3 X_arg35 X_arg36 (k0_pay254 (F := Ideal), k0_pay255 (F := Ideal), k0_pay256 (F := Ideal), k0_pay257 (F := Ideal)) k).1.1, (st_k0_t1 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 v27 v31 v32 X_arg3 X_arg35 X_arg36 (k0_pay254 (F := Ideal), k0_pay255 (F := Ideal), k0_pay256 (F := Ideal), k0_pay257 (F := Ideal)) k).1.2.1), (st_k0_t1 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 v27 v31 v32 X_arg3 X_arg35 X_arg36 (k0_pay254 (F := Ideal), k0_pay255 (F := Ideal), k0_pay256 (F := Ideal), k0_pay257 (F := Ideal)) k).2.1)) (by decide) rfl
    facts.concatenates_S4x128_S4x128_S4x128_S4x128_S4x128_S4x128_S4x128_S4x128_S32x128_d0 (fun k j => broadcastTo S4x128 (group 1 (by decide) (shapeCast S8x1 (View.readAt (Elt Ideal) arg3.view (Rect.unit (s := S120x1) (k0_off1 (trip1 k)) S8x1.size (facts.k0_off1_inb (trip1 k))).toLoadRect X_arg3) facts.shapeCasts_S8x1_S8x1) j) facts.broadcasts_S1x1_S4x128) (bc S4x128 0x41000000#32)
    (fun k => View.readAt (Elt Ideal) arg35.view (Rect.unit (s := S480x128) (k0_off2 (trip1 k)) S32x128.size
      (facts.k0_off2_inb (trip1 k))).toLoadRect X_arg35)
    (fun k => k0_off3 (trip1 k)) (fun k _ => facts.k0_off3_inb (trip1 k))
    a (fun _ => wd 0x41000000#32) I ?_ ?_ ?_ ?_ ?_ ?_ ?_ t ht q x r hr
  · exact fun j => wd_zero
  · exact fun j => rfl
  · rfl
  · intro k hk
    have e : (trip1 k).val = k := Nat.mod_eq_of_lt hk
    have h := st_k0_t1_succ 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 v27 v31 v32 X_arg3 X_arg35 X_arg36 (k0_pay254 (F := Ideal), k0_pay255 (F := Ideal), k0_pay256 (F := Ideal), k0_pay257 (F := Ideal)) (trip1 k)
    rw [e, trip_t1_fst, trip_t1_snd] at h
    simp only [h]
  · intro k hk
    have e : (trip1 k).val = k := Nat.mod_eq_of_lt hk
    rw [off3_eq, e]
  · intro k hk j hj i
    have e : (trip1 k).val = k := Nat.mod_eq_of_lt hk
    rw [rate_apply _ facts.broadcasts_S1x1_S4x128 j hj i]
    refine (congrFun (shapeCast_self _ _) _).trans ?_
    rw [readAt_rows arg3.view X_arg3 _ (off1_eq (trip1 k)) _ ⟨j, hj⟩ (0 : Fin 1) (by rw [e]; show 8 * k + j < 120; omega) (by decide)]
    refine (ha ⟨8 * (trip1 k).val + j, _⟩).trans ?_
    exact congrArg (fun n => a (8 * n + j)) e
  · exact fun q c => rfl
  · intro k hk j hj q y hjr hlt
    have e : (trip1 k).val = k := Nat.mod_eq_of_lt hk
    exact block_eq arg35.view X_arg35 _ k (by rw [off2_eq, e]) _ I hI j q y hjr hlt

/-- Loop 1: what it leaves in the buffer of the second of its layers. -/
theorem hist_t1_b (v27 : FVec Ideal S119x512 .f32) (v31 : FVec Ideal S119x512 .f32) (v32 : FVec Ideal S119x512 .f32) (X_arg3 : BufTy.Contents (Elt Ideal) arg3.view.ty) (X_arg35 : BufTy.Contents (Elt Ideal) arg35.view.ty) (X_arg36 : BufTy.Contents (Elt Ideal) arg36.view.ty) (f : BufTy.Contents (Elt Ideal) arg26.view.ty) (inb0) (n : ℕ) (hn : n = 15)
    (I : ℕ → ℕ → ℕ → EReal)
    (hI : ∀ t < 119, ∀ (q : Fin 4) (c : Fin 128) (r : Fin 480), c.val < 128 → r.val = 4 * t + q.val →
      arg36.view.read (Elt Ideal) X_arg36 (ix2 r c) = I t q.val c.val)
    (t : ℕ) (ht : t < 135) (q : Fin 4) (x : Fin 128) (r : Fin 576) (hr : r.val = 4 * t + q.val) :
    arg26.view.read (Elt Ideal) (arg26.view.writes (Elt Ideal) f ((st_k0_t1 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 v27 v31 v32 X_arg3 X_arg35 X_arg36 (k0_pay254 (F := Ideal), k0_pay255 (F := Ideal), k0_pay256 (F := Ideal), k0_pay257 (F := Ideal)) n).2.2
        ++ [⟨Rect.unit (s := S576x128) ![0, 0] S64x128.size inb0, (k0_pay241 (F := Ideal))⟩])) (ix2 r x)
      = if 16 ≤ t then spikeS (fun _ => wd 0x3CA3D70A#32) (wd 0x40000000#32) (fun s => I s q.val x.val) (t - 16) else 0 := by
  subst hn
  refine loop_hist (m := 4) (R := 32) (by decide) arg26.view f inb0 (k0_pay241 (F := Ideal)) ?_ rfl
    (fun k => ((st_k0_t1 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 v27 v31 v32 X_arg3 X_arg35 X_arg36 (k0_pay254 (F := Ideal), k0_pay255 (F := Ideal), k0_pay256 (F := Ideal), k0_pay257 (F := Ideal)) k).1.2.2, (st_k0_t1 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 v27 v31 v32 X_arg3 X_arg35 X_arg36 (k0_pay254 (F := Ideal), k0_pay255 (F := Ideal), k0_pay256 (F := Ideal), k0_pay257 (F := Ideal)) k).2.2)) (by decide) rfl
    facts.concatenates_S4x128_S4x128_S4x128_S4x128_S4x128_S4x128_S4x128_S4x128_S32x128_d0 (fun _ _ => bc S4x128 0x3CA3D70A#32) (bc S4x128 0x40000000#32)
    (fun k => View.readAt (Elt Ideal) arg36.view (Rect.unit (s := S480x128) (k0_off2 (trip1 k)) S32x128.size
      (facts.k0_off2_inb (trip1 k))).toLoadRect X_arg36)
    (fun k => k0_off3 (trip1 k)) (fun k _ => facts.k0_off3_inb (trip1 k))
    (fun _ => wd 0x3CA3D70A#32) (fun _ => wd 0x40000000#32) I ?_ ?_ ?_ ?_ ?_ ?_ ?_ t ht q x r hr
  · exact fun j => wd_zero
  · exact fun j => rfl
  · rfl
  · intro k hk
    have e : (trip1 k).val = k := Nat.mod_eq_of_lt hk
    have h := st_k0_t1_succ 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 v27 v31 v32 X_arg3 X_arg35 X_arg36 (k0_pay254 (F := Ideal), k0_pay255 (F := Ideal), k0_pay256 (F := Ideal), k0_pay257 (F := Ideal)) (trip1 k)
    rw [e, trip_t1_fst, trip_t1_snd] at h
    simp only [h]
  · intro k hk
    have e : (trip1 k).val = k := Nat.mod_eq_of_lt hk
    rw [off3_eq, e]
  · exact fun _ _ _ _ _ => rfl
  · exact fun q c => rfl
  · intro k hk j hj q y hjr hlt
    have e : (trip1 k).val = k := Nat.mod_eq_of_lt hk
    exact block_eq arg36.view X_arg36 _ k (by rw [off2_eq, e]) _ I hI j q y hjr hlt

/-- Loop 2: what it leaves in its buffer. -/
theorem hist_t2 (v605 : FVec Ideal S2x128 .f32) (X_arg37 : BufTy.Contents (Elt Ideal) arg37.view.ty) (f : BufTy.Contents (Elt Ideal) arg27.view.ty) (inb0) (n : ℕ) (hn : n = 15)
    (I : ℕ → ℕ → ℕ → EReal)
    (hI : ∀ t < 119, ∀ (q : Fin 2) (c : Fin 128) (r : Fin 240), c.val < 128 → r.val = 2 * t + q.val →
      arg37.view.read (Elt Ideal) X_arg37 (ix2 r c) = I t q.val c.val)
    (t : ℕ) (ht : t < 135) (q : Fin 2) (x : Fin 128) (r : Fin 288) (hr : r.val = 2 * t + q.val) :
    arg27.view.read (Elt Ideal) (arg27.view.writes (Elt Ideal) f ((st_k0_t2 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 (k0_pay353 (F := Ideal)) v605 X_arg37 (k0_pay354 (F := Ideal), k0_pay355 (F := Ideal)) n).2
        ++ [⟨Rect.unit (s := S288x128) ![0, 0] S32x128.size inb0, (k0_pay242 (F := Ideal))⟩])) (ix2 r x)
      = if 16 ≤ t then spikeS (fun _ => wd 0x3DCCCCCD#32) (jump2 q.val) (fun s => I s q.val x.val) (t - 16) else 0 := by
  subst hn
  refine loop_hist (m := 2) (R := 16) (by decide) arg27.view f inb0 (k0_pay242 (F := Ideal)) ?_ rfl
    (fun k => st_k0_t2 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 (k0_pay353 (F := Ideal)) v605 X_arg37 (k0_pay354 (F := Ideal), k0_pay355 (F := Ideal)) k) (by decide) rfl
    facts.concatenates_S2x128_S2x128_S2x128_S2x128_S2x128_S2x128_S2x128_S2x128_S16x128_d0 (fun _ _ => bc S2x128 0x3DCCCCCD#32) (broadcastTo S2x128 (k0_pay353 (F := Ideal)) facts.broadcasts_S2x1_S2x128)
    (fun k => View.readAt (Elt Ideal) arg37.view (Rect.unit (s := S240x128) (k0_off4 (trip2 k)) S16x128.size
      (facts.k0_off4_inb (trip2 k))).toLoadRect X_arg37)
    (fun k => k0_off5 (trip2 k)) (fun k _ => facts.k0_off5_inb (trip2 k))
    (fun _ => wd 0x3DCCCCCD#32) (jump2) I ?_ ?_ ?_ ?_ ?_ ?_ ?_ t ht q x r hr
  · exact fun j => wd_zero
  · exact fun j => rfl
  · rfl
  · intro k hk
    have e : (trip2 k).val = k := Nat.mod_eq_of_lt hk
    have h := st_k0_t2_succ 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 (k0_pay353 (F := Ideal)) v605 X_arg37 (k0_pay354 (F := Ideal), k0_pay355 (F := Ideal)) (trip2 k)
    rw [e, trip_t2_fst, trip_t2_snd] at h
    exact h
  · intro k hk
    have e : (trip2 k).val = k := Nat.mod_eq_of_lt hk
    rw [off5_eq, e]
  · exact fun _ _ _ _ _ => rfl
  · exact fun q c => pair_jump q c
  · intro k hk j hj q y hjr hlt
    have e : (trip2 k).val = k := Nat.mod_eq_of_lt hk
    exact block_eq arg37.view X_arg37 _ k (by rw [off4_eq, e]) _ I hI j q y hjr hlt

/-- Loop 3: what it leaves in its buffer. -/
theorem hist_t3 (v37 : FVec Ideal S119x119 .f32) (v592 : FVec Ideal S119x128 .f32) (v593 : FVec Ideal S119x128 .f32) (v775 : FVec Ideal S119x128 .f32) (v779 : FVec Ideal S128x128 .bf16) (v782 : FVec Ideal S128x128 .bf16) (v785 : FVec Ideal S128x128 .bf16) (v786 : FVec Ideal S144x128 .bf16) (v922 : FVec Ideal S119x128 .f32) (v924 : IVec S128x128 1) (X_arg38 : BufTy.Contents (Elt Ideal) arg38.view.ty) (f : BufTy.Contents (Elt Ideal) arg28.view.ty) (inb0) (n : ℕ) (hn : n = 15)
    (I : ℕ → ℕ → ℕ → EReal)
    (hI : ∀ t < 119, ∀ (q : Fin 2) (c : Fin 128) (r : Fin 240), c.val < 128 → r.val = 2 * t + q.val →
      arg38.view.read (Elt Ideal) X_arg38 (ix2 r c) = I t q.val c.val)
    (t : ℕ) (ht : t < 135) (q : Fin 2) (x : Fin 128) (r : Fin 288) (hr : r.val = 2 * t + q.val) :
    arg28.view.read (Elt Ideal) (arg28.view.writes (Elt Ideal) f ((st_k0_t3 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 v37 v592 v593 v775 v779 v782 v785 v786 v922 v924 X_arg38 (k0_pay389 (F := Ideal), k0_pay390 (F := Ideal)) n).2
        ++ [⟨Rect.unit (s := S288x128) ![0, 0] S32x128.size inb0, (k0_pay243 (F := Ideal))⟩])) (ix2 r x)
      = if 16 ≤ t then spikeS (fun _ => wd 0x3DCCCCCD#32) (jump2 q.val) (fun s => I s q.val x.val) (t - 16) else 0 := by
  subst hn
  refine loop_hist (m := 2) (R := 16) (by decide) arg28.view f inb0 (k0_pay243 (F := Ideal)) ?_ rfl
    (fun k => st_k0_t3 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 v37 v592 v593 v775 v779 v782 v785 v786 v922 v924 X_arg38 (k0_pay389 (F := Ideal), k0_pay390 (F := Ideal)) k) (by decide) rfl
    facts.concatenates_S2x128_S2x128_S2x128_S2x128_S2x128_S2x128_S2x128_S2x128_S16x128_d0 (fun _ _ => bc S2x128 0x3DCCCCCD#32) (broadcastTo S2x128 (k0_pay388 (F := Ideal)) facts.broadcasts_S2x1_S2x128)
    (fun k => View.readAt (Elt Ideal) arg38.view (Rect.unit (s := S240x128) (k0_off6 (trip3 k)) S16x128.size
      (facts.k0_off6_inb (trip3 k))).toLoadRect X_arg38)
    (fun k => k0_off7 (trip3 k)) (fun k _ => facts.k0_off7_inb (trip3 k))
    (fun _ => wd 0x3DCCCCCD#32) (jump2) I ?_ ?_ ?_ ?_ ?_ ?_ ?_ t ht q x r hr
  · exact fun j => wd_zero
  · exact fun j => rfl
  · rfl
  · intro k hk
    have e : (trip3 k).val = k := Nat.mod_eq_of_lt hk
    have h := st_k0_t3_succ 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 v37 v592 v593 v775 v779 v782 v785 v786 v922 v924 X_arg38 (k0_pay389 (F := Ideal), k0_pay390 (F := Ideal)) (trip3 k)
    rw [e, trip_t3_fst, trip_t3_snd] at h
    exact h
  · intro k hk
    have e : (trip3 k).val = k := Nat.mod_eq_of_lt hk
    rw [off7_eq, e]
  · exact fun _ _ _ _ _ => rfl
  · exact fun q c => pair_jump q c
  · intro k hk j hj q y hjr hlt
    have e : (trip3 k).val = k := Nat.mod_eq_of_lt hk
    exact block_eq arg38.view X_arg38 _ k (by rw [off6_eq, e]) _ I hI j q y hjr hlt

/-- Loop 4: what it leaves in its buffer. -/
theorem hist_t4 (v35 : FVec Ideal S119x119 .f32) (v1213 : FVec Ideal S119x64 .f32) (v1229 : FVec Ideal S64x128 .bf16) (v1232 : FVec Ideal S64x128 .bf16) (v1234 : FVec Ideal S64x128 .bf16) (v1237 : FVec Ideal S64x128 .bf16) (v1240 : FVec Ideal S64x128 .bf16) (v1450 : FVec Ideal S119x64 .f32) (v1459 : FVec Ideal S119x64 .f32) (v1464 : FVec Ideal S64x128 .bf16) (v1465 : FVec Ideal S119x128 .bf16) (v1467 : FVec Ideal S119x64 .f32) (X_arg35 : BufTy.Contents (Elt Ideal) arg35.view.ty) (f : BufTy.Contents (Elt Ideal) arg29.view.ty) (inb0) (n : ℕ) (hn : n = 15)
    (I : ℕ → ℕ → ℕ → EReal)
    (hI : ∀ t < 119, ∀ (q : Fin 1) (c : Fin 128) (r : Fin 480), c.val < 64 → r.val = 1 * t + q.val →
      arg35.view.read (Elt Ideal) X_arg35 (ix2 r c) = I t q.val c.val)
    (t : ℕ) (ht : t < 135) (q : Fin 1) (x : Fin 64) (r : Fin 144) (hr : r.val = 1 * t + q.val) :
    arg29.view.read (Elt Ideal) (arg29.view.writes (Elt Ideal) f ((st_k0_t4 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 v35 v1213 v1229 v1232 v1234 v1237 v1240 v1450 v1459 v1464 v1465 v1467 X_arg35 (k0_pay487 (F := Ideal), k0_pay488 (F := Ideal)) n).2
        ++ [⟨Rect.unit (s := S144x64) ![0, 0] S16x64.size inb0, (k0_pay244 (F := Ideal))⟩])) (ix2 r x)
      = if 16 ≤ t then spikeS (fun _ => wd 0x3CA3D70A#32) (wd 0x41000000#32) (fun s => I s q.val x.val) (t - 16) else 0 := by
  subst hn
  refine loop_hist (m := 1) (R := 8) (by decide) arg29.view f inb0 (k0_pay244 (F := Ideal)) ?_ rfl
    (fun k => st_k0_t4 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 v35 v1213 v1229 v1232 v1234 v1237 v1240 v1450 v1459 v1464 v1465 v1467 X_arg35 (k0_pay487 (F := Ideal), k0_pay488 (F := Ideal)) k) (by decide) rfl
    facts.concatenates_S1x64_S1x64_S1x64_S1x64_S1x64_S1x64_S1x64_S1x64_S8x64_d0 (fun _ _ => bc S1x64 0x3CA3D70A#32) (bc S1x64 0x41000000#32)
    (fun k => View.readAt (Elt Ideal) arg35.view (Rect.unit (s := S480x128) (k0_off8 (trip4 k)) S8x64.size
      (facts.k0_off8_inb (trip4 k))).toLoadRect X_arg35)
    (fun k => k0_off9 (trip4 k)) (fun k _ => facts.k0_off9_inb (trip4 k))
    (fun _ => wd 0x3CA3D70A#32) (fun _ => wd 0x41000000#32) I ?_ ?_ ?_ ?_ ?_ ?_ ?_ t ht q x r hr
  · exact fun j => wd_zero
  · exact fun j => rfl
  · rfl
  · intro k hk
    have e : (trip4 k).val = k := Nat.mod_eq_of_lt hk
    have h := st_k0_t4_succ 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 v35 v1213 v1229 v1232 v1234 v1237 v1240 v1450 v1459 v1464 v1465 v1467 X_arg35 (k0_pay487 (F := Ideal), k0_pay488 (F := Ideal)) (trip4 k)
    rw [e, trip_t4_fst, trip_t4_snd] at h
    exact h
  · intro k hk
    have e : (trip4 k).val = k := Nat.mod_eq_of_lt hk
    rw [off9_eq, e]
  · exact fun _ _ _ _ _ => rfl
  · exact fun q c => rfl
  · intro k hk j hj q y hjr hlt
    have e : (trip4 k).val = k := Nat.mod_eq_of_lt hk
    exact block_eq arg35.view X_arg35 _ k (by rw [off8_eq, e]) _ I hI j q y hjr hlt

/-- Loop 5: what it leaves in its buffer. -/
theorem hist_t5 (v35 : FVec Ideal S119x119 .f32) (v37 : FVec Ideal S119x119 .f32) (v1222 : FVec Ideal S119x64 .f32) (v1483 : FVec Ideal S119x64 .f32) (v1498 : FVec Ideal S64x64 .bf16) (v1501 : FVec Ideal S64x64 .bf16) (v1639 : FVec Ideal S119x64 .f32) (v1644 : FVec Ideal S64x64 .bf16) (v1645 : FVec Ideal S119x64 .bf16) (v1647 : FVec Ideal S119x64 .f32) (X_arg36 : BufTy.Contents (Elt Ideal) arg36.view.ty) (f : BufTy.Contents (Elt Ideal) arg30.view.ty) (inb0) (n : ℕ) (hn : n = 15)
    (I : ℕ → ℕ → ℕ → EReal)
    (hI : ∀ t < 119, ∀ (q : Fin 1) (c : Fin 128) (r : Fin 480), c.val < 64 → r.val = 1 * t + q.val →
      arg36.view.read (Elt Ideal) X_arg36 (ix2 r c) = I t q.val c.val)
    (t : ℕ) (ht : t < 135) (q : Fin 1) (x : Fin 64) (r : Fin 144) (hr : r.val = 1 * t + q.val) :
    arg30.view.read (Elt Ideal) (arg30.view.writes (Elt Ideal) f ((st_k0_t5 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 v35 v37 v1222 v1483 v1498 v1501 v1639 v1644 v1645 v1647 X_arg36 (k0_pay509 (F := Ideal), k0_pay510 (F := Ideal)) n).2
        ++ [⟨Rect.unit (s := S144x64) ![0, 0] S16x64.size inb0, (k0_pay245 (F := Ideal))⟩])) (ix2 r x)
      = if 16 ≤ t then spikeS (fun _ => wd 0x3CA3D70A#32) (wd 0x41000000#32) (fun s => I s q.val x.val) (t - 16) else 0 := by
  subst hn
  refine loop_hist (m := 1) (R := 8) (by decide) arg30.view f inb0 (k0_pay245 (F := Ideal)) ?_ rfl
    (fun k => st_k0_t5 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 v35 v37 v1222 v1483 v1498 v1501 v1639 v1644 v1645 v1647 X_arg36 (k0_pay509 (F := Ideal), k0_pay510 (F := Ideal)) k) (by decide) rfl
    facts.concatenates_S1x64_S1x64_S1x64_S1x64_S1x64_S1x64_S1x64_S1x64_S8x64_d0 (fun _ _ => bc S1x64 0x3CA3D70A#32) (bc S1x64 0x41000000#32)
    (fun k => View.readAt (Elt Ideal) arg36.view (Rect.unit (s := S480x128) (k0_off10 (trip5 k)) S8x64.size
      (facts.k0_off10_inb (trip5 k))).toLoadRect X_arg36)
    (fun k => k0_off11 (trip5 k)) (fun k _ => facts.k0_off11_inb (trip5 k))
    (fun _ => wd 0x3CA3D70A#32) (fun _ => wd 0x41000000#32) I ?_ ?_ ?_ ?_ ?_ ?_ ?_ t ht q x r hr
  · exact fun j => wd_zero
  · exact fun j => rfl
  · rfl
  · intro k hk
    have e : (trip5 k).val = k := Nat.mod_eq_of_lt hk
    have h := st_k0_t5_succ 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 v35 v37 v1222 v1483 v1498 v1501 v1639 v1644 v1645 v1647 X_arg36 (k0_pay509 (F := Ideal), k0_pay510 (F := Ideal)) (trip5 k)
    rw [e, trip_t5_fst, trip_t5_snd] at h
    exact h
  · intro k hk
    have e : (trip5 k).val = k := Nat.mod_eq_of_lt hk
    rw [off11_eq, e]
  · exact fun _ _ _ _ _ => rfl
  · exact fun q c => rfl
  · intro k hk j hj q y hjr hlt
    have e : (trip5 k).val = k := Nat.mod_eq_of_lt hk
    exact block_eq arg36.view X_arg36 _ k (by rw [off10_eq, e]) _ I hI j q y hjr hlt

end Cert.KernelIdeal.Gen

end
-- ==== Proof.Currents.lean ====
/- The currents that the kernel hands to its loops, as vector operations. -/
module

public import proofs.«01_k».proof.Proof.Shift
public import proofs.«01_k».proof.Proof.KernelIdeal.Run

@[expose] public section

noncomputable section

namespace Cert.KernelIdeal.Gen

open Idealize.ShloMosaic Idealize.SL.Sem Cert.KernelIdeal Cert.Snn

variable {F : FTy → Type} [FloatOps F]

/-- The filter over time on a row per step. -/
def post {M : ℕ} (e : FVec F S119x119 .f32) (x : FVec F ⟨2, ![119, M]⟩ .f32) : FVec F ⟨2, ![119, M]⟩ .f32 :=
  matmul (DotDims.plain 119 119 M) (some .fp32) e x (constant ⟨2, ![119, M]⟩ .f32 0x00000000#32)

/-- The current of a layer behind the input. -/
def curIn (e : FVec F S119x119 .f32) (x : FVec F S119x512 .f32) (w : FVec F S512x512 .f32) : FVec F S476x128 .f32 :=
  shapeCast S476x128 (matmul dot_S119x512_S512x512_S119x512_1_1_0_0_n_n (some .fp32) (post e x) w
    (constant S119x512 .f32 0x00000000#32)) facts.shapeCasts_S119x512_S476x128

/-- Two layers of 128 neurons side by side, a row per step and layer. -/
def pairUp (a b : FVec F S119x128 .f32) : FVec F S238x128 .f32 :=
  shapeCast S238x128 (concatenate S119x256 1 [⟨S119x128, a⟩, ⟨S119x128, b⟩] facts.concatenates_S119x128_S119x128_S119x256_d1)
    facts.shapeCasts_S119x256_S238x128

/-- The input of each step. -/
def stimOf (x : FVec F S512x120 .f32) : FVec F S119x512 .f32 :=
  extractStridedSlice S119x512 ![1, 0] (transpose S120x512 [1, 0] x facts.transposes_S512x120_p1_0_S120x512) facts.slices_S120x512_o1_0_S119x512

/-- The change of the input at each step, times five. -/
def jumpOf (x : FVec F S512x120 .f32) : FVec F S119x512 .f32 :=
  mulf (absf (subf (extractStridedSlice S119x512 ![1, 0] (transpose S120x512 [1, 0] x facts.transposes_S512x120_p1_0_S120x512) facts.slices_S120x512_o1_0_S119x512)
    (extractStridedSlice S119x512 ![0, 0] (transpose S120x512 [1, 0] x facts.transposes_S512x120_p1_0_S120x512) facts.slices_S120x512_o0_0_S119x512)))
    (bc S119x512 0x40A00000#32)

theorem pay252_eq (x : FVec F S512x120 .f32) (e : FVec F S119x119 .f32) (w : FVec F S512x512 .f32) :
    k0_pay252 (k0_pay247 x) e w = curIn e (stimOf x) w := by
  simp only [k0_pay252, k0_pay250, k0_pay247, k0_pay246, shapeCast_self]
  rfl

theorem pay253_eq (x : FVec F S512x120 .f32) (e : FVec F S119x119 .f32) (w : FVec F S512x512 .f32) :
    k0_pay253 (k0_pay248 x) k0_pay249 e w = curIn e (jumpOf x) w := by
  simp only [k0_pay253, k0_pay250, k0_pay248, k0_pay246, k0_pay249, shapeCast_self]
  rfl

variable (c : Dev nD) (arg0 : Memref sig .tc .vmem S512x120 .f32) (harg0 : arg0.IsWhole) (arg1 : Memref sig .tc .vmem S119x119 .f32) (harg1 : arg1.IsWhole) (arg2 : Memref sig .tc .vmem S119x119 .f32) (harg2 : arg2.IsWhole) (arg3 : Memref sig .tc .vmem S120x1 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x128 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x128 .f32) (harg11 : arg11.IsWhole) (arg12 : Memref sig .tc .vmem S64x128 .f32) (harg12 : arg12.IsWhole) (arg13 : Memref sig .tc .vmem S64x128 .f32) (harg13 : arg13.IsWhole) (arg14 : Memref sig .tc .vmem S64x128 .f32) (harg14 : arg14.IsWhole) (arg15 : Memref sig .tc .vmem S64x128 .f32) (harg15 : arg15.IsWhole) (arg16 : Memref sig .tc .vmem S64x64 .f32) (harg16 : arg16.IsWhole) (arg17 : Memref sig .tc .vmem S128x512 .i32) (harg17 : arg17.IsWhole) (arg18 : Memref sig .tc .vmem S128x128 .i32) (harg18 : arg18.IsWhole) (arg19 : Memref sig .tc .vmem S128x512 .i32) (harg19 : arg19.IsWhole) (arg20 : Memref sig .tc .vmem S128x128 .i32) (harg20 : arg20.IsWhole) (arg21 : Memref sig .tc .vmem S64x128 .i32) (harg21 : arg21.IsWhole) (arg22 : Memref sig .tc .vmem S64x128 .i32) (harg22 : arg22.IsWhole) (arg23 : Memref sig .tc .vmem S64x64 .i32) (harg23 : arg23.IsWhole) (arg24 : Memref sig .tc .vmem S1664x119 .f32) (harg24 : arg24.IsWhole) (arg25 : Memref sig .tc .vmem S576x128 .f32) (harg25 : arg25.IsWhole) (arg26 : Memref sig .tc .vmem S576x128 .f32) (harg26 : arg26.IsWhole) (arg27 : Memref sig .tc .vmem S288x128 .f32) (harg27 : arg27.IsWhole) (arg28 : Memref sig .tc .vmem S288x128 .f32) (harg28 : arg28.IsWhole) (arg29 : Memref sig .tc .vmem S144x64 .f32) (harg29 : arg29.IsWhole) (arg30 : Memref sig .tc .vmem S144x64 .f32) (harg30 : arg30.IsWhole) (arg31 : Memref sig .tc .vmem S144x512 .f32) (harg31 : arg31.IsWhole) (arg32 : Memref sig .tc .vmem S144x512 .f32) (harg32 : arg32.IsWhole) (arg33 : Memref sig .tc .vmem S144x256 .f32) (harg33 : arg33.IsWhole) (arg34 : Memref sig .tc .vmem S144x256 .f32) (harg34 : arg34.IsWhole) (arg35 : Memref sig .tc .vmem S480x128 .f32) (harg35 : arg35.IsWhole) (arg36 : Memref sig .tc .vmem S480x128 .f32) (harg36 : arg36.IsWhole) (arg37 : Memref sig .tc .vmem S240x128 .f32) (harg37 : arg37.IsWhole) (arg38 : Memref sig .tc .vmem S240x128 .f32) (harg38 : arg38.IsWhole)
  (x0 : Vec F S512x120 .f32) (x1 : Vec F S119x119 .f32) (x2 : Vec F S119x119 .f32) (x3 : Vec F S120x1 .f32) (x4 : Vec F S512x512 .f32) (x5 : Vec F S512x512 .f32) (x6 : Vec F S128x512 .f32) (x7 : Vec F S128x512 .f32) (x8 : Vec F S128x128 .f32) (x9 : Vec F S128x512 .f32) (x10 : Vec F S128x512 .f32) (x11 : Vec F S128x128 .f32) (x12 : Vec F S64x128 .f32) (x13 : Vec F S64x128 .f32) (x14 : Vec F S64x128 .f32) (x15 : Vec F S64x128 .f32) (x16 : Vec F S64x64 .f32) (x17 : Vec F S128x512 .i32) (x18 : Vec F S128x128 .i32) (x19 : Vec F S128x512 .i32) (x20 : Vec F S128x128 .i32) (x21 : Vec F S64x128 .i32) (x22 : Vec F S64x128 .i32) (x23 : Vec F S64x64 .i32)
  (g25 : Vec F S576x128 .f32) (g26 : Vec F S576x128 .f32) (g27 : Vec F S288x128 .f32) (g28 : Vec F S288x128 .f32) (g29 : Vec F S144x64 .f32) (g30 : Vec F S144x64 .f32) (g31 : Vec F S144x512 .f32) (g32 : Vec F S144x512 .f32) (g33 : Vec F S144x256 .f32) (g34 : Vec F S144x256 .f32) (g35 : Vec F S480x128 .f32) (g36 : Vec F S480x128 .f32) (g37 : Vec F S240x128 .f32) (g38 : Vec F S240x128 .f32)

theorem r_2_eq :
    bodyRun.sl.r_2 c arg1 harg1 x1
      = (View.readAt (Elt F) arg1.view (Rect.unit (s := S119x119) ![0, 0] S119x119.size inb_S119x119_S119x119_0_0).toLoadRect (harg1.unread x1)) := by
  simp only [bodyRun.sl.r_2, k0_pay250, shapeCast_self]

theorem pay352_eq :
    k0_pay352 (bodyRun.sl.r_2 c arg1 harg1 x1) (bodyRun.sl.r_37 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x3 x4 x5 x6 x17 g25 g35 g36) (bodyRun.sl.r_39 c arg19 harg19 x19) (bodyRun.sl.r_41 c arg9 harg9 x9) (bodyRun.sl.r_43 c arg9 harg9 x9) (bodyRun.sl.r_44 c arg9 harg9 x9) (bodyRun.sl.r_48 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x3 x4 x5 g26 g35 g36) (bodyRun.sl.r_60 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x3 x4 x5 x9 x19 g26 g35 g36)
      = pairUp (post (View.readAt (Elt F) arg1.view (Rect.unit (s := S119x119) ![0, 0] S119x119.size inb_S119x119_S119x119_0_0).toLoadRect (harg1.unread x1)) (shiftSum dot_S119x512_S128x512_S119x128_1_1_0_0_n_n (bodyRun.sl.v85 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x3 x4 x5 g25 g35 g36) (View.readAt (Elt F) arg17.view (Rect.unit (s := S128x512) ![0, 0] S128x512.size inb_S128x512_S128x512_0_0).toLoadRect (harg17.unread x17)) (View.readAt (Elt F) arg6.view (Rect.unit (s := S128x512) ![0, 0] S128x512.size inb_S128x512_S128x512_0_0).toLoadRect (harg6.unread x6)) 10)) (post (View.readAt (Elt F) arg1.view (Rect.unit (s := S119x119) ![0, 0] S119x119.size inb_S119x119_S119x119_0_0).toLoadRect (harg1.unread x1)) (shiftSum dot_S119x512_S128x512_S119x128_1_1_0_0_n_n (bodyRun.sl.v346 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x3 x4 x5 g26 g35 g36) (View.readAt (Elt F) arg19.view (Rect.unit (s := S128x512) ![0, 0] S128x512.size inb_S128x512_S128x512_0_0).toLoadRect (harg19.unread x19)) (View.readAt (Elt F) arg9.view (Rect.unit (s := S128x512) ![0, 0] S128x512.size inb_S128x512_S128x512_0_0).toLoadRect (harg9.unread x9)) 10)) := by
  rw [r_2_eq]
  simp only [k0_pay352, shapeCast_self]
  rfl

theorem r_63_eq :
    bodyRun.sl.r_63 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x3 x4 x5 x7 x17 g25 g35 g36
      = post (View.readAt (Elt F) arg1.view (Rect.unit (s := S119x119) ![0, 0] S119x119.size inb_S119x119_S119x119_0_0).toLoadRect (harg1.unread x1)) (shiftSum dot_S119x512_S128x512_S119x128_1_1_0_0_n_n (bodyRun.sl.v85 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x3 x4 x5 g25 g35 g36) (View.readAt (Elt F) arg17.view (Rect.unit (s := S128x512) ![0, 0] S128x512.size inb_S128x512_S128x512_0_0).toLoadRect (harg17.unread x17)) (View.readAt (Elt F) arg7.view (Rect.unit (s := S128x512) ![0, 0] S128x512.size inb_S128x512_S128x512_0_0).toLoadRect (harg7.unread x7)) 10) := by
  simp only [bodyRun.sl.r_63, k0_pay350, bodyRun.sl.r_2, k0_pay250, shapeCast_self]
  rfl

theorem r_64_eq :
    bodyRun.sl.r_64 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x3 x4 x5 x10 x19 g26 g35 g36
      = post (View.readAt (Elt F) arg1.view (Rect.unit (s := S119x119) ![0, 0] S119x119.size inb_S119x119_S119x119_0_0).toLoadRect (harg1.unread x1)) (shiftSum dot_S119x512_S128x512_S119x128_1_1_0_0_n_n (bodyRun.sl.v346 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x3 x4 x5 g26 g35 g36) (View.readAt (Elt F) arg19.view (Rect.unit (s := S128x512) ![0, 0] S128x512.size inb_S128x512_S128x512_0_0).toLoadRect (harg19.unread x19)) (View.readAt (Elt F) arg10.view (Rect.unit (s := S128x512) ![0, 0] S128x512.size inb_S128x512_S128x512_0_0).toLoadRect (harg10.unread x10)) 10) := by
  simp only [bodyRun.sl.r_64, k0_pay351, bodyRun.sl.r_2, k0_pay250, shapeCast_self]
  rfl

theorem r_3_eq :
    bodyRun.sl.r_3 c arg2 harg2 x2
      = (View.readAt (Elt F) arg2.view (Rect.unit (s := S119x119) ![0, 0] S119x119.size inb_S119x119_S119x119_0_0).toLoadRect (harg2.unread x2)) := by
  simp only [bodyRun.sl.r_3, k0_pay251, shapeCast_self]

theorem pay387_eq :
    k0_pay387 (bodyRun.sl.r_3 c arg2 harg2 x2) (bodyRun.sl.r_63 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x3 x4 x5 x7 x17 g25 g35 g36) (bodyRun.sl.r_64 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x3 x4 x5 x10 x19 g26 g35 g36) (bodyRun.sl.r_79 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x3 x4 x5 x6 x8 x9 x17 x18 x19 g25 g26 g27 g35 g36 g37) (bodyRun.sl.r_81 c arg11 harg11 x11) (bodyRun.sl.r_83 c arg11 harg11 x11) (bodyRun.sl.r_84 c arg11 harg11 x11) (bodyRun.sl.r_85 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x3 x4 x5 x6 x9 x17 x19 g25 g26 g27 g35 g36 g37) (bodyRun.sl.r_90 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x3 x4 x5 x6 x9 x11 x17 x19 x20 g25 g26 g27 g35 g36 g37) (bodyRun.sl.r_91 c arg20 harg20 x20)
      = pairUp (subf (bodyRun.sl.r_63 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x3 x4 x5 x7 x17 g25 g35 g36) (post (View.readAt (Elt F) arg2.view (Rect.unit (s := S119x119) ![0, 0] S119x119.size inb_S119x119_S119x119_0_0).toLoadRect (harg2.unread x2)) (shiftSum dot_S119x128_S128x128_S119x128_1_1_0_0_n_n (bodyRun.sl.v614 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x3 x4 x5 x6 x9 x17 x19 g25 g26 g27 g35 g36 g37) (View.readAt (Elt F) arg18.view (Rect.unit (s := S128x128) ![0, 0] S128x128.size inb_S128x128_S128x128_0_0).toLoadRect (harg18.unread x18)) (View.readAt (Elt F) arg8.view (Rect.unit (s := S128x128) ![0, 0] S128x128.size inb_S128x128_S128x128_0_0).toLoadRect (harg8.unread x8)) 10))) (subf (bodyRun.sl.r_64 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x3 x4 x5 x10 x19 g26 g35 g36) (post (View.readAt (Elt F) arg2.view (Rect.unit (s := S119x119) ![0, 0] S119x119.size inb_S119x119_S119x119_0_0).toLoadRect (harg2.unread x2)) (shiftSum dot_S119x128_S128x128_S119x128_1_1_0_0_n_n (bodyRun.sl.v776 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x3 x4 x5 x6 x9 x17 x19 g25 g26 g27 g35 g36 g37) (View.readAt (Elt F) arg20.view (Rect.unit (s := S128x128) ![0, 0] S128x128.size inb_S128x128_S128x128_0_0).toLoadRect (harg20.unread x20)) (View.readAt (Elt F) arg11.view (Rect.unit (s := S128x128) ![0, 0] S128x128.size inb_S128x128_S128x128_0_0).toLoadRect (harg11.unread x11)) 10))) := by
  rw [r_3_eq]
  simp only [k0_pay387, shapeCast_self]
  rfl

theorem pay486_eq :
    k0_pay486 (bodyRun.sl.r_2 c arg1 harg1 x1) (bodyRun.sl.r_122 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x17 x18 x19 x20 x21 g25 g26 g27 g28 g35 g36 g37 g38) (bodyRun.sl.r_126 c arg14 harg14 x14) (bodyRun.sl.r_127 c arg14 harg14 x14) (bodyRun.sl.r_153 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x14 x17 x18 x19 x20 x22 g25 g26 g27 g28 g35 g36 g37 g38) (bodyRun.sl.r_155 c arg22 harg22 x22) (bodyRun.sl.r_156 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x17 x18 x19 x20 g25 g26 g27 g28 g35 g36 g37 g38) (bodyRun.sl.r_157 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x14 x17 x18 x19 x20 x22 g25 g26 g27 g28 g35 g36 g37 g38)
      = post (View.readAt (Elt F) arg1.view (Rect.unit (s := S119x119) ![0, 0] S119x119.size inb_S119x119_S119x119_0_0).toLoadRect (harg1.unread x1)) (addf (shiftSum dot_S119x128_S64x128_S119x64_1_1_0_0_n_n (bodyRun.sl.v962 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x17 x18 x19 x20 g25 g26 g27 g28 g35 g36 g37 g38) (View.readAt (Elt F) arg21.view (Rect.unit (s := S64x128) ![0, 0] S64x128.size inb_S64x128_S64x128_0_0).toLoadRect (harg21.unread x21)) (View.readAt (Elt F) arg12.view (Rect.unit (s := S64x128) ![0, 0] S64x128.size inb_S64x128_S64x128_0_0).toLoadRect (harg12.unread x12)) 10) (shiftSum dot_S119x128_S64x128_S119x64_1_1_0_0_n_n (bodyRun.sl.v1223 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x17 x18 x19 x20 g25 g26 g27 g28 g35 g36 g37 g38) (View.readAt (Elt F) arg22.view (Rect.unit (s := S64x128) ![0, 0] S64x128.size inb_S64x128_S64x128_0_0).toLoadRect (harg22.unread x22)) (View.readAt (Elt F) arg14.view (Rect.unit (s := S64x128) ![0, 0] S64x128.size inb_S64x128_S64x128_0_0).toLoadRect (harg14.unread x14)) 10)) := by
  rw [r_2_eq]
  simp only [k0_pay486, shapeCast_self]
  rfl

theorem pay508_eq :
    k0_pay508 (bodyRun.sl.r_2 c arg1 harg1 x1) (bodyRun.sl.r_3 c arg2 harg2 x2) (bodyRun.sl.r_123 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x13 x17 x18 x19 x20 x21 g25 g26 g27 g28 g35 g36 g37 g38) (bodyRun.sl.r_158 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x15 x17 x18 x19 x20 x22 g25 g26 g27 g28 g35 g36 g37 g38) (bodyRun.sl.r_161 c arg16 harg16 x16) (bodyRun.sl.r_162 c arg16 harg16 x16) (bodyRun.sl.r_169 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x14 x15 x16 x17 x18 x19 x20 x21 x22 x23 g25 g26 g27 g28 g29 g35 g36 g37 g38) (bodyRun.sl.r_170 c arg23 harg23 x23) (bodyRun.sl.r_171 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x14 x15 x17 x18 x19 x20 x21 x22 g25 g26 g27 g28 g29 g35 g36 g37 g38) (bodyRun.sl.r_172 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x14 x15 x16 x17 x18 x19 x20 x21 x22 x23 g25 g26 g27 g28 g29 g35 g36 g37 g38)
      = subf (mulf (bc S119x64 0x40000000#32) (post (View.readAt (Elt F) arg1.view (Rect.unit (s := S119x119) ![0, 0] S119x119.size inb_S119x119_S119x119_0_0).toLoadRect (harg1.unread x1)) (addf (shiftSum dot_S119x128_S64x128_S119x64_1_1_0_0_n_n (bodyRun.sl.v962 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x17 x18 x19 x20 g25 g26 g27 g28 g35 g36 g37 g38) (View.readAt (Elt F) arg21.view (Rect.unit (s := S64x128) ![0, 0] S64x128.size inb_S64x128_S64x128_0_0).toLoadRect (harg21.unread x21)) (View.readAt (Elt F) arg13.view (Rect.unit (s := S64x128) ![0, 0] S64x128.size inb_S64x128_S64x128_0_0).toLoadRect (harg13.unread x13)) 10) (shiftSum dot_S119x128_S64x128_S119x64_1_1_0_0_n_n (bodyRun.sl.v1223 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x17 x18 x19 x20 g25 g26 g27 g28 g35 g36 g37 g38) (View.readAt (Elt F) arg22.view (Rect.unit (s := S64x128) ![0, 0] S64x128.size inb_S64x128_S64x128_0_0).toLoadRect (harg22.unread x22)) (View.readAt (Elt F) arg15.view (Rect.unit (s := S64x128) ![0, 0] S64x128.size inb_S64x128_S64x128_0_0).toLoadRect (harg15.unread x15)) 10)))) (post (View.readAt (Elt F) arg2.view (Rect.unit (s := S119x119) ![0, 0] S119x119.size inb_S119x119_S119x119_0_0).toLoadRect (harg2.unread x2)) (shiftSum dot_S119x64_S64x64_S119x64_1_1_0_0_n_n (bodyRun.sl.v1502 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x14 x15 x17 x18 x19 x20 x21 x22 g25 g26 g27 g28 g29 g35 g36 g37 g38) (View.readAt (Elt F) arg23.view (Rect.unit (s := S64x64) ![0, 0] S64x64.size inb_S64x64_S64x64_0_0).toLoadRect (harg23.unread x23)) (View.readAt (Elt F) arg16.view (Rect.unit (s := S64x64) ![0, 0] S64x64.size inb_S64x64_S64x64_0_0).toLoadRect (harg16.unread x16)) 10)) := by
  rw [r_2_eq, r_3_eq]
  simp only [k0_pay508, shapeCast_self]
  rfl

end Cert.KernelIdeal.Gen

end
-- ==== Proof.Read.lean ====
/- The spikes of every layer, as the kernel's buffers hold them over the extended reals. -/
module

public import proofs.«01_k».proof.Proof.Net
public import proofs.«01_k».proof.Proof.Hist
public import proofs.«01_k».proof.Proof.Currents

@[expose] public section

noncomputable section

namespace Cert.KernelIdeal.Gen

open Idealize.ShloMosaic Idealize.ShloMosaic.ValueIdx Idealize.SL.Sem Cert.KernelIdeal Cert.Snn

section Reading

variable {sig : RefSig} {κ : Kind} {sp : Space} {H w : ℕ} {e : EltTy}

/-- A load of everything reads the contents. -/
theorem ld_whole (m : Memref sig κ sp ⟨2, ![H, w]⟩ e) (hm : m.IsWhole) (inb) (x : (⟨2, ![H, w]⟩ : Shape).Idx → Elt Ideal e) :
    View.readAt (Elt Ideal) m.view (Rect.unit (s := ⟨2, ![H, w]⟩) ![0, 0] ![H, w] inb).toLoadRect (hm.unread x) = x := by
  rw [View.readAt_eq_ld, hm.read_unread]
  exact View.ld_unit_zero (by funext a; revert a; exact Fin.forall_fin_two.mpr ⟨rfl, rfl⟩) inb x

/-- The newest store, read inside it. -/
theorem read_newest {B b : ℕ} (v : View sig κ sp ⟨2, ![H, w]⟩ e) (f : v.ty.Contents (Elt Ideal))
    (inb : ∀ a : Fin 2, (![0, 0] : Fin 2 → ℕ) a + (![B, b] : Fin 2 → ℕ) a ≤ (![H, w] : Fin 2 → ℕ) a)
    (P : (⟨2, ![B, b]⟩ : Shape).Idx → Elt Ideal e) (L : List (View.Piece (Elt Ideal) ⟨2, ![H, w]⟩ e))
    (r : Fin H) (c : Fin w) (hr : r.val < B) (hc : c.val < b) :
    v.read (Elt Ideal) (v.writes (Elt Ideal) f (⟨Rect.unit (s := ⟨2, ![H, w]⟩) ![0, 0] ![B, b] inb, P⟩ :: L)) (ix2 r c)
      = P (ix2 ⟨r.val, hr⟩ ⟨c.val, hc⟩) :=
  View.read_writes_cons_unit_of_mem v f inb P L (ix2 r c) (ix2 (⟨r.val, hr⟩ : Fin B) (⟨c.val, hc⟩ : Fin b)) rfl
    (Fin.forall_fin_two.mpr ⟨(Nat.zero_add _).symm, (Nat.zero_add _).symm⟩)

/-- A load of a part of what one store of everything left. -/
theorem readCov_part {R b o p : ℕ} (v : View sig κ sp ⟨2, ![H, w]⟩ e)
    (inb0 : ∀ a : Fin 2, (![0, 0] : Fin 2 → ℕ) a + (![H, w] : Fin 2 → ℕ) a ≤ (![H, w] : Fin 2 → ℕ) a)
    (P : (⟨2, ![H, w]⟩ : Shape).Idx → Elt Ideal e)
    (inb : ∀ a : Fin 2, (![o, p] : Fin 2 → ℕ) a + (![R, b] : Fin 2 → ℕ) a ≤ (![H, w] : Fin 2 → ℕ) a) (i : Fin R) (c : Fin b)
    (hi : o + i.val < H) (hc : p + c.val < w) :
    v.readCov [⟨Rect.unit (s := ⟨2, ![H, w]⟩) ![0, 0] ![H, w] inb0, P⟩]
        (Rect.unit (s := ⟨2, ![H, w]⟩) ![o, p] ![R, b] inb).toLoadRect (ix2 i c)
      = P (ix2 ⟨o + i.val, hi⟩ ⟨p + c.val, hc⟩) := by
  unfold View.readCov
  rw [readAt_rows v _ _ rfl inb i c hi hc]
  exact read_newest v _ inb0 P [] ⟨o + i.val, hi⟩ ⟨p + c.val, hc⟩ hi hc

end Reading

section Currents

theorem post_apply {M : ℕ} (e : FVec Ideal S119x119 .f32) (x : FVec Ideal ⟨2, ![119, M]⟩ .f32) (X : ℕ → ℕ → EReal)
    (hX : ∀ (s : Fin 119) (i : Fin M), (x (ix2 s i) : EReal) = X s.val i.val) (t : Fin 119) (i : Fin M) :
    (post e x (ix2 t i) : EReal) = filt e X t.val i.val := by
  unfold post filt
  refine (Ideal.matmul_plain_apply _ _ _ _ t i).trans ?_
  rw [dif_pos t.isLt]
  show Scalar.ofBits (F := Ideal) .f32 0x00000000#32 + _ = _
  rw [zero_word, zero_add]
  exact Finset.sum_congr rfl fun s _ => congrArg (e (ix2 t s) * ·) (hX s i)

theorem curIn_apply (e : FVec Ideal S119x119 .f32) (x : FVec Ideal S119x512 .f32) (w : FVec Ideal S512x512 .f32) (X : ℕ → ℕ → EReal)
    (hX : ∀ (s : Fin 119) (i : Fin 512), (x (ix2 s i) : EReal) = X s.val i.val) (t : ℕ) (ht : t < 119) (q : Fin 4) (c : Fin 128)
    (r : Fin 476) (hr : r.val = 4 * t + q.val) :
    (curIn e x w (ix2 r c) : EReal) = drive e X w t (128 * q.val + c.val) := by
  have hq := q.isLt
  have hc := c.isLt
  have hn : 128 * q.val + c.val < 512 := by omega
  unfold curIn drive
  rw [shapeCast_apply _ _ (ix2 r c) (ix2 (⟨t, ht⟩ : Fin 119) (⟨128 * q.val + c.val, hn⟩ : Fin 512))
    (by rw [Shape.rowMajor_val_two, Shape.rowMajor_val_two]; show t * 512 + (128 * q.val + c.val) = r.val * 128 + c.val; omega)]
  rw [dif_pos hn]
  refine (Ideal.matmul_transposedRhs_apply _ _ _ _ (⟨t, ht⟩ : Fin 119) (⟨128 * q.val + c.val, hn⟩ : Fin 512)).trans ?_
  show Scalar.ofBits (F := Ideal) .f32 0x00000000#32 + _ = _
  rw [zero_word, zero_add]
  exact Finset.sum_congr rfl fun k _ => congrArg (· * w (ix2 (⟨128 * q.val + c.val, hn⟩ : Fin 512) k)) (post_apply e x X hX ⟨t, ht⟩ k)

theorem pairUp_apply (a b : FVec Ideal S119x128 .f32) (t : ℕ) (ht : t < 119) (q : Fin 2) (c : Fin 128)
    (r : Fin 238) (hr : r.val = 2 * t + q.val) :
    (pairUp a b (ix2 r c) : EReal) = if q.val = 0 then a (ix2 (⟨t, ht⟩ : Fin 119) c) else b (ix2 (⟨t, ht⟩ : Fin 119) c) := by
  have hq := q.isLt
  have hc := c.isLt
  have hn : 128 * q.val + c.val < 256 := by omega
  unfold pairUp
  rw [shapeCast_apply _ _ (ix2 r c) (ix2 (⟨t, ht⟩ : Fin 119) (⟨128 * q.val + c.val, hn⟩ : Fin 256))
    (by rw [Shape.rowMajor_val_two, Shape.rowMajor_val_two]; show t * 256 + (128 * q.val + c.val) = r.val * 128 + c.val; omega)]
  by_cases h : q.val = 0
  · rw [if_pos h]
    refine concatenate_pair_apply_left (t := S119x256) (1 : Fin 2) a b _ (ix2 (⟨t, ht⟩ : Fin 119) (⟨128 * q.val + c.val, hn⟩ : Fin 256)) rfl (ix2 (⟨t, ht⟩ : Fin 119) c) (Fin.forall_fin_two.mpr ⟨rfl, ?_⟩)
    show c.val = 128 * q.val + c.val
    omega
  · rw [if_neg h]
    refine concatenate_pair_apply_right (t := S119x256) (1 : Fin 2) a b _ (ix2 (⟨t, ht⟩ : Fin 119) (⟨128 * q.val + c.val, hn⟩ : Fin 256)) rfl rfl (ix2 (⟨t, ht⟩ : Fin 119) c) (Fin.forall_fin_two.mpr ⟨fun _ => rfl, fun h => absurd rfl h⟩) ?_
    show c.val + 128 = 128 * q.val + c.val
    omega

theorem stimOf_apply (x : FVec Ideal S512x120 .f32) (s : Fin 119) (k : Fin 512) :
    (stimOf x (ix2 s k) : EReal) = stimAt x s.val k.val := by
  unfold stimOf stimAt
  rw [dif_pos ⟨s.isLt, k.isLt⟩]
  rw [extractStridedSlice_apply _ _ _ _ (ix2 (⟨1 + s.val, by omega⟩ : Fin 120) k) (Fin.forall_fin_two.mpr ⟨rfl, (Nat.zero_add _).symm⟩)]
  exact transpose_apply _ _ _ _ (ix2 k (⟨1 + s.val, by omega⟩ : Fin 120)) (Fin.forall_fin_two.mpr ⟨rfl, rfl⟩)

theorem jumpOf_apply (x : FVec Ideal S512x120 .f32) (s : Fin 119) (k : Fin 512) :
    (jumpOf x (ix2 s k) : EReal) = jumpAt x s.val k.val := by
  unfold jumpOf jumpAt
  rw [dif_pos ⟨s.isLt, k.isLt⟩]
  have h1 : (extractStridedSlice S119x512 ![1, 0] (transpose S120x512 [1, 0] x facts.transposes_S512x120_p1_0_S120x512) facts.slices_S120x512_o1_0_S119x512 (ix2 s k) : EReal)
      = x (ix2 k (⟨1 + s.val, by omega⟩ : Fin 120)) := by
    rw [extractStridedSlice_apply _ _ _ _ (ix2 (⟨1 + s.val, by omega⟩ : Fin 120) k) (Fin.forall_fin_two.mpr ⟨rfl, (Nat.zero_add _).symm⟩)]
    exact transpose_apply _ _ _ _ (ix2 k (⟨1 + s.val, by omega⟩ : Fin 120)) (Fin.forall_fin_two.mpr ⟨rfl, rfl⟩)
  have h0 : (extractStridedSlice S119x512 ![0, 0] (transpose S120x512 [1, 0] x facts.transposes_S512x120_p1_0_S120x512) facts.slices_S120x512_o0_0_S119x512 (ix2 s k) : EReal)
      = x (ix2 k (⟨0 + s.val, by omega⟩ : Fin 120)) := by
    rw [extractStridedSlice_apply _ _ _ _ (ix2 (⟨0 + s.val, by omega⟩ : Fin 120) k) (Fin.forall_fin_two.mpr ⟨rfl, (Nat.zero_add _).symm⟩)]
    exact transpose_apply _ _ _ _ (ix2 k (⟨0 + s.val, by omega⟩ : Fin 120)) (Fin.forall_fin_two.mpr ⟨rfl, rfl⟩)
  show mag (_ - _) * wd 0x40A00000#32 = _
  rw [h1, h0]

end Currents

end Cert.KernelIdeal.Gen

end
-- ==== Proof.KernelNet.lean ====
/- The spikes of every layer, as the kernel's buffers hold them over the extended reals. -/
module

public import proofs.«01_k».proof.Proof.Net
public import proofs.«01_k».proof.Proof.Read
public import proofs.«01_k».proof.Proof.Hist

@[expose] public section

noncomputable section

namespace Cert.KernelIdeal.Gen

open Idealize.ShloMosaic Idealize.ShloMosaic.ValueIdx Idealize.SL.Sem Cert.KernelIdeal Cert.Snn

/-- A history: sixteen rows of zeros and then a row of spikes per step. -/
structure IsHist {K : ℕ} (h : FVec Ideal ⟨2, ![144, K]⟩ .f32) (S : ℕ → ℕ → EReal) : Prop where
  rows : ∀ (r : Fin 144) (k : Fin K), r.val < 135 → (h (ix2 r k) : EReal) = if 16 ≤ r.val then S k.val (r.val - 16) else 0

/-- The spikes of a layer, a row to a step. -/
structure IsRows {M : ℕ} (v : FVec Ideal ⟨2, ![119, M]⟩ .f32) (S : ℕ → ℕ → EReal) : Prop where
  rows : ∀ (t : Fin 119) (i : Fin M), (v (ix2 t i) : EReal) = S i.val t.val

/-- The delayed synapses of a history. -/
theorem syn_apply {M K : ℕ} (dn : DotDims ⟨2, ![119, K]⟩ ⟨2, ![M, K]⟩ ⟨2, ![119, M]⟩) (hdn : dn = DotDims.transposedRhs 119 K M)
    (hist : FVec Ideal ⟨2, ![144, K]⟩ .f32) (sd : IVec ⟨2, ![M, K]⟩ 32) (w : FVec Ideal ⟨2, ![M, K]⟩ .f32) (S : ℕ → ℕ → EReal)
    (hS : IsHist hist S) (hw : Finite w) (hsd : Delays sd) (t : Fin 119) (i : Fin M) :
    (shiftSum dn hist sd w 10 (ix2 t i) : EReal) = arrive w sd S t.val i.val := by
  subst hdn
  rw [shiftSum_late hist sd w hw S hS.rows hsd t i]
  unfold arrive
  rw [dif_pos i.isLt]

/-- Four rows of 128 neurons to a step, put side by side. -/
theorem wide4 (x : FVec Ideal S576x128 .f32) (h) (S : ℕ → ℕ → EReal)
    (hx : ∀ t < 135, ∀ (q : Fin 4) (c : Fin 128) (r : Fin 576), r.val = 4 * t + q.val →
      (x (ix2 r c) : EReal) = if 16 ≤ t then S (128 * q.val + c.val) (t - 16) else 0) :
    IsHist (shapeCast S144x512 x h) S := by
  refine ⟨fun r k hr => ?_⟩
  have hk := k.isLt
  rw [shapeCast_apply _ _ (ix2 r k) (ix2 (⟨4 * r.val + k.val / 128, by omega⟩ : Fin 576) (⟨k.val % 128, by omega⟩ : Fin 128))
    (by rw [Shape.rowMajor_val_two, Shape.rowMajor_val_two]; show (4 * r.val + k.val / 128) * 128 + k.val % 128 = r.val * 512 + k.val; omega)]
  rw [hx r.val hr ⟨k.val / 128, by omega⟩ _ _ rfl]
  show (if 16 ≤ r.val then S (128 * (k.val / 128) + k.val % 128) (r.val - 16) else 0) = _
  rw [Nat.div_add_mod]

/-- Two rows of 128 neurons to a step, put side by side. -/
theorem wide2 (x : FVec Ideal S288x128 .f32) (h) (r : Fin 144) (q : Fin 2) (c : Fin 128) (k : Fin 256) (hk : k.val = 128 * q.val + c.val) :
    (shapeCast S144x256 x h (ix2 r k) : EReal) = x (ix2 (⟨2 * r.val + q.val, by omega⟩ : Fin 288) c) := by
  refine shapeCast_apply _ _ (ix2 r k) (ix2 (⟨2 * r.val + q.val, by omega⟩ : Fin 288) c) ?_
  rw [Shape.rowMajor_val_two, Shape.rowMajor_val_two]
  show (2 * r.val + q.val) * 128 + c.val = r.val * 256 + k.val
  omega

/-- A part of the columns of a history that was stored whole. -/
theorem hist_part {sig : RefSig} {κ : Kind} {sp : Space} {K b p : ℕ} (v : View sig κ sp ⟨2, ![144, K]⟩ .f32) (inb0)
    (P : (⟨2, ![144, K]⟩ : Shape).Idx → Elt Ideal .f32) (inb : ∀ a : Fin 2, (![0, p] : Fin 2 → ℕ) a + (![144, b] : Fin 2 → ℕ) a ≤ (![144, K] : Fin 2 → ℕ) a)
    (S S' : ℕ → ℕ → EReal) (hP : IsHist P S) (hS : ∀ k < b, S (p + k) = S' k) :
    IsHist (K := b) (v.readCov (Val := Elt Ideal) [⟨Rect.unit (s := ⟨2, ![144, K]⟩) ![0, 0] ![144, K] inb0, P⟩]
      (Rect.unit (s := ⟨2, ![144, K]⟩) ![0, p] ![144, b] inb).toLoadRect) S' := by
  refine ⟨fun r k hr => ?_⟩
  have hb : p + b ≤ K := inb 1
  refine (readCov_part v inb0 P inb r k (by omega) (by omega)).trans ((hP.rows _ _ (by show 0 + r.val < 135; omega)).trans ?_)
  show (if 16 ≤ 0 + r.val then S (p + k.val) (0 + r.val - 16) else 0) = _
  rw [Nat.zero_add, hS k.val k.isLt]

/-- The rows of spikes of a history that was stored whole. -/
theorem tail_part {sig : RefSig} {κ : Kind} {sp : Space} {K b p : ℕ} (v : View sig κ sp ⟨2, ![144, K]⟩ .f32) (inb0)
    (P : (⟨2, ![144, K]⟩ : Shape).Idx → Elt Ideal .f32) (inb : ∀ a : Fin 2, (![16, p] : Fin 2 → ℕ) a + (![119, b] : Fin 2 → ℕ) a ≤ (![144, K] : Fin 2 → ℕ) a)
    (S S' : ℕ → ℕ → EReal) (hP : IsHist P S) (hS : ∀ k < b, S (p + k) = S' k) :
    IsRows (M := b) (v.readCov (Val := Elt Ideal) [⟨Rect.unit (s := ⟨2, ![144, K]⟩) ![0, 0] ![144, K] inb0, P⟩]
      (Rect.unit (s := ⟨2, ![144, K]⟩) ![16, p] ![119, b] inb).toLoadRect) S' := by
  refine ⟨fun t i => ?_⟩
  have hb : p + b ≤ K := inb 1
  refine (readCov_part v inb0 P inb t i (by omega) (by omega)).trans ((hP.rows _ _ (by show 16 + t.val < 135; omega)).trans ?_)
  show (if 16 ≤ 16 + t.val then S (p + i.val) (16 + t.val - 16) else 0) = _
  rw [if_pos (Nat.le_add_right _ _), Nat.add_sub_cancel_left, hS i.val i.isLt]

/-- Two layers side by side. -/
def both (S T : ℕ → ℕ → EReal) (k t : ℕ) : EReal := if k < 128 then S k t else T (k - 128) t

theorem both_left (S T : ℕ → ℕ → EReal) : ∀ k < 128, both S T (0 + k) = S k := by
  intro k hk
  funext t
  unfold both
  rw [Nat.zero_add, if_pos hk]

theorem both_right (S T : ℕ → ℕ → EReal) : ∀ k < 128, both S T (128 + k) = T k := by
  intro k hk
  funext t
  unfold both
  rw [if_neg (by omega), Nat.add_sub_cancel_left]

/-- Two rows of 128 neurons to a step, put side by side, are a history of both layers. -/
theorem hist_both (x : FVec Ideal S288x128 .f32) (h) (S T : ℕ → ℕ → EReal)
    (hx : ∀ t < 135, ∀ (q : Fin 2) (c : Fin 128) (r : Fin 288), r.val = 2 * t + q.val →
      (x (ix2 r c) : EReal) = if 16 ≤ t then (if q.val = 0 then S c.val (t - 16) else T c.val (t - 16)) else 0) :
    IsHist (shapeCast S144x256 x h) (both S T) := by
  refine ⟨fun r k hr => ?_⟩
  have hk := k.isLt
  unfold both
  by_cases hk' : k.val < 128
  · rw [if_pos hk']
    exact (wide2 x h r 0 ⟨k.val, hk'⟩ k (Nat.zero_add _).symm).trans (hx r.val hr 0 _ _ rfl)
  · rw [if_neg hk']
    exact (wide2 x h r 1 ⟨k.val - 128, by omega⟩ k (by show k.val = 128 * 1 + (k.val - 128); omega)).trans (hx r.val hr 1 _ _ rfl)

variable (c : Dev nD) (arg0 : Memref sig .tc .vmem S512x120 .f32) (harg0 : arg0.IsWhole) (arg1 : Memref sig .tc .vmem S119x119 .f32) (harg1 : arg1.IsWhole) (arg2 : Memref sig .tc .vmem S119x119 .f32) (harg2 : arg2.IsWhole) (arg3 : Memref sig .tc .vmem S120x1 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x128 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x128 .f32) (harg11 : arg11.IsWhole) (arg12 : Memref sig .tc .vmem S64x128 .f32) (harg12 : arg12.IsWhole) (arg13 : Memref sig .tc .vmem S64x128 .f32) (harg13 : arg13.IsWhole) (arg14 : Memref sig .tc .vmem S64x128 .f32) (harg14 : arg14.IsWhole) (arg15 : Memref sig .tc .vmem S64x128 .f32) (harg15 : arg15.IsWhole) (arg16 : Memref sig .tc .vmem S64x64 .f32) (harg16 : arg16.IsWhole) (arg17 : Memref sig .tc .vmem S128x512 .i32) (harg17 : arg17.IsWhole) (arg18 : Memref sig .tc .vmem S128x128 .i32) (harg18 : arg18.IsWhole) (arg19 : Memref sig .tc .vmem S128x512 .i32) (harg19 : arg19.IsWhole) (arg20 : Memref sig .tc .vmem S128x128 .i32) (harg20 : arg20.IsWhole) (arg21 : Memref sig .tc .vmem S64x128 .i32) (harg21 : arg21.IsWhole) (arg22 : Memref sig .tc .vmem S64x128 .i32) (harg22 : arg22.IsWhole) (arg23 : Memref sig .tc .vmem S64x64 .i32) (harg23 : arg23.IsWhole) (arg24 : Memref sig .tc .vmem S1664x119 .f32) (harg24 : arg24.IsWhole) (arg25 : Memref sig .tc .vmem S576x128 .f32) (harg25 : arg25.IsWhole) (arg26 : Memref sig .tc .vmem S576x128 .f32) (harg26 : arg26.IsWhole) (arg27 : Memref sig .tc .vmem S288x128 .f32) (harg27 : arg27.IsWhole) (arg28 : Memref sig .tc .vmem S288x128 .f32) (harg28 : arg28.IsWhole) (arg29 : Memref sig .tc .vmem S144x64 .f32) (harg29 : arg29.IsWhole) (arg30 : Memref sig .tc .vmem S144x64 .f32) (harg30 : arg30.IsWhole) (arg31 : Memref sig .tc .vmem S144x512 .f32) (harg31 : arg31.IsWhole) (arg32 : Memref sig .tc .vmem S144x512 .f32) (harg32 : arg32.IsWhole) (arg33 : Memref sig .tc .vmem S144x256 .f32) (harg33 : arg33.IsWhole) (arg34 : Memref sig .tc .vmem S144x256 .f32) (harg34 : arg34.IsWhole) (arg35 : Memref sig .tc .vmem S480x128 .f32) (harg35 : arg35.IsWhole) (arg36 : Memref sig .tc .vmem S480x128 .f32) (harg36 : arg36.IsWhole) (arg37 : Memref sig .tc .vmem S240x128 .f32) (harg37 : arg37.IsWhole) (arg38 : Memref sig .tc .vmem S240x128 .f32) (harg38 : arg38.IsWhole)
  (x0 : Vec Ideal S512x120 .f32) (x1 : Vec Ideal S119x119 .f32) (x2 : Vec Ideal S119x119 .f32) (x3 : Vec Ideal S120x1 .f32) (x4 : Vec Ideal S512x512 .f32) (x5 : Vec Ideal S512x512 .f32) (x6 : Vec Ideal S128x512 .f32) (x7 : Vec Ideal S128x512 .f32) (x8 : Vec Ideal S128x128 .f32) (x9 : Vec Ideal S128x512 .f32) (x10 : Vec Ideal S128x512 .f32) (x11 : Vec Ideal S128x128 .f32) (x12 : Vec Ideal S64x128 .f32) (x13 : Vec Ideal S64x128 .f32) (x14 : Vec Ideal S64x128 .f32) (x15 : Vec Ideal S64x128 .f32) (x16 : Vec Ideal S64x64 .f32) (x17 : Vec Ideal S128x512 .i32) (x18 : Vec Ideal S128x128 .i32) (x19 : Vec Ideal S128x512 .i32) (x20 : Vec Ideal S128x128 .i32) (x21 : Vec Ideal S64x128 .i32) (x22 : Vec Ideal S64x128 .i32) (x23 : Vec Ideal S64x64 .i32)
  (g25 : Vec Ideal S576x128 .f32) (g26 : Vec Ideal S576x128 .f32) (g27 : Vec Ideal S288x128 .f32) (g28 : Vec Ideal S288x128 .f32) (g29 : Vec Ideal S144x64 .f32) (g30 : Vec Ideal S144x64 .f32) (g31 : Vec Ideal S144x512 .f32) (g32 : Vec Ideal S144x512 .f32) (g33 : Vec Ideal S144x256 .f32) (g34 : Vec Ideal S144x256 .f32) (g35 : Vec Ideal S480x128 .f32) (g36 : Vec Ideal S480x128 .f32) (g37 : Vec Ideal S240x128 .f32) (g38 : Vec Ideal S240x128 .f32)

variable (X : KIn) (hX : X = (⟨x0, x1, x2, x3, x4, x5, x6, x7, x8, x9, x10, x11, x12, x13, x14, x15, x16, x17, x18, x19, x20, x21, x22, x23⟩ : KIn)) (ok : X.Ok)

include hX in
/-- The history of the first layer of the first branch. -/
theorem hist_sa0 : IsHist (k0_pay259 (bodyRun.sl.v58 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x3 x4 x5 g25 g35 g36)) X.sa0 := by
  subst hX
  have e : k0_pay259 (bodyRun.sl.v58 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x3 x4 x5 g25 g35 g36) = shapeCast S144x512 (bodyRun.sl.v58 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x3 x4 x5 g25 g35 g36) shapeCasts_S576x128_S144x512 := by
    unfold k0_pay259
    exact shapeCast_self _ _
  rw [e]
  refine wide4 _ _ _ fun t ht q y r hr => ?_
  unfold bodyRun.sl.v58
  refine (readAt_rows arg25.view _ _ rfl _ r y (by omega) (by omega)).trans ?_
  refine (hist_t1_a _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (by decide) (rateAt x3) ?_
    (fun s q y => drive x1 (stimAt x0) x4 s (128 * q + y)) ?_ t ht q ⟨0 + y.val, by omega⟩ ⟨0 + r.val, by omega⟩ (by show 0 + r.val = _; omega)).trans ?_
  · intro s
    rw [harg3.read_unread]
    unfold rateAt
    rw [dif_pos s.isLt]
  · intro s hs q y r hy hr
    refine (read_newest _ _ _ _ _ r y (by omega) hy).trans ?_
    rw [ld_whole, ld_whole]
    unfold bodyRun.sl.r
    rw [ld_whole, pay252_eq]
    exact curIn_apply _ _ _ _ (stimOf_apply x0) s hs q y ⟨r.val, by omega⟩ hr
  · show (if _ then spikeS _ _ (fun s => drive x1 (stimAt x0) x4 s (128 * q.val + (0 + y.val))) _ else 0) = _
    rw [Nat.zero_add]
    rfl

include hX in
/-- The history of the first layer of the second branch. -/
theorem hist_ra0 : IsHist (k0_pay260 (bodyRun.sl.v63 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x3 x4 x5 g26 g35 g36)) X.ra0 := by
  subst hX
  have e : k0_pay260 (bodyRun.sl.v63 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x3 x4 x5 g26 g35 g36) = shapeCast S144x512 (bodyRun.sl.v63 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x3 x4 x5 g26 g35 g36) shapeCasts_S576x128_S144x512 := by
    unfold k0_pay260
    exact shapeCast_self _ _
  rw [e]
  refine wide4 _ _ _ fun t ht q y r hr => ?_
  unfold bodyRun.sl.v63
  refine (readAt_rows arg26.view _ _ rfl _ r y (by omega) (by omega)).trans ?_
  refine (hist_t1_b _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (by decide)
    (fun s q y => drive x1 (jumpAt x0) x5 s (128 * q + y)) ?_ t ht q ⟨0 + y.val, by omega⟩ ⟨0 + r.val, by omega⟩ (by show 0 + r.val = _; omega)).trans ?_
  · intro s hs q y r hy hr
    refine (read_newest _ _ _ _ _ r y (by omega) hy).trans ?_
    rw [ld_whole, ld_whole]
    unfold bodyRun.sl.r_1
    rw [ld_whole, pay253_eq]
    exact curIn_apply _ _ _ _ (jumpOf_apply x0) s hs q y ⟨r.val, by omega⟩ hr
  · show (if _ then spikeS _ _ (fun s => drive x1 (jumpAt x0) x5 s (128 * q.val + (0 + y.val))) _ else 0) = _
    rw [Nat.zero_add]
    rfl

include hX in
/-- The history as later layers read it. -/
theorem hist_v85 : IsHist (bodyRun.sl.v85 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x3 x4 x5 g25 g35 g36) X.sa0 := by
  unfold bodyRun.sl.v85 bodyRun.sl.H31_1 bodyRun.sl.r_4
  exact hist_part _ _ _ _ _ _ (hist_sa0 (hX := hX) ..) (fun k _ => congrArg X.sa0 (Nat.zero_add k))

include hX in
/-- The history as later layers read it. -/
theorem hist_v346 : IsHist (bodyRun.sl.v346 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x3 x4 x5 g26 g35 g36) X.ra0 := by
  unfold bodyRun.sl.v346 bodyRun.sl.H32_1
  exact hist_part _ _ _ _ _ _ (hist_ra0 (hX := hX) ..) (fun k _ => congrArg X.ra0 (Nat.zero_add k))

include hX in
/-- The spikes as the output reads them. -/
theorem tail_v1668 : IsRows (bodyRun.sl.v1668 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x3 x4 x5 g25 g35 g36) X.sa0 := by
  unfold bodyRun.sl.v1668 bodyRun.sl.H31_1 bodyRun.sl.r_4
  exact tail_part _ _ _ _ _ _ (hist_sa0 (hX := hX) ..) (fun k _ => congrArg X.sa0 (Nat.zero_add k))

include hX in
/-- The spikes as the output reads them. -/
theorem tail_v1677 : IsRows (bodyRun.sl.v1677 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x3 x4 x5 g26 g35 g36) X.ra0 := by
  unfold bodyRun.sl.v1677 bodyRun.sl.H32_1
  exact tail_part _ _ _ _ _ _ (hist_ra0 (hX := hX) ..) (fun k _ => congrArg X.ra0 (Nat.zero_add k))

include hX ok in
/-- The history of one pair of layers of the two branches. -/
theorem hist_p1 : IsHist (k0_pay359 (bodyRun.sl.v609 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x3 x4 x5 x6 x9 x17 x19 g25 g26 g27 g35 g36 g37)) (both X.sa1 X.ra1) := by
  have h85 : IsHist (bodyRun.sl.v85 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x3 x4 x5 g25 g35 g36) X.sa0 := hist_v85 (hX := hX) ..
  have h346 : IsHist (bodyRun.sl.v346 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x3 x4 x5 g26 g35 g36) X.ra0 := hist_v346 (hX := hX) ..
  have e : k0_pay359 (bodyRun.sl.v609 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x3 x4 x5 x6 x9 x17 x19 g25 g26 g27 g35 g36 g37) = shapeCast S144x256 (bodyRun.sl.v609 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x3 x4 x5 x6 x9 x17 x19 g25 g26 g27 g35 g36 g37) shapeCasts_S288x128_S144x256 := by
    unfold k0_pay359
    exact shapeCast_self _ _
  rw [e]
  subst hX
  refine hist_both _ _ _ _ fun t ht q y r hr => ?_
  unfold bodyRun.sl.v609
  refine (readAt_rows arg27.view _ _ rfl _ r y (by omega) (by omega)).trans ?_
  refine (hist_t2 (hn := by decide) (I := fun s q y => if q = 0 then filt x1 (arrive x6 x17 (⟨x0, x1, x2, x3, x4, x5, x6, x7, x8, x9, x10, x11, x12, x13, x14, x15, x16, x17, x18, x19, x20, x21, x22, x23⟩ : KIn).sa0) s y else filt x1 (arrive x9 x19 (⟨x0, x1, x2, x3, x4, x5, x6, x7, x8, x9, x10, x11, x12, x13, x14, x15, x16, x17, x18, x19, x20, x21, x22, x23⟩ : KIn).ra0) s y) (hI := ?_) (ht := ht) (q := q)
    (x := ⟨0 + y.val, by omega⟩) (r := ⟨0 + r.val, by omega⟩) (hr := by show 0 + r.val = _; omega) ..).trans ?_
  · intro s hs q y r hy hr
    refine (read_newest _ _ _ _ _ r y (by omega) hy).trans ?_
    rw [pay352_eq]
    rw [ld_whole, ld_whole, ld_whole, ld_whole, ld_whole]
    refine (pairUp_apply _ _ s hs q ⟨y.val, hy⟩ ⟨r.val, by omega⟩ hr).trans ?_
    show _ = if q.val = 0 then filt x1 (arrive x6 x17 (⟨x0, x1, x2, x3, x4, x5, x6, x7, x8, x9, x10, x11, x12, x13, x14, x15, x16, x17, x18, x19, x20, x21, x22, x23⟩ : KIn).sa0) s y.val else filt x1 (arrive x9 x19 (⟨x0, x1, x2, x3, x4, x5, x6, x7, x8, x9, x10, x11, x12, x13, x14, x15, x16, x17, x18, x19, x20, x21, x22, x23⟩ : KIn).ra0) s y.val
    rcases (by omega : q.val = 0 ∨ q.val = 1) with h | h
    · rw [if_pos h, if_pos h]
      exact post_apply _ _ _ (fun s i => syn_apply _ rfl _ _ _ _ h85 ok.w6 ok.d17 s i) _ _
    · rw [if_neg (by omega), if_neg (by omega)]
      exact post_apply _ _ _ (fun s i => syn_apply _ rfl _ _ _ _ h346 ok.w9 ok.d19 s i) _ _
  · show (if _ then spikeS _ _ (fun s => if q.val = 0 then filt x1 (arrive x6 x17 (⟨x0, x1, x2, x3, x4, x5, x6, x7, x8, x9, x10, x11, x12, x13, x14, x15, x16, x17, x18, x19, x20, x21, x22, x23⟩ : KIn).sa0) s (0 + y.val) else filt x1 (arrive x9 x19 (⟨x0, x1, x2, x3, x4, x5, x6, x7, x8, x9, x10, x11, x12, x13, x14, x15, x16, x17, x18, x19, x20, x21, x22, x23⟩ : KIn).ra0) s (0 + y.val)) _ else 0) = _
    rw [Nat.zero_add]
    rcases (by omega : q.val = 0 ∨ q.val = 1) with h | h <;> simp only [h] <;> rfl

include hX ok in
/-- The history as later layers read it. -/
theorem hist_v614 : IsHist (bodyRun.sl.v614 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x3 x4 x5 x6 x9 x17 x19 g25 g26 g27 g35 g36 g37) X.sa1 := by
  unfold bodyRun.sl.v614 bodyRun.sl.H33_1
  exact hist_part _ _ _ _ _ _ (hist_p1 (hX := hX) (ok := ok) ..) (both_left X.sa1 X.ra1)

include hX ok in
/-- The history as later layers read it. -/
theorem hist_v776 : IsHist (bodyRun.sl.v776 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x3 x4 x5 x6 x9 x17 x19 g25 g26 g27 g35 g36 g37) X.ra1 := by
  unfold bodyRun.sl.v776 bodyRun.sl.H33_1
  exact hist_part _ _ _ _ _ _ (hist_p1 (hX := hX) (ok := ok) ..) (both_right X.sa1 X.ra1)

include hX ok in
/-- The spikes as the output reads them. -/
theorem tail_v1671 : IsRows (bodyRun.sl.v1671 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x3 x4 x5 x6 x9 x17 x19 g25 g26 g27 g35 g36 g37) X.sa1 := by
  unfold bodyRun.sl.v1671 bodyRun.sl.H33_1
  exact tail_part _ _ _ _ _ _ (hist_p1 (hX := hX) (ok := ok) ..) (both_left X.sa1 X.ra1)

include hX ok in
/-- The spikes as the output reads them. -/
theorem tail_v1686 : IsRows (bodyRun.sl.v1686 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x3 x4 x5 x6 x9 x17 x19 g25 g26 g27 g35 g36 g37) X.ra1 := by
  unfold bodyRun.sl.v1686 bodyRun.sl.H33_1
  exact tail_part _ _ _ _ _ _ (hist_p1 (hX := hX) (ok := ok) ..) (both_right X.sa1 X.ra1)

include hX ok in
/-- The history of one pair of layers of the two branches. -/
theorem hist_p2 : IsHist (k0_pay394 (bodyRun.sl.v957 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x17 x18 x19 x20 g25 g26 g27 g28 g35 g36 g37 g38)) (both X.sa2 X.ra2) := by
  have h85 : IsHist (bodyRun.sl.v85 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x3 x4 x5 g25 g35 g36) X.sa0 := hist_v85 (hX := hX) ..
  have h346 : IsHist (bodyRun.sl.v346 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x3 x4 x5 g26 g35 g36) X.ra0 := hist_v346 (hX := hX) ..
  have h614 : IsHist (bodyRun.sl.v614 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x3 x4 x5 x6 x9 x17 x19 g25 g26 g27 g35 g36 g37) X.sa1 := hist_v614 (hX := hX) (ok := ok) ..
  have h776 : IsHist (bodyRun.sl.v776 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x3 x4 x5 x6 x9 x17 x19 g25 g26 g27 g35 g36 g37) X.ra1 := hist_v776 (hX := hX) (ok := ok) ..
  have e : k0_pay394 (bodyRun.sl.v957 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x17 x18 x19 x20 g25 g26 g27 g28 g35 g36 g37 g38) = shapeCast S144x256 (bodyRun.sl.v957 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x17 x18 x19 x20 g25 g26 g27 g28 g35 g36 g37 g38) shapeCasts_S288x128_S144x256 := by
    unfold k0_pay394
    exact shapeCast_self _ _
  rw [e]
  subst hX
  refine hist_both _ _ _ _ fun t ht q y r hr => ?_
  unfold bodyRun.sl.v957
  refine (readAt_rows arg28.view _ _ rfl _ r y (by omega) (by omega)).trans ?_
  refine (hist_t3 (hn := by decide) (I := fun s q y => if q = 0 then (⟨x0, x1, x2, x3, x4, x5, x6, x7, x8, x9, x10, x11, x12, x13, x14, x15, x16, x17, x18, x19, x20, x21, x22, x23⟩ : KIn).iSa2 s y else (⟨x0, x1, x2, x3, x4, x5, x6, x7, x8, x9, x10, x11, x12, x13, x14, x15, x16, x17, x18, x19, x20, x21, x22, x23⟩ : KIn).iRa2 s y) (hI := ?_) (ht := ht) (q := q)
    (x := ⟨0 + y.val, by omega⟩) (r := ⟨0 + r.val, by omega⟩) (hr := by show 0 + r.val = _; omega) ..).trans ?_
  · intro s hs q y r hy hr
    refine (read_newest _ _ _ _ _ r y (by omega) hy).trans ?_
    rw [pay387_eq, r_63_eq, r_64_eq]
    rw [ld_whole, ld_whole, ld_whole, ld_whole, ld_whole, ld_whole, ld_whole, ld_whole, ld_whole, ld_whole]
    refine (pairUp_apply _ _ s hs q ⟨y.val, hy⟩ ⟨r.val, by omega⟩ hr).trans ?_
    show _ = if q.val = 0 then (⟨x0, x1, x2, x3, x4, x5, x6, x7, x8, x9, x10, x11, x12, x13, x14, x15, x16, x17, x18, x19, x20, x21, x22, x23⟩ : KIn).iSa2 s y.val else (⟨x0, x1, x2, x3, x4, x5, x6, x7, x8, x9, x10, x11, x12, x13, x14, x15, x16, x17, x18, x19, x20, x21, x22, x23⟩ : KIn).iRa2 s y.val
    rcases (by omega : q.val = 0 ∨ q.val = 1) with h | h
    · rw [if_pos h, if_pos h]
      exact congrArg₂ (fun a b : EReal => a - b) (post_apply _ _ _ (fun s i => syn_apply _ rfl _ _ _ _ h85 ok.w7 ok.d17 s i) _ _) (post_apply _ _ _ (fun s i => syn_apply _ rfl _ _ _ _ h614 ok.w8 ok.d18 s i) _ _)
    · rw [if_neg (by omega), if_neg (by omega)]
      exact congrArg₂ (fun a b : EReal => a - b) (post_apply _ _ _ (fun s i => syn_apply _ rfl _ _ _ _ h346 ok.w10 ok.d19 s i) _ _) (post_apply _ _ _ (fun s i => syn_apply _ rfl _ _ _ _ h776 ok.w11 ok.d20 s i) _ _)
  · show (if _ then spikeS _ _ (fun s => if q.val = 0 then (⟨x0, x1, x2, x3, x4, x5, x6, x7, x8, x9, x10, x11, x12, x13, x14, x15, x16, x17, x18, x19, x20, x21, x22, x23⟩ : KIn).iSa2 s (0 + y.val) else (⟨x0, x1, x2, x3, x4, x5, x6, x7, x8, x9, x10, x11, x12, x13, x14, x15, x16, x17, x18, x19, x20, x21, x22, x23⟩ : KIn).iRa2 s (0 + y.val)) _ else 0) = _
    rw [Nat.zero_add]
    rcases (by omega : q.val = 0 ∨ q.val = 1) with h | h <;> simp only [h] <;> rfl

include hX ok in
/-- The history as later layers read it. -/
theorem hist_v962 : IsHist (bodyRun.sl.v962 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x17 x18 x19 x20 g25 g26 g27 g28 g35 g36 g37 g38) X.sa2 := by
  unfold bodyRun.sl.v962 bodyRun.sl.H34_1
  exact hist_part _ _ _ _ _ _ (hist_p2 (hX := hX) (ok := ok) ..) (both_left X.sa2 X.ra2)

include hX ok in
/-- The history as later layers read it. -/
theorem hist_v1223 : IsHist (bodyRun.sl.v1223 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x17 x18 x19 x20 g25 g26 g27 g28 g35 g36 g37 g38) X.ra2 := by
  unfold bodyRun.sl.v1223 bodyRun.sl.H34_1
  exact hist_part _ _ _ _ _ _ (hist_p2 (hX := hX) (ok := ok) ..) (both_right X.sa2 X.ra2)

include hX ok in
/-- The spikes as the output reads them. -/
theorem tail_v1674 : IsRows (bodyRun.sl.v1674 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x17 x18 x19 x20 g25 g26 g27 g28 g35 g36 g37 g38) X.sa2 := by
  unfold bodyRun.sl.v1674 bodyRun.sl.H34_1
  exact tail_part _ _ _ _ _ _ (hist_p2 (hX := hX) (ok := ok) ..) (both_left X.sa2 X.ra2)

include hX ok in
/-- The spikes as the output reads them. -/
theorem tail_v1689 : IsRows (bodyRun.sl.v1689 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x17 x18 x19 x20 g25 g26 g27 g28 g35 g36 g37 g38) X.ra2 := by
  unfold bodyRun.sl.v1689 bodyRun.sl.H34_1
  exact tail_part _ _ _ _ _ _ (hist_p2 (hX := hX) (ok := ok) ..) (both_right X.sa2 X.ra2)

include hX ok in
/-- The current into the first kind of cuneate neurons, where the loop reads it. -/
theorem cur_cn0 (f : arg35.view.ty.Contents (Elt Ideal)) (inb) (L) (s : ℕ) (hs : s < 119) (y : Fin 128) (r : Fin 480) (hy : y.val < 64) (hr : r.val = s) :
    (arg35.view.read (Elt Ideal) (arg35.view.writes (Elt Ideal) f
      (⟨Rect.unit (s := S480x128) ![0, 0] S119x64.size inb, k0_pay486 (Cert.KernelIdeal.Gen.bodyRun.sl.r_2 c arg1 harg1 x1) (Cert.KernelIdeal.Gen.bodyRun.sl.r_122 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x17 x18 x19 x20 x21 g25 g26 g27 g28 g35 g36 g37 g38) (Cert.KernelIdeal.Gen.bodyRun.sl.r_126 c arg14 harg14 x14) (Cert.KernelIdeal.Gen.bodyRun.sl.r_127 c arg14 harg14 x14) (Cert.KernelIdeal.Gen.bodyRun.sl.r_153 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x14 x17 x18 x19 x20 x22 g25 g26 g27 g28 g35 g36 g37 g38) (Cert.KernelIdeal.Gen.bodyRun.sl.r_155 c arg22 harg22 x22) (Cert.KernelIdeal.Gen.bodyRun.sl.r_156 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x17 x18 x19 x20 g25 g26 g27 g28 g35 g36 g37 g38) (Cert.KernelIdeal.Gen.bodyRun.sl.r_157 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x14 x17 x18 x19 x20 x22 g25 g26 g27 g28 g35 g36 g37 g38)⟩ :: L)) (ix2 r y) : EReal) = X.iCn0 s y.val := by
  subst hr
  have h962 : IsHist (bodyRun.sl.v962 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x17 x18 x19 x20 g25 g26 g27 g28 g35 g36 g37 g38) X.sa2 := hist_v962 (hX := hX) (ok := ok) ..
  have h1223 : IsHist (bodyRun.sl.v1223 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x17 x18 x19 x20 g25 g26 g27 g28 g35 g36 g37 g38) X.ra2 := hist_v1223 (hX := hX) (ok := ok) ..
  subst hX
  refine (read_newest _ _ _ _ _ r y (by omega) hy).trans ?_
  rw [pay486_eq]
  rw [ld_whole, ld_whole, ld_whole, ld_whole, ld_whole]
  exact post_apply _ _ _ (fun s i => congrArg₂ (fun a b : EReal => a + b) (syn_apply _ rfl _ _ _ _ h962 ok.w12 ok.d21 s i) (syn_apply _ rfl _ _ _ _ h1223 ok.w14 ok.d22 s i)) _ _

include hX ok in
/-- The spikes of a kind of cuneate neurons. -/
theorem hist_v1502 : IsHist (bodyRun.sl.v1502 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x14 x15 x17 x18 x19 x20 x21 x22 g25 g26 g27 g28 g29 g35 g36 g37 g38) X.cn0 := by
  refine ⟨fun r y hrr => ?_⟩
  unfold bodyRun.sl.v1502
  refine (readAt_rows arg29.view _ _ rfl _ r y (by omega) (by omega)).trans ?_
  refine (hist_t4 (hn := by decide) (I := fun s _ y => X.iCn0 s y) (hI := ?_) (t := 0 + r.val) (ht := by omega) (q := 0)
    (x := ⟨0 + y.val, by omega⟩) (r := ⟨0 + r.val, by omega⟩) (hr := by show 0 + r.val = 1 * (0 + r.val) + 0; omega) ..).trans ?_
  · intro s hs q y r hy hr
    exact cur_cn0 (hX := hX) (ok := ok) (hs := hs) (hy := hy) (hr := by omega) ..
  · show (if 16 ≤ 0 + r.val then spikeS _ _ (fun s => X.iCn0 s (0 + y.val)) (0 + r.val - 16) else 0) = _
    rw [Nat.zero_add]
    rw [Nat.zero_add]
    rfl

include hX ok in
/-- The spikes of a kind of cuneate neurons. -/
theorem tail_v1680 : IsRows (bodyRun.sl.v1680 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x14 x15 x17 x18 x19 x20 x21 x22 g25 g26 g27 g28 g29 g35 g36 g37 g38) X.cn0 := by
  refine ⟨fun r y => ?_⟩
  unfold bodyRun.sl.v1680
  refine (readAt_rows arg29.view _ _ rfl _ r y (by omega) (by omega)).trans ?_
  refine (hist_t4 (hn := by decide) (I := fun s _ y => X.iCn0 s y) (hI := ?_) (t := 16 + r.val) (ht := by omega) (q := 0)
    (x := ⟨0 + y.val, by omega⟩) (r := ⟨16 + r.val, by omega⟩) (hr := by show 16 + r.val = 1 * (16 + r.val) + 0; omega) ..).trans ?_
  · intro s hs q y r hy hr
    exact cur_cn0 (hX := hX) (ok := ok) (hs := hs) (hy := hy) (hr := by omega) ..
  · show (if 16 ≤ 16 + r.val then spikeS _ _ (fun s => X.iCn0 s (0 + y.val)) (16 + r.val - 16) else 0) = _
    rw [Nat.zero_add, if_pos (Nat.le_add_right _ _), Nat.add_sub_cancel_left]

    rfl

include hX ok in
/-- The current into the second kind of cuneate neurons, where the loop reads it. -/
theorem cur_cn1 (f : arg36.view.ty.Contents (Elt Ideal)) (inb) (L) (s : ℕ) (hs : s < 119) (y : Fin 128) (r : Fin 480) (hy : y.val < 64) (hr : r.val = s) :
    (arg36.view.read (Elt Ideal) (arg36.view.writes (Elt Ideal) f
      (⟨Rect.unit (s := S480x128) ![0, 0] S119x64.size inb, k0_pay508 (Cert.KernelIdeal.Gen.bodyRun.sl.r_2 c arg1 harg1 x1) (Cert.KernelIdeal.Gen.bodyRun.sl.r_3 c arg2 harg2 x2) (Cert.KernelIdeal.Gen.bodyRun.sl.r_123 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x13 x17 x18 x19 x20 x21 g25 g26 g27 g28 g35 g36 g37 g38) (Cert.KernelIdeal.Gen.bodyRun.sl.r_158 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x15 x17 x18 x19 x20 x22 g25 g26 g27 g28 g35 g36 g37 g38) (Cert.KernelIdeal.Gen.bodyRun.sl.r_161 c arg16 harg16 x16) (Cert.KernelIdeal.Gen.bodyRun.sl.r_162 c arg16 harg16 x16) (Cert.KernelIdeal.Gen.bodyRun.sl.r_169 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x14 x15 x16 x17 x18 x19 x20 x21 x22 x23 g25 g26 g27 g28 g29 g35 g36 g37 g38) (Cert.KernelIdeal.Gen.bodyRun.sl.r_170 c arg23 harg23 x23) (Cert.KernelIdeal.Gen.bodyRun.sl.r_171 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x14 x15 x17 x18 x19 x20 x21 x22 g25 g26 g27 g28 g29 g35 g36 g37 g38) (Cert.KernelIdeal.Gen.bodyRun.sl.r_172 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x14 x15 x16 x17 x18 x19 x20 x21 x22 x23 g25 g26 g27 g28 g29 g35 g36 g37 g38)⟩ :: L)) (ix2 r y) : EReal) = X.iCn1 s y.val := by
  subst hr
  have h962 : IsHist (bodyRun.sl.v962 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x17 x18 x19 x20 g25 g26 g27 g28 g35 g36 g37 g38) X.sa2 := hist_v962 (hX := hX) (ok := ok) ..
  have h1223 : IsHist (bodyRun.sl.v1223 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x17 x18 x19 x20 g25 g26 g27 g28 g35 g36 g37 g38) X.ra2 := hist_v1223 (hX := hX) (ok := ok) ..
  have h1502 : IsHist (bodyRun.sl.v1502 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x14 x15 x17 x18 x19 x20 x21 x22 g25 g26 g27 g28 g29 g35 g36 g37 g38) X.cn0 := hist_v1502 (hX := hX) (ok := ok) ..
  subst hX
  refine (read_newest _ _ _ _ _ r y (by omega) hy).trans ?_
  rw [pay508_eq]
  rw [ld_whole, ld_whole, ld_whole, ld_whole, ld_whole, ld_whole, ld_whole, ld_whole]
  exact congrArg₂ (fun a b : EReal => a - b) (congrArg (fun a : EReal => wd 0x40000000#32 * a) (post_apply _ _ _ (fun s i => congrArg₂ (fun a b : EReal => a + b) (syn_apply _ rfl _ _ _ _ h962 ok.w13 ok.d21 s i) (syn_apply _ rfl _ _ _ _ h1223 ok.w15 ok.d22 s i)) _ _)) (post_apply _ _ _ (fun s i => syn_apply _ rfl _ _ _ _ h1502 ok.w16 ok.d23 s i) _ _)

include hX ok in
/-- The spikes of a kind of cuneate neurons. -/
theorem tail_v1683 : IsRows (bodyRun.sl.v1683 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20 x21 x22 x23 g25 g26 g27 g28 g29 g30 g35 g36 g37 g38) X.cn1 := by
  refine ⟨fun r y => ?_⟩
  unfold bodyRun.sl.v1683
  refine (readAt_rows arg30.view _ _ rfl _ r y (by omega) (by omega)).trans ?_
  refine (hist_t5 (hn := by decide) (I := fun s _ y => X.iCn1 s y) (hI := ?_) (t := 16 + r.val) (ht := by omega) (q := 0)
    (x := ⟨0 + y.val, by omega⟩) (r := ⟨16 + r.val, by omega⟩) (hr := by show 16 + r.val = 1 * (16 + r.val) + 0; omega) ..).trans ?_
  · intro s hs q y r hy hr
    exact cur_cn1 (hX := hX) (ok := ok) (hs := hs) (hy := hy) (hr := by omega) ..
  · show (if 16 ≤ 16 + r.val then spikeS _ _ (fun s => X.iCn1 s (0 + y.val)) (16 + r.val - 16) else 0) = _
    rw [Nat.zero_add, if_pos (Nat.le_add_right _ _), Nat.add_sub_cancel_left]

    rfl

end Cert.KernelIdeal.Gen

end
-- ==== Proof.KernelOut.lean ====
/- The kernel's output block over the extended reals: the spikes of every neuron. -/
module

public import proofs.«01_k».proof.Proof.KernelNet
public import proofs.«01_k».proof.Proof.KernelIdeal.Body

@[expose] public section

noncomputable section

namespace Cert.KernelIdeal.Gen

open Idealize.ShloMosaic Idealize.ShloMosaic.ValueIdx Idealize.SL.Sem Cert.KernelIdeal Cert.Snn

/-- The spikes of every neuron as one block. -/
def outV (X : KIn) : FVec Ideal S1664x119 .f32 := fun j => X.out (j 0).val (j 1).val

theorem out_sa0 (X : KIn) : ∀ i < 512, X.out (0 + i) = X.sa0 i := by
  intro i hi
  funext t
  unfold KIn.out
  rw [if_pos (by omega), Nat.zero_add]

theorem out_sa1 (X : KIn) : ∀ i < 128, X.out (512 + i) = X.sa1 i := by
  intro i hi
  funext t
  unfold KIn.out
  rw [if_neg (by omega), if_pos (by omega), Nat.add_sub_cancel_left]

theorem out_sa2 (X : KIn) : ∀ i < 128, X.out (640 + i) = X.sa2 i := by
  intro i hi
  funext t
  unfold KIn.out
  rw [if_neg (by omega), if_neg (by omega), if_pos (by omega), Nat.add_sub_cancel_left]

theorem out_ra0 (X : KIn) : ∀ i < 512, X.out (768 + i) = X.ra0 i := by
  intro i hi
  funext t
  unfold KIn.out
  rw [if_neg (by omega), if_neg (by omega), if_neg (by omega), if_pos (by omega), Nat.add_sub_cancel_left]

theorem out_ra1 (X : KIn) : ∀ i < 128, X.out (1280 + i) = X.ra1 i := by
  intro i hi
  funext t
  unfold KIn.out
  rw [if_neg (by omega), if_neg (by omega), if_neg (by omega), if_neg (by omega), if_pos (by omega), Nat.add_sub_cancel_left]

theorem out_ra2 (X : KIn) : ∀ i < 128, X.out (1408 + i) = X.ra2 i := by
  intro i hi
  funext t
  unfold KIn.out
  rw [if_neg (by omega), if_neg (by omega), if_neg (by omega), if_neg (by omega), if_neg (by omega), if_pos (by omega), Nat.add_sub_cancel_left]

theorem out_cn0 (X : KIn) : ∀ i < 64, X.out (1536 + i) = X.cn0 i := by
  intro i hi
  funext t
  unfold KIn.out
  rw [if_neg (by omega), if_neg (by omega), if_neg (by omega), if_neg (by omega), if_neg (by omega), if_neg (by omega), if_pos (by omega), Nat.add_sub_cancel_left]

theorem out_cn1 (X : KIn) : ∀ i < 64, X.out (1600 + i) = X.cn1 i := by
  intro i hi
  funext t
  unfold KIn.out
  rw [if_neg (by omega), if_neg (by omega), if_neg (by omega), if_neg (by omega), if_neg (by omega), if_neg (by omega), if_neg (by omega), Nat.add_sub_cancel_left]

/-- One band of rows of the block. -/
theorem band {M o : ℕ} (X : KIn) (v : FVec Ideal ⟨2, ![119, M]⟩ .f32) (h : (⟨2, ![119, M]⟩ : Shape).Transposes [1, 0] ⟨2, ![M, 119]⟩)
    (inb : ∀ a : Fin 2, (![o, 0] : Fin 2 → ℕ) a + (![M, 119] : Fin 2 → ℕ) a ≤ (![1664, 119] : Fin 2 → ℕ) a) (S : ℕ → ℕ → EReal)
    (hv : IsRows v S) (hS : ∀ i < M, X.out (o + i) = S i)
    (x : (Rect.unit (s := S1664x119) ![o, 0] ![M, 119] inb).shape.Idx) :
    (transpose ⟨2, ![M, 119]⟩ [1, 0] v h x : EReal) = outV X ((Rect.unit (s := S1664x119) ![o, 0] ![M, 119] inb).emb x) := by
  refine (transpose_apply _ _ _ _ (ix2 (x 1) (x 0)) (by intro b; revert b; exact Fin.forall_fin_two.mpr ⟨rfl, rfl⟩)).trans ((hv.rows (x 1) (x 0)).trans ?_)
  show S (x 0).val (x 1).val = X.out (o + 1 * (x 0).val) (0 + 1 * (x 1).val)
  rw [Nat.one_mul, Nat.one_mul, Nat.zero_add, hS _ (x 0).isLt]

variable (c : Dev nD) (arg0 : Memref sig .tc .vmem S512x120 .f32) (harg0 : arg0.IsWhole) (arg1 : Memref sig .tc .vmem S119x119 .f32) (harg1 : arg1.IsWhole) (arg2 : Memref sig .tc .vmem S119x119 .f32) (harg2 : arg2.IsWhole) (arg3 : Memref sig .tc .vmem S120x1 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x128 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x128 .f32) (harg11 : arg11.IsWhole) (arg12 : Memref sig .tc .vmem S64x128 .f32) (harg12 : arg12.IsWhole) (arg13 : Memref sig .tc .vmem S64x128 .f32) (harg13 : arg13.IsWhole) (arg14 : Memref sig .tc .vmem S64x128 .f32) (harg14 : arg14.IsWhole) (arg15 : Memref sig .tc .vmem S64x128 .f32) (harg15 : arg15.IsWhole) (arg16 : Memref sig .tc .vmem S64x64 .f32) (harg16 : arg16.IsWhole) (arg17 : Memref sig .tc .vmem S128x512 .i32) (harg17 : arg17.IsWhole) (arg18 : Memref sig .tc .vmem S128x128 .i32) (harg18 : arg18.IsWhole) (arg19 : Memref sig .tc .vmem S128x512 .i32) (harg19 : arg19.IsWhole) (arg20 : Memref sig .tc .vmem S128x128 .i32) (harg20 : arg20.IsWhole) (arg21 : Memref sig .tc .vmem S64x128 .i32) (harg21 : arg21.IsWhole) (arg22 : Memref sig .tc .vmem S64x128 .i32) (harg22 : arg22.IsWhole) (arg23 : Memref sig .tc .vmem S64x64 .i32) (harg23 : arg23.IsWhole) (arg24 : Memref sig .tc .vmem S1664x119 .f32) (harg24 : arg24.IsWhole) (arg25 : Memref sig .tc .vmem S576x128 .f32) (harg25 : arg25.IsWhole) (arg26 : Memref sig .tc .vmem S576x128 .f32) (harg26 : arg26.IsWhole) (arg27 : Memref sig .tc .vmem S288x128 .f32) (harg27 : arg27.IsWhole) (arg28 : Memref sig .tc .vmem S288x128 .f32) (harg28 : arg28.IsWhole) (arg29 : Memref sig .tc .vmem S144x64 .f32) (harg29 : arg29.IsWhole) (arg30 : Memref sig .tc .vmem S144x64 .f32) (harg30 : arg30.IsWhole) (arg31 : Memref sig .tc .vmem S144x512 .f32) (harg31 : arg31.IsWhole) (arg32 : Memref sig .tc .vmem S144x512 .f32) (harg32 : arg32.IsWhole) (arg33 : Memref sig .tc .vmem S144x256 .f32) (harg33 : arg33.IsWhole) (arg34 : Memref sig .tc .vmem S144x256 .f32) (harg34 : arg34.IsWhole) (arg35 : Memref sig .tc .vmem S480x128 .f32) (harg35 : arg35.IsWhole) (arg36 : Memref sig .tc .vmem S480x128 .f32) (harg36 : arg36.IsWhole) (arg37 : Memref sig .tc .vmem S240x128 .f32) (harg37 : arg37.IsWhole) (arg38 : Memref sig .tc .vmem S240x128 .f32) (harg38 : arg38.IsWhole)
  (x0 : Vec Ideal S512x120 .f32) (x1 : Vec Ideal S119x119 .f32) (x2 : Vec Ideal S119x119 .f32) (x3 : Vec Ideal S120x1 .f32) (x4 : Vec Ideal S512x512 .f32) (x5 : Vec Ideal S512x512 .f32) (x6 : Vec Ideal S128x512 .f32) (x7 : Vec Ideal S128x512 .f32) (x8 : Vec Ideal S128x128 .f32) (x9 : Vec Ideal S128x512 .f32) (x10 : Vec Ideal S128x512 .f32) (x11 : Vec Ideal S128x128 .f32) (x12 : Vec Ideal S64x128 .f32) (x13 : Vec Ideal S64x128 .f32) (x14 : Vec Ideal S64x128 .f32) (x15 : Vec Ideal S64x128 .f32) (x16 : Vec Ideal S64x64 .f32) (x17 : Vec Ideal S128x512 .i32) (x18 : Vec Ideal S128x128 .i32) (x19 : Vec Ideal S128x512 .i32) (x20 : Vec Ideal S128x128 .i32) (x21 : Vec Ideal S64x128 .i32) (x22 : Vec Ideal S64x128 .i32) (x23 : Vec Ideal S64x64 .i32)
  (g25 : Vec Ideal S576x128 .f32) (g26 : Vec Ideal S576x128 .f32) (g27 : Vec Ideal S288x128 .f32) (g28 : Vec Ideal S288x128 .f32) (g29 : Vec Ideal S144x64 .f32) (g30 : Vec Ideal S144x64 .f32) (g31 : Vec Ideal S144x512 .f32) (g32 : Vec Ideal S144x512 .f32) (g33 : Vec Ideal S144x256 .f32) (g34 : Vec Ideal S144x256 .f32) (g35 : Vec Ideal S480x128 .f32) (g36 : Vec Ideal S480x128 .f32) (g37 : Vec Ideal S240x128 .f32) (g38 : Vec Ideal S240x128 .f32)

variable (X : KIn) (hX : X = (⟨x0, x1, x2, x3, x4, x5, x6, x7, x8, x9, x10, x11, x12, x13, x14, x15, x16, x17, x18, x19, x20, x21, x22, x23⟩ : KIn)) (ok : X.Ok)

/-- The stores cover the block. -/
theorem covers : ∀ y : S1664x119.Idx, ∃ p ∈ (bodyRun (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20 x21 x22 x23 g25 g26 g27 g28 g29 g30 g31 g32 g33 g34 g35 g36 g37 g38).1, y ∈ p.1.set :=
  View.cover_of_tiledBy (bodyRun (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20 x21 x22 x23 g25 g26 g27 g28 g29 g30 g31 g32 g33 g34 g35 g36 g37 g38).1 ![64, 119] (by sl_kernel_rfl)

include hX ok in
/-- Every store leaves its rows of the block. -/
theorem stores : ∀ p ∈ (bodyRun (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20 x21 x22 x23 g25 g26 g27 g28 g29 g30 g31 g32 g33 g34 g35 g36 g37 g38).1, ∀ x : p.1.shape.Idx, (p.2 x : EReal) = outV X (p.1.emb x) := by
  unfold bodyRun
  dsimp only
  simp only [List.forall_mem_cons]
  exact ⟨band X _ _ _ _ (tail_v1689 (hX := hX) (ok := ok) ..) (out_ra2 X), band X _ _ _ _ (tail_v1686 (hX := hX) (ok := ok) ..) (out_ra1 X),
    band X _ _ _ _ (tail_v1683 (hX := hX) (ok := ok) ..) (out_cn1 X), band X _ _ _ _ (tail_v1680 (hX := hX) (ok := ok) ..) (out_cn0 X),
    band X _ _ _ _ (tail_v1677 (hX := hX) ..) (out_ra0 X), band X _ _ _ _ (tail_v1674 (hX := hX) (ok := ok) ..) (out_sa2 X),
    band X _ _ _ _ (tail_v1671 (hX := hX) (ok := ok) ..) (out_sa1 X), band X _ _ _ _ (tail_v1668 (hX := hX) ..) (out_sa0 X), fun _ h => absurd h List.not_mem_nil⟩

include hX ok in
/-- The output's block after the body. -/
theorem block_value (f : arg24.view.ty.Contents (Elt Ideal)) :
    arg24.view.read (Elt Ideal) (arg24.view.writes (Elt Ideal) f (bodyRun (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20 x21 x22 x23 g25 g26 g27 g28 g29 g30 g31 g32 g33 g34 g35 g36 g37 g38).1) = outV X := by
  funext y
  have hc := covers c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20 x21 x22 x23 g25 g26 g27 g28 g29 g30 g31 g32 g33 g34 g35 g36 g37 g38 y
  exact (View.read_writes_apply_eq_canon _ _ y _ hc).trans
    (View.canon_apply_of_pieces (outV X) _ (stores c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20 x21 x22 x23 g25 g26 g27 g28 g29 g30 g31 g32 g33 g34 g35 g36 g37 g38 X hX ok) y hc)

end Cert.KernelIdeal.Gen

end
-- ==== Proof.KernelRun.lean ====
/- The idealized kernel's run: its result array holds the spikes of every neuron. -/
module

public import proofs.«01_k».proof.Proof.KernelOut
public import proofs.«01_k».proof.Proof.KernelHost
public import proofs.«01_k».proof.Proof.Spec

@[expose] public section

noncomputable section

namespace Cert.KernelIdeal.Gen

open Idealize.ShloMosaic Idealize.ShloMosaic.ValueIdx Idealize.SL.Sem Cert.KernelIdeal Cert.Snn

variable (m : (ℓ : Loc nD τ sig) → Buf (Elt Ideal) ℓ) (ρ : Dev nD → PrngReg)

theorem blk_0 (c : Dev nD) (t : Fin cfg0.N) : iblk m c 0 t = (kin m c).x0 :=
  (show iblk m c 0 t = V m c main_v26 from
    have hz : (fun a => win0_0.index t a * main_v26.ty.shape.size a) = fun _ => 0 := funext fun a => by
      rw [fin_N0 t]; fin_cases a <;> decide
    Memref.read_access_unit_zero (Elt Ideal) main_v26 hz (fun a => by rw [congrFun hz a]; simp) (V m c main_v26)).trans (V_v26 m c)

theorem blk_1 (c : Dev nD) (t : Fin cfg0.N) : iblk m c 1 t = (kin m c).x1 :=
  (show iblk m c 1 t = V m c main_v8 from
    have hz : (fun a => win0_1.index t a * main_v8.ty.shape.size a) = fun _ => 0 := funext fun a => by
      rw [fin_N0 t]; fin_cases a <;> decide
    Memref.read_access_unit_zero (Elt Ideal) main_v8 hz (fun a => by rw [congrFun hz a]; simp) (V m c main_v8)).trans (V_v8 m c)

theorem blk_2 (c : Dev nD) (t : Fin cfg0.N) : iblk m c 2 t = (kin m c).x2 :=
  (show iblk m c 2 t = V m c main_v17 from
    have hz : (fun a => win0_2.index t a * main_v17.ty.shape.size a) = fun _ => 0 := funext fun a => by
      rw [fin_N0 t]; fin_cases a <;> decide
    Memref.read_access_unit_zero (Elt Ideal) main_v17 hz (fun a => by rw [congrFun hz a]; simp) (V m c main_v17)).trans (V_v17 m c)

theorem blk_3 (c : Dev nD) (t : Fin cfg0.N) : iblk m c 3 t = (kin m c).x3 :=
  (show iblk m c 3 t = V m c main_v25 from
    have hz : (fun a => win0_3.index t a * main_v25.ty.shape.size a) = fun _ => 0 := funext fun a => by
      rw [fin_N0 t]; fin_cases a <;> decide
    Memref.read_access_unit_zero (Elt Ideal) main_v25 hz (fun a => by rw [congrFun hz a]; simp) (V m c main_v25)).trans (V_v25 m c)

theorem blk_4 (c : Dev nD) (t : Fin cfg0.N) : iblk m c 4 t = (kin m c).x4 :=
  (show iblk m c 4 t = V m c main_arg1 from
    have hz : (fun a => win0_4.index t a * main_arg1.ty.shape.size a) = fun _ => 0 := funext fun a => by
      rw [fin_N0 t]; fin_cases a <;> decide
    Memref.read_access_unit_zero (Elt Ideal) main_arg1 hz (fun a => by rw [congrFun hz a]; simp) (V m c main_arg1)).trans (V_main_arg1 m c)

theorem blk_5 (c : Dev nD) (t : Fin cfg0.N) : iblk m c 5 t = (kin m c).x5 :=
  (show iblk m c 5 t = V m c main_arg5 from
    have hz : (fun a => win0_5.index t a * main_arg5.ty.shape.size a) = fun _ => 0 := funext fun a => by
      rw [fin_N0 t]; fin_cases a <;> decide
    Memref.read_access_unit_zero (Elt Ideal) main_arg5 hz (fun a => by rw [congrFun hz a]; simp) (V m c main_arg5)).trans (V_main_arg5 m c)

theorem blk_6 (c : Dev nD) (t : Fin cfg0.N) : iblk m c 6 t = (kin m c).x6 :=
  (show iblk m c 6 t = V m c main_arg2 from
    have hz : (fun a => win0_6.index t a * main_arg2.ty.shape.size a) = fun _ => 0 := funext fun a => by
      rw [fin_N0 t]; fin_cases a <;> decide
    Memref.read_access_unit_zero (Elt Ideal) main_arg2 hz (fun a => by rw [congrFun hz a]; simp) (V m c main_arg2)).trans (V_main_arg2 m c)

theorem blk_7 (c : Dev nD) (t : Fin cfg0.N) : iblk m c 7 t = (kin m c).x7 :=
  (show iblk m c 7 t = V m c main_arg3 from
    have hz : (fun a => win0_7.index t a * main_arg3.ty.shape.size a) = fun _ => 0 := funext fun a => by
      rw [fin_N0 t]; fin_cases a <;> decide
    Memref.read_access_unit_zero (Elt Ideal) main_arg3 hz (fun a => by rw [congrFun hz a]; simp) (V m c main_arg3)).trans (V_main_arg3 m c)

theorem blk_8 (c : Dev nD) (t : Fin cfg0.N) : iblk m c 8 t = (kin m c).x8 :=
  (show iblk m c 8 t = V m c main_arg4 from
    have hz : (fun a => win0_8.index t a * main_arg4.ty.shape.size a) = fun _ => 0 := funext fun a => by
      rw [fin_N0 t]; fin_cases a <;> decide
    Memref.read_access_unit_zero (Elt Ideal) main_arg4 hz (fun a => by rw [congrFun hz a]; simp) (V m c main_arg4)).trans (V_main_arg4 m c)

theorem blk_9 (c : Dev nD) (t : Fin cfg0.N) : iblk m c 9 t = (kin m c).x9 :=
  (show iblk m c 9 t = V m c main_arg6 from
    have hz : (fun a => win0_9.index t a * main_arg6.ty.shape.size a) = fun _ => 0 := funext fun a => by
      rw [fin_N0 t]; fin_cases a <;> decide
    Memref.read_access_unit_zero (Elt Ideal) main_arg6 hz (fun a => by rw [congrFun hz a]; simp) (V m c main_arg6)).trans (V_main_arg6 m c)

theorem blk_10 (c : Dev nD) (t : Fin cfg0.N) : iblk m c 10 t = (kin m c).x10 :=
  (show iblk m c 10 t = V m c main_arg7 from
    have hz : (fun a => win0_10.index t a * main_arg7.ty.shape.size a) = fun _ => 0 := funext fun a => by
      rw [fin_N0 t]; fin_cases a <;> decide
    Memref.read_access_unit_zero (Elt Ideal) main_arg7 hz (fun a => by rw [congrFun hz a]; simp) (V m c main_arg7)).trans (V_main_arg7 m c)

theorem blk_11 (c : Dev nD) (t : Fin cfg0.N) : iblk m c 11 t = (kin m c).x11 :=
  (show iblk m c 11 t = V m c main_arg8 from
    have hz : (fun a => win0_11.index t a * main_arg8.ty.shape.size a) = fun _ => 0 := funext fun a => by
      rw [fin_N0 t]; fin_cases a <;> decide
    Memref.read_access_unit_zero (Elt Ideal) main_arg8 hz (fun a => by rw [congrFun hz a]; simp) (V m c main_arg8)).trans (V_main_arg8 m c)

theorem blk_12 (c : Dev nD) (t : Fin cfg0.N) : iblk m c 12 t = (kin m c).x12 :=
  (show iblk m c 12 t = V m c main_arg9 from
    have hz : (fun a => win0_12.index t a * main_arg9.ty.shape.size a) = fun _ => 0 := funext fun a => by
      rw [fin_N0 t]; fin_cases a <;> decide
    Memref.read_access_unit_zero (Elt Ideal) main_arg9 hz (fun a => by rw [congrFun hz a]; simp) (V m c main_arg9)).trans (V_main_arg9 m c)

theorem blk_13 (c : Dev nD) (t : Fin cfg0.N) : iblk m c 13 t = (kin m c).x13 :=
  (show iblk m c 13 t = V m c main_arg10 from
    have hz : (fun a => win0_13.index t a * main_arg10.ty.shape.size a) = fun _ => 0 := funext fun a => by
      rw [fin_N0 t]; fin_cases a <;> decide
    Memref.read_access_unit_zero (Elt Ideal) main_arg10 hz (fun a => by rw [congrFun hz a]; simp) (V m c main_arg10)).trans (V_main_arg10 m c)

theorem blk_14 (c : Dev nD) (t : Fin cfg0.N) : iblk m c 14 t = (kin m c).x14 :=
  (show iblk m c 14 t = V m c main_arg11 from
    have hz : (fun a => win0_14.index t a * main_arg11.ty.shape.size a) = fun _ => 0 := funext fun a => by
      rw [fin_N0 t]; fin_cases a <;> decide
    Memref.read_access_unit_zero (Elt Ideal) main_arg11 hz (fun a => by rw [congrFun hz a]; simp) (V m c main_arg11)).trans (V_main_arg11 m c)

theorem blk_15 (c : Dev nD) (t : Fin cfg0.N) : iblk m c 15 t = (kin m c).x15 :=
  (show iblk m c 15 t = V m c main_arg12 from
    have hz : (fun a => win0_15.index t a * main_arg12.ty.shape.size a) = fun _ => 0 := funext fun a => by
      rw [fin_N0 t]; fin_cases a <;> decide
    Memref.read_access_unit_zero (Elt Ideal) main_arg12 hz (fun a => by rw [congrFun hz a]; simp) (V m c main_arg12)).trans (V_main_arg12 m c)

theorem blk_16 (c : Dev nD) (t : Fin cfg0.N) : iblk m c 16 t = (kin m c).x16 :=
  (show iblk m c 16 t = V m c main_arg13 from
    have hz : (fun a => win0_16.index t a * main_arg13.ty.shape.size a) = fun _ => 0 := funext fun a => by
      rw [fin_N0 t]; fin_cases a <;> decide
    Memref.read_access_unit_zero (Elt Ideal) main_arg13 hz (fun a => by rw [congrFun hz a]; simp) (V m c main_arg13)).trans (V_main_arg13 m c)

theorem blk_17 (c : Dev nD) (t : Fin cfg0.N) : iblk m c 17 t = (kin m c).x17 :=
  (show iblk m c 17 t = V m c main_arg14 from
    have hz : (fun a => win0_17.index t a * main_arg14.ty.shape.size a) = fun _ => 0 := funext fun a => by
      rw [fin_N0 t]; fin_cases a <;> decide
    Memref.read_access_unit_zero (Elt Ideal) main_arg14 hz (fun a => by rw [congrFun hz a]; simp) (V m c main_arg14)).trans (V_main_arg14 m c)

theorem blk_18 (c : Dev nD) (t : Fin cfg0.N) : iblk m c 18 t = (kin m c).x18 :=
  (show iblk m c 18 t = V m c main_arg15 from
    have hz : (fun a => win0_18.index t a * main_arg15.ty.shape.size a) = fun _ => 0 := funext fun a => by
      rw [fin_N0 t]; fin_cases a <;> decide
    Memref.read_access_unit_zero (Elt Ideal) main_arg15 hz (fun a => by rw [congrFun hz a]; simp) (V m c main_arg15)).trans (V_main_arg15 m c)

theorem blk_19 (c : Dev nD) (t : Fin cfg0.N) : iblk m c 19 t = (kin m c).x19 :=
  (show iblk m c 19 t = V m c main_arg16 from
    have hz : (fun a => win0_19.index t a * main_arg16.ty.shape.size a) = fun _ => 0 := funext fun a => by
      rw [fin_N0 t]; fin_cases a <;> decide
    Memref.read_access_unit_zero (Elt Ideal) main_arg16 hz (fun a => by rw [congrFun hz a]; simp) (V m c main_arg16)).trans (V_main_arg16 m c)

theorem blk_20 (c : Dev nD) (t : Fin cfg0.N) : iblk m c 20 t = (kin m c).x20 :=
  (show iblk m c 20 t = V m c main_arg17 from
    have hz : (fun a => win0_20.index t a * main_arg17.ty.shape.size a) = fun _ => 0 := funext fun a => by
      rw [fin_N0 t]; fin_cases a <;> decide
    Memref.read_access_unit_zero (Elt Ideal) main_arg17 hz (fun a => by rw [congrFun hz a]; simp) (V m c main_arg17)).trans (V_main_arg17 m c)

theorem blk_21 (c : Dev nD) (t : Fin cfg0.N) : iblk m c 21 t = (kin m c).x21 :=
  (show iblk m c 21 t = V m c main_arg18 from
    have hz : (fun a => win0_21.index t a * main_arg18.ty.shape.size a) = fun _ => 0 := funext fun a => by
      rw [fin_N0 t]; fin_cases a <;> decide
    Memref.read_access_unit_zero (Elt Ideal) main_arg18 hz (fun a => by rw [congrFun hz a]; simp) (V m c main_arg18)).trans (V_main_arg18 m c)

theorem blk_22 (c : Dev nD) (t : Fin cfg0.N) : iblk m c 22 t = (kin m c).x22 :=
  (show iblk m c 22 t = V m c main_arg19 from
    have hz : (fun a => win0_22.index t a * main_arg19.ty.shape.size a) = fun _ => 0 := funext fun a => by
      rw [fin_N0 t]; fin_cases a <;> decide
    Memref.read_access_unit_zero (Elt Ideal) main_arg19 hz (fun a => by rw [congrFun hz a]; simp) (V m c main_arg19)).trans (V_main_arg19 m c)

theorem blk_23 (c : Dev nD) (t : Fin cfg0.N) : iblk m c 23 t = (kin m c).x23 :=
  (show iblk m c 23 t = V m c main_arg20 from
    have hz : (fun a => win0_23.index t a * main_arg20.ty.shape.size a) = fun _ => 0 := funext fun a => by
      rw [fin_N0 t]; fin_cases a <;> decide
    Memref.read_access_unit_zero (Elt Ideal) main_arg20 hz (fun a => by rw [congrFun hz a]; simp) (V m c main_arg20)).trans (V_main_arg20 m c)

/-- The one point writes the whole result. -/
theorem leaves (c : Dev nD) (ok : (kin m c).Ok) (t : Fin cfg0.N) (X : Vec Ideal S1664x119 .f32) (h : Leaves24 m c t X) : X = outV (kin m c) := by
  obtain ⟨g25, g26, g27, g28, g29, g30, g31, g32, g33, g34, g35, g36, g37, g38, f, rfl⟩ := h
  unfold piecesAt
  refine block_value (X := kin m c) (ok := ok) (hX := ?_) ..
  rw [blk_0, blk_1, blk_2, blk_3, blk_4, blk_5, blk_6, blk_7, blk_8, blk_9, blk_10, blk_11, blk_12, blk_13, blk_14, blk_15, blk_16, blk_17, blk_18, blk_19, blk_20, blk_21, blk_22, blk_23]

/-- The write-back writes the whole array. -/
theorem flushed_eq (O : Dev nD → Fin cfg0.N → Vec Ideal S1664x119 .f32) (c : Dev nD) (t : Fin cfg0.N) :
    (dats m O 0 c).flushed 24 t = ((cfg0.win 24).blk t).view.read (Elt Ideal) (O c t) := by
  have hz : (fun a => win0_24.index t a * main_v27.ty.shape.size a) = fun _ => 0 := funext fun a => by
    rw [fin_N0 t]; fin_cases a <;> decide
  exact (Memref.read_access_unit_zero (Elt Ideal) main_v27 hz (fun a => by rw [congrFun hz a]; simp) (O c t)).symm

theorem final_o (O : Dev nD → Vec Ideal S1664x119 .f32) (c : Dev nD) : (dats m (fun c _ => O c) 0 c).arrAt 24 cfg0.N = O c :=
  (dats m (fun c _ => O c) 0 c).arrAt_eq_of_cover 24 (O c) (fun t _ => flushed_eq m _ c t) fun i =>
    ⟨t0_0, flush0_24 t0_0, by
      show i ∈ ((View.whole main_v27).slice (win0_24.rect t0_0)).set
      rw [View.set_slice_whole, Rect.mem_set_unit]
      intro a
      have h0 : (i 0 : Nat) < 1664 := (i 0).isLt
      have h1 : (i 1 : Nat) < 119 := (i 1).isLt
      match a with
      | ⟨0, _⟩ =>
        show win0_24.index t0_0 0 * win0_24.size 0 ≤ (i 0 : Nat) ∧ (i 0 : Nat) < win0_24.index t0_0 0 * win0_24.size 0 + win0_24.xsize (grid0.coords t0_0) 0
        rw [show win0_24.index t0_0 0 * win0_24.size 0 = 0 from by decide +kernel, show win0_24.xsize (grid0.coords t0_0) 0 = 1664 from by decide +kernel]
        omega
      | ⟨1, _⟩ =>
        show win0_24.index t0_0 1 * win0_24.size 1 ≤ (i 1 : Nat) ∧ (i 1 : Nat) < win0_24.index t0_0 1 * win0_24.size 1 + win0_24.xsize (grid0.coords t0_0) 1
        rw [show win0_24.index t0_0 1 * win0_24.size 1 = 0 from by decide +kernel, show win0_24.xsize (grid0.coords t0_0) 1 = 119 from by decide +kernel]
        omega⟩

/-- An input's array ends as the launch found it. -/
theorem array_kept (O : Dev nD → Fin cfg0.N → Vec Ideal S1664x119 .f32) {r : PUnit × MemSt nD τ sig (Elt Ideal)}
    (h : Pipeline.FramePost cfgs (dats m O) 0 (V m) r) (c : Dev nD) (w : Fin cfg0.W) (hw : (cfg0.win w).isOut = false) :
    r.2.mem ((cfg0.win w).arr.view.loc (c.tc : Thread nD τ)) = V m c (Pipeline.arrRef spec0 w) :=
  (((h c).1 w).trans ((dats m O 0 c).arrAt_in w hw _)).trans (A_eq m O c w)

/-- The run, the output named: the result's array holds what was written back, the arguments are unchanged. -/
theorem run_named (O : Dev nD → Fin cfg0.N → Vec Ideal S1664x119 .f32) (hO : ∀ c t X, Leaves24 m c t X → X = O c t) :
    θ_run defs (onTc (τ := τ) (main (F := Ideal))) ⟨m, fun _ => 0, ρ⟩ fun r => ∀ c : Dev nD,
      r.2.mem ((c.tc : Thread nD τ).loc main_v27) = (dats m O 0 c).arrAt 24 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun _ h c => ⟨(h.1 c).1 24,
        ((h.1 c).2 main_arg0 (Pipeline.mem_restRefs_of main_arg0 (by decide) (by decide))).trans (V_main_arg0 m c),
        (array_kept m _ h.1 c 4 rfl).trans (V_main_arg1 m c),
        (array_kept m _ h.1 c 6 rfl).trans (V_main_arg2 m c),
        (array_kept m _ h.1 c 7 rfl).trans (V_main_arg3 m c),
        (array_kept m _ h.1 c 8 rfl).trans (V_main_arg4 m c),
        (array_kept m _ h.1 c 5 rfl).trans (V_main_arg5 m c),
        (array_kept m _ h.1 c 9 rfl).trans (V_main_arg6 m c),
        (array_kept m _ h.1 c 10 rfl).trans (V_main_arg7 m c),
        (array_kept m _ h.1 c 11 rfl).trans (V_main_arg8 m c),
        (array_kept m _ h.1 c 12 rfl).trans (V_main_arg9 m c),
        (array_kept m _ h.1 c 13 rfl).trans (V_main_arg10 m c),
        (array_kept m _ h.1 c 14 rfl).trans (V_main_arg11 m c),
        (array_kept m _ h.1 c 15 rfl).trans (V_main_arg12 m c),
        (array_kept m _ h.1 c 16 rfl).trans (V_main_arg13 m c),
        (array_kept m _ h.1 c 17 rfl).trans (V_main_arg14 m c),
        (array_kept m _ h.1 c 18 rfl).trans (V_main_arg15 m c),
        (array_kept m _ h.1 c 19 rfl).trans (V_main_arg16 m c),
        (array_kept m _ h.1 c 20 rfl).trans (V_main_arg17 m c),
        (array_kept m _ h.1 c 21 rfl).trans (V_main_arg18 m c),
        (array_kept m _ h.1 c 22 rfl).trans (V_main_arg19 m c),
        (array_kept m _ h.1 c 23 rfl).trans (V_main_arg20 m c)⟩)
    (run_main_exact m ρ O hO)

/-- The run: the result holds the spikes of every neuron, the arguments are unchanged. -/
theorem run (ok : ∀ c, (kin m c).Ok) : θ_run defs (onTc (τ := τ) (main (F := Ideal))) ⟨m, fun _ => 0, ρ⟩ fun r => ∀ c : Dev nD,
      r.2.mem ((c.tc : Thread nD τ).loc main_v27) = outV (kin m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun _ h c => ⟨(h c).1.trans (final_o m (fun c => outV (kin m c)) c), (h c).2⟩)
    (run_named m ρ (fun c _ => outV (kin m c)) fun c t X h => leaves m c (ok c) t X h)

end Cert.KernelIdeal.Gen

end
-- ==== Proof.Trace.lean ====
/- The network in the order of the reference, with a running trace per synapse, and its equality with the kernel's order. -/
module

public import proofs.«01_k».proof.Proof.Net

@[expose] public section

noncomputable section

namespace Cert.Snn

open Idealize.ShloMosaic Idealize.ShloMosaic.ValueIdx Cert.KernelIdeal

/-- The current through delayed synapses, each with its own trace. -/
def syn {M K : ℕ} (l : EReal) (w : FVec Ideal ⟨2, ![M, K]⟩ .f32) (sd : IVec ⟨2, ![M, K]⟩ 32) (S : ℕ → ℕ → EReal) (t i : ℕ) : EReal :=
  if h : i < M then ∑ k : Fin K, w (ix2 (⟨i, h⟩ : Fin M) k) * tr l (late (S k.val) (delayOf sd ⟨i, h⟩ k)) (t + 1) else 0

/-- The current of a layer behind the input, each input with its own trace. -/
def inp (l : EReal) (x : ℕ → ℕ → EReal) (w : FVec Ideal S512x512 .f32) (t n : ℕ) : EReal :=
  if h : n < 512 then ∑ k : Fin 512, w (ix2 (⟨n, h⟩ : Fin 512) k) * tr l (fun s => x s k.val) (t + 1) else 0

/-- The rate of recovery that grows by a factor each step. -/
def aSch : ℕ → EReal
  | 0 => wd 0x3CA3D70A#32
  | t + 1 => aSch t * wd 0x3F8147AE#32

/-- The two factors of decay. -/
def lS : EReal := Ideal.exp (wd 0xBE4CCCCD#32)
def lL : EReal := Ideal.exp (wd 0xBDCCCCCD#32)

namespace KIn

variable (X : KIn)

/-- The spikes of the layers in the reference's order. -/
def tSa0 : ℕ → ℕ → EReal := fires aSch (wd 0x41000000#32) (inp lS (stimAt X.x0) X.x4)
def tRa0 : ℕ → ℕ → EReal := fires (fun _ => wd 0x3CA3D70A#32) (wd 0x40000000#32) (inp lS (jumpAt X.x0) X.x5)
def tSa1 : ℕ → ℕ → EReal := fires (fun _ => wd 0x3DCCCCCD#32) (wd 0x40C00000#32) (syn lS X.x6 X.x17 X.tSa0)
def tRa1 : ℕ → ℕ → EReal := fires (fun _ => wd 0x3DCCCCCD#32) (wd 0x40000000#32) (syn lS X.x9 X.x19 X.tRa0)

/-- The currents and spikes of the projection neurons in the reference's order. -/
def jSa2 (t i : ℕ) : EReal :=
  syn lS X.x7 X.x17 X.tSa0 t i * wd 0x3F800000#32 - syn lL X.x8 X.x18 X.tSa1 t i * wd 0x3F800000#32
def jRa2 (t i : ℕ) : EReal :=
  syn lS X.x10 X.x19 X.tRa0 t i * wd 0x3F800000#32 - syn lL X.x11 X.x20 X.tRa1 t i * wd 0x3F800000#32
def tSa2 : ℕ → ℕ → EReal := fires (fun _ => wd 0x3DCCCCCD#32) (wd 0x40C00000#32) X.jSa2
def tRa2 : ℕ → ℕ → EReal := fires (fun _ => wd 0x3DCCCCCD#32) (wd 0x40000000#32) X.jRa2

/-- The currents and spikes of the cuneate neurons in the reference's order. -/
def jCn0 (t i : ℕ) : EReal :=
  syn lS X.x12 X.x21 X.tSa2 t i * wd 0x3F800000#32 + syn lS X.x14 X.x22 X.tRa2 t i * wd 0x3F800000#32
def tCn0 : ℕ → ℕ → EReal := fires (fun _ => wd 0x3CA3D70A#32) (wd 0x41000000#32) X.jCn0
def jCn1 (t i : ℕ) : EReal :=
  (syn lS X.x13 X.x21 X.tSa2 t i * wd 0x40000000#32 + syn lS X.x15 X.x22 X.tRa2 t i * wd 0x40000000#32)
    - syn lL X.x16 X.x23 X.tCn0 t i * wd 0x3F800000#32
def tCn1 : ℕ → ℕ → EReal := fires (fun _ => wd 0x3CA3D70A#32) (wd 0x41000000#32) X.jCn1

/-- The spikes of all neurons in the reference's order. -/
def tOut (n t : ℕ) : EReal :=
  if n < 512 then X.tSa0 n t
  else if n < 640 then X.tSa1 (n - 512) t
  else if n < 768 then X.tSa2 (n - 640) t
  else if n < 1280 then X.tRa0 (n - 768) t
  else if n < 1408 then X.tRa1 (n - 1280) t
  else if n < 1536 then X.tRa2 (n - 1408) t
  else if n < 1600 then X.tCn0 (n - 1536) t
  else X.tCn1 (n - 1600) t

end KIn

/-- A matrix of decay: powers of a factor on and under the diagonal. -/
structure Decay (e : FVec Ideal S119x119 .f32) (l : EReal) : Prop where
  ex : ∃ r : ℝ, 0 < r ∧ l = (r : EReal) ∧
    ∀ t s : Fin 119, (e (ix2 t s) : EReal) = if s.val ≤ t.val then ((r ^ (t.val - s.val) : ℝ) : EReal) else 0

section Traces

variable {r : ℝ}

theorem sum_mul_real (hr : 0 < r) {ι : Type} (S : Finset ι) (f : ι → EReal) :
    (∑ s ∈ S, f s) * (r : EReal) = ∑ s ∈ S, f s * (r : EReal) := by
  classical
  induction S using Finset.induction_on with
  | empty => simp
  | insert a S ha ih =>
    rw [Finset.sum_insert ha, Finset.sum_insert ha,
      EReal.right_distrib_of_nonneg_of_ne_top (EReal.coe_nonneg.2 hr.le) (EReal.coe_ne_top r), ih]

/-- A running trace is the sum of what it has seen, decayed. -/
theorem tr_sum (hr : 0 < r) (x : ℕ → EReal) (t : ℕ) :
    tr (r : EReal) x (t + 1) = ∑ s ∈ Finset.range (t + 1), ((r ^ (t - s) : ℝ) : EReal) * x s := by
  induction t with
  | zero => simp [tr]
  | succ t ih =>
    show tr (r : EReal) x (t + 1) * (r : EReal) + x (t + 1) = _
    rw [ih, Finset.sum_range_succ _ (t + 1), sum_mul_real hr]
    congr 1
    · refine Finset.sum_congr rfl fun s hs => ?_
      have hs : s ≤ t := by have := Finset.mem_range.1 hs; omega
      rw [mul_right_comm, ← EReal.coe_mul, ← pow_succ, show t + 1 - s = t - s + 1 by omega]
    · simp

theorem tr_add (hr : 0 < r) (x y : ℕ → EReal) (n : ℕ) :
    tr (r : EReal) (fun s => x s + y s) n = tr (r : EReal) x n + tr (r : EReal) y n := by
  induction n with
  | zero => simp [tr]
  | succ n ih =>
    show tr (r : EReal) (fun s => x s + y s) n * (r : EReal) + (x n + y n) = tr (r : EReal) x n * (r : EReal) + x n + (tr (r : EReal) y n * (r : EReal) + y n)
    rw [ih, EReal.right_distrib_of_nonneg_of_ne_top (EReal.coe_nonneg.2 hr.le) (EReal.coe_ne_top r), add_add_add_comm]

theorem tr_zero (l : EReal) (n : ℕ) : tr l (fun _ => 0) n = 0 := by
  induction n with
  | zero => rfl
  | succ n ih => show tr l (fun _ => 0) n * l + 0 = 0; rw [ih, zero_mul, add_zero]

/-- The trace of a real sequence is real. -/
theorem tr_real (y : ℕ → ℝ) (n : ℕ) : ∃ z : ℝ, tr (r : EReal) (fun s => (y s : EReal)) n = z := by
  induction n with
  | zero => exact ⟨0, rfl⟩
  | succ n ih =>
    obtain ⟨z, hz⟩ := ih
    exact ⟨z * r + y n, by show tr (r : EReal) (fun s => (y s : EReal)) n * (r : EReal) + (y n : EReal) = _; rw [hz]; push_cast; rfl⟩

/-- A number times a trace is the trace of the products. -/
theorem tr_scale (w : ℝ) (y : ℕ → ℝ) (n : ℕ) :
    tr (r : EReal) (fun s => (w : EReal) * (y s : EReal)) n = (w : EReal) * tr (r : EReal) (fun s => (y s : EReal)) n := by
  induction n with
  | zero => simp [tr]
  | succ n ih =>
    show tr (r : EReal) (fun s => (w : EReal) * (y s : EReal)) n * (r : EReal) + (w : EReal) * (y n : EReal)
      = (w : EReal) * (tr (r : EReal) (fun s => (y s : EReal)) n * (r : EReal) + (y n : EReal))
    obtain ⟨z, hz⟩ := tr_real (r := r) y n
    rw [ih, hz]
    norm_cast
    ring

/-- A trace of a sum is the sum of the traces. -/
theorem tr_sum_of (hr : 0 < r) {ι : Type} (S : Finset ι) (f : ι → ℕ → EReal) (n : ℕ) :
    tr (r : EReal) (fun s => ∑ k ∈ S, f k s) n = ∑ k ∈ S, tr (r : EReal) (f k) n := by
  classical
  induction S using Finset.induction_on with
  | empty => simpa using tr_zero _ n
  | insert a S ha ih =>
    rw [Finset.sum_insert ha, ← ih, ← tr_add hr]
    exact tr_congr fun t _ => Finset.sum_insert ha

end Traces

variable {e : FVec Ideal S119x119 .f32} {l : EReal}

/-- Filtering with a matrix of decay is running the trace. -/
theorem filt_tr (he : Decay e l) (X : ℕ → ℕ → EReal) {t : ℕ} (ht : t < 119) (i : ℕ) :
    filt e X t i = tr l (fun s => X s i) (t + 1) := by
  obtain ⟨r, hr, rfl, h⟩ := he.ex
  rw [tr_sum hr, filt, dif_pos ht]
  have e1 : ∀ s : Fin 119, (e (ix2 (⟨t, ht⟩ : Fin 119) s) : EReal) * X s.val i
      = (fun s : ℕ => if s ≤ t then ((r ^ (t - s) : ℝ) : EReal) * X s i else 0) s.val := by
    intro s
    rw [h]
    show (if s.val ≤ t then ((r ^ (t - s.val) : ℝ) : EReal) else 0) * _ = if s.val ≤ t then _ else 0
    split_ifs
    · rfl
    · exact zero_mul _
  rw [Finset.sum_congr rfl fun s _ => e1 s, Fin.sum_univ_eq_sum_range (fun s : ℕ => if s ≤ t then ((r ^ (t - s) : ℝ) : EReal) * X s i else 0) 119,
    ← Finset.sum_filter]
  refine Finset.sum_congr (Finset.ext fun s => ?_) fun _ _ => rfl
  rw [Finset.mem_filter, Finset.mem_range, Finset.mem_range]
  omega

theorem drive_inp (he : Decay e l) (x : ℕ → ℕ → EReal) (w : FVec Ideal S512x512 .f32) {t : ℕ} (ht : t < 119) (n : ℕ) :
    drive e x w t n = inp l x w t n := by
  unfold drive inp
  split_ifs with h
  · exact Finset.sum_congr rfl fun k _ => by rw [filt_tr he x ht, mul_comm]
  · rfl

/-- Every value is a spike or none. -/
structure Bits (S : ℕ → ℕ → EReal) : Prop where
  at_ : ∀ k t, S k t = 0 ∨ S k t = 1

theorem fires_bits (a : ℕ → EReal) (d : EReal) (I : ℕ → ℕ → EReal) : Bits (fires a d I) := ⟨fun _ _ => spk_cases _⟩

theorem late_real {S : ℕ → EReal} (hS : ∀ t, S t = 0 ∨ S t = 1) (d : ℕ) : ∃ y : ℕ → ℝ, late S d = fun t => (y t : EReal) := by
  have : ∀ t, ∃ y : ℝ, late S d t = y := by
    intro t
    unfold late
    split_ifs
    · rcases hS (t - d) with h | h
      · exact ⟨0, by rw [h]; rfl⟩
      · exact ⟨1, by rw [h]; rfl⟩
    · exact ⟨0, rfl⟩
  choose y hy using this
  exact ⟨y, funext hy⟩

section Syn

variable {M K : ℕ} (w : FVec Ideal ⟨2, ![M, K]⟩ .f32) (sd : IVec ⟨2, ![M, K]⟩ 32)

theorem tr_arrive (he : Decay e l) {w : FVec Ideal ⟨2, ![M, K]⟩ .f32} (hw : Finite w) {S : ℕ → ℕ → EReal} (hS : Bits S) (n i : ℕ) :
    tr l (fun s => arrive w sd S s i) (n + 1) = syn l w sd S n i := by
  obtain ⟨r, hr, rfl, -⟩ := he.ex
  unfold arrive syn
  split_ifs with h
  · rw [tr_sum_of hr]
    refine Finset.sum_congr rfl fun k _ => ?_
    obtain ⟨y, hy⟩ := late_real (hS.at_ k.val) (delayOf sd ⟨i, h⟩ k)
    rw [hy]
    obtain ⟨h1, h2⟩ := hw (ix2 (⟨i, h⟩ : Fin M) k)
    generalize (w (ix2 (⟨i, h⟩ : Fin M) k) : EReal) = q at h1 h2 ⊢
    lift q to ℝ using ⟨h2, h1⟩
    exact tr_scale q y (n + 1)
  · exact tr_zero _ _

theorem filt_arrive (he : Decay e l) {w : FVec Ideal ⟨2, ![M, K]⟩ .f32} (hw : Finite w) {S : ℕ → ℕ → EReal} (hS : Bits S) {t : ℕ}
    (ht : t < 119) (i : ℕ) : filt e (arrive w sd S) t i = syn l w sd S t i := by
  rw [filt_tr he _ ht, tr_arrive sd he hw hS]

/-- The current sees only the spikes up to its step. -/
theorem syn_congr {S S' : ℕ → ℕ → EReal} {t : ℕ} (h : ∀ k, ∀ s ≤ t, S k s = S' k s) (i : ℕ) : syn l w sd S t i = syn l w sd S' t i := by
  unfold syn
  split_ifs
  · refine Finset.sum_congr rfl fun k _ => congrArg (_ * ·) (tr_congr fun s hs => ?_)
    unfold late
    split_ifs
    · exact h _ _ (by omega)
    · rfl
  · rfl

end Syn

theorem filt_add (he : Decay e l) (A B : ℕ → ℕ → EReal) {t : ℕ} (ht : t < 119) (i : ℕ) :
    filt e (fun t i => A t i + B t i) t i = filt e A t i + filt e B t i := by
  rw [filt_tr he _ ht, filt_tr he _ ht, filt_tr he _ ht]
  obtain ⟨r, hr, rfl, -⟩ := he.ex
  exact tr_add hr _ _ _

/-- What relates the kernel's tables to the factors. -/
structure KIn.Tables (X : KIn) : Prop where
  short : Decay X.x1 lS
  long : Decay X.x2 lL
  rate : ∀ t < 119, rateAt X.x3 t = aSch t
  one : wd 0x3F800000#32 = 1
  two : ∃ q : ℝ, 0 < q ∧ wd 0x40000000#32 = (q : EReal)

namespace KIn

variable (X : KIn)

theorem bits_sa0 : Bits X.sa0 := fires_bits _ _ _
theorem bits_ra0 : Bits X.ra0 := fires_bits _ _ _
theorem bits_sa1 : Bits X.sa1 := fires_bits _ _ _
theorem bits_ra1 : Bits X.ra1 := fires_bits _ _ _
theorem bits_sa2 : Bits X.sa2 := fires_bits _ _ _
theorem bits_ra2 : Bits X.ra2 := fires_bits _ _ _
theorem bits_cn0 : Bits X.cn0 := fires_bits _ _ _

variable {X} (ok : X.Ok) (T : X.Tables) {t : ℕ} (ht : t < 119)
include T ht

theorem sa0_eq (n : ℕ) : X.sa0 n t = X.tSa0 n t :=
  fires_congr (fun s hs => T.rate s (by omega)) fun s hs => drive_inp T.short _ _ (by omega) _

theorem ra0_eq (n : ℕ) : X.ra0 n t = X.tRa0 n t :=
  fires_congr (fun _ _ => rfl) fun s hs => drive_inp T.short _ _ (by omega) _

include ok

theorem sa1_eq (n : ℕ) : X.sa1 n t = X.tSa1 n t :=
  fires_congr (fun _ _ => rfl) fun s hs => (filt_arrive _ T.short ok.w6 (fires_bits _ _ _) (by omega) _).trans
    (syn_congr _ _ (fun k q hq => sa0_eq T (by omega) k) _)

theorem ra1_eq (n : ℕ) : X.ra1 n t = X.tRa1 n t :=
  fires_congr (fun _ _ => rfl) fun s hs => (filt_arrive _ T.short ok.w9 (fires_bits _ _ _) (by omega) _).trans
    (syn_congr _ _ (fun k q hq => ra0_eq T (by omega) k) _)

theorem iSa2_eq (n : ℕ) : X.iSa2 t n = X.jSa2 t n := by
  unfold iSa2 jSa2
  rw [T.one, mul_one, mul_one, filt_arrive _ T.short ok.w7 (bits_sa0 X) ht, filt_arrive _ T.long ok.w8 (bits_sa1 X) ht,
    syn_congr _ _ (fun k q hq => sa0_eq T (by omega) k), syn_congr _ _ (fun k q hq => sa1_eq ok T (by omega) k)]

theorem iRa2_eq (n : ℕ) : X.iRa2 t n = X.jRa2 t n := by
  unfold iRa2 jRa2
  rw [T.one, mul_one, mul_one, filt_arrive _ T.short ok.w10 (bits_ra0 X) ht, filt_arrive _ T.long ok.w11 (bits_ra1 X) ht,
    syn_congr _ _ (fun k q hq => ra0_eq T (by omega) k), syn_congr _ _ (fun k q hq => ra1_eq ok T (by omega) k)]

theorem sa2_eq (n : ℕ) : X.sa2 n t = X.tSa2 n t :=
  fires_congr (fun _ _ => rfl) fun s hs => iSa2_eq ok T (by omega) _

theorem ra2_eq (n : ℕ) : X.ra2 n t = X.tRa2 n t :=
  fires_congr (fun _ _ => rfl) fun s hs => iRa2_eq ok T (by omega) _

theorem iCn0_eq (n : ℕ) : X.iCn0 t n = X.jCn0 t n := by
  unfold iCn0 jCn0
  rw [T.one, mul_one, mul_one, filt_add T.short _ _ ht, filt_arrive _ T.short ok.w12 (bits_sa2 X) ht,
    filt_arrive _ T.short ok.w14 (bits_ra2 X) ht, syn_congr _ _ (fun k q hq => sa2_eq ok T (by omega) k),
    syn_congr _ _ (fun k q hq => ra2_eq ok T (by omega) k)]

theorem cn0_eq (n : ℕ) : X.cn0 n t = X.tCn0 n t :=
  fires_congr (fun _ _ => rfl) fun s hs => iCn0_eq ok T (by omega) _

theorem iCn1_eq (n : ℕ) : X.iCn1 t n = X.jCn1 t n := by
  obtain ⟨q, hq, hq2⟩ := T.two
  unfold iCn1 jCn1
  rw [T.one, mul_one, filt_add T.short _ _ ht, filt_arrive _ T.short ok.w13 (bits_sa2 X) ht,
    filt_arrive _ T.short ok.w15 (bits_ra2 X) ht, filt_arrive _ T.long ok.w16 (bits_cn0 X) ht,
    syn_congr _ _ (fun k q hq => sa2_eq ok T (by omega) k),
    syn_congr _ _ (fun k q hq => ra2_eq ok T (by omega) k), syn_congr _ _ (fun k q hq => cn0_eq ok T (by omega) k), mul_comm, hq2,
    EReal.right_distrib_of_nonneg_of_ne_top (EReal.coe_nonneg.2 hq.le) (EReal.coe_ne_top q)]

theorem cn1_eq (n : ℕ) : X.cn1 n t = X.tCn1 n t :=
  fires_congr (fun _ _ => rfl) fun s hs => iCn1_eq ok T (by omega) _

/-- Both orders give the same spikes. -/
theorem out_eq (n : ℕ) : X.out n t = X.tOut n t := by
  unfold out tOut
  rw [sa0_eq T ht, sa1_eq ok T ht, sa2_eq ok T ht, ra0_eq T ht, ra1_eq ok T ht, ra2_eq ok T ht, cn0_eq ok T ht, cn1_eq ok T ht]

end KIn

end Cert.Snn

end
-- ==== Proof.Tables.lean ====
/- The kernel's tables of exponentials hold the powers that the reference builds step by step. -/
module

public import proofs.«01_k».proof.Proof.Trace
public import proofs.«01_k».proof.Proof.KernelHost
public import Idealize.ShloMosaic.Lib.DynamicIndex
public import Idealize.ShloMosaic.Lib.IdealHost

@[expose] public section

noncomputable section

namespace Cert.Snn

open Idealize.ShloMosaic Idealize.ShloMosaic.ValueIdx

/-- A word whose exponent is not all ones is a number. -/
theorem wd_real (w : BitVec 32) (h : (w.extractLsb' 23 8).toNat ≠ 2 ^ 8 - 1) : ∃ q : ℝ, wd w = (q : EReal) := by
  show ∃ q : ℝ, Ideal.ieee 8 23 w = (q : EReal)
  unfold Ideal.ieee
  dsimp only
  rw [if_neg h]
  split_ifs <;> exact ⟨_, rfl⟩

/-- Without a sign and with an exponent it is positive. -/
theorem wd_pos (w : BitVec 32) (h : (w.extractLsb' 23 8).toNat ≠ 2 ^ 8 - 1) (h0 : (w.extractLsb' 23 8).toNat ≠ 0)
    (hs : (w.extractLsb' (8 + 23) 1 == 1#1) = false) : ∃ q : ℝ, 0 < q ∧ wd w = (q : EReal) := by
  show ∃ q : ℝ, 0 < q ∧ Ideal.ieee 8 23 w = (q : EReal)
  unfold Ideal.ieee
  dsimp only
  rw [if_neg h, if_neg h0]
  refine ⟨_, ?_, rfl⟩
  rw [hs]
  have : (0 : ℝ) < 2 ^ 23 + ((w.extractLsb' 0 23).toNat : ℕ) := by positivity
  simp only [Bool.false_eq_true, if_false, one_mul]
  positivity

theorem toInt_sub_of_le {t s : ℕ} (hs : s ≤ t) (ht : t < 119) : (BitVec.ofNat 32 t - BitVec.ofNat 32 s).toInt = ((t - s : ℕ) : ℤ) := by
  have e : (BitVec.ofNat 32 t - BitVec.ofNat 32 s).toNat = t - s := by
    rw [BitVec.toNat_sub_of_le (by rw [BitVec.le_def, BitVec.toNat_ofNat, BitVec.toNat_ofNat, Nat.mod_eq_of_lt (by omega), Nat.mod_eq_of_lt (by omega)]; exact hs),
      BitVec.toNat_ofNat, BitVec.toNat_ofNat, Nat.mod_eq_of_lt (by omega), Nat.mod_eq_of_lt (by omega)]
  rw [BitVec.toInt_eq_toNat_of_lt (by rw [e]; omega), e]

end Cert.Snn

namespace Cert.KernelIdeal.Gen

open Idealize.ShloMosaic Idealize.ShloMosaic.ValueIdx Cert.Snn Cert.KernelIdeal

theorem decayV_decay (w : BitVec 32) (h : (w.extractLsb' 23 8).toNat ≠ 2 ^ 8 - 1) : Decay (decayV w) (Ideal.exp (wd w)) := by
  obtain ⟨q, hq⟩ := wd_real w h
  refine ⟨⟨Real.exp q, Real.exp_pos q, by rw [hq]; rfl, fun t s => ?_⟩⟩
  have lt := t.isLt
  have ls := s.isLt
  show Scalar.select (BitVec.ofBool ((BitVec.ofNat 32 s.val).sle (BitVec.ofNat 32 t.val)))
    (Ideal.exp ((((BitVec.ofNat 32 t.val - BitVec.ofNat 32 s.val).toInt : ℝ) : EReal) * wd w)) (wd 0x00000000#32) = _
  have ec : (BitVec.ofNat 32 s.val).sle (BitVec.ofNat 32 t.val) = decide (s.val ≤ t.val) := by
    rw [BitVec.sle, toInt_ofNat_of_lt (by omega), toInt_ofNat_of_lt (by omega)]
    simp
  rw [ec]
  by_cases c : s.val ≤ t.val
  · rw [if_pos c, decide_eq_true c, toInt_sub_of_le c lt, hq]
    show Ideal.exp (((((t.val - s.val : ℕ) : ℤ) : ℝ) : EReal) * (q : EReal)) = _
    rw [← EReal.coe_mul, Ideal.exp_coe, ← Real.exp_nat_mul, Int.cast_natCast]
  · rw [if_neg c, decide_eq_false c]
    exact zero_word

theorem rateV_sch {t : ℕ} (ht : t < 119) : rateAt rateV t = aSch t := by
  obtain ⟨a, ha⟩ := wd_real 0x3CA3D70A#32 (by decide)
  obtain ⟨q, hq0, hq⟩ := wd_pos 0x3F8147AE#32 (by decide) (by decide) (by decide)
  have e1 : ∀ t : ℕ, aSch t = ((a * q ^ t : ℝ) : EReal) := by
    intro t
    induction t with
    | zero => rw [pow_zero, mul_one]; exact ha
    | succ t ih =>
      show aSch t * wd 0x3F8147AE#32 = _
      rw [ih, hq, ← EReal.coe_mul, pow_succ, mul_assoc]
  rw [e1, rateAt, dif_pos (by omega)]
  show wd 0x3CA3D70A#32 * Ideal.exp ((((BitVec.ofNat 32 t).toInt : ℝ) : EReal) * Ideal.log (wd 0x3F8147AE#32)) = _
  rw [ha, hq, toInt_ofNat_of_lt (by omega), Ideal.log_coe, if_neg (not_le.2 hq0), ← EReal.coe_mul, Ideal.exp_coe, Int.cast_natCast,
    Real.exp_nat_mul, Real.exp_log hq0, ← EReal.coe_mul]

variable (m : (ℓ : Loc nD τ sig) → Buf (Elt Ideal) ℓ)

/-- The tables that the kernel is given. -/
theorem kin_tables (c : Dev nD) : (kin m c).Tables where
  short := decayV_decay _ (by decide)
  long := decayV_decay _ (by decide)
  rate := fun _ ht => rateV_sch ht
  one := Ideal.ofBits_one_f32
  two := wd_pos _ (by decide) (by decide) (by decide)

end Cert.KernelIdeal.Gen

end
-- ==== Proof.RefOps.lean ====
/- What the reference's operations read at an index, over any sizes. -/
module

public import proofs.«01_k».proof.Proof.Shift
public import proofs.«01_k».proof.Proof.Spec
public import Idealize.ShloMosaic.Lib.DynamicIndex
public import Idealize.ShloMosaic.Lib.Pointwise.Reduce
public import Idealize.ShloMosaic.Lib.Pointwise.Contract
public import Idealize.ShloMosaic.Lib.Pointwise.ShapeOpsCore

@[expose] public section

noncomputable section

namespace Cert.Snn

open Idealize.ShloMosaic hiding ix1 ix2 ix3
open Idealize.ShloMosaic.ValueIdx

/-- The scalar shape. -/
abbrev Sc : Shape := ⟨0, ![]⟩

/-- A broadcast at an index, when the index agrees along every axis of more than one entry. -/
theorem spread_apply {α : Type} {s t : Shape} (dims : Fin s.rank → Fin t.rank) (h : s.BroadcastsInDim t dims) (x : s.Idx → α)
    (j : t.Idx) (k : s.Idx) (hk : ∀ a : Fin s.rank, (k a).val = (j (dims a)).val ∨ s.size a = 1) :
    broadcastInDim t dims h x j = x k :=
  broadcastInDim_apply dims h x j k fun a => by
    split_ifs with e
    · have := (k a).isLt; omega
    · exact (hk a).resolve_right e

section Gather

variable {α : Type}

/-- The dimension numbers of a gather of single entries of a matrix by pairs of coordinates. -/
abbrev pairDims (N D M K : ℕ) (wf : GatherDims.WF ⟨2, ![N, D]⟩ ⟨3, ![M, K, 2]⟩ ⟨2, ![M, K]⟩ [] [0, 1] [] [0, 1] [] 2 ![1, 1]) :
    GatherDims ⟨2, ![N, D]⟩ ⟨3, ![M, K, 2]⟩ ⟨2, ![M, K]⟩ where
  offsetDims := []
  collapsedSliceDims := [0, 1]
  operandBatchingDims := []
  startIndicesBatchingDims := []
  startIndexMap := [0, 1]
  indexVectorDim := 2
  sliceSizes := ![1, 1]
  wf := wf

/-- Such a gather reads the entry whose coordinates the pair gives, each clamped to the matrix. -/
theorem gather_pair {N D M K : ℕ} (hN : 0 < N) (hD : 0 < D)
    (wf : GatherDims.WF ⟨2, ![N, D]⟩ ⟨3, ![M, K, 2]⟩ ⟨2, ![M, K]⟩ [] [0, 1] [] [0, 1] [] 2 ![1, 1]) (x : (⟨2, ![N, D]⟩ : Shape).Idx → α)
    (idx : IVec ⟨3, ![M, K, 2]⟩ 32) (i : Fin M) (k : Fin K) :
    Host.gather (pairDims N D M K wf) x idx (ix2 i k)
      = x (ix2 ⟨min (idx (ix3 i k (0 : Fin 2))).toInt.toNat (N - 1), by omega⟩
          ⟨min (idx (ix3 i k (1 : Fin 2))).toInt.toNat (D - 1), by omega⟩) := by
  unfold Host.gather
  congr 1
  funext a
  refine Fin.ext ?_
  show (pairDims N D M K wf).start (ix2 i k) idx a + (pairDims N D M K wf).batchCoord (ix2 i k) a
      + (pairDims N D M K wf).offCoord (ix2 i k) a = _
  have hm : ∀ a : Fin 2, a ∈ ([0, 1] : List (Fin 2)) := by decide
  rw [GatherDims.batchCoord_eq_zero _ _ _ (fun h => by simp at h),
    GatherDims.offCoord_eq_zero _ _ _ (fun h => ((GatherDims.mem_sKept _ _).mp h).1 (hm a))]
  simp only [Nat.add_zero]
  unfold GatherDims.start
  rw [dif_pos (hm a)]
  have h01 : a = 0 ∨ a = 1 := by
    match a with
    | ⟨0, _⟩ => exact Or.inl rfl
    | ⟨1, _⟩ => exact Or.inr rfl
  rcases h01 with rfl | rfl
  · have hsi : (pairDims N D M K wf).siIdx (ix2 i k) ⟨List.idxOf (0 : Fin 2) (pairDims N D M K wf).startIndexMap,
        List.idxOf_lt_length_iff.2 (hm 0)⟩ = ix3 i k (0 : Fin 2) := by
      funext b; refine Fin.ext ?_
      match b with
      | ⟨0, _⟩ => rfl
      | ⟨1, _⟩ => rfl
      | ⟨2, _⟩ => rfl
    rw [hsi]
    rfl
  · have hsi : (pairDims N D M K wf).siIdx (ix2 i k) ⟨List.idxOf (1 : Fin 2) (pairDims N D M K wf).startIndexMap,
        List.idxOf_lt_length_iff.2 (hm 1)⟩ = ix3 i k (1 : Fin 2) := by
      funext b; refine Fin.ext ?_
      match b with
      | ⟨0, _⟩ => rfl
      | ⟨1, _⟩ => rfl
      | ⟨2, _⟩ => rfl
    rw [hsi]
    rfl

/-- The same, for coordinates inside the matrix. -/
theorem gather_pair_of {N D M K : ℕ} (wf : GatherDims.WF ⟨2, ![N, D]⟩ ⟨3, ![M, K, 2]⟩ ⟨2, ![M, K]⟩ [] [0, 1] [] [0, 1] [] 2 ![1, 1]) (x : (⟨2, ![N, D]⟩ : Shape).Idx → α) (idx : IVec ⟨3, ![M, K, 2]⟩ 32) (i : Fin M) (k : Fin K)
    (p : Fin N) (q : Fin D) (h0 : (idx (ix3 i k (0 : Fin 2))).toInt = p.val) (h1 : (idx (ix3 i k (1 : Fin 2))).toInt = q.val) :
    Host.gather (pairDims N D M K wf) x idx (ix2 i k) = x (ix2 p q) := by
  have lp := p.isLt
  have lq := q.isLt
  rw [gather_pair (by omega) (by omega)]
  refine congrArg x (funext fun a => ?_)
  match a with
  | ⟨0, _⟩ => exact Fin.ext (by show min ((idx (ix3 i k (0 : Fin 2))).toInt.toNat) (N - 1) = p.val; rw [h0]; omega)
  | ⟨1, _⟩ => exact Fin.ext (by show min ((idx (ix3 i k (1 : Fin 2))).toInt.toNat) (D - 1) = q.val; rw [h1]; omega)

end Gather

section Seen

variable {M K : ℕ}

/-- The column of every neuron, as the index of a gather. -/
def colIdx (hi : (⟨1, ![K]⟩ : Shape).BroadcastsInDim ⟨2, ![1, K]⟩ (![1] : Fin 1 → Fin 2)) : IVec ⟨2, ![1, K]⟩ 32 :=
  broadcastInDim ⟨2, ![1, K]⟩ ![1] hi (iotaInDim ⟨1, ![K]⟩ 32 0)

/-- The place of a delay in a buffer of eleven steps. -/
def placeIdx (hb : Sc.BroadcastsInDim ⟨2, ![M, K]⟩ (![] : Fin 0 → Fin 2)) (sd : IVec ⟨2, ![M, K]⟩ 32) : IVec ⟨2, ![M, K]⟩ 32 :=
  subi (broadcastInDim ⟨2, ![M, K]⟩ ![] hb (constantI Sc 32 10#32)) sd

/-- The delayed spikes: from the buffer `b` of the last eleven steps, entry `(i, k)` is neuron `k`'s at `i`'s delay. -/
def seen (n : BitVec 32) (wf : GatherDims.WF ⟨2, ![K, 11]⟩ ⟨3, ![M, K, 2]⟩ ⟨2, ![M, K]⟩ [] [0, 1] [] [0, 1] [] 2 ![1, 1]) (b : FVec Ideal ⟨2, ![K, 11]⟩ .f32)
    (h1 : (⟨2, ![M, K]⟩ : Shape).BroadcastsInDim ⟨3, ![M, K, 1]⟩ (![0, 1] : Fin 2 → Fin 3))
    (h2 : (⟨2, ![1, K]⟩ : Shape).BroadcastsInDim ⟨2, ![M, K]⟩ (![0, 1] : Fin 2 → Fin 2))
    (h3 : Sc.BroadcastsInDim ⟨2, ![1, K]⟩ (![] : Fin 0 → Fin 2))
    (h4 : Sc.BroadcastsInDim ⟨2, ![M, K]⟩ (![] : Fin 0 → Fin 2))
    (h5 : Shape.Concatenates [⟨3, ![M, K, 1]⟩, ⟨3, ![M, K, 1]⟩] ⟨3, ![M, K, 2]⟩ 2)
    (c : IVec ⟨2, ![1, K]⟩ 32) (p : IVec ⟨2, ![M, K]⟩ 32) : FVec Ideal ⟨2, ![M, K]⟩ .f32 :=
  Host.gather (pairDims K 11 M K wf) b (concatenate ⟨3, ![M, K, 2]⟩ 2
    [⟨⟨3, ![M, K, 1]⟩, (broadcastInDim ⟨3, ![M, K, 1]⟩ ![0, 1] h1 (broadcastInDim ⟨2, ![M, K]⟩ ![0, 1] h2
        (select (cmpi .slt c (broadcastInDim ⟨2, ![1, K]⟩ ![] h3 (constantI Sc 32 0#32)))
          (addi c (broadcastInDim ⟨2, ![1, K]⟩ ![] h3 (constantI Sc 32 n))) c)))⟩,
     ⟨⟨3, ![M, K, 1]⟩, (broadcastInDim ⟨3, ![M, K, 1]⟩ ![0, 1] h1
        (select (cmpi .slt p (broadcastInDim ⟨2, ![M, K]⟩ ![] h4 (constantI Sc 32 0#32)))
          (addi p (broadcastInDim ⟨2, ![M, K]⟩ ![] h4 (constantI Sc 32 11#32))) p))⟩] h5)

/-- A word that is not negative is its own index. -/
theorem wrap_nonneg (c n : BitVec 32) (h : 0 ≤ c.toInt) :
    Scalar.select (BitVec.ofBool (c.slt 0#32)) (c + n) c = c := by
  have e : c.slt 0#32 = false := by
    rw [BitVec.slt, BitVec.toInt_zero]; simpa using h
  rw [e]; rfl

theorem seen_apply (n : BitVec 32) (wf : GatherDims.WF ⟨2, ![K, 11]⟩ ⟨3, ![M, K, 2]⟩ ⟨2, ![M, K]⟩ [] [0, 1] [] [0, 1] [] 2 ![1, 1]) (b : FVec Ideal ⟨2, ![K, 11]⟩ .f32) (h1 h2 h3 h4 h5 hi hb) (sd : IVec ⟨2, ![M, K]⟩ 32)
    (hK : K < 1000) (i : Fin M) (k : Fin K) (hd : 1 ≤ delayOf sd i k ∧ delayOf sd i k ≤ 10) :
    (seen n wf b h1 h2 h3 h4 h5 (colIdx hi) (placeIdx hb sd) (ix2 i k) : EReal)
      = b (ix2 k (⟨10 - delayOf sd i k, by omega⟩ : Fin 11)) := by
  have e0 : ∀ (x y : IVec ⟨3, ![M, K, 1]⟩ 32),
      concatenate ⟨3, ![M, K, 2]⟩ 2 [⟨⟨3, ![M, K, 1]⟩, x⟩, ⟨⟨3, ![M, K, 1]⟩, y⟩] h5 (ix3 i k (0 : Fin 2)) = x (ix3 i k (0 : Fin 1)) :=
    fun x y => concatenate_pair_apply_left (t := ⟨3, ![M, K, 2]⟩) (2 : Fin 3) x y h5 _ rfl _ (fun b => by
      match b with
      | ⟨0, _⟩ => rfl
      | ⟨1, _⟩ => rfl
      | ⟨2, _⟩ => rfl)
  have e1 : ∀ (x y : IVec ⟨3, ![M, K, 1]⟩ 32),
      concatenate ⟨3, ![M, K, 2]⟩ 2 [⟨⟨3, ![M, K, 1]⟩, x⟩, ⟨⟨3, ![M, K, 1]⟩, y⟩] h5 (ix3 i k (1 : Fin 2)) = y (ix3 i k (0 : Fin 1)) :=
    fun x y => concatenate_pair_apply_right (t := ⟨3, ![M, K, 2]⟩) (2 : Fin 3) x y h5 _ rfl rfl _ (fun b hb => by
      match b with
      | ⟨0, _⟩ => rfl
      | ⟨1, _⟩ => rfl
      | ⟨2, _⟩ => exact absurd rfl hb) rfl
  have kl := k.isLt
  have hcol : (BitVec.ofNat 32 k.val).toInt = k.val := toInt_ofNat_of_lt (by omega)
  have hx : (broadcastInDim ⟨3, ![M, K, 1]⟩ ![0, 1] h1 (broadcastInDim ⟨2, ![M, K]⟩ ![0, 1] h2
        (select (cmpi .slt (colIdx hi) (broadcastInDim ⟨2, ![1, K]⟩ ![] h3 (constantI Sc 32 0#32)))
          (addi (colIdx hi) (broadcastInDim ⟨2, ![1, K]⟩ ![] h3 (constantI Sc 32 n))) (colIdx hi)))) (ix3 i k (0 : Fin 1))
      = BitVec.ofNat 32 k.val := by
    have hc : (colIdx hi) (ix2 (0 : Fin 1) k) = BitVec.ofNat 32 k.val := by
      unfold colIdx
      rw [spread_apply _ _ _ _ (ix1 k) (fun a => by match a with | ⟨0, _⟩ => exact Or.inl rfl)]
      rfl
    rw [spread_apply _ _ _ _ (ix2 i k) (fun a => by match a with | ⟨0, _⟩ => exact Or.inl rfl | ⟨1, _⟩ => exact Or.inl rfl),
      spread_apply _ _ _ _ (ix2 (0 : Fin 1) k) (fun a => by match a with | ⟨0, _⟩ => exact Or.inr rfl | ⟨1, _⟩ => exact Or.inl rfl)]
    show Scalar.select (BitVec.ofBool (((colIdx hi) (ix2 (0 : Fin 1) k)).slt 0#32)) ((colIdx hi) (ix2 (0 : Fin 1) k) + n) ((colIdx hi) (ix2 (0 : Fin 1) k)) = _
    rw [wrap_nonneg _ _ (by rw [hc, hcol]; omega), hc]
  have hp : (10#32 - sd (ix2 i k)).toNat = 10 - delayOf sd i k := by
    have := hd.2
    unfold delayOf at this ⊢
    rw [BitVec.toNat_sub_of_le (by rw [BitVec.le_def]; exact this)]
    rfl
  have hpi : (10#32 - sd (ix2 i k)).toInt = ((10 - delayOf sd i k : ℕ) : ℤ) := by
    rw [BitVec.toInt_eq_toNat_of_lt (by rw [hp]; omega), hp]
  have hy : (broadcastInDim ⟨3, ![M, K, 1]⟩ ![0, 1] h1
        (select (cmpi .slt (placeIdx hb sd) (broadcastInDim ⟨2, ![M, K]⟩ ![] h4 (constantI Sc 32 0#32)))
          (addi (placeIdx hb sd) (broadcastInDim ⟨2, ![M, K]⟩ ![] h4 (constantI Sc 32 11#32))) (placeIdx hb sd))) (ix3 i k (0 : Fin 1))
      = 10#32 - sd (ix2 i k) := by
    rw [spread_apply _ _ _ _ (ix2 i k) (fun a => by match a with | ⟨0, _⟩ => exact Or.inl rfl | ⟨1, _⟩ => exact Or.inl rfl)]
    exact wrap_nonneg (10#32 - sd (ix2 i k)) 11#32 (by rw [hpi]; omega)
  exact gather_pair_of wf b _ i k k _ ((congrArg BitVec.toInt ((e0 _ _).trans hx)).trans hcol)
    ((congrArg BitVec.toInt ((e1 _ _).trans hy)).trans hpi)

end Seen

section Rows

variable {N M K : ℕ}

/-- A buffer of eleven steps after one more: the oldest is dropped, the newest comes last. -/
theorem push_apply (hs : (⟨2, ![N, 11]⟩ : Shape).Slices ![0, 1] ⟨2, ![N, 10]⟩)
    (hb : (⟨1, ![N]⟩ : Shape).BroadcastsInDim ⟨2, ![N, 1]⟩ (![0] : Fin 1 → Fin 2))
    (hc : Shape.Concatenates [⟨2, ![N, 10]⟩, ⟨2, ![N, 1]⟩] ⟨2, ![N, 11]⟩ 1)
    (b : FVec Ideal ⟨2, ![N, 11]⟩ .f32) (s : FVec Ideal ⟨1, ![N]⟩ .f32) (i : Fin N) (p : Fin 11) :
    (concatenate ⟨2, ![N, 11]⟩ 1 [⟨⟨2, ![N, 10]⟩, extractStridedSlice ⟨2, ![N, 10]⟩ ![0, 1] b hs⟩,
        ⟨⟨2, ![N, 1]⟩, broadcastInDim ⟨2, ![N, 1]⟩ ![0] hb s⟩] hc (ix2 i p) : EReal)
      = if h : p.val < 10 then b (ix2 i (⟨p.val + 1, by omega⟩ : Fin 11)) else s (ix1 i) := by
  split_ifs with h
  · rw [concatenate_pair_apply_left (t := ⟨2, ![N, 11]⟩) (1 : Fin 2) _ _ hc _ rfl (ix2 i (⟨p.val, h⟩ : Fin 10)) (fun a => by
      match a with
      | ⟨0, _⟩ => rfl
      | ⟨1, _⟩ => rfl)]
    rw [extractStridedSlice_apply _ _ _ _ (ix2 i (⟨p.val + 1, by omega⟩ : Fin 11)) (fun a => by
      match a with
      | ⟨0, _⟩ => exact (Nat.zero_add _).symm
      | ⟨1, _⟩ => exact Nat.add_comm _ _)]
  · rw [concatenate_pair_apply_right (t := ⟨2, ![N, 11]⟩) (1 : Fin 2) _ _ hc _ rfl rfl (ix2 i (0 : Fin 1)) (fun a ha => by
      match a with
      | ⟨0, _⟩ => rfl
      | ⟨1, _⟩ => exact absurd rfl ha) (by show 0 + 10 = p.val; omega)]
    rw [spread_apply _ _ _ _ (ix1 i) (fun a => by match a with | ⟨0, _⟩ => exact Or.inl rfl)]

/-- A row's sum. -/
theorem rowSum_apply (h : (⟨2, ![M, K]⟩ : Shape).ReducesTo [1] ⟨1, ![M]⟩) (hu : 0 < Sc.numel)
    (x : FVec Ideal ⟨2, ![M, K]⟩ .f32) (i : Fin M) :
    (Host.reduceAdd x (constant Sc .f32 0x00000000#32) h hu (ix1 i) : EReal) = ∑ k : Fin K, x (ix2 i k) := by
  rw [Host.reduceAdd_apply]
  show Ideal.hostReduceAdd h x (wd 0x00000000#32) (ix1 i) = _
  rw [Ideal.hostReduceAdd_r2_a1, show wd 0x00000000#32 = (0 : EReal) from zero_word, zero_add]
  rfl

/-- A matrix times a vector. -/
theorem matVec_apply (d : DotDims ⟨2, ![M, K]⟩ ⟨1, ![K]⟩ ⟨1, ![M]⟩) (hd : d.lhsContracting = [1]) (hl : d.lhsNonContracting = [0])
    (hr : d.rhsContracting = [0]) (hb : d.lhsBatch = [])
    (w : FVec Ideal ⟨2, ![M, K]⟩ .f32) (x : FVec Ideal ⟨1, ![K]⟩ .f32)
    (hli : ∀ (i : Fin M) (k : Fin K), d.lhsIdx (ix1 i) (d.contrIdx₁ hd rfl k) = ix2 i k)
    (hri : ∀ (i : Fin M) (k : Fin K), d.rhsIdx (ix1 i) (d.contrIdx₁ hd rfl k) = ix1 k) (i : Fin M) :
    (Host.dotGeneral d none w x (ix1 i) : EReal) = ∑ k : Fin K, w (ix2 i k) * x (ix1 k) := by
  show FloatOps.dotGeneral d none _ w x (ix1 i) = _
  rw [Ideal.dotGeneral_apply, d.sum_contr₁ hd rfl]
  exact Finset.sum_congr rfl fun k _ => congrArg₂ (· * ·) (congrArg w (hli i k)) (congrArg x (hri i k))

/-- The row that a counter names. -/
theorem rowAt_apply {T : ℕ} (hf : (⟨2, ![T, N]⟩ : Shape).Slices (fun _ => 0) ⟨2, ![1, N]⟩)
    (hc : (⟨2, ![1, N]⟩ : Shape).ShapeCasts ⟨1, ![N]⟩) (x : FVec Ideal ⟨2, ![T, N]⟩ .f32) (start : Fin 2 → ℤ) (t : ℕ) (ht : t < T)
    (h0 : start 0 = t) (h1 : start 1 = 0) (i : Fin N) :
    (shapeCast ⟨1, ![N]⟩ (Host.dynamicSlice ⟨2, ![1, N]⟩ x start hf) hc (ix1 i) : EReal) = x (ix2 (⟨t, ht⟩ : Fin T) i) := by
  rw [shapeCast_apply _ _ (ix1 i) (ix2 (0 : Fin 1) i) (by
    rw [Shape.rowMajor_val_two, Shape.rowMajor_val_one]; show 0 * N + i.val = i.val; omega)]
  rw [Host.dynamicSlice_eq_extractStridedSlice _ x start ![t, 0] hf
    ⟨rfl, by intro a; match a with
      | ⟨0, _⟩ => show t + 1 ≤ T; omega
      | ⟨1, _⟩ => show 0 + N ≤ N; omega⟩
    (by intro a; match a with
      | ⟨0, _⟩ => exact h0
      | ⟨1, _⟩ => exact h1)]
  exact extractStridedSlice_apply _ _ _ _ (ix2 (⟨t, ht⟩ : Fin T) i) (fun a => by
      match a with
      | ⟨0, _⟩ => rfl
      | ⟨1, _⟩ => exact (Nat.zero_add _).symm)

/-- A matrix after one row has been put at the place that a counter names. -/
theorem putRow_apply {T : ℕ} (hf : (⟨2, ![T, N]⟩ : Shape).Slices (fun _ => 0) ⟨2, ![1, N]⟩)
    (hb : (⟨1, ![N]⟩ : Shape).BroadcastsInDim ⟨2, ![1, N]⟩ (![1] : Fin 1 → Fin 2))
    (x : FVec Ideal ⟨2, ![T, N]⟩ .f32) (r : FVec Ideal ⟨1, ![N]⟩ .f32) (start : Fin 2 → ℤ) (t : ℕ) (ht : t < T)
    (h0 : start 0 = t) (h1 : start 1 = 0) (s : Fin T) (i : Fin N) :
    (Host.dynamicUpdateSlice x (broadcastInDim ⟨2, ![1, N]⟩ ![1] hb r) start hf (ix2 s i) : EReal)
      = if s.val = t then r (ix1 i) else x (ix2 s i) := by
  have hl : (⟨2, ![T, N]⟩ : Shape).Slices ![t, 0] ⟨2, ![1, N]⟩ := ⟨rfl, by
    intro a; match a with
      | ⟨0, _⟩ => show t + 1 ≤ T; omega
      | ⟨1, _⟩ => show 0 + N ≤ N; omega⟩
  rw [Host.dynamicUpdateSlice_eq_updateSlice x _ start hf ![t, 0] (by
    intro a; match a with
      | ⟨0, _⟩ => show (min (max (start 0) 0) ((T - 1 : ℕ) : ℤ)).toNat = t; rw [h0]; omega
      | ⟨1, _⟩ => show (min (max (start 1) 0) ((N - N : ℕ) : ℤ)).toNat = 0; rw [h1]; omega) hl]
  unfold updateSlice
  by_cases e : s.val = t
  · rw [if_pos e, dif_pos (by
      intro a; match a with
        | ⟨0, _⟩ => exact ⟨by show t ≤ s.val; omega, by show s.val < t + 1; omega⟩
        | ⟨1, _⟩ => exact ⟨Nat.zero_le _, by show i.val < 0 + N; have := i.isLt; omega⟩)]
    rw [spread_apply _ _ _ _ (ix1 i) (fun a => by match a with | ⟨0, _⟩ => exact Or.inl rfl)]
  · rw [if_neg e, dif_neg (by
      intro h
      have h := h (0 : Fin 2)
      have a1 : t ≤ s.val := h.1
      have a2 : s.val < t + 1 := h.2
      omega)]

end Rows

end Cert.Snn

end
-- ==== Proof.RefLayer.lean ====
/- One step of a layer of the reference, over any sizes: what its arrays hold after it, from what they held before it. -/
module

public import proofs.«01_k».proof.Proof.RefOps
public import proofs.«01_k».proof.Proof.Trace

@[expose] public section

noncomputable section

namespace Cert.Snn

open Idealize.ShloMosaic hiding ix1 ix2 ix3
open Idealize.ShloMosaic.ValueIdx

variable {N M K k : ℕ}

/-- The membrane and the recovery variable of a layer after `k` steps. -/
structure Vol (v u : FVec Ideal ⟨1, ![N]⟩ .f32) (a : ℕ → EReal) (d : EReal) (I : ℕ → ℕ → EReal) (k : ℕ) : Prop where
  v : ∀ n : Fin N, (v (ix1 n) : EReal) = (runS a d (fun s => I s n.val) rest k).1
  u : ∀ n : Fin N, (u (ix1 n) : EReal) = (runS a d (fun s => I s n.val) rest k).2

/-- The last eleven spikes of a layer after `k` steps, the newest last, with none before the first step. -/
structure Buf (b : FVec Ideal ⟨2, ![N, 11]⟩ .f32) (S : ℕ → ℕ → EReal) (k : ℕ) : Prop where
  at_ : ∀ (n : Fin N) (p : Fin 11), (b (ix2 n p) : EReal) = if 11 ≤ p.val + k then S n.val (p.val + k - 11) else 0

/-- The traces of the synapses after `k` steps. -/
structure Psp (p : FVec Ideal ⟨2, ![M, K]⟩ .f32) (l : EReal) (sd : IVec ⟨2, ![M, K]⟩ 32) (S : ℕ → ℕ → EReal) (k : ℕ) : Prop where
  at_ : ∀ (i : Fin M) (j : Fin K), (p (ix2 i j) : EReal) = tr l (late (S j.val) (delayOf sd i j)) k

/-- The traces of the inputs after `k` steps. -/
structure InTr (p : FVec Ideal ⟨1, ![N]⟩ .f32) (l : EReal) (x : ℕ → ℕ → EReal) (k : ℕ) : Prop where
  at_ : ∀ n : Fin N, (p (ix1 n) : EReal) = tr l (fun s => x s n.val) k

/-- A vector that holds the values of step `k`. -/
structure Row (s : FVec Ideal ⟨1, ![N]⟩ .f32) (S : ℕ → ℕ → EReal) (k : ℕ) : Prop where
  at_ : ∀ n : Fin N, (s (ix1 n) : EReal) = S n.val k

/-- A vector that holds the currents of step `k`. -/
structure Cur (i : FVec Ideal ⟨1, ![N]⟩ .f32) (I : ℕ → ℕ → EReal) (k : ℕ) : Prop where
  at_ : ∀ n : Fin N, (i (ix1 n) : EReal) = I k n.val

section Layer

variable {v u i s v' u' : FVec Ideal ⟨1, ![N]⟩ .f32} {a : ℕ → EReal} {d : EReal} {I : ℕ → ℕ → EReal}

theorem Vol.row (h : Vol v u a d I k) (hi : Cur i I k)
    (hs : ∀ n : Fin N, (s (ix1 n) : EReal) = spk (vMid (v (ix1 n)) (u (ix1 n)) (i (ix1 n)))) : Row s (fires a d I) k :=
  ⟨fun n => by rw [hs, h.v, h.u, hi.at_]; rfl⟩

theorem Vol.next (h : Vol v u a d I k) (hi : Cur i I k) {ak : EReal} (ha : ak = a k)
    (hv : ∀ n : Fin N, (v' (ix1 n) : EReal) = (stepS ak d (i (ix1 n)) (v (ix1 n), u (ix1 n))).1)
    (hu : ∀ n : Fin N, (u' (ix1 n) : EReal) = (stepS ak d (i (ix1 n)) (v (ix1 n), u (ix1 n))).2) : Vol v' u' a d I (k + 1) :=
  ⟨fun n => by rw [hv, h.v, h.u, hi.at_, ha]; rfl, fun n => by rw [hu, h.v, h.u, hi.at_, ha]; rfl⟩

theorem Buf.next {b : FVec Ideal ⟨2, ![N, 11]⟩ .f32} {S : ℕ → ℕ → EReal} (h : Buf b S k) (hr : Row s S k)
    (hs : (⟨2, ![N, 11]⟩ : Shape).Slices ![0, 1] ⟨2, ![N, 10]⟩)
    (hb : (⟨1, ![N]⟩ : Shape).BroadcastsInDim ⟨2, ![N, 1]⟩ (![0] : Fin 1 → Fin 2))
    (hc : Shape.Concatenates [⟨2, ![N, 10]⟩, ⟨2, ![N, 1]⟩] ⟨2, ![N, 11]⟩ 1) :
    Buf (concatenate ⟨2, ![N, 11]⟩ 1 [⟨⟨2, ![N, 10]⟩, extractStridedSlice ⟨2, ![N, 10]⟩ ![0, 1] b hs⟩,
        ⟨⟨2, ![N, 1]⟩, broadcastInDim ⟨2, ![N, 1]⟩ ![0] hb s⟩] hc) S (k + 1) :=
  ⟨fun n p => by
    rw [push_apply]
    have lp := p.isLt
    split_ifs with h1 h2 h2
    · rw [h.at_, if_pos (by show 11 ≤ p.val + 1 + k; omega)]
      exact congrArg (S n.val) (by show p.val + 1 + k - 11 = p.val + (k + 1) - 11; omega)
    · rw [h.at_, if_neg (by show ¬ 11 ≤ p.val + 1 + k; omega)]
    · rw [hr.at_]
      exact congrArg (S n.val) (by omega)
    · omega⟩

end Layer

section Synapse

variable {p p' : FVec Ideal ⟨2, ![M, K]⟩ .f32} {sd : IVec ⟨2, ![M, K]⟩ 32} {S : ℕ → ℕ → EReal} {b : FVec Ideal ⟨2, ![K, 11]⟩ .f32}

theorem Psp.next {w : BitVec 32} (h : Psp p (Ideal.exp (wd w)) sd S k) (hb : Buf b S (k + 1)) (hd : Delays sd) (hK : K < 1000)
    {n : BitVec 32} {wf : GatherDims.WF ⟨2, ![K, 11]⟩ ⟨3, ![M, K, 2]⟩ ⟨2, ![M, K]⟩ [] [0, 1] [] [0, 1] [] 2 ![1, 1]} {h1 h2 h3 h4 h5 hi hp}
    (he : p' = addf (mulf p (broadcastInDim ⟨2, ![M, K]⟩ ![] hp (id (Host.exp (constant (F := Ideal) Sc .f32 w)))))
      (seen n wf b h1 h2 h3 h4 h5 (colIdx hi) (placeIdx hp sd))) : Psp p' (Ideal.exp (wd w)) sd S (k + 1) :=
  ⟨fun i j => by
    rw [he]
    show (p (ix2 i j) : EReal) * Ideal.exp (wd w) + seen n wf b h1 h2 h3 h4 h5 (colIdx hi) (placeIdx hp sd) (ix2 i j) = _
    rw [seen_apply _ _ _ _ _ _ _ _ _ _ _ hK _ _ (hd i j), h.at_, hb.at_]
    show _ = tr (Ideal.exp (wd w)) (late (S j.val) (delayOf sd i j)) k * Ideal.exp (wd w) + late (S j.val) (delayOf sd i j) k
    refine congrArg (HAdd.hAdd (_ : EReal)) ?_
    have := hd i j
    unfold late
    by_cases hk : delayOf sd i j ≤ k
    · rw [if_pos hk, if_pos (by show 11 ≤ 10 - delayOf sd i j + (k + 1); omega)]
      exact congrArg (S j.val) (by show 10 - delayOf sd i j + (k + 1) - 11 = _; omega)
    · rw [if_neg hk, if_neg (by show ¬ 11 ≤ 10 - delayOf sd i j + (k + 1); omega)]⟩

/-- The current of a row of synapses. -/
theorem Psp.cur {l : EReal} (h : Psp p l sd S (k + 1)) (w : FVec Ideal ⟨2, ![M, K]⟩ .f32)
    (hr : (⟨2, ![M, K]⟩ : Shape).ReducesTo [1] ⟨1, ![M]⟩) (hu : 0 < Sc.numel) :
    Cur (Host.reduceAdd (mulf w p) (constant Sc .f32 0x00000000#32) hr hu) (syn l w sd S) k :=
  ⟨fun i => by
    rw [rowSum_apply, syn, dif_pos i.isLt]
    exact Finset.sum_congr rfl fun j _ => congrArg (_ * ·) (h.at_ i j)⟩

end Synapse

/-- The traces of the inputs after one more step. -/
theorem InTr.next {p p' x : FVec Ideal ⟨1, ![N]⟩ .f32} {w : BitVec 32} {f : ℕ → ℕ → EReal} (h : InTr p (Ideal.exp (wd w)) f k)
    (hx : Cur x f k) (hp : ∀ n : Fin N, (p' (ix1 n) : EReal) = p (ix1 n) * Ideal.exp (wd w) + x (ix1 n)) :
    InTr p' (Ideal.exp (wd w)) f (k + 1) :=
  ⟨fun n => by rw [hp, h.at_, hx.at_]; rfl⟩

/-- Vectors placed one behind the other, read at an index. -/
theorem piece_apply {α : Type} {T : ℕ} (xs : List ((s : Shape) × (s.Idx → α))) (h : Shape.Concatenates (xs.map (·.1)) ⟨1, ![T]⟩ 0)
    (n : Fin T) (j : ℕ) (hj : j < xs.length) (x : (⟨1, ![N]⟩ : Shape).Idx → α) (hx : xs[j] = ⟨⟨1, ![N]⟩, x⟩) (pre : ℕ)
    (hpre : (((xs.take j).map (·.1)).map fun s => if h : s.rank = (⟨1, ![T]⟩ : Shape).rank then s.size ((0 : Fin 1).cast h.symm) else 0).sum = pre)
    (h1 : pre ≤ n.val) (h2 : n.val - pre < N) : concatenate ⟨1, ![T]⟩ 0 xs h (ix1 n) = x (ix1 ⟨n.val - pre, h2⟩) :=
  concatenate_apply_piece (t := ⟨1, ![T]⟩) (0 : Fin 1) xs h (ix1 n) j hj ⟨1, ![N]⟩ x hx rfl pre hpre (ix1 ⟨n.val - pre, h2⟩)
    (fun b hb => absurd (Subsingleton.elim (α := Fin 1) _ _) hb) (by show pre + (n.val - pre) = n.val; omega)

/-- The spikes of all layers, one behind the other. -/
theorem rows_out (X : KIn) {s1 s4 : FVec Ideal ⟨1, ![512]⟩ .f32} {s2 s3 s5 s6 : FVec Ideal ⟨1, ![128]⟩ .f32}
    {s7 s8 : FVec Ideal ⟨1, ![64]⟩ .f32} (r1 : Row s1 X.tSa0 k) (r2 : Row s2 X.tSa1 k) (r3 : Row s3 X.tSa2 k) (r4 : Row s4 X.tRa0 k)
    (r5 : Row s5 X.tRa1 k) (r6 : Row s6 X.tRa2 k) (r7 : Row s7 X.tCn0 k) (r8 : Row s8 X.tCn1 k)
    (h : Shape.Concatenates [⟨1, ![512]⟩, ⟨1, ![128]⟩, ⟨1, ![128]⟩, ⟨1, ![512]⟩, ⟨1, ![128]⟩, ⟨1, ![128]⟩, ⟨1, ![64]⟩, ⟨1, ![64]⟩]
      ⟨1, ![1664]⟩ 0) :
    Row (concatenate ⟨1, ![1664]⟩ 0 [⟨⟨1, ![512]⟩, s1⟩, ⟨⟨1, ![128]⟩, s2⟩, ⟨⟨1, ![128]⟩, s3⟩, ⟨⟨1, ![512]⟩, s4⟩, ⟨⟨1, ![128]⟩, s5⟩,
      ⟨⟨1, ![128]⟩, s6⟩, ⟨⟨1, ![64]⟩, s7⟩, ⟨⟨1, ![64]⟩, s8⟩] h) X.tOut k :=
  ⟨fun n => by
    have ln := n.isLt
    have key : ∀ {N : ℕ} (j : ℕ) (hj : j < 8) (x : (⟨1, ![N]⟩ : Shape).Idx → EReal), _ :=
      fun {N} j hj x => piece_apply (N := N) (T := 1664)
        [⟨⟨1, ![512]⟩, s1⟩, ⟨⟨1, ![128]⟩, s2⟩, ⟨⟨1, ![128]⟩, s3⟩, ⟨⟨1, ![512]⟩, s4⟩, ⟨⟨1, ![128]⟩, s5⟩,
          ⟨⟨1, ![128]⟩, s6⟩, ⟨⟨1, ![64]⟩, s7⟩, ⟨⟨1, ![64]⟩, s8⟩] h n j hj x
    unfold KIn.tOut
    split_ifs with c1 c2 c3 c4 c5 c6 c7
    · exact (key 0 (by decide) s1 rfl 0 rfl (by omega) (by omega)).trans (r1.at_ _)
    · exact (key 1 (by decide) s2 rfl 512 rfl (by omega) (by omega)).trans (r2.at_ _)
    · exact (key 2 (by decide) s3 rfl 640 rfl (by omega) (by omega)).trans (r3.at_ _)
    · exact (key 3 (by decide) s4 rfl 768 rfl (by omega) (by omega)).trans (r4.at_ _)
    · exact (key 4 (by decide) s5 rfl 1280 rfl (by omega) (by omega)).trans (r5.at_ _)
    · exact (key 5 (by decide) s6 rfl 1408 rfl (by omega) (by omega)).trans (r6.at_ _)
    · exact (key 6 (by decide) s7 rfl 1536 rfl (by omega) (by omega)).trans (r7.at_ _)
    · exact (key 7 (by decide) s8 rfl 1600 rfl (by omega) (by omega)).trans (r8.at_ _)⟩

end Cert.Snn

end
-- ==== Proof.RefInv.lean ====
/- What the reference's loop holds after `k` steps: the network in the reference's order. -/
module

public import proofs.«01_k».proof.Proof.RefLayer
public import proofs.«01_k».proof.Proof.Gen.ReferenceIdeal.Run

@[expose] public section

set_option maxRecDepth 8192

noncomputable section

namespace Cert.ReferenceIdeal.Value

open Idealize.ShloMosaic hiding ix1 ix2 ix3
open Idealize.ShloMosaic.ValueIdx Cert.ReferenceIdeal Cert.ReferenceIdeal.Gen Cert.Snn

/-- The arrays that the loop only reads. -/
structure Fixed (X : KIn) (V : Valuation τ sig (Elt Ideal)) : Prop where
  c0 : ∀ (t : Fin 119) (n : Fin 512), (V (Proc.devRef .tc main_v50_0) (ix2 t n) : EReal) = stimAt X.x0 t.val n.val
  c1 : ∀ (t : Fin 119) (n : Fin 512), (V (Proc.devRef .tc main_v50_1) (ix2 t n) : EReal) = jumpAt X.x0 t.val n.val
  c2 : V (Proc.devRef .tc main_v50_2) = X.x4
  c3 : V (Proc.devRef .tc main_v50_3) = X.x17
  c4 : V (Proc.devRef .tc main_v50_4) = X.x6
  c5 : V (Proc.devRef .tc main_v50_5) = X.x7
  c6 : V (Proc.devRef .tc main_v50_6) = X.x18
  c7 : V (Proc.devRef .tc main_v50_7) = X.x8
  c8 : V (Proc.devRef .tc main_v50_8) = X.x5
  c9 : V (Proc.devRef .tc main_v50_9) = X.x19
  c10 : V (Proc.devRef .tc main_v50_10) = X.x9
  c11 : V (Proc.devRef .tc main_v50_11) = X.x10
  c12 : V (Proc.devRef .tc main_v50_12) = X.x20
  c13 : V (Proc.devRef .tc main_v50_13) = X.x11
  c14 : V (Proc.devRef .tc main_v50_14) = X.x21
  c15 : V (Proc.devRef .tc main_v50_15) = X.x12
  c16 : V (Proc.devRef .tc main_v50_16) = X.x22
  c17 : V (Proc.devRef .tc main_v50_17) = X.x14
  c18 : V (Proc.devRef .tc main_v50_18) = X.x13
  c19 : V (Proc.devRef .tc main_v50_19) = X.x15
  c20 : V (Proc.devRef .tc main_v50_20) = X.x23
  c21 : V (Proc.devRef .tc main_v50_21) = X.x16

theorem Fixed.step {X : KIn} {V : Valuation τ sig (Elt Ideal)} (h : Fixed X V) : Fixed X (STEP V) where
  c0 := by rw [STEP_main_v50_0]; exact h.c0
  c1 := by rw [STEP_main_v50_1]; exact h.c1
  c2 := (STEP_main_v50_2 V).trans h.c2
  c3 := (STEP_main_v50_3 V).trans h.c3
  c4 := (STEP_main_v50_4 V).trans h.c4
  c5 := (STEP_main_v50_5 V).trans h.c5
  c6 := (STEP_main_v50_6 V).trans h.c6
  c7 := (STEP_main_v50_7 V).trans h.c7
  c8 := (STEP_main_v50_8 V).trans h.c8
  c9 := (STEP_main_v50_9 V).trans h.c9
  c10 := (STEP_main_v50_10 V).trans h.c10
  c11 := (STEP_main_v50_11 V).trans h.c11
  c12 := (STEP_main_v50_12 V).trans h.c12
  c13 := (STEP_main_v50_13 V).trans h.c13
  c14 := (STEP_main_v50_14 V).trans h.c14
  c15 := (STEP_main_v50_15 V).trans h.c15
  c16 := (STEP_main_v50_16 V).trans h.c16
  c17 := (STEP_main_v50_17 V).trans h.c17
  c18 := (STEP_main_v50_18 V).trans h.c18
  c19 := (STEP_main_v50_19 V).trans h.c19
  c20 := (STEP_main_v50_20 V).trans h.c20
  c21 := (STEP_main_v50_21 V).trans h.c21

/-- What the loop holds after `k` steps. -/
structure Inv (X : KIn) (V : Valuation τ sig (Elt Ideal)) (k : ℕ) : Prop where
  fixed : Fixed X V
  ctr : V (Proc.devRef .tc main_v50_22) = fun _ => BitVec.ofNat 32 k
  rate : V (Proc.devRef .tc main_v50_23) = fun _ => aSch k
  sa0 : Vol (V (Proc.devRef .tc main_v50_24)) (V (Proc.devRef .tc main_v50_25)) aSch (wd 0x41000000#32) (inp lS (stimAt X.x0) X.x4) k
  bSa0 : Buf (V (Proc.devRef .tc main_v50_26)) X.tSa0 k
  sa1 : Vol (V (Proc.devRef .tc main_v50_27)) (V (Proc.devRef .tc main_v50_28)) (fun _ => wd 0x3DCCCCCD#32) (wd 0x40C00000#32)
    (syn lS X.x6 X.x17 X.tSa0) k
  bSa1 : Buf (V (Proc.devRef .tc main_v50_29)) X.tSa1 k
  sa2 : Vol (V (Proc.devRef .tc main_v50_30)) (V (Proc.devRef .tc main_v50_31)) (fun _ => wd 0x3DCCCCCD#32) (wd 0x40C00000#32) X.jSa2 k
  bSa2 : Buf (V (Proc.devRef .tc main_v50_32)) X.tSa2 k
  ra0 : Vol (V (Proc.devRef .tc main_v50_33)) (V (Proc.devRef .tc main_v50_34)) (fun _ => wd 0x3CA3D70A#32) (wd 0x40000000#32)
    (inp lS (jumpAt X.x0) X.x5) k
  bRa0 : Buf (V (Proc.devRef .tc main_v50_35)) X.tRa0 k
  ra1 : Vol (V (Proc.devRef .tc main_v50_36)) (V (Proc.devRef .tc main_v50_37)) (fun _ => wd 0x3DCCCCCD#32) (wd 0x40000000#32)
    (syn lS X.x9 X.x19 X.tRa0) k
  bRa1 : Buf (V (Proc.devRef .tc main_v50_38)) X.tRa1 k
  ra2 : Vol (V (Proc.devRef .tc main_v50_39)) (V (Proc.devRef .tc main_v50_40)) (fun _ => wd 0x3DCCCCCD#32) (wd 0x40000000#32) X.jRa2 k
  bRa2 : Buf (V (Proc.devRef .tc main_v50_41)) X.tRa2 k
  cn0 : Vol (V (Proc.devRef .tc main_v50_42)) (V (Proc.devRef .tc main_v50_43)) (fun _ => wd 0x3CA3D70A#32) (wd 0x41000000#32) X.jCn0 k
  bCn0 : Buf (V (Proc.devRef .tc main_v50_44)) X.tCn0 k
  cn1 : Vol (V (Proc.devRef .tc main_v50_45)) (V (Proc.devRef .tc main_v50_46)) (fun _ => wd 0x3CA3D70A#32) (wd 0x41000000#32) X.jCn1 k
  p48 : InTr (V (Proc.devRef .tc main_v50_48)) lS (stimAt X.x0) k
  p49 : Psp (V (Proc.devRef .tc main_v50_49)) lS X.x17 X.tSa0 k
  p50 : Psp (V (Proc.devRef .tc main_v50_50)) lS X.x17 X.tSa0 k
  p51 : Psp (V (Proc.devRef .tc main_v50_51)) lL X.x18 X.tSa1 k
  p52 : InTr (V (Proc.devRef .tc main_v50_52)) lS (jumpAt X.x0) k
  p53 : Psp (V (Proc.devRef .tc main_v50_53)) lS X.x19 X.tRa0 k
  p54 : Psp (V (Proc.devRef .tc main_v50_54)) lS X.x19 X.tRa0 k
  p55 : Psp (V (Proc.devRef .tc main_v50_55)) lL X.x20 X.tRa1 k
  p56 : Psp (V (Proc.devRef .tc main_v50_56)) lS X.x21 X.tSa2 k
  p57 : Psp (V (Proc.devRef .tc main_v50_57)) lS X.x21 X.tSa2 k
  p58 : Psp (V (Proc.devRef .tc main_v50_58)) lS X.x22 X.tRa2 k
  p59 : Psp (V (Proc.devRef .tc main_v50_59)) lS X.x22 X.tRa2 k
  p60 : Psp (V (Proc.devRef .tc main_v50_60)) lL X.x23 X.tCn0 k
  rows : ∀ (s : Fin 119) (n : Fin 1664), s.val < k → (V (Proc.devRef .tc main_v50_61) (ix2 s n) : EReal) = X.tOut n.val s.val

/-- A current made of two others, entry by entry. -/
theorem Cur.of₂ {N k : ℕ} {i i1 i2 : FVec Ideal ⟨1, ![N]⟩ .f32} {I I1 I2 : ℕ → ℕ → EReal} (h1 : Cur i1 I1 k) (h2 : Cur i2 I2 k)
    {f : EReal → EReal → EReal} (hi : ∀ n, (i n : EReal) = f (i1 n) (i2 n)) (hI : I k = fun n => f (I1 k n) (I2 k n) := by rfl) : Cur i I k :=
  ⟨fun n => by rw [hi, h1.at_, h2.at_, hI]⟩

/-- A current made of three others, entry by entry. -/
theorem Cur.of₃ {N k : ℕ} {i i1 i2 i3 : FVec Ideal ⟨1, ![N]⟩ .f32} {I I1 I2 I3 : ℕ → ℕ → EReal} (h1 : Cur i1 I1 k) (h2 : Cur i2 I2 k)
    (h3 : Cur i3 I3 k) {f : EReal → EReal → EReal → EReal} (hi : ∀ n, (i n : EReal) = f (i1 n) (i2 n) (i3 n))
    (hI : I k = fun n => f (I1 k n) (I2 k n) (I3 k n) := by rfl) : Cur i I k :=
  ⟨fun n => by rw [hi, h1.at_, h2.at_, h3.at_, hI]⟩

section Step

variable {X : KIn} {V : Valuation τ sig (Elt Ideal)} {k : ℕ}

/-- A word counts the steps. -/
theorem ctr_int (h : Inv X V k) (hk : k < 119) (j : S_.Idx) : (V (Proc.devRef .tc main_v50_22) j : BitVec 32).toInt = k := by
  rw [h.ctr]
  exact toInt_ofNat_of_lt (by omega)

theorem tr58 (h : Inv X V k) (hk : k < 119) : InTr (res_main_while0b_v58 V) lS (stimAt X.x0) (k + 1) :=
  h.p48.next (x := shapeCast S512 (Host.dynamicSlice S1x512 (V (Proc.devRef .tc main_v50_0)) (fun k => (((![V (Proc.devRef .tc main_v50_22), constantI S_ 32 0#32] : Fin 2 → (⟨S_, .i32⟩ : BufTy).Contents (Elt Ideal))) k (Shape.Idx.first h_S_)).toInt) sliceFits_S119x512_S1x512) shapeCasts_S1x512_S512)
    ⟨fun n => (rowAt_apply _ _ _ _ k hk (ctr_int h hk _) rfl n).trans (h.fixed.c0 _ _)⟩ fun _ => rfl

theorem tr286 (h : Inv X V k) (hk : k < 119) : InTr (res_main_while0b_v286 V) lS (jumpAt X.x0) (k + 1) :=
  h.p52.next (x := shapeCast S512 (Host.dynamicSlice S1x512 (V (Proc.devRef .tc main_v50_1)) (fun k => (((![V (Proc.devRef .tc main_v50_22), constantI S_ 32 0#32] : Fin 2 → (⟨S_, .i32⟩ : BufTy).Contents (Elt Ideal))) k (Shape.Idx.first h_S_)).toInt) sliceFits_S119x512_S1x512) shapeCasts_S1x512_S512)
    ⟨fun n => (rowAt_apply _ _ _ _ k hk (ctr_int h hk _) rfl n).trans (h.fixed.c1 _ _)⟩ fun _ => rfl

/-- The current of a layer behind the input. -/
theorem inCur {p : FVec Ideal S512 .f32} {x : ℕ → ℕ → EReal} (h : InTr p lS x (k + 1)) (w : FVec Ideal S512x512 .f32) :
    Cur (Host.dotGeneral dot_S512x512_S512_S512_1_0_0_n_n_n none w p) (inp lS x w) k :=
  ⟨fun n => by
    rw [matVec_apply dot_S512x512_S512_S512_1_0_0_n_n_n rfl rfl rfl rfl w p (fun i k => by
      funext a; match a with
        | ⟨0, _⟩ => rfl
        | ⟨1, _⟩ => rfl) (fun i k => by
      funext a; match a with
        | ⟨0, _⟩ => rfl) n, inp, dif_pos n.isLt]
    exact Finset.sum_congr rfl fun j _ => congrArg (_ * ·) (h.at_ j)⟩

theorem cur59 (h : Inv X V k) (hk : k < 119) : Cur (res_main_while0b_v59 V) (inp lS (stimAt X.x0) X.x4) k := by
  have := inCur (tr58 h hk) (V (Proc.devRef .tc main_v50_2))
  rw [h.fixed.c2] at this
  unfold res_main_while0b_v59
  rw [h.fixed.c2]
  exact this

theorem row94 (h : Inv X V k) (hk : k < 119) : Row (res_main_while0b_v94 V) X.tSa0 k := h.sa0.row (cur59 h hk) fun _ => rfl
theorem buf105 (h : Inv X V k) (hk : k < 119) : Buf (res_main_while0b_v105 V) X.tSa0 (k + 1) := h.bSa0.next (row94 h hk) _ _ _

theorem vol_sa0 (h : Inv X V k) (hk : k < 119) :
    Vol (step_main_v50_24 V) (step_main_v50_25 V) aSch (wd 0x41000000#32) (inp lS (stimAt X.x0) X.x4) (k + 1) :=
  h.sa0.next (cur59 h hk) rfl (fun _ => rfl) (fun _ => by unfold step_main_v50_25 res_main_while0b_v91; rw [h.rate]; rfl)

theorem psp130 (h : Inv X V k) (hk : k < 119) (ok : X.Ok) : Psp (res_main_while0b_v130 V) lS X.x17 X.tSa0 (k + 1) :=
  h.p49.next (buf105 h hk) ok.d17 (by decide) (by rw [← h.fixed.c3]; rfl)

theorem cur132 (h : Inv X V k) (hk : k < 119) (ok : X.Ok) : Cur (res_main_while0b_v132 V) (syn lS X.x6 X.x17 X.tSa0) k := by
  unfold res_main_while0b_v132
  rw [h.fixed.c4]
  exact (psp130 h hk ok).cur _ _ _

theorem row167 (h : Inv X V k) (hk : k < 119) (ok : X.Ok) : Row (res_main_while0b_v167 V) X.tSa1 k := h.sa1.row (cur132 h hk ok) fun _ => rfl

theorem buf178 (h : Inv X V k) (hk : k < 119) (ok : X.Ok) : Buf (res_main_while0b_v178 V) X.tSa1 (k + 1) :=
  h.bSa1.next (row167 h hk ok) _ _ _

theorem vol_sa1 (h : Inv X V k) (hk : k < 119) (ok : X.Ok) :
    Vol (step_main_v50_27 V) (step_main_v50_28 V) (fun _ => wd 0x3DCCCCCD#32) (wd 0x40C00000#32) (syn lS X.x6 X.x17 X.tSa0) (k + 1) :=
  h.sa1.next (cur132 h hk ok) rfl (fun _ => rfl) (fun _ => rfl)

theorem psp202 (h : Inv X V k) (hk : k < 119) (ok : X.Ok) : Psp (res_main_while0b_v202 V) lS X.x17 X.tSa0 (k + 1) :=
  h.p50.next (buf105 h hk) ok.d17 (by decide) (by rw [← h.fixed.c3]; rfl)

theorem psp228 (h : Inv X V k) (hk : k < 119) (ok : X.Ok) : Psp (res_main_while0b_v228 V) lL X.x18 X.tSa1 (k + 1) :=
  h.p51.next (buf178 h hk ok) ok.d18 (by decide) (by rw [← h.fixed.c6]; rfl)

theorem cur235 (h : Inv X V k) (hk : k < 119) (ok : X.Ok) : Cur (res_main_while0b_v235 V) X.jSa2 k := by
  unfold res_main_while0b_v235
  rw [h.fixed.c5, h.fixed.c7]
  exact Cur.of₂ (f := fun x y => x * wd 0x3F800000#32 - y * wd 0x3F800000#32) ((psp202 h hk ok).cur _ _ _) ((psp228 h hk ok).cur _ _ _) fun _ => rfl

theorem row270 (h : Inv X V k) (hk : k < 119) (ok : X.Ok) : Row (res_main_while0b_v270 V) X.tSa2 k := h.sa2.row (cur235 h hk ok) fun _ => rfl

theorem buf281 (h : Inv X V k) (hk : k < 119) (ok : X.Ok) : Buf (res_main_while0b_v281 V) X.tSa2 (k + 1) :=
  h.bSa2.next (row270 h hk ok) _ _ _

theorem vol_sa2 (h : Inv X V k) (hk : k < 119) (ok : X.Ok) :
    Vol (step_main_v50_30 V) (step_main_v50_31 V) (fun _ => wd 0x3DCCCCCD#32) (wd 0x40C00000#32) X.jSa2 (k + 1) :=
  h.sa2.next (cur235 h hk ok) rfl (fun _ => rfl) (fun _ => rfl)

theorem cur287 (h : Inv X V k) (hk : k < 119) : Cur (res_main_while0b_v287 V) (inp lS (jumpAt X.x0) X.x5) k := by
  have := inCur (tr286 h hk) (V (Proc.devRef .tc main_v50_8))
  rw [h.fixed.c8] at this
  unfold res_main_while0b_v287
  rw [h.fixed.c8]
  exact this

theorem row322 (h : Inv X V k) (hk : k < 119) : Row (res_main_while0b_v322 V) X.tRa0 k := h.ra0.row (cur287 h hk) fun _ => rfl
theorem buf333 (h : Inv X V k) (hk : k < 119) : Buf (res_main_while0b_v333 V) X.tRa0 (k + 1) := h.bRa0.next (row322 h hk) _ _ _

theorem vol_ra0 (h : Inv X V k) (hk : k < 119) :
    Vol (step_main_v50_33 V) (step_main_v50_34 V) (fun _ => wd 0x3CA3D70A#32) (wd 0x40000000#32) (inp lS (jumpAt X.x0) X.x5) (k + 1) :=
  h.ra0.next (cur287 h hk) rfl (fun _ => rfl) (fun _ => rfl)

theorem psp357 (h : Inv X V k) (hk : k < 119) (ok : X.Ok) : Psp (res_main_while0b_v357 V) lS X.x19 X.tRa0 (k + 1) :=
  h.p53.next (buf333 h hk) ok.d19 (by decide) (by rw [← h.fixed.c9]; rfl)

theorem cur359 (h : Inv X V k) (hk : k < 119) (ok : X.Ok) : Cur (res_main_while0b_v359 V) (syn lS X.x9 X.x19 X.tRa0) k := by
  unfold res_main_while0b_v359
  rw [h.fixed.c10]
  exact (psp357 h hk ok).cur _ _ _

theorem row394 (h : Inv X V k) (hk : k < 119) (ok : X.Ok) : Row (res_main_while0b_v394 V) X.tRa1 k := h.ra1.row (cur359 h hk ok) fun _ => rfl

theorem buf405 (h : Inv X V k) (hk : k < 119) (ok : X.Ok) : Buf (res_main_while0b_v405 V) X.tRa1 (k + 1) :=
  h.bRa1.next (row394 h hk ok) _ _ _

theorem vol_ra1 (h : Inv X V k) (hk : k < 119) (ok : X.Ok) :
    Vol (step_main_v50_36 V) (step_main_v50_37 V) (fun _ => wd 0x3DCCCCCD#32) (wd 0x40000000#32) (syn lS X.x9 X.x19 X.tRa0) (k + 1) :=
  h.ra1.next (cur359 h hk ok) rfl (fun _ => rfl) (fun _ => rfl)

theorem psp429 (h : Inv X V k) (hk : k < 119) (ok : X.Ok) : Psp (res_main_while0b_v429 V) lS X.x19 X.tRa0 (k + 1) :=
  h.p54.next (buf333 h hk) ok.d19 (by decide) (by rw [← h.fixed.c9]; rfl)

theorem psp455 (h : Inv X V k) (hk : k < 119) (ok : X.Ok) : Psp (res_main_while0b_v455 V) lL X.x20 X.tRa1 (k + 1) :=
  h.p55.next (buf405 h hk ok) ok.d20 (by decide) (by rw [← h.fixed.c12]; rfl)

theorem cur462 (h : Inv X V k) (hk : k < 119) (ok : X.Ok) : Cur (res_main_while0b_v462 V) X.jRa2 k := by
  unfold res_main_while0b_v462
  rw [h.fixed.c11, h.fixed.c13]
  exact Cur.of₂ (f := fun x y => x * wd 0x3F800000#32 - y * wd 0x3F800000#32) ((psp429 h hk ok).cur _ _ _) ((psp455 h hk ok).cur _ _ _) fun _ => rfl

theorem row497 (h : Inv X V k) (hk : k < 119) (ok : X.Ok) : Row (res_main_while0b_v497 V) X.tRa2 k := h.ra2.row (cur462 h hk ok) fun _ => rfl

theorem buf508 (h : Inv X V k) (hk : k < 119) (ok : X.Ok) : Buf (res_main_while0b_v508 V) X.tRa2 (k + 1) :=
  h.bRa2.next (row497 h hk ok) _ _ _

theorem vol_ra2 (h : Inv X V k) (hk : k < 119) (ok : X.Ok) :
    Vol (step_main_v50_39 V) (step_main_v50_40 V) (fun _ => wd 0x3DCCCCCD#32) (wd 0x40000000#32) X.jRa2 (k + 1) :=
  h.ra2.next (cur462 h hk ok) rfl (fun _ => rfl) (fun _ => rfl)

theorem psp532 (h : Inv X V k) (hk : k < 119) (ok : X.Ok) : Psp (res_main_while0b_v532 V) lS X.x21 X.tSa2 (k + 1) :=
  h.p56.next (buf281 h hk ok) ok.d21 (by decide) (by rw [← h.fixed.c14]; rfl)

theorem psp558 (h : Inv X V k) (hk : k < 119) (ok : X.Ok) : Psp (res_main_while0b_v558 V) lS X.x22 X.tRa2 (k + 1) :=
  h.p58.next (buf508 h hk ok) ok.d22 (by decide) (by rw [← h.fixed.c16]; rfl)

theorem cur565 (h : Inv X V k) (hk : k < 119) (ok : X.Ok) : Cur (res_main_while0b_v565 V) X.jCn0 k := by
  unfold res_main_while0b_v565
  rw [h.fixed.c15, h.fixed.c17]
  exact Cur.of₂ (f := fun x y => x * wd 0x3F800000#32 + y * wd 0x3F800000#32) ((psp532 h hk ok).cur _ _ _) ((psp558 h hk ok).cur _ _ _) fun _ => rfl

theorem row600 (h : Inv X V k) (hk : k < 119) (ok : X.Ok) : Row (res_main_while0b_v600 V) X.tCn0 k := h.cn0.row (cur565 h hk ok) fun _ => rfl

theorem buf611 (h : Inv X V k) (hk : k < 119) (ok : X.Ok) : Buf (res_main_while0b_v611 V) X.tCn0 (k + 1) :=
  h.bCn0.next (row600 h hk ok) _ _ _

theorem vol_cn0 (h : Inv X V k) (hk : k < 119) (ok : X.Ok) :
    Vol (step_main_v50_42 V) (step_main_v50_43 V) (fun _ => wd 0x3CA3D70A#32) (wd 0x41000000#32) X.jCn0 (k + 1) :=
  h.cn0.next (cur565 h hk ok) rfl (fun _ => rfl) (fun _ => rfl)

theorem psp635 (h : Inv X V k) (hk : k < 119) (ok : X.Ok) : Psp (res_main_while0b_v635 V) lS X.x21 X.tSa2 (k + 1) :=
  h.p57.next (buf281 h hk ok) ok.d21 (by decide) (by rw [← h.fixed.c14]; rfl)

theorem psp661 (h : Inv X V k) (hk : k < 119) (ok : X.Ok) : Psp (res_main_while0b_v661 V) lS X.x22 X.tRa2 (k + 1) :=
  h.p59.next (buf508 h hk ok) ok.d22 (by decide) (by rw [← h.fixed.c16]; rfl)

theorem psp687 (h : Inv X V k) (hk : k < 119) (ok : X.Ok) : Psp (res_main_while0b_v687 V) lL X.x23 X.tCn0 (k + 1) :=
  h.p60.next (buf611 h hk ok) ok.d23 (by decide) (by rw [← h.fixed.c20]; rfl)

theorem cur697 (h : Inv X V k) (hk : k < 119) (ok : X.Ok) : Cur (res_main_while0b_v697 V) X.jCn1 k := by
  unfold res_main_while0b_v697
  rw [h.fixed.c18, h.fixed.c19, h.fixed.c21]
  exact Cur.of₃ (f := fun x y z => (x * wd 0x40000000#32 + y * wd 0x40000000#32) - z * wd 0x3F800000#32) ((psp635 h hk ok).cur _ _ _) ((psp661 h hk ok).cur _ _ _) ((psp687 h hk ok).cur _ _ _) fun _ => rfl

theorem row732 (h : Inv X V k) (hk : k < 119) (ok : X.Ok) : Row (res_main_while0b_v732 V) X.tCn1 k := h.cn1.row (cur697 h hk ok) fun _ => rfl

theorem vol_cn1 (h : Inv X V k) (hk : k < 119) (ok : X.Ok) :
    Vol (step_main_v50_45 V) (step_main_v50_46 V) (fun _ => wd 0x3CA3D70A#32) (wd 0x41000000#32) X.jCn1 (k + 1) :=
  h.cn1.next (cur697 h hk ok) rfl (fun _ => rfl) (fun _ => rfl)

/-- One step of the loop keeps the network's step. -/
theorem Inv.step (h : Inv X V k) (hk : k < 119) (ok : X.Ok) : Inv X (STEP V) (k + 1) where
  fixed := h.fixed.step
  ctr := by
    rw [STEP_main_v50_22]; unfold step_main_v50_22; rw [h.ctr]
    funext j
    exact (BitVec.ofNat_add k 1).symm
  rate := by rw [STEP_main_v50_23]; unfold step_main_v50_23; rw [h.rate]; rfl
  sa0 := by rw [STEP_main_v50_24, STEP_main_v50_25]; exact vol_sa0 h hk
  sa1 := by rw [STEP_main_v50_27, STEP_main_v50_28]; exact vol_sa1 h hk ok
  sa2 := by rw [STEP_main_v50_30, STEP_main_v50_31]; exact vol_sa2 h hk ok
  ra0 := by rw [STEP_main_v50_33, STEP_main_v50_34]; exact vol_ra0 h hk
  ra1 := by rw [STEP_main_v50_36, STEP_main_v50_37]; exact vol_ra1 h hk ok
  ra2 := by rw [STEP_main_v50_39, STEP_main_v50_40]; exact vol_ra2 h hk ok
  cn0 := by rw [STEP_main_v50_42, STEP_main_v50_43]; exact vol_cn0 h hk ok
  cn1 := by rw [STEP_main_v50_45, STEP_main_v50_46]; exact vol_cn1 h hk ok
  bSa0 := by rw [STEP_main_v50_26]; exact buf105 h hk
  bSa1 := by rw [STEP_main_v50_29]; exact buf178 h hk ok
  bSa2 := by rw [STEP_main_v50_32]; exact buf281 h hk ok
  bRa0 := by rw [STEP_main_v50_35]; exact buf333 h hk
  bRa1 := by rw [STEP_main_v50_38]; exact buf405 h hk ok
  bRa2 := by rw [STEP_main_v50_41]; exact buf508 h hk ok
  bCn0 := by rw [STEP_main_v50_44]; exact buf611 h hk ok
  p48 := by rw [STEP_main_v50_48]; exact tr58 h hk
  p49 := by rw [STEP_main_v50_49]; exact psp130 h hk ok
  p50 := by rw [STEP_main_v50_50]; exact psp202 h hk ok
  p51 := by rw [STEP_main_v50_51]; exact psp228 h hk ok
  p52 := by rw [STEP_main_v50_52]; exact tr286 h hk
  p53 := by rw [STEP_main_v50_53]; exact psp357 h hk ok
  p54 := by rw [STEP_main_v50_54]; exact psp429 h hk ok
  p55 := by rw [STEP_main_v50_55]; exact psp455 h hk ok
  p56 := by rw [STEP_main_v50_56]; exact psp532 h hk ok
  p57 := by rw [STEP_main_v50_57]; exact psp635 h hk ok
  p58 := by rw [STEP_main_v50_58]; exact psp558 h hk ok
  p59 := by rw [STEP_main_v50_59]; exact psp661 h hk ok
  p60 := by rw [STEP_main_v50_60]; exact psp687 h hk ok
  rows := fun s n hs => by
    rw [STEP_main_v50_61]
    refine (putRow_apply updateFits_S119x1664_S1x1664 _ _ _ _ k hk (ctr_int h hk _) rfl s n).trans ?_
    split_ifs with e
    · rw [e]
      exact (rows_out X (row94 h hk) (row167 h hk ok) (row270 h hk ok) (row322 h hk) (row394 h hk ok) (row497 h hk ok)
        (row600 h hk ok) (row732 h hk ok) _).at_ n
    · exact h.rows s n (by omega)

theorem Inv.steps (h : Inv X V 0) (ok : X.Ok) : ∀ k ≤ 119, Inv X (STEP^[k] V) k
  | 0, _ => h
  | k + 1, hk => by
    rw [Function.iterate_succ_apply']
    exact (Inv.steps h ok k (by omega)).step (by omega) ok

end Step

end Cert.ReferenceIdeal.Value

end
-- ==== Proof.RefEntry.lean ====
/- What the reference's loop finds on entry: the network at rest. -/
module

public import proofs.«01_k».proof.Proof.RefInv

@[expose] public section

set_option maxRecDepth 8192

noncomputable section

namespace Cert.Snn

open Idealize.ShloMosaic hiding ix1 ix2 ix3
open Idealize.ShloMosaic.ValueIdx

variable {N M K : ℕ}

theorem Vol.base {v u : FVec Ideal ⟨1, ![N]⟩ .f32} (a : ℕ → EReal) (d : EReal) (I : ℕ → ℕ → EReal)
    (hv : v = fun _ => wd 0xC2820000#32) (hu : u = fun _ => wd 0xC1500000#32) : Vol v u a d I 0 :=
  ⟨fun _ => by rw [hv]; rfl, fun _ => by rw [hu]; rfl⟩

theorem Buf.base {b : FVec Ideal ⟨2, ![N, 11]⟩ .f32} (S : ℕ → ℕ → EReal) (hb : b = fun _ => wd 0x00000000#32) : Buf b S 0 :=
  ⟨fun n p => by rw [hb, if_neg (by have := p.isLt; omega)]; exact zero_word⟩

theorem Psp.base {p : FVec Ideal ⟨2, ![M, K]⟩ .f32} (l : EReal) (sd : IVec ⟨2, ![M, K]⟩ 32) (S : ℕ → ℕ → EReal)
    (hp : p = fun _ => wd 0x00000000#32) : Psp p l sd S 0 :=
  ⟨fun _ _ => by rw [hp]; exact zero_word⟩

theorem InTr.base {p : FVec Ideal ⟨1, ![N]⟩ .f32} (l : EReal) (x : ℕ → ℕ → EReal) (hp : p = fun _ => wd 0x00000000#32) : InTr p l x 0 :=
  ⟨fun _ => by rw [hp]; exact zero_word⟩

end Cert.Snn

namespace Cert.ReferenceIdeal.Value

open Idealize.ShloMosaic hiding ix1 ix2 ix3
open Idealize.ShloMosaic.TcCoe Idealize.ShloMosaic.Tactic Idealize.ShloMosaic.StableHlo
open Idealize.ShloMosaic.ValueIdx Cert.ReferenceIdeal Cert.ReferenceIdeal.Gen Cert.Snn

section Inputs

variable (A : FVec Ideal S1x512x120 .f32) (hc : S1x512x120.ShapeCasts ⟨2, ![512, 120]⟩)

theorem flat_apply (n : Fin 512) (s : Fin 120) : (shapeCast ⟨2, ![512, 120]⟩ A hc (ix2 n s) : EReal) = A (ix3 (0 : Fin 1) n s) :=
  shapeCast_apply _ _ _ _ (by rw [Shape.rowMajor_val_two, Shape.rowMajor_val_three]; show (0 * 512 + n.val) * 120 + s.val = n.val * 120 + s.val; omega)

/-- The steps after the first, a row each. -/
def stimV (B : FVec Ideal S1x512x120 .f32) : FVec Ideal S119x512 .f32 :=
  transpose S119x512 [1, 0] (shapeCast S512x119 (extractStridedSlice S1x512x119 ![0, 0, 1] B slices_S1x512x120_S1x512x119_0_0_1)
    shapeCasts_S1x512x119_S512x119) transposes_S512x119_S119x512_1_0

theorem stimV_apply (B : FVec Ideal S1x512x120 .f32) (t : Fin 119) (n : Fin 512) :
    (stimV B (ix2 t n) : EReal) = B (ix3 (0 : Fin 1) n (⟨1 + t.val, by omega⟩ : Fin 120)) := by
  unfold stimV
  rw [transpose_apply _ _ _ _ (ix2 n t) (by intro b; revert b; exact Fin.forall_fin_two.mpr ⟨rfl, rfl⟩)]
  rw [shapeCast_apply _ _ _ (ix3 (0 : Fin 1) n t) (by rw [Shape.rowMajor_val_two, Shape.rowMajor_val_three]; show (0 * 512 + n.val) * 119 + t.val = n.val * 119 + t.val; omega)]
  exact extractStridedSlice_apply _ _ _ _ _ (fun a => by
    match a with
    | ⟨0, _⟩ => rfl
    | ⟨1, _⟩ => exact (Nat.zero_add _).symm
    | ⟨2, _⟩ => rfl)

/-- The change from step to step, times five, after a step of zero. -/
def jumpV : FVec Ideal S1x512x120 .f32 :=
  concatenate S1x512x120 2 [⟨S1x512x1, broadcastInDim S1x512x1 ![] bcast_S_S1x512x1 (constant S_ .f32 0x00000000#32)⟩, ⟨S1x512x119,
      mulf (Host.absf (subf (extractStridedSlice S1x512x119 ![0, 0, 1] A slices_S1x512x120_S1x512x119_0_0_1)
        (extractStridedSlice S1x512x119 ![0, 0, 0] A slices_S1x512x120_S1x512x119_0_0_0)))
        (broadcastInDim S1x512x119 ![] bcast_S_S1x512x119 (constant S_ .f32 0x40A00000#32))⟩] concatenates_S1x512x1_S1x512x119_S1x512x120_d2

theorem jumpV_apply (t : Fin 119) (n : Fin 512) :
    (jumpV A (ix3 (0 : Fin 1) n (⟨1 + t.val, by omega⟩ : Fin 120)) : EReal)
      = mag (A (ix3 (0 : Fin 1) n (⟨1 + t.val, by omega⟩ : Fin 120)) - A (ix3 (0 : Fin 1) n (⟨0 + t.val, by omega⟩ : Fin 120)))
        * wd 0x40A00000#32 := by
  unfold jumpV
  rw [concatenate_pair_apply_right (s₁ := S1x512x1) (s₂ := S1x512x119) (t := S1x512x120) (2 : Fin 3) _ _ _ _ rfl rfl (show S1x512x119.Idx from ix3 (0 : Fin 1) n t) (fun a ha => by
    match a with
    | ⟨0, _⟩ => rfl
    | ⟨1, _⟩ => rfl
    | ⟨2, _⟩ => exact absurd rfl ha) (by show t.val + 1 = 1 + t.val; omega)]
  have h1 : (extractStridedSlice S1x512x119 ![0, 0, 1] A slices_S1x512x120_S1x512x119_0_0_1 (ix3 (0 : Fin 1) n t) : EReal)
      = A (ix3 (0 : Fin 1) n (⟨1 + t.val, by omega⟩ : Fin 120)) :=
    extractStridedSlice_apply _ _ _ _ _ (fun a => by
      match a with
      | ⟨0, _⟩ => rfl
      | ⟨1, _⟩ => exact (Nat.zero_add _).symm
      | ⟨2, _⟩ => rfl)
  have h0 : (extractStridedSlice S1x512x119 ![0, 0, 0] A slices_S1x512x120_S1x512x119_0_0_0 (ix3 (0 : Fin 1) n t) : EReal)
      = A (ix3 (0 : Fin 1) n (⟨0 + t.val, by omega⟩ : Fin 120)) :=
    extractStridedSlice_apply _ _ _ _ _ (fun a => by
      match a with
      | ⟨0, _⟩ => rfl
      | ⟨1, _⟩ => exact (Nat.zero_add _).symm
      | ⟨2, _⟩ => rfl)
  show mag (_ - _) * wd 0x40A00000#32 = _
  rw [h1, h0]

theorem stimV_flat (t : Fin 119) (n : Fin 512) : (stimV A (ix2 t n) : EReal) = stimAt (shapeCast ⟨2, ![512, 120]⟩ A hc) t.val n.val := by
  unfold stimAt
  rw [dif_pos ⟨t.isLt, n.isLt⟩, stimV_apply]
  exact (flat_apply A hc _ _).symm

theorem jumpV_flat (t : Fin 119) (n : Fin 512) :
    (stimV (jumpV A) (ix2 t n) : EReal) = jumpAt (shapeCast ⟨2, ![512, 120]⟩ A hc) t.val n.val := by
  unfold jumpAt
  rw [dif_pos ⟨t.isLt, n.isLt⟩, stimV_apply, jumpV_apply]
  exact congrArg (fun z => mag z * wd 0x40A00000#32) (congrArg₂ HSub.hSub (flat_apply A hc _ _).symm (flat_apply A hc _ _).symm)

end Inputs

variable (m : (ℓ : Loc nD τ sig) → Buf (Elt Ideal) ℓ)

/-- The network's arguments are those that the launch of the reference holds. -/
structure Args (X : KIn) (c : Dev nD) : Prop where
  a0 : ∃ hc, X.x0 = shapeCast ⟨2, ![512, 120]⟩ (m (c.tc.loc main_arg0)) hc
  a1 : m (c.tc.loc main_arg1) = X.x4
  a2 : m (c.tc.loc main_arg2) = X.x6
  a3 : m (c.tc.loc main_arg3) = X.x7
  a4 : m (c.tc.loc main_arg4) = X.x8
  a5 : m (c.tc.loc main_arg5) = X.x5
  a6 : m (c.tc.loc main_arg6) = X.x9
  a7 : m (c.tc.loc main_arg7) = X.x10
  a8 : m (c.tc.loc main_arg8) = X.x11
  a9 : m (c.tc.loc main_arg9) = X.x12
  a10 : m (c.tc.loc main_arg10) = X.x13
  a11 : m (c.tc.loc main_arg11) = X.x14
  a12 : m (c.tc.loc main_arg12) = X.x15
  a13 : m (c.tc.loc main_arg13) = X.x16
  a14 : m (c.tc.loc main_arg14) = X.x17
  a15 : m (c.tc.loc main_arg15) = X.x18
  a16 : m (c.tc.loc main_arg16) = X.x19
  a17 : m (c.tc.loc main_arg17) = X.x20
  a18 : m (c.tc.loc main_arg18) = X.x21
  a19 : m (c.tc.loc main_arg19) = X.x22
  a20 : m (c.tc.loc main_arg20) = X.x23

theorem entry0 (c : Dev nD) : entryContents preI m c (Proc.devRef .tc main_v50_0) = stimV (m (c.tc.loc main_arg0)) := by
  simp only [entryContents, afterL_cons, afterL_nil]
  after_reads_simp
  rfl

theorem up4 (c : Dev nD) : @Eq (FVec Ideal S1x512x1 .f32) (upto hostOps0_1 (after hostOps0 (launchContents m c)) 6 (Proc.devRef .tc main_v4))
    (broadcastInDim S1x512x1 ![] bcast_S_S1x512x1 (constant S_ .f32 0x00000000#32)) := by
  after_reads_simp

theorem up3 (c : Dev nD) : @Eq (FVec Ideal S1x512x119 .f32) (upto hostOps0_1 (after hostOps0 (launchContents m c)) 6 (Proc.devRef .tc main_v3))
    (mulf (Host.absf (subf (extractStridedSlice S1x512x119 ![0, 0, 1] (m (c.tc.loc main_arg0)) slices_S1x512x120_S1x512x119_0_0_1)
        (extractStridedSlice S1x512x119 ![0, 0, 0] (m (c.tc.loc main_arg0)) slices_S1x512x120_S1x512x119_0_0_0)))
        (broadcastInDim S1x512x119 ![] bcast_S_S1x512x119 (constant S_ .f32 0x40A00000#32))) := by
  after_reads_simp
  rfl

theorem entry1 (c : Dev nD) : entryContents preI m c (Proc.devRef .tc main_v50_1) = stimV (jumpV (m (c.tc.loc main_arg0))) := by
  simp only [entryContents, afterL_cons, afterL_nil]
  after_reads_simp
  rw [up4, up3]
  rfl

/-- The arrays that the loop only reads are the arguments. -/
theorem entry_fixed {X : KIn} {c : Dev nD} (h : Args m X c) : Fixed X (entryContents preI m c) := by
  obtain ⟨hc, h0⟩ := h.a0
  refine { c0 := fun t n => ?_, c1 := fun t n => ?_,
           c2 := Eq.trans ?_ h.a1, c3 := Eq.trans ?_ h.a14, c4 := Eq.trans ?_ h.a2, c5 := Eq.trans ?_ h.a3, c6 := Eq.trans ?_ h.a15, c7 := Eq.trans ?_ h.a4, c8 := Eq.trans ?_ h.a5, c9 := Eq.trans ?_ h.a16, c10 := Eq.trans ?_ h.a6, c11 := Eq.trans ?_ h.a7, c12 := Eq.trans ?_ h.a17, c13 := Eq.trans ?_ h.a8, c14 := Eq.trans ?_ h.a18, c15 := Eq.trans ?_ h.a9, c16 := Eq.trans ?_ h.a19, c17 := Eq.trans ?_ h.a11, c18 := Eq.trans ?_ h.a10, c19 := Eq.trans ?_ h.a12, c20 := Eq.trans ?_ h.a20, c21 := Eq.trans ?_ h.a13 }
  · rw [entry0, h0]; exact stimV_flat _ hc t n
  · rw [entry1, h0]; exact jumpV_flat _ hc t n
  all_goals
    simp only [entryContents, afterL_cons, afterL_nil]
    after_reads_simp
    rfl

/-- On entry the network is at rest. -/
theorem entry_inv {X : KIn} {c : Dev nD} (h : Args m X c) : Inv X (entryContents preI m c) 0 := by
  refine { fixed := entry_fixed m h, ctr := ?_, rate := ?_, rows := fun _ _ hs => absurd hs (Nat.not_lt_zero _),
           sa0 := Vol.base _ _ _ ?_ ?_, sa1 := Vol.base _ _ _ ?_ ?_, sa2 := Vol.base _ _ _ ?_ ?_, ra0 := Vol.base _ _ _ ?_ ?_, ra1 := Vol.base _ _ _ ?_ ?_,
           ra2 := Vol.base _ _ _ ?_ ?_, cn0 := Vol.base _ _ _ ?_ ?_, cn1 := Vol.base _ _ _ ?_ ?_, bSa0 := Buf.base _ ?_, bSa1 := Buf.base _ ?_,
           bSa2 := Buf.base _ ?_, bRa0 := Buf.base _ ?_, bRa1 := Buf.base _ ?_, bRa2 := Buf.base _ ?_, bCn0 := Buf.base _ ?_,
           p48 := InTr.base _ _ ?_, p49 := Psp.base _ _ _ ?_, p50 := Psp.base _ _ _ ?_, p51 := Psp.base _ _ _ ?_, p52 := InTr.base _ _ ?_,
           p53 := Psp.base _ _ _ ?_, p54 := Psp.base _ _ _ ?_, p55 := Psp.base _ _ _ ?_, p56 := Psp.base _ _ _ ?_, p57 := Psp.base _ _ _ ?_,
           p58 := Psp.base _ _ _ ?_, p59 := Psp.base _ _ _ ?_, p60 := Psp.base _ _ _ ?_ }
  all_goals
    simp only [entryContents, afterL_cons, afterL_nil]
    after_reads_simp
    rfl

/-- The result of the reference is the network's output in the reference's order. -/
theorem result {X : KIn} {c : Dev nD} (h : Args m X c) (ok : X.Ok) (n : Fin 1664) (t : Fin 119) :
    (out_main_v51 (STEP^[119] (entryContents preI m c)) (ix2 n t) : EReal) = X.tOut n.val t.val := by
  unfold out_main_v51
  refine (transpose_apply _ _ _ _ (ix2 t n) (by intro b; revert b; exact Fin.forall_fin_two.mpr ⟨rfl, rfl⟩)).trans ?_
  exact ((entry_inv m h).steps ok 119 le_rfl).rows t n t.isLt

end Cert.ReferenceIdeal.Value

end
-- ==== Proof.Algebraic.lean ====
/- The kernel and the reference end with equal results. -/
module

public import proofs.«01_k».proof.Defs
public import proofs.«01_k».proof.Proof.KernelRun
public import proofs.«01_k».proof.Proof.Tables
public import proofs.«01_k».proof.Proof.RefEntry
public import proofs.«01_k».proof.Proof.Pre

@[expose] public section

noncomputable section

namespace Cert.Proof

open Idealize.ShloMosaic hiding ix1 ix2 ix3
open Idealize.ShloMosaic.ValueIdx Idealize.SL.Sem Cert.Snn

/-- An index of a table is its row and column. -/
theorem ix2_split {a b : ℕ} (j : Shape.Idx ⟨2, ![a, b]⟩) : j = ix2 (⟨(j 0).val, (j 0).isLt⟩ : Fin a) (⟨(j 1).val, (j 1).isLt⟩ : Fin b) := by
  funext k
  revert k
  exact Fin.forall_fin_two.mpr ⟨rfl, rfl⟩

/-- The reference's result, read off what the kernel computes from the same arguments. -/
theorem results_agree {m' : (ℓ : Loc Cert.ReferenceIdeal.nD Cert.ReferenceIdeal.τ Cert.ReferenceIdeal.sig) → Buf (Elt Ideal) ℓ} {X : KIn}
    {c : Dev Cert.ReferenceIdeal.nD} (h : Cert.ReferenceIdeal.Value.Args m' X c) (ok : X.Ok) (T : X.Tables) :
    @Eq (FVec Ideal ⟨2, ![1664, 119]⟩ .f32) (Cert.ReferenceIdeal.Value.out_main_v51 (Cert.ReferenceIdeal.Value.STEP^[119]
      (StableHlo.entryContents Cert.ReferenceIdeal.Value.preI m' c))) (Cert.KernelIdeal.Gen.outV X) := by
  funext j
  rw [ix2_split j]
  exact (Cert.ReferenceIdeal.Value.result m' h ok _ _).trans (KIn.out_eq ok T (j 1).isLt _).symm

/-- Equal arguments, one of them a kernel's and the other a reference's. -/
theorem args_of (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) :
    Cert.ReferenceIdeal.Value.Args m' (Cert.KernelIdeal.Gen.kin m c) c := by
  obtain ⟨h0, h1, h2, h3, h4, h5, h6, h7, h8, h9, h10, h11, h12, h13, h14, h15, h16, h17, h18, h19, h20⟩ := h
  exact {
    a0 := ⟨Cert.KernelIdeal.Gen.facts.shapeCasts_S1x512x120_S512x120, congrArg (fun v => shapeCast Cert.KernelIdeal.S512x120 v _) h0.symm⟩
    a1 := h1
    a2 := h2
    a3 := h3
    a4 := h4
    a5 := h5
    a6 := h6
    a7 := h7
    a8 := h8
    a9 := h9
    a10 := h10
    a11 := h11
    a12 := h12
    a13 := h13
    a14 := h14
    a15 := h15
    a16 := h16
    a17 := h17
    a18 := h18
    a19 := h19
    a20 := h20
  }

/-- From equal arguments, numbers for weights and delays in range, both runs end with the same spikes. -/
theorem algebraic : Cert.algebraic_KernelIdeal_ReferenceIdeal_pre_usual := fun m g m' g' pre same =>
  have ok := Cert.KernelIdeal.Gen.ok_of_pre m pre
  ⟨fun c => Cert.KernelIdeal.Gen.outV (Cert.KernelIdeal.Gen.kin m c), Cert.KernelIdeal.Gen.run m g ok,
    (θ_run Cert.ReferenceIdeal.defs _ _).mono
      (fun _ h c => ⟨(h c).1.trans (results_agree (args_of m m' c (same c)) (ok c) (Cert.KernelIdeal.Gen.kin_tables m c)), (h c).2⟩)
      (Cert.ReferenceIdeal.Value.run (F := Ideal) m' g')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Body
public import proofs.«01_k».proof.Proof.KernelIdeal.Body
public import proofs.«01_k».proof.Proof.RefFrame
public import proofs.«01_k».proof.Proof.Pre
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The kernel runs, leaves its arguments unchanged and every counter at zero. -/
theorem frame_kernel : Cert.quiescent_Kernel := fun m ρ _ =>
  Cert.Kernel.Gen.frame m ρ

/-- The same at the ideal instance. -/
theorem frame_kernelIdeal : Cert.quiescent_KernelIdeal := fun m ρ _ =>
  Cert.KernelIdeal.Gen.frame m ρ

/-- Nothing was rewritten between the kernel and its ideal form. -/
theorem preserves : Cert.preserves_Kernel_KernelIdeal := trivial

/-- The frames under the precondition are the frames without it. -/
theorem frame_kernelIdeal_pre : Cert.quiescent_KernelIdeal_pre_usual := fun m ρ _ =>
  frame_kernelIdeal m ρ trivial

theorem frame_reference_pre : Cert.quiescent_ReferenceIdeal_pre_usual := fun m ρ _ =>
  frame_reference m ρ trivial

theorem claim : Cert.Claim := ⟨Cert.Kernel.Gen.facts, Cert.KernelIdeal.Gen.facts, Cert.ReferenceIdeal.Gen.facts, Cert.Pre_usual.facts,
  frame_kernel, frame_kernelIdeal, frame_kernelIdeal_pre, frame_reference, frame_reference_pre, preserves, algebraic⟩

end Cert.Proof

end
